-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v43)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_3)) (v3 : (c : Dev Cert.Kernel3Ideal.nD) → Buf (Elt Ideal) ((c.tc : Thread Cert.Kernel3Ideal.nD Cert.Kernel3Ideal.τ).loc Cert.Kernel3Ideal.main_v9_5)) (v4 : (c : Dev Cert.Kernel3Ideal.nD) → Buf (Elt Ideal) ((c.tc : Thread Cert.Kernel3Ideal.nD Cert.Kernel3Ideal.τ).loc Cert.Kernel3Ideal.main_v9_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_3) = v2 c
          ∧ r.2.mem ((c.tc : Thread Cert.Kernel3Ideal.nD Cert.Kernel3Ideal.τ).loc Cert.Kernel3Ideal.main_v9_5) = v3 c
          ∧ r.2.mem ((c.tc : Thread Cert.Kernel3Ideal.nD Cert.Kernel3Ideal.τ).loc Cert.Kernel3Ideal.main_v9_6) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v92) = v2 c
          ∧ r.2.mem ((c.tc : Thread Cert.Reference3Ideal.nD Cert.Reference3Ideal.τ).loc Cert.Reference3Ideal.main_v93) = v3 c
          ∧ r.2.mem ((c.tc : Thread Cert.Reference3Ideal.nD Cert.Reference3Ideal.τ).loc Cert.Reference3Ideal.main_v94) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S4x512x4096 : Shape := ⟨3, ![4, 512, 4096]⟩
abbrev S4x256x4096 : Shape := ⟨3, ![4, 256, 4096]⟩
abbrev S4x8x4096 : Shape := ⟨3, ![4, 8, 4096]⟩
abbrev S4x4096x128 : Shape := ⟨3, ![4, 4096, 128]⟩
abbrev S4x16x128x256 : Shape := ⟨4, ![4, 16, 128, 256]⟩
abbrev S128x128 : Shape := ⟨2, ![128, 128]⟩
abbrev S1x512x128 : Shape := ⟨3, ![1, 512, 128]⟩
abbrev S1x256x128 : Shape := ⟨3, ![1, 256, 128]⟩
abbrev S1x8x128 : Shape := ⟨3, ![1, 8, 128]⟩
abbrev S1x4096x128 : Shape := ⟨3, ![1, 4096, 128]⟩
abbrev S1x16x128x256 : Shape := ⟨4, ![1, 16, 128, 256]⟩
abbrev S4096x128 : Shape := ⟨2, ![4096, 128]⟩
abbrev S16x2x256x512 : Shape := ⟨4, ![16, 2, 256, 512]⟩
abbrev S2x80x512 : Shape := ⟨3, ![2, 80, 512]⟩
abbrev S1x128 : Shape := ⟨2, ![1, 128]⟩
abbrev S512x128 : Shape := ⟨2, ![512, 128]⟩
abbrev S256x128 : Shape := ⟨2, ![256, 128]⟩
abbrev S64x128 : Shape := ⟨2, ![64, 128]⟩
abbrev S64x512 : Shape := ⟨2, ![64, 512]⟩
abbrev S8x128 : Shape := ⟨2, ![8, 128]⟩
abbrev S1x512x64 : Shape := ⟨3, ![1, 512, 64]⟩
abbrev S512x64 : Shape := ⟨2, ![512, 64]⟩
abbrev S512x512 : Shape := ⟨2, ![512, 512]⟩
abbrev S32x128 : Shape := ⟨2, ![32, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S8x512 : Shape := ⟨2, ![8, 512]⟩
abbrev S1x256x64 : Shape := ⟨3, ![1, 256, 64]⟩
abbrev S256x64 : Shape := ⟨2, ![256, 64]⟩
abbrev S256x512 : Shape := ⟨2, ![256, 512]⟩
abbrev S1x1x256x512 : Shape := ⟨4, ![1, 1, 256, 512]⟩
abbrev S32x8x512 : Shape := ⟨3, ![32, 8, 512]⟩
abbrev S512 : Shape := ⟨1, ![512]⟩
abbrev S1x512 : Shape := ⟨2, ![1, 512]⟩
abbrev S16x256 : Shape := ⟨2, ![16, 256]⟩
abbrev S1x1x64x256 : Shape := ⟨4, ![1, 1, 64, 256]⟩
abbrev S64x256 : Shape := ⟨2, ![64, 256]⟩
abbrev S80x256 : Shape := ⟨2, ![80, 256]⟩
abbrev S1x80x512 : Shape := ⟨3, ![1, 80, 512]⟩
abbrev S80x512 : Shape := ⟨2, ![80, 512]⟩
abbrev S1x64x128 : Shape := ⟨3, ![1, 64, 128]⟩

abbrev nBuf : Space → Nat
  | .hbm => 8
  | .vmem => 19
  | .smem => 0
  | _ => 0

abbrev bufTy : (tb : Table) → Fin (tcTables nBuf tb) → BufTy
  | .hbm, ⟨0, _⟩ => ⟨S4x512x4096, .bf16⟩
  | .hbm, ⟨1, _⟩ => ⟨S4x256x4096, .bf16⟩
  | .hbm, ⟨2, _⟩ => ⟨S4x8x4096, .f32⟩
  | .hbm, ⟨3, _⟩ => ⟨S4x4096x128, .bf16⟩
  | .hbm, ⟨4, _⟩ => ⟨S4x4096x128, .bf16⟩
  | .hbm, ⟨5, _⟩ => ⟨S4x16x128x256, .bf16⟩
  | .hbm, ⟨6, _⟩ => ⟨S128x128, .bf16⟩
  | .hbm, ⟨7, _⟩ => ⟨S4x512x4096, .f32⟩
  | .local _ .vmem, ⟨0, _⟩ => ⟨S1x512x128, .bf16⟩
  | .local _ .vmem, ⟨1, _⟩ => ⟨S1x512x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x8x128, .f32⟩
  | .local _ .vmem, ⟨5, _⟩ => ⟨S1x8x128, .f32⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x16x128x256, .bf16⟩
  | .local _ .vmem, ⟨11, _⟩ => ⟨S1x16x128x256, .bf16⟩
  | .local _ .vmem, ⟨12, _⟩ => ⟨S128x128, .bf16⟩
  | .local _ .vmem, ⟨13, _⟩ => ⟨S1x512x128, .f32⟩
  | .local _ .vmem, ⟨14, _⟩ => ⟨S1x512x128, .f32⟩
  | .local _ .vmem, ⟨15, _⟩ => ⟨S4096x128, .i32⟩
  | .local _ .vmem, ⟨16, _⟩ => ⟨S4096x128, .f32⟩
  | .local _ .vmem, ⟨17, _⟩ => ⟨S16x2x256x512, .f32⟩
  | .local _ .vmem, ⟨18, _⟩ => ⟨S2x80x512, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![4, 32], ![false, false]⟩

@[reducible] def k0_t1_loop (i : grid0.Coords) : Scf.Loop 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let c1_i32_30 : BitVec 32 := 1#32
  ⟨c0_i32_28, v85, c1_i32_30⟩
def k0_mult1 (i : grid0.Coords) (k0_t1 : Fin (k0_t1_loop i).trips) : BitVec 32 :=
  let c0_i32_28 : BitVec 32 := 0#32
  let c1_i32_30 : BitVec 32 := 1#32
  let arg14 : BitVec 32 := Scf.iv c0_i32_28 c1_i32_30 k0_t1
  let c4_i32_198 : BitVec 32 := 4#32
  let v325 : BitVec 32 := Scalar.muli arg14 c4_i32_198
  let c0_i32_199 : BitVec 32 := 0#32
  let v326 : BitVec 32 := Scalar.addi v325 c0_i32_199
  let c512_i32_200 : BitVec 32 := 512#32
  let v327 : BitVec 32 := Scalar.muli v326 c512_i32_200
  v327
def k0_off1 (i : grid0.Coords) (k0_t1 : Fin (k0_t1_loop i).trips) (c0_i32_199 : BitVec 32) : Fin 3 → Nat :=
  let c0_201 : Index := 0#32
  let c0_i32_28 : BitVec 32 := 0#32
  let c1_i32_30 : BitVec 32 := 1#32
  let arg14 : BitVec 32 := Scf.iv c0_i32_28 c1_i32_30 k0_t1
  let c4_i32_198 : BitVec 32 := 4#32
  let v325 : BitVec 32 := Scalar.muli arg14 c4_i32_198
  let v326 : BitVec 32 := Scalar.addi v325 c0_i32_199
  let c512_i32_200 : BitVec 32 := 512#32
  let v327 : BitVec 32 := Scalar.muli v326 c512_i32_200
  let v328 : BitVec 32 := v327
  let v329 : Index := Scalar.indexCast v328
  let c0_202 : Index := 0#32
  ![0, v329.toNat, 0]
def k0_off2 (i : grid0.Coords) (k0_t1 : Fin (k0_t1_loop i).trips) (c0_i32_199 : BitVec 32) : Fin 2 → Nat :=
  let c0_i32_28 : BitVec 32 := 0#32
  let c1_i32_30 : BitVec 32 := 1#32
  let arg14 : BitVec 32 := Scf.iv c0_i32_28 c1_i32_30 k0_t1
  let c4_i32_198 : BitVec 32 := 4#32
  let v325 : BitVec 32 := Scalar.muli arg14 c4_i32_198
  let v326 : BitVec 32 := Scalar.addi v325 c0_i32_199
  let c512_i32_200 : BitVec 32 := 512#32
  let v327 : BitVec 32 := Scalar.muli v326 c512_i32_200
  let v328 : BitVec 32 := v327
  let v370 : Index := Scalar.indexCast v328
  let c0_209 : Index := 0#32
  ![v370.toNat, 0]
def k0_mult2 (i : grid0.Coords) (k0_t1 : Fin (k0_t1_loop i).trips) : BitVec 32 :=
  let c0_i32_28 : BitVec 32 := 0#32
  let c1_i32_30 : BitVec 32 := 1#32
  let arg14 : BitVec 32 := Scf.iv c0_i32_28 c1_i32_30 k0_t1
  let c4_i32_198 : BitVec 32 := 4#32
  let v325 : BitVec 32 := Scalar.muli arg14 c4_i32_198
  let c1_i32_210 : BitVec 32 := 1#32
  let v374 : BitVec 32 := Scalar.addi v325 c1_i32_210
  let c512_i32_211 : BitVec 32 := 512#32
  let v375 : BitVec 32 := Scalar.muli v374 c512_i32_211
  v375
def k0_mult3 (i : grid0.Coords) (k0_t1 : Fin (k0_t1_loop i).trips) : BitVec 32 :=
  let c0_i32_28 : BitVec 32 := 0#32
  let c1_i32_30 : BitVec 32 := 1#32
  let arg14 : BitVec 32 := Scf.iv c0_i32_28 c1_i32_30 k0_t1
  let c4_i32_198 : BitVec 32 := 4#32
  let v325 : BitVec 32 := Scalar.muli arg14 c4_i32_198
  let c2_i32_222 : BitVec 32 := 2#32
  let v422 : BitVec 32 := Scalar.addi v325 c2_i32_222
  let c512_i32_223 : BitVec 32 := 512#32
  let v423 : BitVec 32 := Scalar.muli v422 c512_i32_223
  v423
def k0_mult4 (i : grid0.Coords) (k0_t1 : Fin (k0_t1_loop i).trips) : BitVec 32 :=
  let c0_i32_28 : BitVec 32 := 0#32
  let c1_i32_30 : BitVec 32 := 1#32
  let arg14 : BitVec 32 := Scf.iv c0_i32_28 c1_i32_30 k0_t1
  let c4_i32_198 : BitVec 32 := 4#32
  let v325 : BitVec 32 := Scalar.muli arg14 c4_i32_198
  let c3_i32 : BitVec 32 := 3#32
  let v470 : BitVec 32 := Scalar.addi v325 c3_i32
  let c512_i32_234 : BitVec 32 := 512#32
  let v471 : BitVec 32 := Scalar.muli v470 c512_i32_234
  v471
@[reducible] def k0_t2_loop (i : grid0.Coords) : Scf.Loop 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let v82 : BitVec 32 := Scalar.addi c0_i32_28 v81
  let c1_i32_31 : BitVec 32 := 1#32
  ⟨v85, v82, c1_i32_31⟩
def k0_mult5 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let c1_i32_31 : BitVec 32 := 1#32
  let arg14 : BitVec 32 := Scf.iv v85 c1_i32_31 k0_t2
  let c4_i32_198 : BitVec 32 := 4#32
  let v325 : BitVec 32 := Scalar.muli arg14 c4_i32_198
  let c0_i32_199 : BitVec 32 := 0#32
  let v326 : BitVec 32 := Scalar.addi v325 c0_i32_199
  let c512_i32_200 : BitVec 32 := 512#32
  let v327 : BitVec 32 := Scalar.muli v326 c512_i32_200
  v327
def k0_off3 (i : grid0.Coords) (k0_t2 : Fin (k0_t2_loop i).trips) (c0_i32_199 : BitVec 32) : Fin 3 → Nat :=
  let c0_201 : Index := 0#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let c1_i32_31 : BitVec 32 := 1#32
  let arg14 : BitVec 32 := Scf.iv v85 c1_i32_31 k0_t2
  let c4_i32_198 : BitVec 32 := 4#32
  let v325 : BitVec 32 := Scalar.muli arg14 c4_i32_198
  let v326 : BitVec 32 := Scalar.addi v325 c0_i32_199
  let c512_i32_200 : BitVec 32 := 512#32
  let v327 : BitVec 32 := Scalar.muli v326 c512_i32_200
  let v328 : BitVec 32 := v327
  let v329 : Index := Scalar.indexCast v328
  let c0_202 : Index := 0#32
  ![0, v329.toNat, 0]
def k0_off4 (i : grid0.Coords) (k0_t2 : Fin (k0_t2_loop i).trips) (c0_i32_199 : BitVec 32) : Fin 2 → Nat :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let c1_i32_31 : BitVec 32 := 1#32
  let arg14 : BitVec 32 := Scf.iv v85 c1_i32_31 k0_t2
  let c4_i32_198 : BitVec 32 := 4#32
  let v325 : BitVec 32 := Scalar.muli arg14 c4_i32_198
  let v326 : BitVec 32 := Scalar.addi v325 c0_i32_199
  let c512_i32_200 : BitVec 32 := 512#32
  let v327 : BitVec 32 := Scalar.muli v326 c512_i32_200
  let v328 : BitVec 32 := v327
  let v370 : Index := Scalar.indexCast v328
  let c0_209 : Index := 0#32
  ![v370.toNat, 0]
def k0_mult6 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let c1_i32_31 : BitVec 32 := 1#32
  let arg14 : BitVec 32 := Scf.iv v85 c1_i32_31 k0_t2
  let c4_i32_198 : BitVec 32 := 4#32
  let v325 : BitVec 32 := Scalar.muli arg14 c4_i32_198
  let c1_i32_210 : BitVec 32 := 1#32
  let v374 : BitVec 32 := Scalar.addi v325 c1_i32_210
  let c512_i32_211 : BitVec 32 := 512#32
  let v375 : BitVec 32 := Scalar.muli v374 c512_i32_211
  v375
def k0_mult7 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let c1_i32_31 : BitVec 32 := 1#32
  let arg14 : BitVec 32 := Scf.iv v85 c1_i32_31 k0_t2
  let c4_i32_198 : BitVec 32 := 4#32
  let v325 : BitVec 32 := Scalar.muli arg14 c4_i32_198
  let c2_i32_222 : BitVec 32 := 2#32
  let v422 : BitVec 32 := Scalar.addi v325 c2_i32_222
  let c512_i32_223 : BitVec 32 := 512#32
  let v423 : BitVec 32 := Scalar.muli v422 c512_i32_223
  v423
def k0_mult8 (i : grid0.Coords) (k0_t2 : Fin (k0_t2_loop i).trips) : BitVec 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v81 : BitVec 32 := Scalar.subi v78 c0_i32_28
  let c1_i32_29 : BitVec 32 := 1#32
  let v83 : BitVec 32 := Scalar.divsi v81 c1_i32_29
  let v84 : BitVec 32 := Scalar.muli v83 c1_i32_29
  let v85 : BitVec 32 := Scalar.addi c0_i32_28 v84
  let c1_i32_31 : BitVec 32 := 1#32
  let arg14 : BitVec 32 := Scf.iv v85 c1_i32_31 k0_t2
  let c4_i32_198 : BitVec 32 := 4#32
  let v325 : BitVec 32 := Scalar.muli arg14 c4_i32_198
  let c3_i32 : BitVec 32 := 3#32
  let v470 : BitVec 32 := Scalar.addi v325 c3_i32
  let c512_i32_234 : BitVec 32 := 512#32
  let v471 : BitVec 32 := Scalar.muli v470 c512_i32_234
  v471
def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c2_i32 : BitVec 32 := 2#32
  let v87 : BitVec 32 := Scalar.andi v80 c2_i32
  let c0_i32_33 : BitVec 32 := 0#32
  let v88 : BitVec 1 := Scalar.cmpi .ne v87 c0_i32_33
  let v89 : BitVec 32 := Scalar.extui v88
  let c0_i32_34 : BitVec 32 := 0#32
  let v90 : BitVec 1 := Scalar.cmpi .ne v89 c0_i32_34
  v90

def k0_mult9 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_32 : BitVec 32 := 4#32
  let v86 : BitVec 32 := Scalar.muli v78 c4_i32_32
  let c0_i32_198 : BitVec 32 := 0#32
  let v325 : BitVec 32 := Scalar.addi v86 c0_i32_198
  let c512_i32_199 : BitVec 32 := 512#32
  let v326 : BitVec 32 := Scalar.muli v325 c512_i32_199
  v326
def k0_off5 (i : grid0.Coords) (c0_i32_198 : BitVec 32) : Fin 3 → Nat :=
  let c0_200 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_32 : BitVec 32 := 4#32
  let v86 : BitVec 32 := Scalar.muli v78 c4_i32_32
  let v325 : BitVec 32 := Scalar.addi v86 c0_i32_198
  let c512_i32_199 : BitVec 32 := 512#32
  let v326 : BitVec 32 := Scalar.muli v325 c512_i32_199
  let v327 : BitVec 32 := v326
  let v328 : Index := Scalar.indexCast v327
  let c0_201 : Index := 0#32
  ![0, v328.toNat, 0]
def k0_off6 (i : grid0.Coords) (c0_i32_198 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_32 : BitVec 32 := 4#32
  let v86 : BitVec 32 := Scalar.muli v78 c4_i32_32
  let v325 : BitVec 32 := Scalar.addi v86 c0_i32_198
  let c512_i32_199 : BitVec 32 := 512#32
  let v326 : BitVec 32 := Scalar.muli v325 c512_i32_199
  let v327 : BitVec 32 := v326
  let v369 : Index := Scalar.indexCast v327
  let c0_208 : Index := 0#32
  ![v369.toNat, 0]
def k0_mult10 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_32 : BitVec 32 := 4#32
  let v86 : BitVec 32 := Scalar.muli v78 c4_i32_32
  let c1_i32_209 : BitVec 32 := 1#32
  let v373 : BitVec 32 := Scalar.addi v86 c1_i32_209
  let c512_i32_210 : BitVec 32 := 512#32
  let v374 : BitVec 32 := Scalar.muli v373 c512_i32_210
  v374
def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c1_i32_37 : BitVec 32 := 1#32
  let v93 : BitVec 32 := Scalar.andi v80 c1_i32_37
  let c0_i32_38 : BitVec 32 := 0#32
  let v94 : BitVec 1 := Scalar.cmpi .ne v93 c0_i32_38
  let v95 : BitVec 32 := Scalar.extui v94
  let c0_i32_39 : BitVec 32 := 0#32
  let v96 : BitVec 1 := Scalar.cmpi .ne v95 c0_i32_39
  v96

def k0_mult11 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_32 : BitVec 32 := 4#32
  let v86 : BitVec 32 := Scalar.muli v78 c4_i32_32
  let c4_i32_26 : BitVec 32 := 4#32
  let v79 : BitVec 32 := Scalar.muli v78 c4_i32_26
  let v80 : BitVec 32 := Scalar.subi v20 v79
  let c2_i32 : BitVec 32 := 2#32
  let v87 : BitVec 32 := Scalar.andi v80 c2_i32
  let c0_i32_33 : BitVec 32 := 0#32
  let v88 : BitVec 1 := Scalar.cmpi .ne v87 c0_i32_33
  let c2_i32_35 : BitVec 32 := 2#32
  let c0_i32_36 : BitVec 32 := 0#32
  let v91 : BitVec 32 := Scalar.select v88 c2_i32_35 c0_i32_36
  let v92 : BitVec 32 := Scalar.addi v86 v91
  let c0_i32_198 : BitVec 32 := 0#32
  let v325 : BitVec 32 := Scalar.addi v92 c0_i32_198
  let c512_i32_199 : BitVec 32 := 512#32
  let v326 : BitVec 32 := Scalar.muli v325 c512_i32_199
  v326
def k0_off7 (i : grid0.Coords) : Fin 3 → Nat :=
  let c0_200 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_32 : BitVec 32 := 4#32
  let v86 : BitVec 32 := Scalar.muli v78 c4_i32_32
  let c4_i32_26 : BitVec 32 := 4#32
  let v79 : BitVec 32 := Scalar.muli v78 c4_i32_26
  let v80 : BitVec 32 := Scalar.subi v20 v79
  let c2_i32 : BitVec 32 := 2#32
  let v87 : BitVec 32 := Scalar.andi v80 c2_i32
  let c0_i32_33 : BitVec 32 := 0#32
  let v88 : BitVec 1 := Scalar.cmpi .ne v87 c0_i32_33
  let c2_i32_35 : BitVec 32 := 2#32
  let c0_i32_36 : BitVec 32 := 0#32
  let v91 : BitVec 32 := Scalar.select v88 c2_i32_35 c0_i32_36
  let v92 : BitVec 32 := Scalar.addi v86 v91
  let c0_i32_198 : BitVec 32 := 0#32
  let v325 : BitVec 32 := Scalar.addi v92 c0_i32_198
  let c512_i32_199 : BitVec 32 := 512#32
  let v326 : BitVec 32 := Scalar.muli v325 c512_i32_199
  let v327 : BitVec 32 := v326
  let v328 : Index := Scalar.indexCast v327
  let c0_201 : Index := 0#32
  ![0, v328.toNat, 0]
def k0_off8 (i : grid0.Coords) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_32 : BitVec 32 := 4#32
  let v86 : BitVec 32 := Scalar.muli v78 c4_i32_32
  let c4_i32_26 : BitVec 32 := 4#32
  let v79 : BitVec 32 := Scalar.muli v78 c4_i32_26
  let v80 : BitVec 32 := Scalar.subi v20 v79
  let c2_i32 : BitVec 32 := 2#32
  let v87 : BitVec 32 := Scalar.andi v80 c2_i32
  let c0_i32_33 : BitVec 32 := 0#32
  let v88 : BitVec 1 := Scalar.cmpi .ne v87 c0_i32_33
  let c2_i32_35 : BitVec 32 := 2#32
  let c0_i32_36 : BitVec 32 := 0#32
  let v91 : BitVec 32 := Scalar.select v88 c2_i32_35 c0_i32_36
  let v92 : BitVec 32 := Scalar.addi v86 v91
  let c0_i32_198 : BitVec 32 := 0#32
  let v325 : BitVec 32 := Scalar.addi v92 c0_i32_198
  let c512_i32_199 : BitVec 32 := 512#32
  let v326 : BitVec 32 := Scalar.muli v325 c512_i32_199
  let v327 : BitVec 32 := v326
  let v369 : Index := Scalar.indexCast v327
  let c0_208 : Index := 0#32
  ![v369.toNat, 0]
@[reducible] def k0_t3_loop (i : grid0.Coords) : Scf.Loop 32 :=
  let c0_i32_43 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v101 : BitVec 32 := Scalar.subi v20 c0_i32_43
  let c1_i32_44 : BitVec 32 := 1#32
  let v103 : BitVec 32 := Scalar.divsi v101 c1_i32_44
  let v104 : BitVec 32 := Scalar.muli v103 c1_i32_44
  let v105 : BitVec 32 := Scalar.addi c0_i32_43 v104
  let c1_i32_45 : BitVec 32 := 1#32
  ⟨c0_i32_43, v105, c1_i32_45⟩
def k0_mult12 (i : grid0.Coords) (k0_t3 : Fin (k0_t3_loop i).trips) : BitVec 32 :=
  let c0_i32_43 : BitVec 32 := 0#32
  let c1_i32_45 : BitVec 32 := 1#32
  let arg14 : BitVec 32 := Scf.iv c0_i32_43 c1_i32_45 k0_t3
  let c512_i32_198 : BitVec 32 := 512#32
  let v325 : BitVec 32 := Scalar.muli arg14 c512_i32_198
  v325
def k0_off9 (i : grid0.Coords) (k0_t3 : Fin (k0_t3_loop i).trips) : Fin 2 → Nat :=
  let c0_i32_43 : BitVec 32 := 0#32
  let c1_i32_45 : BitVec 32 := 1#32
  let arg14 : BitVec 32 := Scf.iv c0_i32_43 c1_i32_45 k0_t3
  let c512_i32_198 : BitVec 32 := 512#32
  let v325 : BitVec 32 := Scalar.muli arg14 c512_i32_198
  let v326 : BitVec 32 := v325
  let v327 : Index := Scalar.indexCast v326
  let c0_199 : Index := 0#32
  ![v327.toNat, 0]
@[reducible] def k0_t4_loop (i : grid0.Coords) : Scf.Loop 32 :=
  let c0_i32_43 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v101 : BitVec 32 := Scalar.subi v20 c0_i32_43
  let c1_i32_44 : BitVec 32 := 1#32
  let v103 : BitVec 32 := Scalar.divsi v101 c1_i32_44
  let v104 : BitVec 32 := Scalar.muli v103 c1_i32_44
  let v105 : BitVec 32 := Scalar.addi c0_i32_43 v104
  let v102 : BitVec 32 := Scalar.addi c0_i32_43 v101
  let c1_i32_46 : BitVec 32 := 1#32
  ⟨v105, v102, c1_i32_46⟩
def k0_mult13 (i : grid0.Coords) (k0_t4 : Fin (k0_t4_loop i).trips) : BitVec 32 :=
  let c0_i32_43 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v101 : BitVec 32 := Scalar.subi v20 c0_i32_43
  let c1_i32_44 : BitVec 32 := 1#32
  let v103 : BitVec 32 := Scalar.divsi v101 c1_i32_44
  let v104 : BitVec 32 := Scalar.muli v103 c1_i32_44
  let v105 : BitVec 32 := Scalar.addi c0_i32_43 v104
  let c1_i32_46 : BitVec 32 := 1#32
  let arg14 : BitVec 32 := Scf.iv v105 c1_i32_46 k0_t4
  let c512_i32_198 : BitVec 32 := 512#32
  let v325 : BitVec 32 := Scalar.muli arg14 c512_i32_198
  v325
def k0_off10 (i : grid0.Coords) (k0_t4 : Fin (k0_t4_loop i).trips) : Fin 2 → Nat :=
  let c0_i32_43 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v101 : BitVec 32 := Scalar.subi v20 c0_i32_43
  let c1_i32_44 : BitVec 32 := 1#32
  let v103 : BitVec 32 := Scalar.divsi v101 c1_i32_44
  let v104 : BitVec 32 := Scalar.muli v103 c1_i32_44
  let v105 : BitVec 32 := Scalar.addi c0_i32_43 v104
  let c1_i32_46 : BitVec 32 := 1#32
  let arg14 : BitVec 32 := Scf.iv v105 c1_i32_46 k0_t4
  let c512_i32_198 : BitVec 32 := 512#32
  let v325 : BitVec 32 := Scalar.muli arg14 c512_i32_198
  let v326 : BitVec 32 := v325
  let v327 : Index := Scalar.indexCast v326
  let c0_199 : Index := 0#32
  ![v327.toNat, 0]
@[reducible] def k0_t5_loop (i : grid0.Coords) : Scf.Loop 32 :=
  let c0_i32_52 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v117 : BitVec 32 := Scalar.subi v20 c0_i32_52
  let c1_i32_53 : BitVec 32 := 1#32
  let v119 : BitVec 32 := Scalar.divsi v117 c1_i32_53
  let v120 : BitVec 32 := Scalar.muli v119 c1_i32_53
  let v121 : BitVec 32 := Scalar.addi c0_i32_52 v120
  let c1_i32_54 : BitVec 32 := 1#32
  ⟨c0_i32_52, v121, c1_i32_54⟩
def k0_mult14 (i : grid0.Coords) (k0_t5 : Fin (k0_t5_loop i).trips) : BitVec 32 :=
  let c0_i32_52 : BitVec 32 := 0#32
  let c1_i32_54 : BitVec 32 := 1#32
  let arg14 : BitVec 32 := Scf.iv c0_i32_52 c1_i32_54 k0_t5
  let c512_i32_198 : BitVec 32 := 512#32
  let v325 : BitVec 32 := Scalar.muli arg14 c512_i32_198
  v325
def k0_off11 (i : grid0.Coords) (k0_t5 : Fin (k0_t5_loop i).trips) : Fin 2 → Nat :=
  let c0_i32_52 : BitVec 32 := 0#32
  let c1_i32_54 : BitVec 32 := 1#32
  let arg14 : BitVec 32 := Scf.iv c0_i32_52 c1_i32_54 k0_t5
  let c512_i32_198 : BitVec 32 := 512#32
  let v325 : BitVec 32 := Scalar.muli arg14 c512_i32_198
  let v326 : BitVec 32 := v325
  let v327 : Index := Scalar.indexCast v326
  let c0_199 : Index := 0#32
  ![v327.toNat, 0]
@[reducible] def k0_t6_loop (i : grid0.Coords) : Scf.Loop 32 :=
  let c0_i32_52 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v117 : BitVec 32 := Scalar.subi v20 c0_i32_52
  let c1_i32_53 : BitVec 32 := 1#32
  let v119 : BitVec 32 := Scalar.divsi v117 c1_i32_53
  let v120 : BitVec 32 := Scalar.muli v119 c1_i32_53
  let v121 : BitVec 32 := Scalar.addi c0_i32_52 v120
  let v118 : BitVec 32 := Scalar.addi c0_i32_52 v117
  let c1_i32_55 : BitVec 32 := 1#32
  ⟨v121, v118, c1_i32_55⟩
def k0_mult15 (i : grid0.Coords) (k0_t6 : Fin (k0_t6_loop i).trips) : BitVec 32 :=
  let c0_i32_52 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v117 : BitVec 32 := Scalar.subi v20 c0_i32_52
  let c1_i32_53 : BitVec 32 := 1#32
  let v119 : BitVec 32 := Scalar.divsi v117 c1_i32_53
  let v120 : BitVec 32 := Scalar.muli v119 c1_i32_53
  let v121 : BitVec 32 := Scalar.addi c0_i32_52 v120
  let c1_i32_55 : BitVec 32 := 1#32
  let arg14 : BitVec 32 := Scf.iv v121 c1_i32_55 k0_t6
  let c512_i32_198 : BitVec 32 := 512#32
  let v325 : BitVec 32 := Scalar.muli arg14 c512_i32_198
  v325
def k0_off12 (i : grid0.Coords) (k0_t6 : Fin (k0_t6_loop i).trips) : Fin 2 → Nat :=
  let c0_i32_52 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v117 : BitVec 32 := Scalar.subi v20 c0_i32_52
  let c1_i32_53 : BitVec 32 := 1#32
  let v119 : BitVec 32 := Scalar.divsi v117 c1_i32_53
  let v120 : BitVec 32 := Scalar.muli v119 c1_i32_53
  let v121 : BitVec 32 := Scalar.addi c0_i32_52 v120
  let c1_i32_55 : BitVec 32 := 1#32
  let arg14 : BitVec 32 := Scf.iv v121 c1_i32_55 k0_t6
  let c512_i32_198 : BitVec 32 := 512#32
  let v325 : BitVec 32 := Scalar.muli arg14 c512_i32_198
  let v326 : BitVec 32 := v325
  let v327 : Index := Scalar.indexCast v326
  let c0_199 : Index := 0#32
  ![v327.toNat, 0]
@[reducible] def k0_t7_loop : Scf.Loop 32 :=
  let c0_i32_65 : BitVec 32 := 0#32
  let c19_i32 : BitVec 32 := 19#32
  let v151 : BitVec 32 := Scalar.addi c0_i32_65 c19_i32
  let c1_i32_66 : BitVec 32 := 1#32
  ⟨c0_i32_65, v151, c1_i32_66⟩
@[reducible] def k0_t8_loop (i : grid0.Coords) : Scf.Loop 32 :=
  let c0_i32_203 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v333 : BitVec 32 := Scalar.subi v20 c0_i32_203
  let c1_i32_204 : BitVec 32 := 1#32
  let v335 : BitVec 32 := Scalar.divsi v333 c1_i32_204
  let v336 : BitVec 32 := Scalar.muli v335 c1_i32_204
  let v337 : BitVec 32 := Scalar.addi c0_i32_203 v336
  let c1_i32_205 : BitVec 32 := 1#32
  ⟨c0_i32_203, v337, c1_i32_205⟩
def k0_mult16 (i : grid0.Coords) (k0_t8 : Fin (k0_t8_loop i).trips) : BitVec 32 :=
  let c0_i32_203 : BitVec 32 := 0#32
  let c1_i32_205 : BitVec 32 := 1#32
  let arg18 : BitVec 32 := Scf.iv c0_i32_203 c1_i32_205 k0_t8
  let c512_i32_212 : BitVec 32 := 512#32
  let v356 : BitVec 32 := Scalar.muli arg18 c512_i32_212
  v356
def k0_off13 (i : grid0.Coords) (k0_t8 : Fin (k0_t8_loop i).trips) : Fin 2 → Nat :=
  let c0_i32_203 : BitVec 32 := 0#32
  let c1_i32_205 : BitVec 32 := 1#32
  let arg18 : BitVec 32 := Scf.iv c0_i32_203 c1_i32_205 k0_t8
  let c512_i32_212 : BitVec 32 := 512#32
  let v356 : BitVec 32 := Scalar.muli arg18 c512_i32_212
  let v357 : BitVec 32 := v356
  let v358 : Index := Scalar.indexCast v357
  let c0_213 : Index := 0#32
  ![v358.toNat, 0]
@[reducible] def k0_t9_loop (i : grid0.Coords) : Scf.Loop 32 :=
  let c0_i32_203 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v333 : BitVec 32 := Scalar.subi v20 c0_i32_203
  let c1_i32_204 : BitVec 32 := 1#32
  let v335 : BitVec 32 := Scalar.divsi v333 c1_i32_204
  let v336 : BitVec 32 := Scalar.muli v335 c1_i32_204
  let v337 : BitVec 32 := Scalar.addi c0_i32_203 v336
  let v334 : BitVec 32 := Scalar.addi c0_i32_203 v333
  let c1_i32_206 : BitVec 32 := 1#32
  ⟨v337, v334, c1_i32_206⟩
def k0_mult17 (i : grid0.Coords) (k0_t9 : Fin (k0_t9_loop i).trips) : BitVec 32 :=
  let c0_i32_203 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v333 : BitVec 32 := Scalar.subi v20 c0_i32_203
  let c1_i32_204 : BitVec 32 := 1#32
  let v335 : BitVec 32 := Scalar.divsi v333 c1_i32_204
  let v336 : BitVec 32 := Scalar.muli v335 c1_i32_204
  let v337 : BitVec 32 := Scalar.addi c0_i32_203 v336
  let c1_i32_206 : BitVec 32 := 1#32
  let arg18 : BitVec 32 := Scf.iv v337 c1_i32_206 k0_t9
  let c512_i32_212 : BitVec 32 := 512#32
  let v356 : BitVec 32 := Scalar.muli arg18 c512_i32_212
  v356
def k0_off14 (i : grid0.Coords) (k0_t9 : Fin (k0_t9_loop i).trips) : Fin 2 → Nat :=
  let c0_i32_203 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v333 : BitVec 32 := Scalar.subi v20 c0_i32_203
  let c1_i32_204 : BitVec 32 := 1#32
  let v335 : BitVec 32 := Scalar.divsi v333 c1_i32_204
  let v336 : BitVec 32 := Scalar.muli v335 c1_i32_204
  let v337 : BitVec 32 := Scalar.addi c0_i32_203 v336
  let c1_i32_206 : BitVec 32 := 1#32
  let arg18 : BitVec 32 := Scf.iv v337 c1_i32_206 k0_t9
  let c512_i32_212 : BitVec 32 := 512#32
  let v356 : BitVec 32 := Scalar.muli arg18 c512_i32_212
  let v357 : BitVec 32 := v356
  let v358 : Index := Scalar.indexCast v357
  let c0_213 : Index := 0#32
  ![v358.toNat, 0]
@[reducible] def k0_t10_loop (i : grid0.Coords) : Scf.Loop 32 :=
  let c0_i32_204 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_204
  let c1_i32_205 : BitVec 32 := 1#32
  let v337 : BitVec 32 := Scalar.divsi v335 c1_i32_205
  let v338 : BitVec 32 := Scalar.muli v337 c1_i32_205
  let v339 : BitVec 32 := Scalar.addi c0_i32_204 v338
  let c1_i32_206 : BitVec 32 := 1#32
  ⟨c0_i32_204, v339, c1_i32_206⟩
def k0_mult18 (i : grid0.Coords) (k0_t10 : Fin (k0_t10_loop i).trips) : BitVec 32 :=
  let c0_i32_204 : BitVec 32 := 0#32
  let c1_i32_206 : BitVec 32 := 1#32
  let arg18 : BitVec 32 := Scf.iv c0_i32_204 c1_i32_206 k0_t10
  let c512_i32_248 : BitVec 32 := 512#32
  let v425 : BitVec 32 := Scalar.muli arg18 c512_i32_248
  v425
def k0_off15 (i : grid0.Coords) (k0_t10 : Fin (k0_t10_loop i).trips) : Fin 2 → Nat :=
  let c0_i32_204 : BitVec 32 := 0#32
  let c1_i32_206 : BitVec 32 := 1#32
  let arg18 : BitVec 32 := Scf.iv c0_i32_204 c1_i32_206 k0_t10
  let c512_i32_248 : BitVec 32 := 512#32
  let v425 : BitVec 32 := Scalar.muli arg18 c512_i32_248
  let v426 : BitVec 32 := v425
  let v427 : Index := Scalar.indexCast v426
  let c0_249 : Index := 0#32
  ![v427.toNat, 0]
@[reducible] def k0_t11_loop (i : grid0.Coords) : Scf.Loop 32 :=
  let c0_i32_204 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_204
  let c1_i32_205 : BitVec 32 := 1#32
  let v337 : BitVec 32 := Scalar.divsi v335 c1_i32_205
  let v338 : BitVec 32 := Scalar.muli v337 c1_i32_205
  let v339 : BitVec 32 := Scalar.addi c0_i32_204 v338
  let v336 : BitVec 32 := Scalar.addi c0_i32_204 v335
  let c1_i32_207 : BitVec 32 := 1#32
  ⟨v339, v336, c1_i32_207⟩
def k0_mult19 (i : grid0.Coords) (k0_t11 : Fin (k0_t11_loop i).trips) : BitVec 32 :=
  let c0_i32_204 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_204
  let c1_i32_205 : BitVec 32 := 1#32
  let v337 : BitVec 32 := Scalar.divsi v335 c1_i32_205
  let v338 : BitVec 32 := Scalar.muli v337 c1_i32_205
  let v339 : BitVec 32 := Scalar.addi c0_i32_204 v338
  let c1_i32_207 : BitVec 32 := 1#32
  let arg18 : BitVec 32 := Scf.iv v339 c1_i32_207 k0_t11
  let c512_i32_248 : BitVec 32 := 512#32
  let v425 : BitVec 32 := Scalar.muli arg18 c512_i32_248
  v425
def k0_off16 (i : grid0.Coords) (k0_t11 : Fin (k0_t11_loop i).trips) : Fin 2 → Nat :=
  let c0_i32_204 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v335 : BitVec 32 := Scalar.subi v20 c0_i32_204
  let c1_i32_205 : BitVec 32 := 1#32
  let v337 : BitVec 32 := Scalar.divsi v335 c1_i32_205
  let v338 : BitVec 32 := Scalar.muli v337 c1_i32_205
  let v339 : BitVec 32 := Scalar.addi c0_i32_204 v338
  let c1_i32_207 : BitVec 32 := 1#32
  let arg18 : BitVec 32 := Scf.iv v339 c1_i32_207 k0_t11
  let c512_i32_248 : BitVec 32 := 512#32
  let v425 : BitVec 32 := Scalar.muli arg18 c512_i32_248
  let v426 : BitVec 32 := v425
  let v427 : Index := Scalar.indexCast v426
  let c0_249 : Index := 0#32
  ![v427.toNat, 0]
@[reducible] def k0_t12_loop (i : grid0.Coords) : Scf.Loop 32 :=
  let c0_i32_221 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v368 : BitVec 32 := Scalar.subi v20 c0_i32_221
  let c1_i32_222 : BitVec 32 := 1#32
  let v370 : BitVec 32 := Scalar.divsi v368 c1_i32_222
  let v371 : BitVec 32 := Scalar.muli v370 c1_i32_222
  let v372 : BitVec 32 := Scalar.addi c0_i32_221 v371
  let c1_i32_223 : BitVec 32 := 1#32
  ⟨c0_i32_221, v372, c1_i32_223⟩
def k0_mult20 (i : grid0.Coords) (k0_t12 : Fin (k0_t12_loop i).trips) : BitVec 32 :=
  let c0_i32_221 : BitVec 32 := 0#32
  let c1_i32_223 : BitVec 32 := 1#32
  let arg18 : BitVec 32 := Scf.iv c0_i32_221 c1_i32_223 k0_t12
  let c512_i32_248 : BitVec 32 := 512#32
  let v425 : BitVec 32 := Scalar.muli arg18 c512_i32_248
  v425
def k0_off17 (i : grid0.Coords) (k0_t12 : Fin (k0_t12_loop i).trips) : Fin 2 → Nat :=
  let c0_i32_221 : BitVec 32 := 0#32
  let c1_i32_223 : BitVec 32 := 1#32
  let arg18 : BitVec 32 := Scf.iv c0_i32_221 c1_i32_223 k0_t12
  let c512_i32_248 : BitVec 32 := 512#32
  let v425 : BitVec 32 := Scalar.muli arg18 c512_i32_248
  let v426 : BitVec 32 := v425
  let v427 : Index := Scalar.indexCast v426
  let c0_249 : Index := 0#32
  ![v427.toNat, 0]
@[reducible] def k0_t13_loop (i : grid0.Coords) : Scf.Loop 32 :=
  let c0_i32_221 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v368 : BitVec 32 := Scalar.subi v20 c0_i32_221
  let c1_i32_222 : BitVec 32 := 1#32
  let v370 : BitVec 32 := Scalar.divsi v368 c1_i32_222
  let v371 : BitVec 32 := Scalar.muli v370 c1_i32_222
  let v372 : BitVec 32 := Scalar.addi c0_i32_221 v371
  let v369 : BitVec 32 := Scalar.addi c0_i32_221 v368
  let c1_i32_224 : BitVec 32 := 1#32
  ⟨v372, v369, c1_i32_224⟩
def k0_mult21 (i : grid0.Coords) (k0_t13 : Fin (k0_t13_loop i).trips) : BitVec 32 :=
  let c0_i32_221 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v368 : BitVec 32 := Scalar.subi v20 c0_i32_221
  let c1_i32_222 : BitVec 32 := 1#32
  let v370 : BitVec 32 := Scalar.divsi v368 c1_i32_222
  let v371 : BitVec 32 := Scalar.muli v370 c1_i32_222
  let v372 : BitVec 32 := Scalar.addi c0_i32_221 v371
  let c1_i32_224 : BitVec 32 := 1#32
  let arg18 : BitVec 32 := Scf.iv v372 c1_i32_224 k0_t13
  let c512_i32_248 : BitVec 32 := 512#32
  let v425 : BitVec 32 := Scalar.muli arg18 c512_i32_248
  v425
def k0_off18 (i : grid0.Coords) (k0_t13 : Fin (k0_t13_loop i).trips) : Fin 2 → Nat :=
  let c0_i32_221 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v368 : BitVec 32 := Scalar.subi v20 c0_i32_221
  let c1_i32_222 : BitVec 32 := 1#32
  let v370 : BitVec 32 := Scalar.divsi v368 c1_i32_222
  let v371 : BitVec 32 := Scalar.muli v370 c1_i32_222
  let v372 : BitVec 32 := Scalar.addi c0_i32_221 v371
  let c1_i32_224 : BitVec 32 := 1#32
  let arg18 : BitVec 32 := Scf.iv v372 c1_i32_224 k0_t13
  let c512_i32_248 : BitVec 32 := 512#32
  let v425 : BitVec 32 := Scalar.muli arg18 c512_i32_248
  let v426 : BitVec 32 := v425
  let v427 : Index := Scalar.indexCast v426
  let c0_249 : Index := 0#32
  ![v427.toNat, 0]
@[reducible] def k0_t14_loop (i : grid0.Coords) : Scf.Loop 32 :=
  let c0_i32_238 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v401 : BitVec 32 := Scalar.subi v20 c0_i32_238
  let c1_i32_239 : BitVec 32 := 1#32
  let v403 : BitVec 32 := Scalar.divsi v401 c1_i32_239
  let v404 : BitVec 32 := Scalar.muli v403 c1_i32_239
  let v405 : BitVec 32 := Scalar.addi c0_i32_238 v404
  let c1_i32_240 : BitVec 32 := 1#32
  ⟨c0_i32_238, v405, c1_i32_240⟩
def k0_mult22 (i : grid0.Coords) (k0_t14 : Fin (k0_t14_loop i).trips) : BitVec 32 :=
  let c0_i32_238 : BitVec 32 := 0#32
  let c1_i32_240 : BitVec 32 := 1#32
  let arg18 : BitVec 32 := Scf.iv c0_i32_238 c1_i32_240 k0_t14
  let c512_i32_248 : BitVec 32 := 512#32
  let v425 : BitVec 32 := Scalar.muli arg18 c512_i32_248
  v425
def k0_off19 (i : grid0.Coords) (k0_t14 : Fin (k0_t14_loop i).trips) : Fin 2 → Nat :=
  let c0_i32_238 : BitVec 32 := 0#32
  let c1_i32_240 : BitVec 32 := 1#32
  let arg18 : BitVec 32 := Scf.iv c0_i32_238 c1_i32_240 k0_t14
  let c512_i32_248 : BitVec 32 := 512#32
  let v425 : BitVec 32 := Scalar.muli arg18 c512_i32_248
  let v426 : BitVec 32 := v425
  let v427 : Index := Scalar.indexCast v426
  let c0_249 : Index := 0#32
  ![v427.toNat, 0]
@[reducible] def k0_t15_loop (i : grid0.Coords) : Scf.Loop 32 :=
  let c0_i32_238 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v401 : BitVec 32 := Scalar.subi v20 c0_i32_238
  let c1_i32_239 : BitVec 32 := 1#32
  let v403 : BitVec 32 := Scalar.divsi v401 c1_i32_239
  let v404 : BitVec 32 := Scalar.muli v403 c1_i32_239
  let v405 : BitVec 32 := Scalar.addi c0_i32_238 v404
  let v402 : BitVec 32 := Scalar.addi c0_i32_238 v401
  let c1_i32_241 : BitVec 32 := 1#32
  ⟨v405, v402, c1_i32_241⟩
def k0_mult23 (i : grid0.Coords) (k0_t15 : Fin (k0_t15_loop i).trips) : BitVec 32 :=
  let c0_i32_238 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v401 : BitVec 32 := Scalar.subi v20 c0_i32_238
  let c1_i32_239 : BitVec 32 := 1#32
  let v403 : BitVec 32 := Scalar.divsi v401 c1_i32_239
  let v404 : BitVec 32 := Scalar.muli v403 c1_i32_239
  let v405 : BitVec 32 := Scalar.addi c0_i32_238 v404
  let c1_i32_241 : BitVec 32 := 1#32
  let arg18 : BitVec 32 := Scf.iv v405 c1_i32_241 k0_t15
  let c512_i32_248 : BitVec 32 := 512#32
  let v425 : BitVec 32 := Scalar.muli arg18 c512_i32_248
  v425
def k0_off20 (i : grid0.Coords) (k0_t15 : Fin (k0_t15_loop i).trips) : Fin 2 → Nat :=
  let c0_i32_238 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v401 : BitVec 32 := Scalar.subi v20 c0_i32_238
  let c1_i32_239 : BitVec 32 := 1#32
  let v403 : BitVec 32 := Scalar.divsi v401 c1_i32_239
  let v404 : BitVec 32 := Scalar.muli v403 c1_i32_239
  let v405 : BitVec 32 := Scalar.addi c0_i32_238 v404
  let c1_i32_241 : BitVec 32 := 1#32
  let arg18 : BitVec 32 := Scf.iv v405 c1_i32_241 k0_t15
  let c512_i32_248 : BitVec 32 := 512#32
  let v425 : BitVec 32 := Scalar.muli arg18 c512_i32_248
  let v426 : BitVec 32 := v425
  let v427 : Index := Scalar.indexCast v426
  let c0_249 : Index := 0#32
  ![v427.toNat, 0]
@[reducible] def k0_t16_loop (i : grid0.Coords) : Scf.Loop 32 :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v158 : BitVec 32 := Scalar.subi v20 c0_i32_73
  let c1_i32_74 : BitVec 32 := 1#32
  let v160 : BitVec 32 := Scalar.divsi v158 c1_i32_74
  let v161 : BitVec 32 := Scalar.muli v160 c1_i32_74
  let v162 : BitVec 32 := Scalar.addi c0_i32_73 v161
  let c1_i32_75 : BitVec 32 := 1#32
  ⟨c0_i32_73, v162, c1_i32_75⟩
def k0_mult24 (i : grid0.Coords) (k0_t16 : Fin (k0_t16_loop i).trips) : BitVec 32 :=
  let c0_i32_73 : BitVec 32 := 0#32
  let c1_i32_75 : BitVec 32 := 1#32
  let arg14 : BitVec 32 := Scf.iv c0_i32_73 c1_i32_75 k0_t16
  let c512_i32_198 : BitVec 32 := 512#32
  let v325 : BitVec 32 := Scalar.muli arg14 c512_i32_198
  v325
def k0_off21 (i : grid0.Coords) (k0_t16 : Fin (k0_t16_loop i).trips) : Fin 2 → Nat :=
  let c0_i32_73 : BitVec 32 := 0#32
  let c1_i32_75 : BitVec 32 := 1#32
  let arg14 : BitVec 32 := Scf.iv c0_i32_73 c1_i32_75 k0_t16
  let c512_i32_198 : BitVec 32 := 512#32
  let v325 : BitVec 32 := Scalar.muli arg14 c512_i32_198
  let v326 : BitVec 32 := v325
  let v327 : Index := Scalar.indexCast v326
  let c0_199 : Index := 0#32
  ![v327.toNat, 0]
@[reducible] def k0_t17_loop (i : grid0.Coords) : Scf.Loop 32 :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v158 : BitVec 32 := Scalar.subi v20 c0_i32_73
  let c1_i32_74 : BitVec 32 := 1#32
  let v160 : BitVec 32 := Scalar.divsi v158 c1_i32_74
  let v161 : BitVec 32 := Scalar.muli v160 c1_i32_74
  let v162 : BitVec 32 := Scalar.addi c0_i32_73 v161
  let v159 : BitVec 32 := Scalar.addi c0_i32_73 v158
  let c1_i32_76 : BitVec 32 := 1#32
  ⟨v162, v159, c1_i32_76⟩
def k0_mult25 (i : grid0.Coords) (k0_t17 : Fin (k0_t17_loop i).trips) : BitVec 32 :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v158 : BitVec 32 := Scalar.subi v20 c0_i32_73
  let c1_i32_74 : BitVec 32 := 1#32
  let v160 : BitVec 32 := Scalar.divsi v158 c1_i32_74
  let v161 : BitVec 32 := Scalar.muli v160 c1_i32_74
  let v162 : BitVec 32 := Scalar.addi c0_i32_73 v161
  let c1_i32_76 : BitVec 32 := 1#32
  let arg14 : BitVec 32 := Scf.iv v162 c1_i32_76 k0_t17
  let c512_i32_198 : BitVec 32 := 512#32
  let v325 : BitVec 32 := Scalar.muli arg14 c512_i32_198
  v325
def k0_off22 (i : grid0.Coords) (k0_t17 : Fin (k0_t17_loop i).trips) : Fin 2 → Nat :=
  let c0_i32_73 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v158 : BitVec 32 := Scalar.subi v20 c0_i32_73
  let c1_i32_74 : BitVec 32 := 1#32
  let v160 : BitVec 32 := Scalar.divsi v158 c1_i32_74
  let v161 : BitVec 32 := Scalar.muli v160 c1_i32_74
  let v162 : BitVec 32 := Scalar.addi c0_i32_73 v161
  let c1_i32_76 : BitVec 32 := 1#32
  let arg14 : BitVec 32 := Scf.iv v162 c1_i32_76 k0_t17
  let c512_i32_198 : BitVec 32 := 512#32
  let v325 : BitVec 32 := Scalar.muli arg14 c512_i32_198
  let v326 : BitVec 32 := v325
  let v327 : Index := Scalar.indexCast v326
  let c0_199 : Index := 0#32
  ![v327.toNat, 0]
@[reducible] def k0_t18_loop (i : grid0.Coords) : Scf.Loop 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_84 : BitVec 32 := 1#32
  ⟨c0_i32_82, v179, c1_i32_84⟩
def k0_mult26 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c0_i32_199 : BitVec 32 := 0#32
  let v326 : BitVec 32 := Scalar.addi v325 c0_i32_199
  let c512_i32_200 : BitVec 32 := 512#32
  let v327 : BitVec 32 := Scalar.muli v326 c512_i32_200
  let c0_i32_201 : BitVec 32 := 0#32
  let v328 : BitVec 32 := Scalar.addi v327 c0_i32_201
  v328
def k0_mult27 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c0_i32_199 : BitVec 32 := 0#32
  let v326 : BitVec 32 := Scalar.addi v325 c0_i32_199
  let c512_i32_202 : BitVec 32 := 512#32
  let v330 : BitVec 32 := Scalar.muli v326 c512_i32_202
  let c128_i32_203 : BitVec 32 := 128#32
  let v331 : BitVec 32 := Scalar.addi v330 c128_i32_203
  v331
def k0_mult28 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c0_i32_199 : BitVec 32 := 0#32
  let v326 : BitVec 32 := Scalar.addi v325 c0_i32_199
  let c512_i32_204 : BitVec 32 := 512#32
  let v333 : BitVec 32 := Scalar.muli v326 c512_i32_204
  let c256_i32_205 : BitVec 32 := 256#32
  let v334 : BitVec 32 := Scalar.addi v333 c256_i32_205
  v334
def k0_mult29 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c0_i32_199 : BitVec 32 := 0#32
  let v326 : BitVec 32 := Scalar.addi v325 c0_i32_199
  let c512_i32_206 : BitVec 32 := 512#32
  let v336 : BitVec 32 := Scalar.muli v326 c512_i32_206
  let c384_i32 : BitVec 32 := 384#32
  let v337 : BitVec 32 := Scalar.addi v336 c384_i32
  v337
def k0_off23 (i : grid0.Coords) (k0_t18 : Fin (k0_t18_loop i).trips) (c0_i32_199 : BitVec 32) (c0_i32_201 : BitVec 32) : Fin 2 → Nat :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let v326 : BitVec 32 := Scalar.addi v325 c0_i32_199
  let c512_i32_200 : BitVec 32 := 512#32
  let v327 : BitVec 32 := Scalar.muli v326 c512_i32_200
  let v328 : BitVec 32 := Scalar.addi v327 c0_i32_201
  let v329 : BitVec 32 := v328
  let v339 : Index := Scalar.indexCast v329
  let c0_207 : Index := 0#32
  ![v339.toNat, 0]
def k0_mult30 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c1_i32_239 : BitVec 32 := 1#32
  let v475 : BitVec 32 := Scalar.addi v325 c1_i32_239
  let c512_i32_240 : BitVec 32 := 512#32
  let v476 : BitVec 32 := Scalar.muli v475 c512_i32_240
  let c0_i32_241 : BitVec 32 := 0#32
  let v477 : BitVec 32 := Scalar.addi v476 c0_i32_241
  v477
def k0_mult31 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c1_i32_239 : BitVec 32 := 1#32
  let v475 : BitVec 32 := Scalar.addi v325 c1_i32_239
  let c512_i32_242 : BitVec 32 := 512#32
  let v479 : BitVec 32 := Scalar.muli v475 c512_i32_242
  let c128_i32_243 : BitVec 32 := 128#32
  let v480 : BitVec 32 := Scalar.addi v479 c128_i32_243
  v480
def k0_mult32 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c1_i32_239 : BitVec 32 := 1#32
  let v475 : BitVec 32 := Scalar.addi v325 c1_i32_239
  let c512_i32_244 : BitVec 32 := 512#32
  let v482 : BitVec 32 := Scalar.muli v475 c512_i32_244
  let c256_i32_245 : BitVec 32 := 256#32
  let v483 : BitVec 32 := Scalar.addi v482 c256_i32_245
  v483
def k0_mult33 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c1_i32_239 : BitVec 32 := 1#32
  let v475 : BitVec 32 := Scalar.addi v325 c1_i32_239
  let c512_i32_246 : BitVec 32 := 512#32
  let v485 : BitVec 32 := Scalar.muli v475 c512_i32_246
  let c384_i32_247 : BitVec 32 := 384#32
  let v486 : BitVec 32 := Scalar.addi v485 c384_i32_247
  v486
def k0_mult34 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c2_i32_280 : BitVec 32 := 2#32
  let v624 : BitVec 32 := Scalar.addi v325 c2_i32_280
  let c512_i32_281 : BitVec 32 := 512#32
  let v625 : BitVec 32 := Scalar.muli v624 c512_i32_281
  let c0_i32_282 : BitVec 32 := 0#32
  let v626 : BitVec 32 := Scalar.addi v625 c0_i32_282
  v626
def k0_mult35 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c2_i32_280 : BitVec 32 := 2#32
  let v624 : BitVec 32 := Scalar.addi v325 c2_i32_280
  let c512_i32_283 : BitVec 32 := 512#32
  let v628 : BitVec 32 := Scalar.muli v624 c512_i32_283
  let c128_i32_284 : BitVec 32 := 128#32
  let v629 : BitVec 32 := Scalar.addi v628 c128_i32_284
  v629
def k0_mult36 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c2_i32_280 : BitVec 32 := 2#32
  let v624 : BitVec 32 := Scalar.addi v325 c2_i32_280
  let c512_i32_285 : BitVec 32 := 512#32
  let v631 : BitVec 32 := Scalar.muli v624 c512_i32_285
  let c256_i32_286 : BitVec 32 := 256#32
  let v632 : BitVec 32 := Scalar.addi v631 c256_i32_286
  v632
def k0_mult37 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c2_i32_280 : BitVec 32 := 2#32
  let v624 : BitVec 32 := Scalar.addi v325 c2_i32_280
  let c512_i32_287 : BitVec 32 := 512#32
  let v634 : BitVec 32 := Scalar.muli v624 c512_i32_287
  let c384_i32_288 : BitVec 32 := 384#32
  let v635 : BitVec 32 := Scalar.addi v634 c384_i32_288
  v635
def k0_mult38 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c3_i32 : BitVec 32 := 3#32
  let v773 : BitVec 32 := Scalar.addi v325 c3_i32
  let c512_i32_321 : BitVec 32 := 512#32
  let v774 : BitVec 32 := Scalar.muli v773 c512_i32_321
  let c0_i32_322 : BitVec 32 := 0#32
  let v775 : BitVec 32 := Scalar.addi v774 c0_i32_322
  v775
def k0_mult39 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c3_i32 : BitVec 32 := 3#32
  let v773 : BitVec 32 := Scalar.addi v325 c3_i32
  let c512_i32_323 : BitVec 32 := 512#32
  let v777 : BitVec 32 := Scalar.muli v773 c512_i32_323
  let c128_i32_324 : BitVec 32 := 128#32
  let v778 : BitVec 32 := Scalar.addi v777 c128_i32_324
  v778
def k0_mult40 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c3_i32 : BitVec 32 := 3#32
  let v773 : BitVec 32 := Scalar.addi v325 c3_i32
  let c512_i32_325 : BitVec 32 := 512#32
  let v780 : BitVec 32 := Scalar.muli v773 c512_i32_325
  let c256_i32_326 : BitVec 32 := 256#32
  let v781 : BitVec 32 := Scalar.addi v780 c256_i32_326
  v781
def k0_mult41 (i : grid0.Coords) (k0_t18 : Fin (k0_t18_loop i).trips) : BitVec 32 :=
  let c0_i32_82 : BitVec 32 := 0#32
  let c1_i32_84 : BitVec 32 := 1#32
  let arg14 : BitVec 32 := Scf.iv c0_i32_82 c1_i32_84 k0_t18
  let c4_i32_198 : BitVec 32 := 4#32
  let v325 : BitVec 32 := Scalar.muli arg14 c4_i32_198
  let c3_i32 : BitVec 32 := 3#32
  let v773 : BitVec 32 := Scalar.addi v325 c3_i32
  let c512_i32_327 : BitVec 32 := 512#32
  let v783 : BitVec 32 := Scalar.muli v773 c512_i32_327
  let c384_i32_328 : BitVec 32 := 384#32
  let v784 : BitVec 32 := Scalar.addi v783 c384_i32_328
  v784
@[reducible] def k0_t19_loop (i : grid0.Coords) : Scf.Loop 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let v176 : BitVec 32 := Scalar.addi c0_i32_82 v175
  let c1_i32_85 : BitVec 32 := 1#32
  ⟨v179, v176, c1_i32_85⟩
def k0_mult42 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c0_i32_199 : BitVec 32 := 0#32
  let v326 : BitVec 32 := Scalar.addi v325 c0_i32_199
  let c512_i32_200 : BitVec 32 := 512#32
  let v327 : BitVec 32 := Scalar.muli v326 c512_i32_200
  let c0_i32_201 : BitVec 32 := 0#32
  let v328 : BitVec 32 := Scalar.addi v327 c0_i32_201
  v328
def k0_mult43 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c0_i32_199 : BitVec 32 := 0#32
  let v326 : BitVec 32 := Scalar.addi v325 c0_i32_199
  let c512_i32_202 : BitVec 32 := 512#32
  let v330 : BitVec 32 := Scalar.muli v326 c512_i32_202
  let c128_i32_203 : BitVec 32 := 128#32
  let v331 : BitVec 32 := Scalar.addi v330 c128_i32_203
  v331
def k0_mult44 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c0_i32_199 : BitVec 32 := 0#32
  let v326 : BitVec 32 := Scalar.addi v325 c0_i32_199
  let c512_i32_204 : BitVec 32 := 512#32
  let v333 : BitVec 32 := Scalar.muli v326 c512_i32_204
  let c256_i32_205 : BitVec 32 := 256#32
  let v334 : BitVec 32 := Scalar.addi v333 c256_i32_205
  v334
def k0_mult45 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c0_i32_199 : BitVec 32 := 0#32
  let v326 : BitVec 32 := Scalar.addi v325 c0_i32_199
  let c512_i32_206 : BitVec 32 := 512#32
  let v336 : BitVec 32 := Scalar.muli v326 c512_i32_206
  let c384_i32 : BitVec 32 := 384#32
  let v337 : BitVec 32 := Scalar.addi v336 c384_i32
  v337
def k0_off24 (i : grid0.Coords) (k0_t19 : Fin (k0_t19_loop i).trips) (c0_i32_199 : BitVec 32) (c0_i32_201 : BitVec 32) : Fin 2 → Nat :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let v326 : BitVec 32 := Scalar.addi v325 c0_i32_199
  let c512_i32_200 : BitVec 32 := 512#32
  let v327 : BitVec 32 := Scalar.muli v326 c512_i32_200
  let v328 : BitVec 32 := Scalar.addi v327 c0_i32_201
  let v329 : BitVec 32 := v328
  let v339 : Index := Scalar.indexCast v329
  let c0_207 : Index := 0#32
  ![v339.toNat, 0]
def k0_mult46 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c1_i32_239 : BitVec 32 := 1#32
  let v475 : BitVec 32 := Scalar.addi v325 c1_i32_239
  let c512_i32_240 : BitVec 32 := 512#32
  let v476 : BitVec 32 := Scalar.muli v475 c512_i32_240
  let c0_i32_241 : BitVec 32 := 0#32
  let v477 : BitVec 32 := Scalar.addi v476 c0_i32_241
  v477
def k0_mult47 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c1_i32_239 : BitVec 32 := 1#32
  let v475 : BitVec 32 := Scalar.addi v325 c1_i32_239
  let c512_i32_242 : BitVec 32 := 512#32
  let v479 : BitVec 32 := Scalar.muli v475 c512_i32_242
  let c128_i32_243 : BitVec 32 := 128#32
  let v480 : BitVec 32 := Scalar.addi v479 c128_i32_243
  v480
def k0_mult48 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c1_i32_239 : BitVec 32 := 1#32
  let v475 : BitVec 32 := Scalar.addi v325 c1_i32_239
  let c512_i32_244 : BitVec 32 := 512#32
  let v482 : BitVec 32 := Scalar.muli v475 c512_i32_244
  let c256_i32_245 : BitVec 32 := 256#32
  let v483 : BitVec 32 := Scalar.addi v482 c256_i32_245
  v483
def k0_mult49 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c1_i32_239 : BitVec 32 := 1#32
  let v475 : BitVec 32 := Scalar.addi v325 c1_i32_239
  let c512_i32_246 : BitVec 32 := 512#32
  let v485 : BitVec 32 := Scalar.muli v475 c512_i32_246
  let c384_i32_247 : BitVec 32 := 384#32
  let v486 : BitVec 32 := Scalar.addi v485 c384_i32_247
  v486
def k0_mult50 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c2_i32_280 : BitVec 32 := 2#32
  let v624 : BitVec 32 := Scalar.addi v325 c2_i32_280
  let c512_i32_281 : BitVec 32 := 512#32
  let v625 : BitVec 32 := Scalar.muli v624 c512_i32_281
  let c0_i32_282 : BitVec 32 := 0#32
  let v626 : BitVec 32 := Scalar.addi v625 c0_i32_282
  v626
def k0_mult51 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c2_i32_280 : BitVec 32 := 2#32
  let v624 : BitVec 32 := Scalar.addi v325 c2_i32_280
  let c512_i32_283 : BitVec 32 := 512#32
  let v628 : BitVec 32 := Scalar.muli v624 c512_i32_283
  let c128_i32_284 : BitVec 32 := 128#32
  let v629 : BitVec 32 := Scalar.addi v628 c128_i32_284
  v629
def k0_mult52 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c2_i32_280 : BitVec 32 := 2#32
  let v624 : BitVec 32 := Scalar.addi v325 c2_i32_280
  let c512_i32_285 : BitVec 32 := 512#32
  let v631 : BitVec 32 := Scalar.muli v624 c512_i32_285
  let c256_i32_286 : BitVec 32 := 256#32
  let v632 : BitVec 32 := Scalar.addi v631 c256_i32_286
  v632
def k0_mult53 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c2_i32_280 : BitVec 32 := 2#32
  let v624 : BitVec 32 := Scalar.addi v325 c2_i32_280
  let c512_i32_287 : BitVec 32 := 512#32
  let v634 : BitVec 32 := Scalar.muli v624 c512_i32_287
  let c384_i32_288 : BitVec 32 := 384#32
  let v635 : BitVec 32 := Scalar.addi v634 c384_i32_288
  v635
def k0_mult54 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c3_i32 : BitVec 32 := 3#32
  let v773 : BitVec 32 := Scalar.addi v325 c3_i32
  let c512_i32_321 : BitVec 32 := 512#32
  let v774 : BitVec 32 := Scalar.muli v773 c512_i32_321
  let c0_i32_322 : BitVec 32 := 0#32
  let v775 : BitVec 32 := Scalar.addi v774 c0_i32_322
  v775
def k0_mult55 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c3_i32 : BitVec 32 := 3#32
  let v773 : BitVec 32 := Scalar.addi v325 c3_i32
  let c512_i32_323 : BitVec 32 := 512#32
  let v777 : BitVec 32 := Scalar.muli v773 c512_i32_323
  let c128_i32_324 : BitVec 32 := 128#32
  let v778 : BitVec 32 := Scalar.addi v777 c128_i32_324
  v778
def k0_mult56 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c3_i32 : BitVec 32 := 3#32
  let v773 : BitVec 32 := Scalar.addi v325 c3_i32
  let c512_i32_325 : BitVec 32 := 512#32
  let v780 : BitVec 32 := Scalar.muli v773 c512_i32_325
  let c256_i32_326 : BitVec 32 := 256#32
  let v781 : BitVec 32 := Scalar.addi v780 c256_i32_326
  v781
def k0_mult57 (i : grid0.Coords) (k0_t19 : Fin (k0_t19_loop i).trips) : BitVec 32 :=
  let c0_i32_82 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v175 : BitVec 32 := Scalar.subi v78 c0_i32_82
  let c1_i32_83 : BitVec 32 := 1#32
  let v177 : BitVec 32 := Scalar.divsi v175 c1_i32_83
  let v178 : BitVec 32 := Scalar.muli v177 c1_i32_83
  let v179 : BitVec 32 := Scalar.addi c0_i32_82 v178
  let c1_i32_85 : BitVec 32 := 1#32
  let arg14 : BitVec 32 := Scf.iv v179 c1_i32_85 k0_t19
  let c4_i32_198 : BitVec 32 := 4#32
  let v325 : BitVec 32 := Scalar.muli arg14 c4_i32_198
  let c3_i32 : BitVec 32 := 3#32
  let v773 : BitVec 32 := Scalar.addi v325 c3_i32
  let c512_i32_327 : BitVec 32 := 512#32
  let v783 : BitVec 32 := Scalar.muli v773 c512_i32_327
  let c384_i32_328 : BitVec 32 := 384#32
  let v784 : BitVec 32 := Scalar.addi v783 c384_i32_328
  v784
def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c2_i32_87 : BitVec 32 := 2#32
  let v183 : BitVec 32 := Scalar.andi v80 c2_i32_87
  let c0_i32_88 : BitVec 32 := 0#32
  let v184 : BitVec 1 := Scalar.cmpi .ne v183 c0_i32_88
  let v185 : BitVec 32 := Scalar.extui v184
  let c0_i32_89 : BitVec 32 := 0#32
  let v186 : BitVec 1 := Scalar.cmpi .ne v185 c0_i32_89
  v186

def k0_mult58 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c0_i32_198 : BitVec 32 := 0#32
  let v325 : BitVec 32 := Scalar.addi v182 c0_i32_198
  let c512_i32_199 : BitVec 32 := 512#32
  let v326 : BitVec 32 := Scalar.muli v325 c512_i32_199
  let c0_i32_200 : BitVec 32 := 0#32
  let v327 : BitVec 32 := Scalar.addi v326 c0_i32_200
  v327
def k0_mult59 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c0_i32_198 : BitVec 32 := 0#32
  let v325 : BitVec 32 := Scalar.addi v182 c0_i32_198
  let c512_i32_201 : BitVec 32 := 512#32
  let v329 : BitVec 32 := Scalar.muli v325 c512_i32_201
  let c128_i32_202 : BitVec 32 := 128#32
  let v330 : BitVec 32 := Scalar.addi v329 c128_i32_202
  v330
def k0_mult60 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c0_i32_198 : BitVec 32 := 0#32
  let v325 : BitVec 32 := Scalar.addi v182 c0_i32_198
  let c512_i32_203 : BitVec 32 := 512#32
  let v332 : BitVec 32 := Scalar.muli v325 c512_i32_203
  let c256_i32_204 : BitVec 32 := 256#32
  let v333 : BitVec 32 := Scalar.addi v332 c256_i32_204
  v333
def k0_mult61 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c0_i32_198 : BitVec 32 := 0#32
  let v325 : BitVec 32 := Scalar.addi v182 c0_i32_198
  let c512_i32_205 : BitVec 32 := 512#32
  let v335 : BitVec 32 := Scalar.muli v325 c512_i32_205
  let c384_i32 : BitVec 32 := 384#32
  let v336 : BitVec 32 := Scalar.addi v335 c384_i32
  v336
def k0_off25 (i : grid0.Coords) (c0_i32_198 : BitVec 32) (c0_i32_200 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let v325 : BitVec 32 := Scalar.addi v182 c0_i32_198
  let c512_i32_199 : BitVec 32 := 512#32
  let v326 : BitVec 32 := Scalar.muli v325 c512_i32_199
  let v327 : BitVec 32 := Scalar.addi v326 c0_i32_200
  let v328 : BitVec 32 := v327
  let v338 : Index := Scalar.indexCast v328
  let c0_206 : Index := 0#32
  ![v338.toNat, 0]
def k0_mult62 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c1_i32_238 : BitVec 32 := 1#32
  let v474 : BitVec 32 := Scalar.addi v182 c1_i32_238
  let c512_i32_239 : BitVec 32 := 512#32
  let v475 : BitVec 32 := Scalar.muli v474 c512_i32_239
  let c0_i32_240 : BitVec 32 := 0#32
  let v476 : BitVec 32 := Scalar.addi v475 c0_i32_240
  v476
def k0_mult63 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c1_i32_238 : BitVec 32 := 1#32
  let v474 : BitVec 32 := Scalar.addi v182 c1_i32_238
  let c512_i32_241 : BitVec 32 := 512#32
  let v478 : BitVec 32 := Scalar.muli v474 c512_i32_241
  let c128_i32_242 : BitVec 32 := 128#32
  let v479 : BitVec 32 := Scalar.addi v478 c128_i32_242
  v479
def k0_mult64 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c1_i32_238 : BitVec 32 := 1#32
  let v474 : BitVec 32 := Scalar.addi v182 c1_i32_238
  let c512_i32_243 : BitVec 32 := 512#32
  let v481 : BitVec 32 := Scalar.muli v474 c512_i32_243
  let c256_i32_244 : BitVec 32 := 256#32
  let v482 : BitVec 32 := Scalar.addi v481 c256_i32_244
  v482
def k0_mult65 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c1_i32_238 : BitVec 32 := 1#32
  let v474 : BitVec 32 := Scalar.addi v182 c1_i32_238
  let c512_i32_245 : BitVec 32 := 512#32
  let v484 : BitVec 32 := Scalar.muli v474 c512_i32_245
  let c384_i32_246 : BitVec 32 := 384#32
  let v485 : BitVec 32 := Scalar.addi v484 c384_i32_246
  v485
def k0_cond4 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c1_i32_92 : BitVec 32 := 1#32
  let v190 : BitVec 32 := Scalar.andi v80 c1_i32_92
  let c0_i32_93 : BitVec 32 := 0#32
  let v191 : BitVec 1 := Scalar.cmpi .ne v190 c0_i32_93
  let v192 : BitVec 32 := Scalar.extui v191
  let c0_i32_94 : BitVec 32 := 0#32
  let v193 : BitVec 1 := Scalar.cmpi .ne v192 c0_i32_94
  v193

def k0_mult66 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c4_i32_26 : BitVec 32 := 4#32
  let v79 : BitVec 32 := Scalar.muli v78 c4_i32_26
  let v80 : BitVec 32 := Scalar.subi v20 v79
  let c2_i32_87 : BitVec 32 := 2#32
  let v183 : BitVec 32 := Scalar.andi v80 c2_i32_87
  let c0_i32_88 : BitVec 32 := 0#32
  let v184 : BitVec 1 := Scalar.cmpi .ne v183 c0_i32_88
  let c2_i32_90 : BitVec 32 := 2#32
  let c0_i32_91 : BitVec 32 := 0#32
  let v188 : BitVec 32 := Scalar.select v184 c2_i32_90 c0_i32_91
  let v189 : BitVec 32 := Scalar.addi v182 v188
  let c0_i32_198 : BitVec 32 := 0#32
  let v325 : BitVec 32 := Scalar.addi v189 c0_i32_198
  let c512_i32_199 : BitVec 32 := 512#32
  let v326 : BitVec 32 := Scalar.muli v325 c512_i32_199
  let c0_i32_200 : BitVec 32 := 0#32
  let v327 : BitVec 32 := Scalar.addi v326 c0_i32_200
  v327
def k0_mult67 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c4_i32_26 : BitVec 32 := 4#32
  let v79 : BitVec 32 := Scalar.muli v78 c4_i32_26
  let v80 : BitVec 32 := Scalar.subi v20 v79
  let c2_i32_87 : BitVec 32 := 2#32
  let v183 : BitVec 32 := Scalar.andi v80 c2_i32_87
  let c0_i32_88 : BitVec 32 := 0#32
  let v184 : BitVec 1 := Scalar.cmpi .ne v183 c0_i32_88
  let c2_i32_90 : BitVec 32 := 2#32
  let c0_i32_91 : BitVec 32 := 0#32
  let v188 : BitVec 32 := Scalar.select v184 c2_i32_90 c0_i32_91
  let v189 : BitVec 32 := Scalar.addi v182 v188
  let c0_i32_198 : BitVec 32 := 0#32
  let v325 : BitVec 32 := Scalar.addi v189 c0_i32_198
  let c512_i32_201 : BitVec 32 := 512#32
  let v329 : BitVec 32 := Scalar.muli v325 c512_i32_201
  let c128_i32_202 : BitVec 32 := 128#32
  let v330 : BitVec 32 := Scalar.addi v329 c128_i32_202
  v330
def k0_mult68 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c4_i32_26 : BitVec 32 := 4#32
  let v79 : BitVec 32 := Scalar.muli v78 c4_i32_26
  let v80 : BitVec 32 := Scalar.subi v20 v79
  let c2_i32_87 : BitVec 32 := 2#32
  let v183 : BitVec 32 := Scalar.andi v80 c2_i32_87
  let c0_i32_88 : BitVec 32 := 0#32
  let v184 : BitVec 1 := Scalar.cmpi .ne v183 c0_i32_88
  let c2_i32_90 : BitVec 32 := 2#32
  let c0_i32_91 : BitVec 32 := 0#32
  let v188 : BitVec 32 := Scalar.select v184 c2_i32_90 c0_i32_91
  let v189 : BitVec 32 := Scalar.addi v182 v188
  let c0_i32_198 : BitVec 32 := 0#32
  let v325 : BitVec 32 := Scalar.addi v189 c0_i32_198
  let c512_i32_203 : BitVec 32 := 512#32
  let v332 : BitVec 32 := Scalar.muli v325 c512_i32_203
  let c256_i32_204 : BitVec 32 := 256#32
  let v333 : BitVec 32 := Scalar.addi v332 c256_i32_204
  v333
def k0_mult69 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c4_i32_26 : BitVec 32 := 4#32
  let v79 : BitVec 32 := Scalar.muli v78 c4_i32_26
  let v80 : BitVec 32 := Scalar.subi v20 v79
  let c2_i32_87 : BitVec 32 := 2#32
  let v183 : BitVec 32 := Scalar.andi v80 c2_i32_87
  let c0_i32_88 : BitVec 32 := 0#32
  let v184 : BitVec 1 := Scalar.cmpi .ne v183 c0_i32_88
  let c2_i32_90 : BitVec 32 := 2#32
  let c0_i32_91 : BitVec 32 := 0#32
  let v188 : BitVec 32 := Scalar.select v184 c2_i32_90 c0_i32_91
  let v189 : BitVec 32 := Scalar.addi v182 v188
  let c0_i32_198 : BitVec 32 := 0#32
  let v325 : BitVec 32 := Scalar.addi v189 c0_i32_198
  let c512_i32_205 : BitVec 32 := 512#32
  let v335 : BitVec 32 := Scalar.muli v325 c512_i32_205
  let c384_i32 : BitVec 32 := 384#32
  let v336 : BitVec 32 := Scalar.addi v335 c384_i32
  v336
def k0_off26 (i : grid0.Coords) (c0_i32_200 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_86 : BitVec 32 := 4#32
  let v182 : BitVec 32 := Scalar.muli v78 c4_i32_86
  let c4_i32_26 : BitVec 32 := 4#32
  let v79 : BitVec 32 := Scalar.muli v78 c4_i32_26
  let v80 : BitVec 32 := Scalar.subi v20 v79
  let c2_i32_87 : BitVec 32 := 2#32
  let v183 : BitVec 32 := Scalar.andi v80 c2_i32_87
  let c0_i32_88 : BitVec 32 := 0#32
  let v184 : BitVec 1 := Scalar.cmpi .ne v183 c0_i32_88
  let c2_i32_90 : BitVec 32 := 2#32
  let c0_i32_91 : BitVec 32 := 0#32
  let v188 : BitVec 32 := Scalar.select v184 c2_i32_90 c0_i32_91
  let v189 : BitVec 32 := Scalar.addi v182 v188
  let c0_i32_198 : BitVec 32 := 0#32
  let v325 : BitVec 32 := Scalar.addi v189 c0_i32_198
  let c512_i32_199 : BitVec 32 := 512#32
  let v326 : BitVec 32 := Scalar.muli v325 c512_i32_199
  let v327 : BitVec 32 := Scalar.addi v326 c0_i32_200
  let v328 : BitVec 32 := v327
  let v338 : Index := Scalar.indexCast v328
  let c0_206 : Index := 0#32
  ![v338.toNat, 0]
@[reducible] def k0_t20_loop (i : grid0.Coords) : Scf.Loop 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_102 : BitVec 32 := 1#32
  ⟨c0_i32_100, v212, c1_i32_102⟩
def k0_mult70 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c0_i32_199 : BitVec 32 := 0#32
  let v326 : BitVec 32 := Scalar.addi v325 c0_i32_199
  let c2_i32_200 : BitVec 32 := 2#32
  let v327 : BitVec 32 := Scalar.muli v326 c2_i32_200
  let c0_i32_201 : BitVec 32 := 0#32
  let v328 : BitVec 32 := Scalar.addi v327 c0_i32_201
  let c256_i32_202 : BitVec 32 := 256#32
  let v329 : BitVec 32 := Scalar.muli v328 c256_i32_202
  v329
def k0_off27 (i : grid0.Coords) (k0_t20 : Fin (k0_t20_loop i).trips) (c0_i32_199 : BitVec 32) (c0_i32_201 : BitVec 32) : Fin 2 → Nat :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let c256_i32_202 : BitVec 32 := 256#32
  let v329 : BitVec 32 := Scalar.muli v328 c256_i32_202
  let v330 : BitVec 32 := v329
  let v331 : Index := Scalar.indexCast v330
  let c0_203 : Index := 0#32
  ![v331.toNat, 0]
def k0_off28 (i : grid0.Coords) (k0_t20 : Fin (k0_t20_loop i).trips) (c0_i32_199 : BitVec 32) (c0_i32_201 : BitVec 32) : Fin 3 → Nat :=
  let c0_204 : Index := 0#32
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let c256_i32_202 : BitVec 32 := 256#32
  let v329 : BitVec 32 := Scalar.muli v328 c256_i32_202
  let v330 : BitVec 32 := v329
  let v333 : Index := Scalar.indexCast v330
  let c0_205 : Index := 0#32
  ![0, v333.toNat, 0]
def k0_off29 (i : grid0.Coords) (k0_t20 : Fin (k0_t20_loop i).trips) (c0_i32_199 : BitVec 32) (c0_i32_201 : BitVec 32) : Fin 4 → Nat :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v346 : Index := Scalar.indexCast v328
  let c0_207 : Index := 0#32
  let c0_208 : Index := 0#32
  let c0_209 : Index := 0#32
  ![v346.toNat, 0, 0, 0]
def k0_off30 (i : grid0.Coords) (k0_t20 : Fin (k0_t20_loop i).trips) (c0_i32_199 : BitVec 32) (c0_i32_201 : BitVec 32) : Fin 3 → Nat :=
  let c0_211 : Index := 0#32
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let c256_i32_202 : BitVec 32 := 256#32
  let v329 : BitVec 32 := Scalar.muli v328 c256_i32_202
  let v330 : BitVec 32 := v329
  let v353 : Index := Scalar.indexCast v330
  let c64_212 : Index := 64#32
  ![0, v353.toNat, 64]
def k0_off31 (i : grid0.Coords) (k0_t20 : Fin (k0_t20_loop i).trips) (c0_i32_199 : BitVec 32) (c0_i32_201 : BitVec 32) : Fin 4 → Nat :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v366 : Index := Scalar.indexCast v328
  let c1_214 : Index := 1#32
  let c0_215 : Index := 0#32
  let c0_216 : Index := 0#32
  ![v366.toNat, 1, 0, 0]
def k0_mult71 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c0_i32_199 : BitVec 32 := 0#32
  let v326 : BitVec 32 := Scalar.addi v325 c0_i32_199
  let c2_i32_218 : BitVec 32 := 2#32
  let v373 : BitVec 32 := Scalar.muli v326 c2_i32_218
  let c1_i32_219 : BitVec 32 := 1#32
  let v374 : BitVec 32 := Scalar.addi v373 c1_i32_219
  let c256_i32_220 : BitVec 32 := 256#32
  let v375 : BitVec 32 := Scalar.muli v374 c256_i32_220
  v375
def k0_mult72 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c1_i32_236 : BitVec 32 := 1#32
  let v419 : BitVec 32 := Scalar.addi v325 c1_i32_236
  let c2_i32_237 : BitVec 32 := 2#32
  let v420 : BitVec 32 := Scalar.muli v419 c2_i32_237
  let c0_i32_238 : BitVec 32 := 0#32
  let v421 : BitVec 32 := Scalar.addi v420 c0_i32_238
  let c256_i32_239 : BitVec 32 := 256#32
  let v422 : BitVec 32 := Scalar.muli v421 c256_i32_239
  v422
def k0_mult73 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c1_i32_236 : BitVec 32 := 1#32
  let v419 : BitVec 32 := Scalar.addi v325 c1_i32_236
  let c2_i32_255 : BitVec 32 := 2#32
  let v466 : BitVec 32 := Scalar.muli v419 c2_i32_255
  let c1_i32_256 : BitVec 32 := 1#32
  let v467 : BitVec 32 := Scalar.addi v466 c1_i32_256
  let c256_i32_257 : BitVec 32 := 256#32
  let v468 : BitVec 32 := Scalar.muli v467 c256_i32_257
  v468
def k0_mult74 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c2_i32_273 : BitVec 32 := 2#32
  let v512 : BitVec 32 := Scalar.addi v325 c2_i32_273
  let c2_i32_274 : BitVec 32 := 2#32
  let v513 : BitVec 32 := Scalar.muli v512 c2_i32_274
  let c0_i32_275 : BitVec 32 := 0#32
  let v514 : BitVec 32 := Scalar.addi v513 c0_i32_275
  let c256_i32_276 : BitVec 32 := 256#32
  let v515 : BitVec 32 := Scalar.muli v514 c256_i32_276
  v515
def k0_mult75 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c2_i32_273 : BitVec 32 := 2#32
  let v512 : BitVec 32 := Scalar.addi v325 c2_i32_273
  let c2_i32_292 : BitVec 32 := 2#32
  let v559 : BitVec 32 := Scalar.muli v512 c2_i32_292
  let c1_i32_293 : BitVec 32 := 1#32
  let v560 : BitVec 32 := Scalar.addi v559 c1_i32_293
  let c256_i32_294 : BitVec 32 := 256#32
  let v561 : BitVec 32 := Scalar.muli v560 c256_i32_294
  v561
def k0_mult76 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c3_i32 : BitVec 32 := 3#32
  let v605 : BitVec 32 := Scalar.addi v325 c3_i32
  let c2_i32_310 : BitVec 32 := 2#32
  let v606 : BitVec 32 := Scalar.muli v605 c2_i32_310
  let c0_i32_311 : BitVec 32 := 0#32
  let v607 : BitVec 32 := Scalar.addi v606 c0_i32_311
  let c256_i32_312 : BitVec 32 := 256#32
  let v608 : BitVec 32 := Scalar.muli v607 c256_i32_312
  v608
def k0_mult77 (i : grid0.Coords) (k0_t20 : Fin (k0_t20_loop i).trips) : BitVec 32 :=
  let c0_i32_100 : BitVec 32 := 0#32
  let c1_i32_102 : BitVec 32 := 1#32
  let arg14 : BitVec 32 := Scf.iv c0_i32_100 c1_i32_102 k0_t20
  let c4_i32_198 : BitVec 32 := 4#32
  let v325 : BitVec 32 := Scalar.muli arg14 c4_i32_198
  let c3_i32 : BitVec 32 := 3#32
  let v605 : BitVec 32 := Scalar.addi v325 c3_i32
  let c2_i32_328 : BitVec 32 := 2#32
  let v652 : BitVec 32 := Scalar.muli v605 c2_i32_328
  let c1_i32_329 : BitVec 32 := 1#32
  let v653 : BitVec 32 := Scalar.addi v652 c1_i32_329
  let c256_i32_330 : BitVec 32 := 256#32
  let v654 : BitVec 32 := Scalar.muli v653 c256_i32_330
  v654
@[reducible] def k0_t21_loop (i : grid0.Coords) : Scf.Loop 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let v209 : BitVec 32 := Scalar.addi c0_i32_100 v208
  let c1_i32_103 : BitVec 32 := 1#32
  ⟨v212, v209, c1_i32_103⟩
def k0_mult78 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c0_i32_199 : BitVec 32 := 0#32
  let v326 : BitVec 32 := Scalar.addi v325 c0_i32_199
  let c2_i32_200 : BitVec 32 := 2#32
  let v327 : BitVec 32 := Scalar.muli v326 c2_i32_200
  let c0_i32_201 : BitVec 32 := 0#32
  let v328 : BitVec 32 := Scalar.addi v327 c0_i32_201
  let c256_i32_202 : BitVec 32 := 256#32
  let v329 : BitVec 32 := Scalar.muli v328 c256_i32_202
  v329
def k0_off32 (i : grid0.Coords) (k0_t21 : Fin (k0_t21_loop i).trips) (c0_i32_199 : BitVec 32) (c0_i32_201 : BitVec 32) : Fin 2 → Nat :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let c256_i32_202 : BitVec 32 := 256#32
  let v329 : BitVec 32 := Scalar.muli v328 c256_i32_202
  let v330 : BitVec 32 := v329
  let v331 : Index := Scalar.indexCast v330
  let c0_203 : Index := 0#32
  ![v331.toNat, 0]
def k0_off33 (i : grid0.Coords) (k0_t21 : Fin (k0_t21_loop i).trips) (c0_i32_199 : BitVec 32) (c0_i32_201 : BitVec 32) : Fin 3 → Nat :=
  let c0_204 : Index := 0#32
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let c256_i32_202 : BitVec 32 := 256#32
  let v329 : BitVec 32 := Scalar.muli v328 c256_i32_202
  let v330 : BitVec 32 := v329
  let v333 : Index := Scalar.indexCast v330
  let c0_205 : Index := 0#32
  ![0, v333.toNat, 0]
def k0_off34 (i : grid0.Coords) (k0_t21 : Fin (k0_t21_loop i).trips) (c0_i32_199 : BitVec 32) (c0_i32_201 : BitVec 32) : Fin 4 → Nat :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v346 : Index := Scalar.indexCast v328
  let c0_207 : Index := 0#32
  let c0_208 : Index := 0#32
  let c0_209 : Index := 0#32
  ![v346.toNat, 0, 0, 0]
def k0_off35 (i : grid0.Coords) (k0_t21 : Fin (k0_t21_loop i).trips) (c0_i32_199 : BitVec 32) (c0_i32_201 : BitVec 32) : Fin 3 → Nat :=
  let c0_211 : Index := 0#32
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let c256_i32_202 : BitVec 32 := 256#32
  let v329 : BitVec 32 := Scalar.muli v328 c256_i32_202
  let v330 : BitVec 32 := v329
  let v353 : Index := Scalar.indexCast v330
  let c64_212 : Index := 64#32
  ![0, v353.toNat, 64]
def k0_off36 (i : grid0.Coords) (k0_t21 : Fin (k0_t21_loop i).trips) (c0_i32_199 : BitVec 32) (c0_i32_201 : BitVec 32) : Fin 4 → Nat :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v366 : Index := Scalar.indexCast v328
  let c1_214 : Index := 1#32
  let c0_215 : Index := 0#32
  let c0_216 : Index := 0#32
  ![v366.toNat, 1, 0, 0]
def k0_mult79 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c0_i32_199 : BitVec 32 := 0#32
  let v326 : BitVec 32 := Scalar.addi v325 c0_i32_199
  let c2_i32_218 : BitVec 32 := 2#32
  let v373 : BitVec 32 := Scalar.muli v326 c2_i32_218
  let c1_i32_219 : BitVec 32 := 1#32
  let v374 : BitVec 32 := Scalar.addi v373 c1_i32_219
  let c256_i32_220 : BitVec 32 := 256#32
  let v375 : BitVec 32 := Scalar.muli v374 c256_i32_220
  v375
def k0_mult80 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c1_i32_236 : BitVec 32 := 1#32
  let v419 : BitVec 32 := Scalar.addi v325 c1_i32_236
  let c2_i32_237 : BitVec 32 := 2#32
  let v420 : BitVec 32 := Scalar.muli v419 c2_i32_237
  let c0_i32_238 : BitVec 32 := 0#32
  let v421 : BitVec 32 := Scalar.addi v420 c0_i32_238
  let c256_i32_239 : BitVec 32 := 256#32
  let v422 : BitVec 32 := Scalar.muli v421 c256_i32_239
  v422
def k0_mult81 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c1_i32_236 : BitVec 32 := 1#32
  let v419 : BitVec 32 := Scalar.addi v325 c1_i32_236
  let c2_i32_255 : BitVec 32 := 2#32
  let v466 : BitVec 32 := Scalar.muli v419 c2_i32_255
  let c1_i32_256 : BitVec 32 := 1#32
  let v467 : BitVec 32 := Scalar.addi v466 c1_i32_256
  let c256_i32_257 : BitVec 32 := 256#32
  let v468 : BitVec 32 := Scalar.muli v467 c256_i32_257
  v468
def k0_mult82 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c2_i32_273 : BitVec 32 := 2#32
  let v512 : BitVec 32 := Scalar.addi v325 c2_i32_273
  let c2_i32_274 : BitVec 32 := 2#32
  let v513 : BitVec 32 := Scalar.muli v512 c2_i32_274
  let c0_i32_275 : BitVec 32 := 0#32
  let v514 : BitVec 32 := Scalar.addi v513 c0_i32_275
  let c256_i32_276 : BitVec 32 := 256#32
  let v515 : BitVec 32 := Scalar.muli v514 c256_i32_276
  v515
def k0_mult83 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c2_i32_273 : BitVec 32 := 2#32
  let v512 : BitVec 32 := Scalar.addi v325 c2_i32_273
  let c2_i32_292 : BitVec 32 := 2#32
  let v559 : BitVec 32 := Scalar.muli v512 c2_i32_292
  let c1_i32_293 : BitVec 32 := 1#32
  let v560 : BitVec 32 := Scalar.addi v559 c1_i32_293
  let c256_i32_294 : BitVec 32 := 256#32
  let v561 : BitVec 32 := Scalar.muli v560 c256_i32_294
  v561
def k0_mult84 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c3_i32 : BitVec 32 := 3#32
  let v605 : BitVec 32 := Scalar.addi v325 c3_i32
  let c2_i32_310 : BitVec 32 := 2#32
  let v606 : BitVec 32 := Scalar.muli v605 c2_i32_310
  let c0_i32_311 : BitVec 32 := 0#32
  let v607 : BitVec 32 := Scalar.addi v606 c0_i32_311
  let c256_i32_312 : BitVec 32 := 256#32
  let v608 : BitVec 32 := Scalar.muli v607 c256_i32_312
  v608
def k0_mult85 (i : grid0.Coords) (k0_t21 : Fin (k0_t21_loop i).trips) : BitVec 32 :=
  let c0_i32_100 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v208 : BitVec 32 := Scalar.subi v78 c0_i32_100
  let c1_i32_101 : BitVec 32 := 1#32
  let v210 : BitVec 32 := Scalar.divsi v208 c1_i32_101
  let v211 : BitVec 32 := Scalar.muli v210 c1_i32_101
  let v212 : BitVec 32 := Scalar.addi c0_i32_100 v211
  let c1_i32_103 : BitVec 32 := 1#32
  let arg14 : BitVec 32 := Scf.iv v212 c1_i32_103 k0_t21
  let c4_i32_198 : BitVec 32 := 4#32
  let v325 : BitVec 32 := Scalar.muli arg14 c4_i32_198
  let c3_i32 : BitVec 32 := 3#32
  let v605 : BitVec 32 := Scalar.addi v325 c3_i32
  let c2_i32_328 : BitVec 32 := 2#32
  let v652 : BitVec 32 := Scalar.muli v605 c2_i32_328
  let c1_i32_329 : BitVec 32 := 1#32
  let v653 : BitVec 32 := Scalar.addi v652 c1_i32_329
  let c256_i32_330 : BitVec 32 := 256#32
  let v654 : BitVec 32 := Scalar.muli v653 c256_i32_330
  v654
def k0_cond5 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let v218 : BitVec 32 := Scalar.extui v217
  let c0_i32_107 : BitVec 32 := 0#32
  let v219 : BitVec 1 := Scalar.cmpi .ne v218 c0_i32_107
  v219

def k0_mult86 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c0_i32_198 : BitVec 32 := 0#32
  let v325 : BitVec 32 := Scalar.addi v215 c0_i32_198
  let c2_i32_199 : BitVec 32 := 2#32
  let v326 : BitVec 32 := Scalar.muli v325 c2_i32_199
  let c0_i32_200 : BitVec 32 := 0#32
  let v327 : BitVec 32 := Scalar.addi v326 c0_i32_200
  let c256_i32_201 : BitVec 32 := 256#32
  let v328 : BitVec 32 := Scalar.muli v327 c256_i32_201
  v328
def k0_off37 (i : grid0.Coords) (c0_i32_198 : BitVec 32) (c0_i32_200 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let v325 : BitVec 32 := Scalar.addi v215 c0_i32_198
  let c2_i32_199 : BitVec 32 := 2#32
  let v326 : BitVec 32 := Scalar.muli v325 c2_i32_199
  let v327 : BitVec 32 := Scalar.addi v326 c0_i32_200
  let c256_i32_201 : BitVec 32 := 256#32
  let v328 : BitVec 32 := Scalar.muli v327 c256_i32_201
  let v329 : BitVec 32 := v328
  let v330 : Index := Scalar.indexCast v329
  let c0_202 : Index := 0#32
  ![v330.toNat, 0]
def k0_off38 (i : grid0.Coords) (c0_i32_198 : BitVec 32) (c0_i32_200 : BitVec 32) : Fin 3 → Nat :=
  let c0_203 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let v325 : BitVec 32 := Scalar.addi v215 c0_i32_198
  let c2_i32_199 : BitVec 32 := 2#32
  let v326 : BitVec 32 := Scalar.muli v325 c2_i32_199
  let v327 : BitVec 32 := Scalar.addi v326 c0_i32_200
  let c256_i32_201 : BitVec 32 := 256#32
  let v328 : BitVec 32 := Scalar.muli v327 c256_i32_201
  let v329 : BitVec 32 := v328
  let v332 : Index := Scalar.indexCast v329
  let c0_204 : Index := 0#32
  ![0, v332.toNat, 0]
def k0_off39 (i : grid0.Coords) (c0_i32_198 : BitVec 32) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let v325 : BitVec 32 := Scalar.addi v215 c0_i32_198
  let c2_i32_199 : BitVec 32 := 2#32
  let v326 : BitVec 32 := Scalar.muli v325 c2_i32_199
  let v327 : BitVec 32 := Scalar.addi v326 c0_i32_200
  let v345 : Index := Scalar.indexCast v327
  let c0_206 : Index := 0#32
  let c0_207 : Index := 0#32
  let c0_208 : Index := 0#32
  ![v345.toNat, 0, 0, 0]
def k0_off40 (i : grid0.Coords) (c0_i32_198 : BitVec 32) (c0_i32_200 : BitVec 32) : Fin 3 → Nat :=
  let c0_210 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let v325 : BitVec 32 := Scalar.addi v215 c0_i32_198
  let c2_i32_199 : BitVec 32 := 2#32
  let v326 : BitVec 32 := Scalar.muli v325 c2_i32_199
  let v327 : BitVec 32 := Scalar.addi v326 c0_i32_200
  let c256_i32_201 : BitVec 32 := 256#32
  let v328 : BitVec 32 := Scalar.muli v327 c256_i32_201
  let v329 : BitVec 32 := v328
  let v352 : Index := Scalar.indexCast v329
  let c64_211 : Index := 64#32
  ![0, v352.toNat, 64]
def k0_off41 (i : grid0.Coords) (c0_i32_198 : BitVec 32) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let v325 : BitVec 32 := Scalar.addi v215 c0_i32_198
  let c2_i32_199 : BitVec 32 := 2#32
  let v326 : BitVec 32 := Scalar.muli v325 c2_i32_199
  let v327 : BitVec 32 := Scalar.addi v326 c0_i32_200
  let v365 : Index := Scalar.indexCast v327
  let c1_213 : Index := 1#32
  let c0_214 : Index := 0#32
  let c0_215 : Index := 0#32
  ![v365.toNat, 1, 0, 0]
def k0_mult87 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c0_i32_198 : BitVec 32 := 0#32
  let v325 : BitVec 32 := Scalar.addi v215 c0_i32_198
  let c2_i32_217 : BitVec 32 := 2#32
  let v372 : BitVec 32 := Scalar.muli v325 c2_i32_217
  let c1_i32_218 : BitVec 32 := 1#32
  let v373 : BitVec 32 := Scalar.addi v372 c1_i32_218
  let c256_i32_219 : BitVec 32 := 256#32
  let v374 : BitVec 32 := Scalar.muli v373 c256_i32_219
  v374
def k0_mult88 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c1_i32_235 : BitVec 32 := 1#32
  let v418 : BitVec 32 := Scalar.addi v215 c1_i32_235
  let c2_i32_236 : BitVec 32 := 2#32
  let v419 : BitVec 32 := Scalar.muli v418 c2_i32_236
  let c0_i32_237 : BitVec 32 := 0#32
  let v420 : BitVec 32 := Scalar.addi v419 c0_i32_237
  let c256_i32_238 : BitVec 32 := 256#32
  let v421 : BitVec 32 := Scalar.muli v420 c256_i32_238
  v421
def k0_mult89 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c1_i32_235 : BitVec 32 := 1#32
  let v418 : BitVec 32 := Scalar.addi v215 c1_i32_235
  let c2_i32_254 : BitVec 32 := 2#32
  let v465 : BitVec 32 := Scalar.muli v418 c2_i32_254
  let c1_i32_255 : BitVec 32 := 1#32
  let v466 : BitVec 32 := Scalar.addi v465 c1_i32_255
  let c256_i32_256 : BitVec 32 := 256#32
  let v467 : BitVec 32 := Scalar.muli v466 c256_i32_256
  v467
def k0_cond6 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c1_i32_110 : BitVec 32 := 1#32
  let v223 : BitVec 32 := Scalar.andi v80 c1_i32_110
  let c0_i32_111 : BitVec 32 := 0#32
  let v224 : BitVec 1 := Scalar.cmpi .ne v223 c0_i32_111
  let v225 : BitVec 32 := Scalar.extui v224
  let c0_i32_112 : BitVec 32 := 0#32
  let v226 : BitVec 1 := Scalar.cmpi .ne v225 c0_i32_112
  v226

def k0_mult90 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let c2_i32_108 : BitVec 32 := 2#32
  let c0_i32_109 : BitVec 32 := 0#32
  let v221 : BitVec 32 := Scalar.select v217 c2_i32_108 c0_i32_109
  let v222 : BitVec 32 := Scalar.addi v215 v221
  let c0_i32_198 : BitVec 32 := 0#32
  let v325 : BitVec 32 := Scalar.addi v222 c0_i32_198
  let c2_i32_199 : BitVec 32 := 2#32
  let v326 : BitVec 32 := Scalar.muli v325 c2_i32_199
  let c0_i32_200 : BitVec 32 := 0#32
  let v327 : BitVec 32 := Scalar.addi v326 c0_i32_200
  let c256_i32_201 : BitVec 32 := 256#32
  let v328 : BitVec 32 := Scalar.muli v327 c256_i32_201
  v328
def k0_off42 (i : grid0.Coords) (c0_i32_200 : BitVec 32) : Fin 2 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let c2_i32_108 : BitVec 32 := 2#32
  let c0_i32_109 : BitVec 32 := 0#32
  let v221 : BitVec 32 := Scalar.select v217 c2_i32_108 c0_i32_109
  let v222 : BitVec 32 := Scalar.addi v215 v221
  let c0_i32_198 : BitVec 32 := 0#32
  let v325 : BitVec 32 := Scalar.addi v222 c0_i32_198
  let c2_i32_199 : BitVec 32 := 2#32
  let v326 : BitVec 32 := Scalar.muli v325 c2_i32_199
  let v327 : BitVec 32 := Scalar.addi v326 c0_i32_200
  let c256_i32_201 : BitVec 32 := 256#32
  let v328 : BitVec 32 := Scalar.muli v327 c256_i32_201
  let v329 : BitVec 32 := v328
  let v330 : Index := Scalar.indexCast v329
  let c0_202 : Index := 0#32
  ![v330.toNat, 0]
def k0_off43 (i : grid0.Coords) (c0_i32_200 : BitVec 32) : Fin 3 → Nat :=
  let c0_203 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let c2_i32_108 : BitVec 32 := 2#32
  let c0_i32_109 : BitVec 32 := 0#32
  let v221 : BitVec 32 := Scalar.select v217 c2_i32_108 c0_i32_109
  let v222 : BitVec 32 := Scalar.addi v215 v221
  let c0_i32_198 : BitVec 32 := 0#32
  let v325 : BitVec 32 := Scalar.addi v222 c0_i32_198
  let c2_i32_199 : BitVec 32 := 2#32
  let v326 : BitVec 32 := Scalar.muli v325 c2_i32_199
  let v327 : BitVec 32 := Scalar.addi v326 c0_i32_200
  let c256_i32_201 : BitVec 32 := 256#32
  let v328 : BitVec 32 := Scalar.muli v327 c256_i32_201
  let v329 : BitVec 32 := v328
  let v332 : Index := Scalar.indexCast v329
  let c0_204 : Index := 0#32
  ![0, v332.toNat, 0]
def k0_off44 (i : grid0.Coords) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let c2_i32_108 : BitVec 32 := 2#32
  let c0_i32_109 : BitVec 32 := 0#32
  let v221 : BitVec 32 := Scalar.select v217 c2_i32_108 c0_i32_109
  let v222 : BitVec 32 := Scalar.addi v215 v221
  let c0_i32_198 : BitVec 32 := 0#32
  let v325 : BitVec 32 := Scalar.addi v222 c0_i32_198
  let c2_i32_199 : BitVec 32 := 2#32
  let v326 : BitVec 32 := Scalar.muli v325 c2_i32_199
  let v327 : BitVec 32 := Scalar.addi v326 c0_i32_200
  let v345 : Index := Scalar.indexCast v327
  let c0_206 : Index := 0#32
  let c0_207 : Index := 0#32
  let c0_208 : Index := 0#32
  ![v345.toNat, 0, 0, 0]
def k0_off45 (i : grid0.Coords) (c0_i32_200 : BitVec 32) : Fin 3 → Nat :=
  let c0_210 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let c2_i32_108 : BitVec 32 := 2#32
  let c0_i32_109 : BitVec 32 := 0#32
  let v221 : BitVec 32 := Scalar.select v217 c2_i32_108 c0_i32_109
  let v222 : BitVec 32 := Scalar.addi v215 v221
  let c0_i32_198 : BitVec 32 := 0#32
  let v325 : BitVec 32 := Scalar.addi v222 c0_i32_198
  let c2_i32_199 : BitVec 32 := 2#32
  let v326 : BitVec 32 := Scalar.muli v325 c2_i32_199
  let v327 : BitVec 32 := Scalar.addi v326 c0_i32_200
  let c256_i32_201 : BitVec 32 := 256#32
  let v328 : BitVec 32 := Scalar.muli v327 c256_i32_201
  let v329 : BitVec 32 := v328
  let v352 : Index := Scalar.indexCast v329
  let c64_211 : Index := 64#32
  ![0, v352.toNat, 64]
def k0_off46 (i : grid0.Coords) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let c2_i32_108 : BitVec 32 := 2#32
  let c0_i32_109 : BitVec 32 := 0#32
  let v221 : BitVec 32 := Scalar.select v217 c2_i32_108 c0_i32_109
  let v222 : BitVec 32 := Scalar.addi v215 v221
  let c0_i32_198 : BitVec 32 := 0#32
  let v325 : BitVec 32 := Scalar.addi v222 c0_i32_198
  let c2_i32_199 : BitVec 32 := 2#32
  let v326 : BitVec 32 := Scalar.muli v325 c2_i32_199
  let v327 : BitVec 32 := Scalar.addi v326 c0_i32_200
  let v365 : Index := Scalar.indexCast v327
  let c1_213 : Index := 1#32
  let c0_214 : Index := 0#32
  let c0_215 : Index := 0#32
  ![v365.toNat, 1, 0, 0]
def k0_mult91 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_104 : BitVec 32 := 4#32
  let v215 : BitVec 32 := Scalar.muli v78 c4_i32_104
  let c4_i32_26 : BitVec 32 := 4#32
  let v79 : BitVec 32 := Scalar.muli v78 c4_i32_26
  let v80 : BitVec 32 := Scalar.subi v20 v79
  let c2_i32_105 : BitVec 32 := 2#32
  let v216 : BitVec 32 := Scalar.andi v80 c2_i32_105
  let c0_i32_106 : BitVec 32 := 0#32
  let v217 : BitVec 1 := Scalar.cmpi .ne v216 c0_i32_106
  let c2_i32_108 : BitVec 32 := 2#32
  let c0_i32_109 : BitVec 32 := 0#32
  let v221 : BitVec 32 := Scalar.select v217 c2_i32_108 c0_i32_109
  let v222 : BitVec 32 := Scalar.addi v215 v221
  let c0_i32_198 : BitVec 32 := 0#32
  let v325 : BitVec 32 := Scalar.addi v222 c0_i32_198
  let c2_i32_217 : BitVec 32 := 2#32
  let v372 : BitVec 32 := Scalar.muli v325 c2_i32_217
  let c1_i32_218 : BitVec 32 := 1#32
  let v373 : BitVec 32 := Scalar.addi v372 c1_i32_218
  let c256_i32_219 : BitVec 32 := 256#32
  let v374 : BitVec 32 := Scalar.muli v373 c256_i32_219
  v374
@[reducible] def k0_t22_loop (i : grid0.Coords) : Scf.Loop 32 :=
  let c0_i32_121 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v237 : BitVec 32 := Scalar.subi v78 c0_i32_121
  let c1_i32_122 : BitVec 32 := 1#32
  let v239 : BitVec 32 := Scalar.divsi v237 c1_i32_122
  let v240 : BitVec 32 := Scalar.muli v239 c1_i32_122
  let v241 : BitVec 32 := Scalar.addi c0_i32_121 v240
  let c1_i32_123 : BitVec 32 := 1#32
  ⟨c0_i32_121, v241, c1_i32_123⟩
def k0_off47 (i : grid0.Coords) (k0_t22 : Fin (k0_t22_loop i).trips) (c0_i32_199 : BitVec 32) (c0_i32_201 : BitVec 32) : Fin 4 → Nat :=
  let c0_i32_121 : BitVec 32 := 0#32
  let c1_i32_123 : BitVec 32 := 1#32
  let arg14 : BitVec 32 := Scf.iv c0_i32_121 c1_i32_123 k0_t22
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v329 : Index := Scalar.indexCast v328
  let c0_202 : Index := 0#32
  let c0_203 : Index := 0#32
  let c0_204 : Index := 0#32
  ![v329.toNat, 0, 0, 0]
def k0_off48 (i : grid0.Coords) (k0_t22 : Fin (k0_t22_loop i).trips) (c0_i32_199 : BitVec 32) (c0_i32_201 : BitVec 32) : Fin 4 → Nat :=
  let c0_205 : Index := 0#32
  let c0_i32_121 : BitVec 32 := 0#32
  let c1_i32_123 : BitVec 32 := 1#32
  let arg14 : BitVec 32 := Scf.iv c0_i32_121 c1_i32_123 k0_t22
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v336 : Index := Scalar.indexCast v328
  let c0_206 : Index := 0#32
  let c0_207 : Index := 0#32
  ![0, v336.toNat, 0, 0]
def k0_off49 (i : grid0.Coords) (k0_t22 : Fin (k0_t22_loop i).trips) (c0_i32_199 : BitVec 32) (c0_i32_201 : BitVec 32) : Fin 4 → Nat :=
  let c0_i32_121 : BitVec 32 := 0#32
  let c1_i32_123 : BitVec 32 := 1#32
  let arg14 : BitVec 32 := Scf.iv c0_i32_121 c1_i32_123 k0_t22
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v347 : Index := Scalar.indexCast v328
  let c1_215 : Index := 1#32
  let c0_216 : Index := 0#32
  let c0_217 : Index := 0#32
  ![v347.toNat, 1, 0, 0]
def k0_off50 (i : grid0.Coords) (k0_t22 : Fin (k0_t22_loop i).trips) (c0_i32_199 : BitVec 32) (c0_i32_201 : BitVec 32) : Fin 4 → Nat :=
  let c0_218 : Index := 0#32
  let c0_i32_121 : BitVec 32 := 0#32
  let c1_i32_123 : BitVec 32 := 1#32
  let arg14 : BitVec 32 := Scf.iv c0_i32_121 c1_i32_123 k0_t22
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v354 : Index := Scalar.indexCast v328
  let c64_219 : Index := 64#32
  let c0_220 : Index := 0#32
  ![0, v354.toNat, 64, 0]
@[reducible] def k0_t23_loop (i : grid0.Coords) : Scf.Loop 32 :=
  let c0_i32_121 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v237 : BitVec 32 := Scalar.subi v78 c0_i32_121
  let c1_i32_122 : BitVec 32 := 1#32
  let v239 : BitVec 32 := Scalar.divsi v237 c1_i32_122
  let v240 : BitVec 32 := Scalar.muli v239 c1_i32_122
  let v241 : BitVec 32 := Scalar.addi c0_i32_121 v240
  let v238 : BitVec 32 := Scalar.addi c0_i32_121 v237
  let c1_i32_124 : BitVec 32 := 1#32
  ⟨v241, v238, c1_i32_124⟩
def k0_off51 (i : grid0.Coords) (k0_t23 : Fin (k0_t23_loop i).trips) (c0_i32_199 : BitVec 32) (c0_i32_201 : BitVec 32) : Fin 4 → Nat :=
  let c0_i32_121 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v237 : BitVec 32 := Scalar.subi v78 c0_i32_121
  let c1_i32_122 : BitVec 32 := 1#32
  let v239 : BitVec 32 := Scalar.divsi v237 c1_i32_122
  let v240 : BitVec 32 := Scalar.muli v239 c1_i32_122
  let v241 : BitVec 32 := Scalar.addi c0_i32_121 v240
  let c1_i32_124 : BitVec 32 := 1#32
  let arg14 : BitVec 32 := Scf.iv v241 c1_i32_124 k0_t23
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v329 : Index := Scalar.indexCast v328
  let c0_202 : Index := 0#32
  let c0_203 : Index := 0#32
  let c0_204 : Index := 0#32
  ![v329.toNat, 0, 0, 0]
def k0_off52 (i : grid0.Coords) (k0_t23 : Fin (k0_t23_loop i).trips) (c0_i32_199 : BitVec 32) (c0_i32_201 : BitVec 32) : Fin 4 → Nat :=
  let c0_205 : Index := 0#32
  let c0_i32_121 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v237 : BitVec 32 := Scalar.subi v78 c0_i32_121
  let c1_i32_122 : BitVec 32 := 1#32
  let v239 : BitVec 32 := Scalar.divsi v237 c1_i32_122
  let v240 : BitVec 32 := Scalar.muli v239 c1_i32_122
  let v241 : BitVec 32 := Scalar.addi c0_i32_121 v240
  let c1_i32_124 : BitVec 32 := 1#32
  let arg14 : BitVec 32 := Scf.iv v241 c1_i32_124 k0_t23
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v336 : Index := Scalar.indexCast v328
  let c0_206 : Index := 0#32
  let c0_207 : Index := 0#32
  ![0, v336.toNat, 0, 0]
def k0_off53 (i : grid0.Coords) (k0_t23 : Fin (k0_t23_loop i).trips) (c0_i32_199 : BitVec 32) (c0_i32_201 : BitVec 32) : Fin 4 → Nat :=
  let c0_i32_121 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v237 : BitVec 32 := Scalar.subi v78 c0_i32_121
  let c1_i32_122 : BitVec 32 := 1#32
  let v239 : BitVec 32 := Scalar.divsi v237 c1_i32_122
  let v240 : BitVec 32 := Scalar.muli v239 c1_i32_122
  let v241 : BitVec 32 := Scalar.addi c0_i32_121 v240
  let c1_i32_124 : BitVec 32 := 1#32
  let arg14 : BitVec 32 := Scf.iv v241 c1_i32_124 k0_t23
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v347 : Index := Scalar.indexCast v328
  let c1_215 : Index := 1#32
  let c0_216 : Index := 0#32
  let c0_217 : Index := 0#32
  ![v347.toNat, 1, 0, 0]
def k0_off54 (i : grid0.Coords) (k0_t23 : Fin (k0_t23_loop i).trips) (c0_i32_199 : BitVec 32) (c0_i32_201 : BitVec 32) : Fin 4 → Nat :=
  let c0_218 : Index := 0#32
  let c0_i32_121 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let v237 : BitVec 32 := Scalar.subi v78 c0_i32_121
  let c1_i32_122 : BitVec 32 := 1#32
  let v239 : BitVec 32 := Scalar.divsi v237 c1_i32_122
  let v240 : BitVec 32 := Scalar.muli v239 c1_i32_122
  let v241 : BitVec 32 := Scalar.addi c0_i32_121 v240
  let c1_i32_124 : BitVec 32 := 1#32
  let arg14 : BitVec 32 := Scf.iv v241 c1_i32_124 k0_t23
  let c4_i32_198 : BitVec 32 := 4#32
  let v325 : BitVec 32 := Scalar.muli arg14 c4_i32_198
  let v326 : BitVec 32 := Scalar.addi v325 c0_i32_199
  let c2_i32_200 : BitVec 32 := 2#32
  let v327 : BitVec 32 := Scalar.muli v326 c2_i32_200
  let v328 : BitVec 32 := Scalar.addi v327 c0_i32_201
  let v354 : Index := Scalar.indexCast v328
  let c64_219 : Index := 64#32
  let c0_220 : Index := 0#32
  ![0, v354.toNat, 64, 0]
def k0_cond7 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c2_i32_126 : BitVec 32 := 2#32
  let v243 : BitVec 32 := Scalar.andi v80 c2_i32_126
  let c0_i32_127 : BitVec 32 := 0#32
  let v244 : BitVec 1 := Scalar.cmpi .ne v243 c0_i32_127
  let v245 : BitVec 32 := Scalar.extui v244
  let c0_i32_128 : BitVec 32 := 0#32
  let v246 : BitVec 1 := Scalar.cmpi .ne v245 c0_i32_128
  v246

def k0_off55 (i : grid0.Coords) (c0_i32_198 : BitVec 32) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let v325 : BitVec 32 := Scalar.addi v242 c0_i32_198
  let c2_i32_199 : BitVec 32 := 2#32
  let v326 : BitVec 32 := Scalar.muli v325 c2_i32_199
  let v327 : BitVec 32 := Scalar.addi v326 c0_i32_200
  let v328 : Index := Scalar.indexCast v327
  let c0_201 : Index := 0#32
  let c0_202 : Index := 0#32
  let c0_203 : Index := 0#32
  ![v328.toNat, 0, 0, 0]
def k0_off56 (i : grid0.Coords) (c0_i32_198 : BitVec 32) (c0_i32_200 : BitVec 32) : Fin 4 → Nat :=
  let c0_204 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let v325 : BitVec 32 := Scalar.addi v242 c0_i32_198
  let c2_i32_199 : BitVec 32 := 2#32
  let v326 : BitVec 32 := Scalar.muli v325 c2_i32_199
  let v327 : BitVec 32 := Scalar.addi v326 c0_i32_200
  let v335 : Index := Scalar.indexCast v327
  let c0_205 : Index := 0#32
  let c0_206 : Index := 0#32
  ![0, v335.toNat, 0, 0]
def k0_off57 (i : grid0.Coords) (c0_i32_198 : BitVec 32) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let v325 : BitVec 32 := Scalar.addi v242 c0_i32_198
  let c2_i32_199 : BitVec 32 := 2#32
  let v326 : BitVec 32 := Scalar.muli v325 c2_i32_199
  let v327 : BitVec 32 := Scalar.addi v326 c0_i32_200
  let v346 : Index := Scalar.indexCast v327
  let c1_214 : Index := 1#32
  let c0_215 : Index := 0#32
  let c0_216 : Index := 0#32
  ![v346.toNat, 1, 0, 0]
def k0_off58 (i : grid0.Coords) (c0_i32_198 : BitVec 32) (c0_i32_200 : BitVec 32) : Fin 4 → Nat :=
  let c0_217 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let v325 : BitVec 32 := Scalar.addi v242 c0_i32_198
  let c2_i32_199 : BitVec 32 := 2#32
  let v326 : BitVec 32 := Scalar.muli v325 c2_i32_199
  let v327 : BitVec 32 := Scalar.addi v326 c0_i32_200
  let v353 : Index := Scalar.indexCast v327
  let c64_218 : Index := 64#32
  let c0_219 : Index := 0#32
  ![0, v353.toNat, 64, 0]
def k0_cond8 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_26 : BitVec 32 := 4#32
  let v79 : BitVec 32 := Scalar.muli v78 c4_i32_26
  let v80 : BitVec 32 := Scalar.subi v20 v79
  let c1_i32_131 : BitVec 32 := 1#32
  let v249 : BitVec 32 := Scalar.andi v80 c1_i32_131
  let c0_i32_132 : BitVec 32 := 0#32
  let v250 : BitVec 1 := Scalar.cmpi .ne v249 c0_i32_132
  let v251 : BitVec 32 := Scalar.extui v250
  let c0_i32_133 : BitVec 32 := 0#32
  let v252 : BitVec 1 := Scalar.cmpi .ne v251 c0_i32_133
  v252

def k0_off59 (i : grid0.Coords) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let c4_i32_26 : BitVec 32 := 4#32
  let v79 : BitVec 32 := Scalar.muli v78 c4_i32_26
  let v80 : BitVec 32 := Scalar.subi v20 v79
  let c2_i32_126 : BitVec 32 := 2#32
  let v243 : BitVec 32 := Scalar.andi v80 c2_i32_126
  let c0_i32_127 : BitVec 32 := 0#32
  let v244 : BitVec 1 := Scalar.cmpi .ne v243 c0_i32_127
  let c2_i32_129 : BitVec 32 := 2#32
  let c0_i32_130 : BitVec 32 := 0#32
  let v247 : BitVec 32 := Scalar.select v244 c2_i32_129 c0_i32_130
  let v248 : BitVec 32 := Scalar.addi v242 v247
  let c0_i32_198 : BitVec 32 := 0#32
  let v325 : BitVec 32 := Scalar.addi v248 c0_i32_198
  let c2_i32_199 : BitVec 32 := 2#32
  let v326 : BitVec 32 := Scalar.muli v325 c2_i32_199
  let v327 : BitVec 32 := Scalar.addi v326 c0_i32_200
  let v328 : Index := Scalar.indexCast v327
  let c0_201 : Index := 0#32
  let c0_202 : Index := 0#32
  let c0_203 : Index := 0#32
  ![v328.toNat, 0, 0, 0]
def k0_off60 (i : grid0.Coords) (c0_i32_200 : BitVec 32) : Fin 4 → Nat :=
  let c0_204 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let c4_i32_26 : BitVec 32 := 4#32
  let v79 : BitVec 32 := Scalar.muli v78 c4_i32_26
  let v80 : BitVec 32 := Scalar.subi v20 v79
  let c2_i32_126 : BitVec 32 := 2#32
  let v243 : BitVec 32 := Scalar.andi v80 c2_i32_126
  let c0_i32_127 : BitVec 32 := 0#32
  let v244 : BitVec 1 := Scalar.cmpi .ne v243 c0_i32_127
  let c2_i32_129 : BitVec 32 := 2#32
  let c0_i32_130 : BitVec 32 := 0#32
  let v247 : BitVec 32 := Scalar.select v244 c2_i32_129 c0_i32_130
  let v248 : BitVec 32 := Scalar.addi v242 v247
  let c0_i32_198 : BitVec 32 := 0#32
  let v325 : BitVec 32 := Scalar.addi v248 c0_i32_198
  let c2_i32_199 : BitVec 32 := 2#32
  let v326 : BitVec 32 := Scalar.muli v325 c2_i32_199
  let v327 : BitVec 32 := Scalar.addi v326 c0_i32_200
  let v335 : Index := Scalar.indexCast v327
  let c0_205 : Index := 0#32
  let c0_206 : Index := 0#32
  ![0, v335.toNat, 0, 0]
def k0_off61 (i : grid0.Coords) (c0_i32_200 : BitVec 32) : Fin 4 → Nat :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let c4_i32_26 : BitVec 32 := 4#32
  let v79 : BitVec 32 := Scalar.muli v78 c4_i32_26
  let v80 : BitVec 32 := Scalar.subi v20 v79
  let c2_i32_126 : BitVec 32 := 2#32
  let v243 : BitVec 32 := Scalar.andi v80 c2_i32_126
  let c0_i32_127 : BitVec 32 := 0#32
  let v244 : BitVec 1 := Scalar.cmpi .ne v243 c0_i32_127
  let c2_i32_129 : BitVec 32 := 2#32
  let c0_i32_130 : BitVec 32 := 0#32
  let v247 : BitVec 32 := Scalar.select v244 c2_i32_129 c0_i32_130
  let v248 : BitVec 32 := Scalar.addi v242 v247
  let c0_i32_198 : BitVec 32 := 0#32
  let v325 : BitVec 32 := Scalar.addi v248 c0_i32_198
  let c2_i32_199 : BitVec 32 := 2#32
  let v326 : BitVec 32 := Scalar.muli v325 c2_i32_199
  let v327 : BitVec 32 := Scalar.addi v326 c0_i32_200
  let v346 : Index := Scalar.indexCast v327
  let c1_214 : Index := 1#32
  let c0_215 : Index := 0#32
  let c0_216 : Index := 0#32
  ![v346.toNat, 1, 0, 0]
def k0_off62 (i : grid0.Coords) (c0_i32_200 : BitVec 32) : Fin 4 → Nat :=
  let c0_217 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c0_i32_20 : BitVec 32 := 0#32
  let v63 : BitVec 1 := Scalar.cmpi .sgt v20 c0_i32_20
  let v64 : BitVec 32 := Scalar.extui v63
  let c0_i32_21 : BitVec 32 := 0#32
  let v65 : BitVec 1 := Scalar.cmpi .slt v20 c0_i32_21
  let v66 : BitVec 32 := Scalar.extui v65
  let v67 : BitVec 32 := Scalar.subi v64 v66
  let c4_i32 : BitVec 32 := 4#32
  let c0_i32_22 : BitVec 32 := 0#32
  let v68 : BitVec 1 := Scalar.cmpi .sgt c4_i32 c0_i32_22
  let v69 : BitVec 32 := Scalar.extui v68
  let c0_i32_23 : BitVec 32 := 0#32
  let v70 : BitVec 1 := Scalar.cmpi .slt c4_i32 c0_i32_23
  let v71 : BitVec 32 := Scalar.extui v70
  let v72 : BitVec 32 := Scalar.subi v69 v71
  let v73 : BitVec 1 := Scalar.cmpi .ne v67 v72
  let v74 : BitVec 32 := Scalar.remsi v20 c4_i32
  let c0_i32_24 : BitVec 32 := 0#32
  let v75 : BitVec 1 := Scalar.cmpi .ne v74 c0_i32_24
  let v76 : BitVec 1 := Scalar.andi v73 v75
  let v62 : BitVec 32 := Scalar.divsi v20 c4_i32
  let c1_i32_25 : BitVec 32 := 1#32
  let v77 : BitVec 32 := Scalar.subi v62 c1_i32_25
  let v78 : BitVec 32 := Scalar.select v76 v77 v62
  let c4_i32_125 : BitVec 32 := 4#32
  let v242 : BitVec 32 := Scalar.muli v78 c4_i32_125
  let c4_i32_26 : BitVec 32 := 4#32
  let v79 : BitVec 32 := Scalar.muli v78 c4_i32_26
  let v80 : BitVec 32 := Scalar.subi v20 v79
  let c2_i32_126 : BitVec 32 := 2#32
  let v243 : BitVec 32 := Scalar.andi v80 c2_i32_126
  let c0_i32_127 : BitVec 32 := 0#32
  let v244 : BitVec 1 := Scalar.cmpi .ne v243 c0_i32_127
  let c2_i32_129 : BitVec 32 := 2#32
  let c0_i32_130 : BitVec 32 := 0#32
  let v247 : BitVec 32 := Scalar.select v244 c2_i32_129 c0_i32_130
  let v248 : BitVec 32 := Scalar.addi v242 v247
  let c0_i32_198 : BitVec 32 := 0#32
  let v325 : BitVec 32 := Scalar.addi v248 c0_i32_198
  let c2_i32_199 : BitVec 32 := 2#32
  let v326 : BitVec 32 := Scalar.muli v325 c2_i32_199
  let v327 : BitVec 32 := Scalar.addi v326 c0_i32_200
  let v353 : Index := Scalar.indexCast v327
  let c64_218 : Index := 64#32
  let c0_219 : Index := 0#32
  ![0, v353.toNat, 64, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S32 : Shape := ⟨1, ![32]⟩
abbrev S81920x1024 : Shape := ⟨2, ![81920, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S160 : Shape := ⟨1, ![160]⟩
abbrev S1x32 : Shape := ⟨2, ![1, 32]⟩
abbrev S160x1 : Shape := ⟨2, ![160, 1]⟩
abbrev S160x32 : Shape := ⟨2, ![160, 32]⟩
abbrev S1 : Shape := ⟨1, ![1]⟩
abbrev S32x1x1024 : Shape := ⟨3, ![32, 1, 1024]⟩
abbrev S256x256 : Shape := ⟨2, ![256, 256]⟩
abbrev S512x1024 : Shape := ⟨2, ![512, 1024]⟩
abbrev S1x1x1024x2048 : Shape := ⟨4, ![1, 1, 1024, 2048]⟩
abbrev S1x1x1024 : Shape := ⟨3, ![1, 1, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 99
  | .vmem => 18
  | .smem => 2
  | _ => 0

abbrev bufTy : (tb : Table) → Fin (tcTables nBuf tb) → BufTy
  | .hbm, ⟨0, _⟩ => ⟨S32, .i32⟩
  | .hbm, ⟨1, _⟩ => ⟨S81920x1024, .f32⟩
  | .hbm, ⟨2, _⟩ => ⟨S2x32x1024x2048, .f32⟩
  | .hbm, ⟨3, _⟩ => ⟨S32x2048, .f32⟩
  | .hbm, ⟨4, _⟩ => ⟨S2x32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S160, .i32⟩
  | .hbm, ⟨37, _⟩ => ⟨S_, .i32⟩
  | .hbm, ⟨38, _⟩ => ⟨S160, .i32⟩
  | .hbm, ⟨39, _⟩ => ⟨S160, .i32⟩
  | .hbm, ⟨40, _⟩ => ⟨S1x32, .i32⟩
  | .hbm, ⟨41, _⟩ => ⟨S160x1, .i32⟩
  | .hbm, ⟨42, _⟩ => ⟨S160x32, .i32⟩
  | .hbm, ⟨43, _⟩ => ⟨S160x32, .i32⟩
  | .hbm, ⟨44, _⟩ => ⟨S160x32, .i1⟩
  | .hbm, ⟨45, _⟩ => ⟨S160x32, .i32⟩
  | .hbm, ⟨46, _⟩ => ⟨S_, .i32⟩
  | .hbm, ⟨47, _⟩ => ⟨S160, .i32⟩
  | .hbm, ⟨48, _⟩ => ⟨S_, .i32⟩
  | .hbm, ⟨49, _⟩ => ⟨S160, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S32x1024, .f32⟩
  | .hbm, ⟨69, _⟩ => ⟨S32x1x1024, .f32⟩
  | .hbm, ⟨70, _⟩ => ⟨S32x1024, .f32⟩
  | .hbm, ⟨71, _⟩ => ⟨S32x1x1024, .f32⟩
  | .hbm, ⟨72, _⟩ => ⟨S32x1x1024, .f32⟩
  | .hbm, ⟨73, _⟩ => ⟨S256x256, .i32⟩
  | .hbm, ⟨74, _⟩ => ⟨S256x256, .i32⟩
  | .hbm, ⟨75, _⟩ => ⟨S_, .i32⟩
  | .hbm, ⟨76, _⟩ => ⟨S256x256, .i32⟩
  | .hbm, ⟨77, _⟩ => ⟨S256x256, .i1⟩
  | .hbm, ⟨78, _⟩ => ⟨S_, .i32⟩
  | .hbm, ⟨79, _⟩ => ⟨S256x256, .i32⟩
  | .hbm, ⟨80, _⟩ => ⟨S256x256, .i32⟩
  | .hbm, ⟨81, _⟩ => ⟨S_, .i32⟩
  | .hbm, ⟨82, _⟩ => ⟨S256x256, .i32⟩
  | .hbm, ⟨83, _⟩ => ⟨S256x256, .i32⟩
  | .hbm, ⟨84, _⟩ => ⟨S_, .i32⟩
  | .hbm, ⟨85, _⟩ => ⟨S256x256, .i32⟩
  | .hbm, ⟨86, _⟩ => ⟨S256x256, .i32⟩
  | .hbm, ⟨87, _⟩ => ⟨S_, .i32⟩
  | .hbm, ⟨88, _⟩ => ⟨S256x256, .i32⟩
  | .hbm, ⟨89, _⟩ => ⟨S256x256, .i32⟩
  | .hbm, ⟨90, _⟩ => ⟨S256x256, .i32⟩
  | .hbm, ⟨91, _⟩ => ⟨S256x256, .i1⟩
  | .hbm, ⟨92, _⟩ => ⟨S_, .f32⟩
  | .hbm, ⟨93, _⟩ => ⟨S_, .f32⟩
  | .hbm, ⟨94, _⟩ => ⟨S256x256, .f32⟩
  | .hbm, ⟨95, _⟩ => ⟨S256x256, .f32⟩
  | .hbm, ⟨96, _⟩ => ⟨S256x256, .f32⟩
  | .hbm, ⟨97, _⟩ => ⟨S256x256, .bf16⟩
  | .hbm, ⟨98, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S256x256, .bf16⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S160, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_c_7 : Ref sig .tc := ⟨.hbm, 75, rfl⟩
abbrev main_v29 : Ref sig .tc := ⟨.hbm, 76, rfl⟩
abbrev main_v30 : Ref sig .tc := ⟨.hbm, 77, rfl⟩
abbrev main_c_8 : Ref sig .tc := ⟨.hbm, 78, rfl⟩
abbrev main_v31 : Ref sig .tc := ⟨.hbm, 79, rfl⟩
abbrev main_v32 : Ref sig .tc := ⟨.hbm, 80, rfl⟩
abbrev main_c_9 : Ref sig .tc := ⟨.hbm, 81, rfl⟩
abbrev main_v33 : Ref sig .tc := ⟨.hbm, 82, rfl⟩
abbrev main_v34 : Ref sig .tc := ⟨.hbm, 83, rfl⟩
abbrev main_c_10 : Ref sig .tc := ⟨.hbm, 84, rfl⟩
abbrev main_v35 : Ref sig .tc := ⟨.hbm, 85, rfl⟩
abbrev main_v36 : Ref sig .tc := ⟨.hbm, 86, rfl⟩
abbrev main_c_11 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst : Ref sig .tc := ⟨.hbm, 92, rfl⟩
abbrev main_cst_12 : Ref sig .tc := ⟨.hbm, 93, rfl⟩
abbrev main_call4_v0 : Ref sig .tc := ⟨.hbm, 94, rfl⟩
abbrev main_call4_v1 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v2 : BitVec 32) : BitVec 1 :=
  let arg0 : BitVec 32 := BitVec.ofNat 32 (i 0).val
  let v3 : BitVec 1 := Scalar.cmpi .slt arg0 v2
  let v14 : BitVec 32 := Scalar.extui v3
  let c0_i32_2 : BitVec 32 := 0#32
  let v15 : BitVec 1 := Scalar.cmpi .ne v14 c0_i32_2
  v15

def k0_cond3 (i : grid0.Coords) (v2 : BitVec 32) : BitVec 1 :=
  let arg0 : BitVec 32 := BitVec.ofNat 32 (i 0).val
  let v3 : BitVec 1 := Scalar.cmpi .slt arg0 v2
  let v_true : BitVec 1 := 1#1
  let v16 : BitVec 1 := Scalar.xori v3 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S32 : Shape := ⟨1, ![32]⟩
abbrev S81920x1024 : Shape := ⟨2, ![81920, 1024]⟩
abbrev S2x32x1024x2048 : Shape := ⟨4, ![2, 32, 1024, 2048]⟩
abbrev S32x2048 : Shape := ⟨2, ![32, 2048]⟩
abbrev S2x32x1024x1024 : Shape := ⟨4, ![2, 32, 1024, 1024]⟩
abbrev S32x1024 : Shape := ⟨2, ![32, 1024]⟩
abbrev S_ : Shape := ⟨0, ![]⟩
abbrev S160 : Shape := ⟨1, ![160]⟩
abbrev S1x32 : Shape := ⟨2, ![1, 32]⟩
abbrev S160x1 : Shape := ⟨2, ![160, 1]⟩
abbrev S160x32 : Shape := ⟨2, ![160, 32]⟩
abbrev S160x512x1024 : Shape := ⟨3, ![160, 512, 1024]⟩
abbrev S1x32x1024x2048 : Shape := ⟨4, ![1, 32, 1024, 2048]⟩
abbrev S32x1024x2048 : Shape := ⟨3, ![32, 1024, 2048]⟩
abbrev S160x1024x2048 : Shape := ⟨3, ![160, 1024, 2048]⟩
abbrev S160x512x2048 : Shape := ⟨3, ![160, 512, 2048]⟩
abbrev S160x2048 : Shape := ⟨2, ![160, 2048]⟩
abbrev S160x1x2048 : Shape := ⟨3, ![160, 1, 2048]⟩
abbrev S1x32x1024x1024 : Shape := ⟨4, ![1, 32, 1024, 1024]⟩
abbrev S32x1024x1024 : Shape := ⟨3, ![32, 1024, 1024]⟩
abbrev S160x1024x1024 : Shape := ⟨3, ![160, 1024, 1024]⟩
abbrev S160x1024 : Shape := ⟨2, ![160, 1024]⟩
abbrev S160x1x1024 : Shape := ⟨3, ![160, 1, 1024]⟩
abbrev S1 : Shape := ⟨1, ![1]⟩
abbrev S160x1x1 : Shape := ⟨3, ![160, 1, 1]⟩

abbrev nBuf : Space → Nat
  | .hbm => 158
  | .vmem => 0
  | .smem => 0
  | _ => 0

abbrev hbmTy0_0 (i : Nat) : BufTy := match i % 128 with
  | 0 => ⟨S32, .i32⟩
  | 1 => ⟨S81920x1024, .f32⟩
  | 2 => ⟨S2x32x1024x2048, .f32⟩
  | 3 => ⟨S32x2048, .f32⟩
  | 4 => ⟨S2x32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S160, .i32⟩
  | 37 => ⟨S_, .i32⟩
  | 38 => ⟨S160, .i32⟩
  | 39 => ⟨S160, .i32⟩
  | 40 => ⟨S1x32, .i32⟩
  | 41 => ⟨S160x1, .i32⟩
  | 42 => ⟨S160x32, .i32⟩
  | 43 => ⟨S160x32, .i32⟩
  | 44 => ⟨S160x32, .i1⟩
  | 45 => ⟨S160x32, .i32⟩
  | 46 => ⟨S_, .i32⟩
  | 47 => ⟨S160, .i32⟩
  | 48 => ⟨S_, .i32⟩
  | 49 => ⟨S160, .i32⟩
  | 50 => ⟨S160, .i32⟩
  | 51 => ⟨S160x512x1024, .f32⟩
  | 52 => ⟨S1x32x1024x2048, .f32⟩
  | 53 => ⟨S32x1024x2048, .f32⟩
  | 54 => ⟨S_, .i32⟩
  | 55 => ⟨S160, .i32⟩
  | 56 => ⟨S160, .i1⟩
  | 57 => ⟨S_, .i32⟩
  | 58 => ⟨S160, .i32⟩
  | 59 => ⟨S160, .i32⟩
  | 60 => ⟨S160, .i32⟩
  | 61 => ⟨S160x1, .i32⟩
  | 62 => ⟨S160x1024x2048, .f32⟩
  | 63 => ⟨S160x512x2048, .f32⟩
  | 64 => ⟨S_, .i32⟩
  | 65 => ⟨S160, .i32⟩
  | 66 => ⟨S160, .i1⟩
  | 67 => ⟨S_, .i32⟩
  | 68 => ⟨S160, .i32⟩
  | 69 => ⟨S160, .i32⟩
  | 70 => ⟨S160, .i32⟩
  | 71 => ⟨S160x1, .i32⟩
  | 72 => ⟨S160x2048, .f32⟩
  | 73 => ⟨S160x1x2048, .f32⟩
  | 74 => ⟨S160x512x2048, .f32⟩
  | 75 => ⟨S160x512x2048, .f32⟩
  | 76 => ⟨S160x512x1024, .f32⟩
  | 77 => ⟨S_, .f32⟩
  | 78 => ⟨S160x512x1024, .f32⟩
  | 79 => ⟨S160x512x1024, .f32⟩
  | 80 => ⟨S160x512x1024, .f32⟩
  | 81 => ⟨S_, .f32⟩
  | 82 => ⟨S_, .f32⟩
  | 83 => ⟨S_, .f32⟩
  | 84 => ⟨S160x512x1024, .f32⟩
  | 85 => ⟨S160x512x1024, .f32⟩
  | 86 => ⟨S_, .f32⟩
  | 87 => ⟨S160x512x1024, .f32⟩
  | 88 => ⟨S160x512x1024, .f32⟩
  | 89 => ⟨S_, .f32⟩
  | 90 => ⟨S160x512x1024, .f32⟩
  | 91 => ⟨S160x512x1024, .f32⟩
  | 92 => ⟨S160x512x1024, .f32⟩
  | 93 => ⟨S160x512x1024, .f32⟩
  | 94 => ⟨S_, .f32⟩
  | 95 => ⟨S160x512x1024, .f32⟩
  | 96 => ⟨S160x512x1024, .f32⟩
  | 97 => ⟨S_, .f32⟩
  | 98 => ⟨S160x512x1024, .f32⟩
  | 99 => ⟨S160x512x1024, .f32⟩
  | 100 => ⟨S160x512x1024, .f32⟩
  | 101 => ⟨S_, .f32⟩
  | 102 => ⟨S160x512x1024, .f32⟩
  | 103 => ⟨S160x512x1024, .f32⟩
  | 104 => ⟨S160x512x1024, .f32⟩
  | 105 => ⟨S1x32x1024x1024, .f32⟩
  | 106 => ⟨S32x1024x1024, .f32⟩
  | 107 => ⟨S_, .i32⟩
  | 108 => ⟨S160, .i32⟩
  | 109 => ⟨S160, .i1⟩
  | 110 => ⟨S_, .i32⟩
  | 111 => ⟨S160, .i32⟩
  | 112 => ⟨S160, .i32⟩
  | 113 => ⟨S160, .i32⟩
  | 114 => ⟨S160x1, .i32⟩
  | 115 => ⟨S160x1024x1024, .f32⟩
  | 116 => ⟨S160x512x1024, .f32⟩
  | 117 => ⟨S_, .i32⟩
  | 118 => ⟨S160, .i32⟩
  | 119 => ⟨S160, .i1⟩
  | 120 => ⟨S_, .i32⟩
  | 121 => ⟨S160, .i32⟩
  | 122 => ⟨S160, .i32⟩
  | 123 => ⟨S160, .i32⟩
  | 124 => ⟨S160x1, .i32⟩
  | 125 => ⟨S160x1024, .f32⟩
  | 126 => ⟨S160x1x1024, .f32⟩
  | 127 => ⟨S160x512x1024, .f32⟩
  | _ => ⟨S32, .i32⟩

abbrev hbmTy0_1 (i : Nat) : BufTy := match i % 128 with
  | 0 => ⟨S160x512x1024, .f32⟩
  | 1 => ⟨S160, .i32⟩
  | 2 => ⟨S1, .i32⟩
  | 3 => ⟨S_, .i32⟩
  | 4 => ⟨S_, .i32⟩
  | 5 => ⟨S1, .i32⟩
  | 6 => ⟨S1, .i32⟩
  | 7 => ⟨S1, .i32⟩
  | 8 => ⟨S_, .i32⟩
  | 9 => ⟨S1, .i32⟩
  | 10 => ⟨S1, .i1⟩
  | 11 => ⟨S1, .i32⟩
  | 12 => ⟨S1, .i32⟩
  | 13 => ⟨S_, .i32⟩
  | 14 => ⟨S1, .i32⟩
  | 15 => ⟨S1, .i1⟩
  | 16 => ⟨S1, .i1⟩
  | 17 => ⟨S_, .i32⟩
  | 18 => ⟨S1, .i32⟩
  | 19 => ⟨S1, .i32⟩
  | 20 => ⟨S1, .i32⟩
  | 21 => ⟨S160, .i32⟩
  | 22 => ⟨S160, .i1⟩
  | 23 => ⟨S160x1x1, .i1⟩
  | 24 => ⟨S_, .f32⟩
  | 25 => ⟨S_, .f32⟩
  | 26 => ⟨S160x512x1024, .i1⟩
  | 27 => ⟨S160x512x1024, .f32⟩
  | 28 => ⟨S160x512x1024, .f32⟩
  | 29 => ⟨S81920x1024, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_8 : Ref sig .tc := ⟨.hbm, 64, rfl⟩
abbrev main_v31 : Ref sig .tc := ⟨.hbm, 65, rfl⟩
abbrev main_v32 : Ref sig .tc := ⟨.hbm, 66, rfl⟩
abbrev main_c_9 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_cst_11 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v45 : Ref sig .tc := ⟨.hbm, 88, rfl⟩
abbrev main_cst_12 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_13 : Ref sig .tc := ⟨.hbm, 94, rfl⟩
abbrev main_v50 : Ref sig .tc := ⟨.hbm, 95, rfl⟩
abbrev main_v51 : Ref sig .tc := ⟨.hbm, 96, rfl⟩
abbrev main_cst_14 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_15 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_c_16 : Ref sig .tc := ⟨.hbm, 107, rfl⟩
abbrev main_v60 : Ref sig .tc := ⟨.hbm, 108, rfl⟩
abbrev main_v61 : Ref sig .tc := ⟨.hbm, 109, rfl⟩
abbrev main_c_17 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_18 : Ref sig .tc := ⟨.hbm, 117, rfl⟩
abbrev main_v68 : Ref sig .tc := ⟨.hbm, 118, rfl⟩
abbrev main_v69 : Ref sig .tc := ⟨.hbm, 119, rfl⟩
abbrev main_c_19 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_20 : Ref sig .tc := ⟨.hbm, 131, rfl⟩
abbrev main_call3_v0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_c : Ref sig .tc := ⟨.hbm, 141, rfl⟩
abbrev main_call3_v9 : Ref sig .tc := ⟨.hbm, 142, rfl⟩
abbrev main_call3_v10 : Ref sig .tc := ⟨.hbm, 143, rfl⟩
abbrev main_call3_v11 : Ref sig .tc := ⟨.hbm, 144, rfl⟩
abbrev main_call3_c_0 : Ref sig .tc := ⟨.hbm, 145, rfl⟩
abbrev main_call3_v12 : Ref sig .tc := ⟨.hbm, 146, rfl⟩
abbrev main_call3_v13 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_cst_21 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v84 : Ref sig .tc := ⟨.hbm, 156, rfl⟩
abbrev main_v85 : Ref sig .tc := ⟨.hbm, 157, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1x1024 : Shape := ⟨3, ![4, 1, 1024]⟩
abbrev S1x1024 : Shape := ⟨2, ![1, 1024]⟩
abbrev S1024x2372 : Shape := ⟨2, ![1024, 2372]⟩
abbrev S4x4096x32 : Shape := ⟨3, ![4, 4096, 32]⟩
abbrev S4x4096x128 : Shape := ⟨3, ![4, 4096, 128]⟩
abbrev S1024x1088 : Shape := ⟨2, ![1024, 1088]⟩
abbrev S1024x4 : Shape := ⟨2, ![1024, 4]⟩
abbrev S_ : Shape := ⟨0, ![]⟩
abbrev S1024x60 : Shape := ⟨2, ![1024, 60]⟩
abbrev S1024x1280 : Shape := ⟨2, ![1024, 1280]⟩
abbrev S1024x2432 : Shape := ⟨2, ![1024, 2432]⟩
abbrev S4x512x4096 : Shape := ⟨3, ![4, 512, 4096]⟩
abbrev S4x256x4096 : Shape := ⟨3, ![4, 256, 4096]⟩
abbrev S4x8x4096 : Shape := ⟨3, ![4, 8, 4096]⟩
abbrev S4x16x128x256 : Shape := ⟨4, ![4, 16, 128, 256]⟩
abbrev S4x4096x1280 : Shape := ⟨3, ![4, 4096, 1280]⟩
abbrev S1x512x1024 : Shape := ⟨3, ![1, 512, 1024]⟩
abbrev S1x1x1024 : Shape := ⟨3, ![1, 1, 1024]⟩
abbrev S1x512x128 : Shape := ⟨3, ![1, 512, 128]⟩
abbrev S1x512x512 : Shape := ⟨3, ![1, 512, 512]⟩
abbrev S1x256x512 : Shape := ⟨3, ![1, 256, 512]⟩
abbrev S1x8x512 : Shape := ⟨3, ![1, 8, 512]⟩
abbrev S1x2x128x256 : Shape := ⟨4, ![1, 2, 128, 256]⟩
abbrev S1x512x1280 : Shape := ⟨3, ![1, 512, 1280]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x128 : Shape := ⟨2, ![1024, 128]⟩
abbrev S128x512 : Shape := ⟨2, ![128, 512]⟩
abbrev S1x128x512 : Shape := ⟨3, ![1, 128, 512]⟩
abbrev S256x128 : Shape := ⟨2, ![256, 128]⟩
abbrev S128x256 : Shape := ⟨2, ![128, 256]⟩
abbrev S1x1x128x256 : Shape := ⟨4, ![1, 1, 128, 256]⟩
abbrev S8x512 : Shape := ⟨2, ![8, 512]⟩
abbrev S512x1280 : Shape := ⟨2, ![512, 1280]⟩

abbrev nBuf : Space → Nat
  | .hbm => 24
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2372, .f32⟩
  | .hbm, ⟨5, _⟩ => ⟨S4x4096x32, .f32⟩
  | .hbm, ⟨6, _⟩ => ⟨S4x4096x32, .f32⟩
  | .hbm, ⟨7, _⟩ => ⟨S4x4096x128, .f32⟩
  | .hbm, ⟨8, _⟩ => ⟨S4x4096x32, .f32⟩
  | .hbm, ⟨9, _⟩ => ⟨S4x4096x128, .f32⟩
  | .hbm, ⟨10, _⟩ => ⟨S1024x1088, .f32⟩
  | .hbm, ⟨11, _⟩ => ⟨S1024x4, .f32⟩
  | .hbm, ⟨12, _⟩ => ⟨S_, .f32⟩
  | .hbm, ⟨13, _⟩ => ⟨S1024x60, .f32⟩
  | .hbm, ⟨14, _⟩ => ⟨S1024x1280, .f32⟩
  | .hbm, ⟨15, _⟩ => ⟨S1024x2432, .f32⟩
  | .hbm, ⟨16, _⟩ => ⟨S1024x2432, .bf16⟩
  | .hbm, ⟨17, _⟩ => ⟨S4x512x4096, .bf16⟩
  | .hbm, ⟨18, _⟩ => ⟨S4x256x4096, .bf16⟩
  | .hbm, ⟨19, _⟩ => ⟨S4x8x4096, .f32⟩
  | .hbm, ⟨20, _⟩ => ⟨S4x4096x128, .bf16⟩
  | .hbm, ⟨21, _⟩ => ⟨S4x4096x128, .bf16⟩
  | .hbm, ⟨22, _⟩ => ⟨S4x16x128x256, .bf16⟩
  | .hbm, ⟨23, _⟩ => ⟨S4x4096x1280, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2432, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x512, .bf16⟩
  | .local _ .vmem, ⟨13, _⟩ => ⟨S1x512x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x8x512, .f32⟩
  | .local _ .vmem, ⟨17, _⟩ => ⟨S1x8x512, .f32⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x2x128x256, .bf16⟩
  | .local _ .vmem, ⟨23, _⟩ => ⟨S1x2x128x256, .bf16⟩
  | .local _ .vmem, ⟨24, _⟩ => ⟨S1x512x1280, .f32⟩
  | .local _ .vmem, ⟨25, _⟩ => ⟨S1x512x1280, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1280 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference3Ideal.lean ====
abbrev S4x4096x1024 : Shape := ⟨3, ![4, 4096, 1024]⟩
abbrev S4x1x1024 : Shape := ⟨3, ![4, 1, 1024]⟩
abbrev S1x1024 : Shape := ⟨2, ![1, 1024]⟩
abbrev S1024x2372 : Shape := ⟨2, ![1024, 2372]⟩
abbrev S4x4096x32 : Shape := ⟨3, ![4, 4096, 32]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩
abbrev S16384x2372 : Shape := ⟨2, ![16384, 2372]⟩
abbrev S4x4096x2372 : Shape := ⟨3, ![4, 4096, 2372]⟩
abbrev S4x4096x512 : Shape := ⟨3, ![4, 4096, 512]⟩
abbrev S4x4096x128 : Shape := ⟨3, ![4, 4096, 128]⟩
abbrev S4x4096x256 : Shape := ⟨3, ![4, 4096, 256]⟩
abbrev S4x4096x64 : Shape := ⟨3, ![4, 4096, 64]⟩
abbrev S4x4096x4 : Shape := ⟨3, ![4, 4096, 4]⟩
abbrev S4x4096x8x64 : Shape := ⟨4, ![4, 4096, 8, 64]⟩
abbrev S4x4096x8x32 : Shape := ⟨4, ![4, 4096, 8, 32]⟩
abbrev S4x4096x1x32 : Shape := ⟨4, ![4, 4096, 1, 32]⟩
abbrev S4x512x4096 : Shape := ⟨3, ![4, 512, 4096]⟩
abbrev S4x4096x4x64 : Shape := ⟨4, ![4, 4096, 4, 64]⟩
abbrev S4x4096x4x32 : Shape := ⟨4, ![4, 4096, 4, 32]⟩
abbrev S4x256x4096 : Shape := ⟨3, ![4, 256, 4096]⟩
abbrev S4x16x256x128 : Shape := ⟨4, ![4, 16, 256, 128]⟩
abbrev S4x16x128x256 : Shape := ⟨4, ![4, 16, 128, 256]⟩
abbrev S4x4096x2x64 : Shape := ⟨4, ![4, 4096, 2, 64]⟩
abbrev S4x4096x2x32 : Shape := ⟨4, ![4, 4096, 2, 32]⟩
abbrev S4x4096x1280 : Shape := ⟨3, ![4, 4096, 1280]⟩

abbrev nBuf : Space → Nat
  | .hbm => 107
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1x1024, .f32⟩
  | .hbm, ⟨2, _⟩ => ⟨S4x1x1024, .f32⟩
  | .hbm, ⟨3, _⟩ => ⟨S1x1024, .f32⟩
  | .hbm, ⟨4, _⟩ => ⟨S1024x2372, .f32⟩
  | .hbm, ⟨5, _⟩ => ⟨S4x4096x32, .f32⟩
  | .hbm, ⟨6, _⟩ => ⟨S4x4096x32, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S_, .f32⟩
  | .hbm, ⟨24, _⟩ => ⟨S4x1x1024, .f32⟩
  | .hbm, ⟨25, _⟩ => ⟨S4x1x1024, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S16384x1024, .f32⟩
  | .hbm, ⟨31, _⟩ => ⟨S16384x2372, .f32⟩
  | .hbm, ⟨32, _⟩ => ⟨S4x4096x2372, .f32⟩
  | .hbm, ⟨33, _⟩ => ⟨S4x4096x512, .f32⟩
  | .hbm, ⟨34, _⟩ => ⟨S4x4096x128, .f32⟩
  | .hbm, ⟨35, _⟩ => ⟨S4x4096x128, .f32⟩
  | .hbm, ⟨36, _⟩ => ⟨S4x4096x256, .f32⟩
  | .hbm, ⟨37, _⟩ => ⟨S4x4096x64, .f32⟩
  | .hbm, ⟨38, _⟩ => ⟨S4x4096x4, .f32⟩
  | .hbm, ⟨39, _⟩ => ⟨S4x4096x256, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S4x4096x8x64, .f32⟩
  | .hbm, ⟨45, _⟩ => ⟨S4x4096x8x32, .f32⟩
  | .hbm, ⟨46, _⟩ => ⟨S4x4096x8x32, .f32⟩
  | .hbm, ⟨47, _⟩ => ⟨S4x4096x1x32, .f32⟩
  | .hbm, ⟨48, _⟩ => ⟨S4x4096x1x32, .f32⟩
  | .hbm, ⟨49, _⟩ => ⟨S4x4096x8x32, .f32⟩
  | .hbm, ⟨50, _⟩ => ⟨S4x4096x8x32, .f32⟩
  | .hbm, ⟨51, _⟩ => ⟨S4x4096x8x32, .f32⟩
  | .hbm, ⟨52, _⟩ => ⟨S4x4096x8x32, .f32⟩
  | .hbm, ⟨53, _⟩ => ⟨S4x4096x8x32, .f32⟩
  | .hbm, ⟨54, _⟩ => ⟨S4x4096x8x32, .f32⟩
  | .hbm, ⟨55, _⟩ => ⟨S4x4096x8x32, .f32⟩
  | .hbm, ⟨56, _⟩ => ⟨S4x4096x8x32, .f32⟩
  | .hbm, ⟨57, _⟩ => ⟨S4x4096x8x32, .f32⟩
  | .hbm, ⟨58, _⟩ => ⟨S4x4096x8x32, .f32⟩
  | .hbm, ⟨59, _⟩ => ⟨S4x4096x8x64, .f32⟩
  | .hbm, ⟨60, _⟩ => ⟨S4x4096x512, .f32⟩
  | .hbm, ⟨61, _⟩ => ⟨S_, .f32⟩
  | .hbm, ⟨62, _⟩ => ⟨S4x4096x512, .f32⟩
  | .hbm, ⟨63, _⟩ => ⟨S4x4096x512, .f32⟩
  | .hbm, ⟨64, _⟩ => ⟨S4x512x4096, .f32⟩
  | .hbm, ⟨65, _⟩ => ⟨S4x4096x4x64, .f32⟩
  | .hbm, ⟨66, _⟩ => ⟨S4x4096x4x32, .f32⟩
  | .hbm, ⟨67, _⟩ => ⟨S4x4096x4x32, .f32⟩
  | .hbm, ⟨68, _⟩ => ⟨S4x4096x1x32, .f32⟩
  | .hbm, ⟨69, _⟩ => ⟨S4x4096x1x32, .f32⟩
  | .hbm, ⟨70, _⟩ => ⟨S4x4096x4x32, .f32⟩
  | .hbm, ⟨71, _⟩ => ⟨S4x4096x4x32, .f32⟩
  | .hbm, ⟨72, _⟩ => ⟨S4x4096x4x32, .f32⟩
  | .hbm, ⟨73, _⟩ => ⟨S4x4096x4x32, .f32⟩
  | .hbm, ⟨74, _⟩ => ⟨S4x4096x4x32, .f32⟩
  | .hbm, ⟨75, _⟩ => ⟨S4x4096x4x32, .f32⟩
  | .hbm, ⟨76, _⟩ => ⟨S4x4096x4x32, .f32⟩
  | .hbm, ⟨77, _⟩ => ⟨S4x4096x4x32, .f32⟩
  | .hbm, ⟨78, _⟩ => ⟨S4x4096x4x32, .f32⟩
  | .hbm, ⟨79, _⟩ => ⟨S4x4096x4x32, .f32⟩
  | .hbm, ⟨80, _⟩ => ⟨S4x4096x4x64, .f32⟩
  | .hbm, ⟨81, _⟩ => ⟨S4x4096x256, .f32⟩
  | .hbm, ⟨82, _⟩ => ⟨S4x256x4096, .f32⟩
  | .hbm, ⟨83, _⟩ => ⟨S4x16x256x128, .f32⟩
  | .hbm, ⟨84, _⟩ => ⟨S4x16x128x256, .f32⟩
  | .hbm, ⟨85, _⟩ => ⟨S4x512x4096, .bf16⟩
  | .hbm, ⟨86, _⟩ => ⟨S4x256x4096, .bf16⟩
  | .hbm, ⟨87, _⟩ => ⟨S4x4096x2x64, .f32⟩
  | .hbm, ⟨88, _⟩ => ⟨S4x4096x2x32, .f32⟩
  | .hbm, ⟨89, _⟩ => ⟨S4x4096x2x32, .f32⟩
  | .hbm, ⟨90, _⟩ => ⟨S4x4096x1x32, .f32⟩
  | .hbm, ⟨91, _⟩ => ⟨S4x4096x1x32, .f32⟩
  | .hbm, ⟨92, _⟩ => ⟨S4x4096x2x32, .f32⟩
  | .hbm, ⟨93, _⟩ => ⟨S4x4096x2x32, .f32⟩
  | .hbm, ⟨94, _⟩ => ⟨S4x4096x2x32, .f32⟩
  | .hbm, ⟨95, _⟩ => ⟨S4x4096x2x32, .f32⟩
  | .hbm, ⟨96, _⟩ => ⟨S4x4096x2x32, .f32⟩
  | .hbm, ⟨97, _⟩ => ⟨S4x4096x2x32, .f32⟩
  | .hbm, ⟨98, _⟩ => ⟨S4x4096x2x32, .f32⟩
  | .hbm, ⟨99, _⟩ => ⟨S4x4096x2x32, .f32⟩
  | .hbm, ⟨100, _⟩ => ⟨S4x4096x2x32, .f32⟩
  | .hbm, ⟨101, _⟩ => ⟨S4x4096x2x32, .f32⟩
  | .hbm, ⟨102, _⟩ => ⟨S4x4096x2x64, .f32⟩
  | .hbm, ⟨103, _⟩ => ⟨S4x4096x128, .f32⟩
  | .hbm, ⟨104, _⟩ => ⟨S4x4096x128, .bf16⟩
  | .hbm, ⟨105, _⟩ => ⟨S4x16x128x256, .bf16⟩
  | .hbm, ⟨106, _⟩ => ⟨S4x4096x1280, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩

abbrev nD : Nat := 1
abbrev τ : Topo := Topo.v7x

variable {F : FTy → Type} [FloatOps F]
-- ==== Proof.Pure.lean ====
/- The kernel's bodies read as functions of the buffers' contents: a body that only loads, stores, loops and calls its own
   labels says, from contents of the buffers it may touch, which contents it ends with. `W` is that reading as a
   weakest precondition over plain states; `W_sound` carries it to the program logic once and for all. -/
module

public import Idealize.ShloMosaic.Lib.Tactic
public import Idealize.ShloMosaic.Lib.Pipeline.Frame

@[expose] public section

noncomputable section

namespace Cert.Proof.Pure

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

variable (sig Val) in
/-- Contents of every buffer the core names. -/
abbrev St : Type := (b : Ref sig .tc) → b.ty.Contents Val

/-- What one effect asks of the contents: a load and a store name a buffer of `B`, a call is answered by `call`. -/
def effW (B : Finset (Ref sig .tc)) (call : (ℓ : Λ.Label) → Λ.Args ℓ → (Λ.Result ℓ → St sig Val → Prop) → St sig Val → Prop)
    {β : Type} (e : TpuEff nD τ sig Val Λ .tc β) (Q : β → St sig Val → Prop) (σ : St sig Val) : Prop :=
  match β, e, Q with
  | _, .load m r _, Q => m.view.ref ∈ B ∧ Q (m.view.readAt Val r (σ m.view.ref)) σ
  | _, .store m r w M _ _, Q =>
      m.view.ref ∈ B ∧ Q ⟨⟩ (Function.update σ m.view.ref ((m.access r).write Val (σ m.view.ref) w M))
  | _, .call ℓ a, Q => call ℓ a Q σ
  | _, _, _ => False

/-- A whole program, its calls answered by `call`. -/
def wpS (B : Finset (Ref sig .tc)) (call : (ℓ : Λ.Label) → Λ.Args ℓ → (Λ.Result ℓ → St sig Val → Prop) → St sig Val → Prop)
    {α : Type} : Prog (TpuEff nD τ sig Val Λ .tc) α → (α → St sig Val → Prop) → St sig Val → Prop
  | .ret a, Q, σ => Q a σ
  | .op e k, Q, σ => effW B call e (fun x σ' => wpS B call (k x) Q σ') σ

/-- A program whose calls nest at most `n` deep. -/
def W (defs : Defs nD τ sig Val Λ) (B : Finset (Ref sig .tc)) : ℕ → {α : Type} →
    Prog (TpuEff nD τ sig Val Λ .tc) α → (α → St sig Val → Prop) → St sig Val → Prop
  | 0, _, p => wpS B (fun _ _ _ _ => False) p
  | n + 1, _, p => wpS B (fun ℓ a Q σ => W defs B n (defs .tc ℓ a) Q σ) p

section Rules

variable (defs : Defs nD τ sig Val Λ) (B : Finset (Ref sig .tc))

theorem effW_mono {call : (ℓ : Λ.Label) → Λ.Args ℓ → (Λ.Result ℓ → St sig Val → Prop) → St sig Val → Prop}
    (hc : ∀ ℓ a (Q Q' : Λ.Result ℓ → St sig Val → Prop) σ, (∀ x σ', Q x σ' → Q' x σ') → call ℓ a Q σ → call ℓ a Q' σ)
    {β : Type} (e : TpuEff nD τ sig Val Λ .tc β) (Q Q' : β → St sig Val → Prop) (σ : St sig Val)
    (h : ∀ x σ', Q x σ' → Q' x σ') : effW B call e Q σ → effW B call e Q' σ := by
  cases e <;> simp only [effW] <;> first | exact fun hf => hf.elim | exact fun hf => ⟨hf.1, h _ _ hf.2⟩ | exact hc _ _ _ _ _ h

theorem wpS_mono {call : (ℓ : Λ.Label) → Λ.Args ℓ → (Λ.Result ℓ → St sig Val → Prop) → St sig Val → Prop}
    (hc : ∀ ℓ a (Q Q' : Λ.Result ℓ → St sig Val → Prop) σ, (∀ x σ', Q x σ' → Q' x σ') → call ℓ a Q σ → call ℓ a Q' σ)
    {α : Type} (p : Prog (TpuEff nD τ sig Val Λ .tc) α) : ∀ (Q Q' : α → St sig Val → Prop) (σ : St sig Val),
    (∀ x σ', Q x σ' → Q' x σ') → wpS B call p Q σ → wpS B call p Q' σ := by
  induction p with
  | ret a => intro Q Q' σ h; exact h _ _
  | op e k ih => intro Q Q' σ h; exact effW_mono B hc e _ _ σ fun x σ' => ih x Q Q' σ' h

theorem W_mono (n : ℕ) : ∀ {α : Type} (p : Prog (TpuEff nD τ sig Val Λ .tc) α) (Q Q' : α → St sig Val → Prop) (σ : St sig Val),
    (∀ x σ', Q x σ' → Q' x σ') → W defs B n p Q σ → W defs B n p Q' σ := by
  induction n with
  | zero => intro α p; exact wpS_mono B (fun _ _ _ _ _ _ h => h) p
  | succ n ih => intro α p; exact wpS_mono B (fun ℓ a Q Q' σ h => ih _ Q Q' σ h) p

theorem wpS_bind {call : (ℓ : Λ.Label) → Λ.Args ℓ → (Λ.Result ℓ → St sig Val → Prop) → St sig Val → Prop}
    {α β : Type} (p : Prog (TpuEff nD τ sig Val Λ .tc) α) (f : α → Prog (TpuEff nD τ sig Val Λ .tc) β)
    (Q : β → St sig Val → Prop) : ∀ σ, wpS B call (p >>= f) Q σ = wpS B call p (fun a σ' => wpS B call (f a) Q σ') σ := by
  induction p with
  | ret a => intro σ; rfl
  | op e k ih =>
      intro σ
      show effW B call e (fun x σ' => wpS B call (k x >>= f) Q σ') σ = effW B call e (fun x σ' => wpS B call (k x) _ σ') σ
      simp only [ih]

theorem W_bind (n : ℕ) {α β : Type} (p : Prog (TpuEff nD τ sig Val Λ .tc) α) (f : α → Prog (TpuEff nD τ sig Val Λ .tc) β)
    (Q : β → St sig Val → Prop) (σ : St sig Val) : W defs B n (p >>= f) Q σ = W defs B n p (fun a σ' => W defs B n (f a) Q σ') σ := by
  cases n <;> exact wpS_bind B p f Q σ

end Rules

/-! ### The program logic -/

section Sound

variable (c : Dev nD)

local notation "𝕄" => MT nD τ sig Unit Val ℕ (UR sig nD τ) ℕ

/-- The buffers of `B`, each whole at its contents in `σ`. -/
def held (B : Finset (Ref sig .tc)) (σ : St sig Val) : sProp 𝕄 :=
  bigSep B fun b => ((c : Thread nD τ).loc b ↦{fullShare} (σ b : Buf Val ((c : Thread nD τ).loc b)))

theorem held_take {B : Finset (Ref sig .tc)} {b : Ref sig .tc} (hb : b ∈ B) (σ : St sig Val) :
    (held c B σ : sProp 𝕄) = iprop(((c : Thread nD τ).loc b ↦{fullShare} (σ b : Buf Val ((c : Thread nD τ).loc b))) ∗ bigSep (B.erase b) fun b => ((c : Thread nD τ).loc b ↦{fullShare} (σ b : Buf Val ((c : Thread nD τ).loc b)))) :=
  bigSep_erase hb

theorem held_put {B : Finset (Ref sig .tc)} {b : Ref sig .tc} (hb : b ∈ B) (σ : St sig Val) (f : b.ty.Contents Val) :
    (held c B (Function.update σ b f) : sProp 𝕄) = iprop(((c : Thread nD τ).loc b ↦{fullShare} (f : Buf Val ((c : Thread nD τ).loc b))) ∗ bigSep (B.erase b) fun b => ((c : Thread nD τ).loc b ↦{fullShare} (σ b : Buf Val ((c : Thread nD τ).loc b)))) := by
  rw [held_take c hb, Function.update_self]
  congr 1
  exact bigSep_congr fun b' hb' => by rw [Function.update_of_ne (Finset.ne_of_mem_erase hb')]

variable (defs : Defs nD τ sig Val Λ) (B : Finset (Ref sig .tc))

theorem wpS_sound {call : (ℓ : Λ.Label) → Λ.Args ℓ → (Λ.Result ℓ → St sig Val → Prop) → St sig Val → Prop}
    (bd : Option ℕ) (E : Set ℕ)
    (hcall : ∀ (ℓ : Λ.Label) (a : Λ.Args ℓ) (Q : Λ.Result ℓ → St sig Val → Prop) (σ : St sig Val), call ℓ a Q σ →
      ∃ v : ℕ, (∀ u ∈ bd, v < u) ∧ ∀ K : Λ.Result ℓ → sProp 𝕄,
        iprop(held c B σ ∗ (∀ x σ', ⌜Q x σ'⌝ -∗ held c B σ' -∗ K x))
          ⊢ wp frame (wpE defs Variants.nat (c : Thread nD τ) (some v)) E (defs .tc ℓ a) K)
    {α : Type} (p : Prog (TpuEff nD τ sig Val Λ .tc) α) :
    ∀ (Q : α → St sig Val → Prop) (σ : St sig Val), wpS B call p Q σ → ∀ K : α → sProp 𝕄,
      iprop(held c B σ ∗ (∀ x σ', ⌜Q x σ'⌝ -∗ held c B σ' -∗ K x))
        ⊢ wp frame (wpE defs Variants.nat (c : Thread nD τ) bd) E p K := by
  induction p with
  | ret a =>
      intro Q σ h K
      iintro ⟨H, Hk⟩
      rw [wp_ret]; imodintro
      iapply Hk $$ %a %σ [] H
      ipureintro; exact h
  | op e k ih =>
      intro Q σ h K
      cases e
      case load m r hl =>
        obtain ⟨hB, h⟩ := h
        have hs := ih _ Q σ h K
        rw [held_take c hB] at hs ⊢
        iintro ⟨⟨H, Hr⟩, Hk⟩
        iapply (wp_load Variants.nat (c : Thread nD τ) bd E (defs := defs) (S := Finset.univ) (Finset.subset_univ _)) $$ H
        iintro H
        iapply hs
        isplitl [H Hr]
        · isplitl [H] <;> iassumption
        iexact Hk
      case store m r w M hx hm =>
        obtain ⟨hB, h⟩ := h
        have hs := ih _ Q _ h K
        rw [held_take c hB]
        rw [held_put c hB] at hs
        iintro ⟨⟨H, Hr⟩, Hk⟩
        iapply (wp_store Variants.nat (c : Thread nD τ) bd E (defs := defs) (m := m) (r := r) (w := w) (Mk := M) (hx := hx) (hm := hm) (k := k) (Q := K) (S := Finset.univ) (f := σ m.view.ref) (Finset.subset_univ _)) $$ H
        iintro H
        iapply hs
        isplitl [H Hr]
        · isplitl [H] <;> iassumption
        iexact Hk
      case call ℓ a =>
        obtain ⟨v, hv, hw⟩ := hcall ℓ a _ σ h
        refine BIBase.Entails.trans (BIBase.Entails.trans ?_ (hw _)) (wp_call Variants.nat (c : Thread nD τ) bd E (defs := defs) v hv)
        iintro ⟨H, Hk⟩
        isplitl [H]; · iexact H
        iintro %x %σ' %hx H
        iapply (ih x Q σ' hx K)
        isplitl [H]; · iexact H
        iexact Hk
      all_goals exact h.elim

/-- A program that meets `W` from the contents `σ` runs, holding the buffers of `B` at them, and ends at contents `W`
    promises. Calls nest below the variant `n`. -/
theorem W_sound (E : Set ℕ) (n : ℕ) : ∀ (bd : Option ℕ), (∀ u ∈ bd, n ≤ u) → ∀ {α : Type} (p : Prog (TpuEff nD τ sig Val Λ .tc) α)
    (Q : α → St sig Val → Prop) (σ : St sig Val), W defs B n p Q σ → ∀ K : α → sProp 𝕄,
      iprop(held c B σ ∗ (∀ x σ', ⌜Q x σ'⌝ -∗ held c B σ' -∗ K x))
        ⊢ wp frame (wpE defs Variants.nat (c : Thread nD τ) bd) E p K := by
  induction n with
  | zero => intro bd hbd α p; exact wpS_sound c defs B bd E (fun _ _ _ _ h => h.elim) p
  | succ n ih =>
      intro bd hbd α p
      refine wpS_sound c defs B bd E (fun ℓ a Q σ h => ⟨n, fun u hu => hbd u hu, ?_⟩) p
      exact ih (some n) (fun u hu => by cases hu; exact le_rfl) _ Q σ h

end Sound

end Cert.Proof.Pure

end
-- ==== Proof.Row.lean ====
/- One grid point of a pipelined call from what its body does to plain contents: the blocks handed over and the scratch
   buffers are gathered into one state, the body's reading at that state is carried to the program logic, and the blocks are
   handed back at what the state then holds. -/
module

public import proofs.«01_k».proof.Proof.Pure
public import Idealize.SL.ProofMode.BigOp

@[expose] public section

noncomputable section

namespace Cert.Proof.Pure

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type} {Λ : Labels}

local notation "𝕄" => MT nD τ sig Unit Val ℕ (UR sig nD τ) ℕ

theorem bigSep_ins {M : Type} [URA M] {I : Type} [DecidableEq I] {i : I} {s : Finset I} (h : i ∉ s) {Φ : I → sProp M} :
    bigSep (insert i s) Φ = iprop(Φ i ∗ bigSep s Φ) := bigSep_insert h

theorem bigSep_uni {M : Type} [URA M] {I : Type} [DecidableEq I] {s t : Finset I} (h : Disjoint s t) {Φ : I → sProp M} :
    bigSep (s ∪ t) Φ = iprop(bigSep s Φ ∗ bigSep t Φ) := bigSep_union h

theorem bs_mono {M : Type} [URA M] {I : Type} {s : Finset I} {Φ Ψ : I → sProp M} (h : ∀ i ∈ s, Φ i ⊢ Ψ i) :
    bigSep s Φ ⊢ bigSep s Ψ := bigSep_mono h

theorem sep_mono2 {M : Type} [URA M] {P P' Q Q' : sProp M} (h : P ⊢ P') (h' : Q ⊢ Q') : iprop(P ∗ Q) ⊢ iprop(P' ∗ Q') :=
  Idealize.SL.BI.sep_mono h h'

/-- Contents of one name read at an equal one. -/
def moved {b b' : Ref sig .tc} (h : b = b') (f : b.ty.Contents Val) : b'.ty.Contents Val := by subst h; exact f

variable (c : Dev nD)

/-- The buffers of `B`, each at contents of which `P` holds, are one state's. -/
theorem held_gather [∀ e, Nonempty (Val e)] (B : Finset (Ref sig .tc)) (P : (b : Ref sig .tc) → b.ty.Contents Val → Prop) :
    (bigSep B fun b => iprop(∃ f : Buf Val ((c : Thread nD τ).loc b), ⌜P b f⌝ ∗ (((c : Thread nD τ).loc b) ↦{fullShare} f)) : sProp 𝕄)
      ⊢ iprop(∃ σ : St sig Val, ⌜∀ b ∈ B, P b (σ b)⌝ ∗ held c B σ) := by
  induction B using Finset.induction_on with
  | empty =>
    rw [bigSep_empty]; iintro -; iexists (fun b _ => Classical.choice inferInstance)
    isplitr
    · ipureintro; intro b hb; exact absurd hb (Finset.notMem_empty b)
    · unfold held; rw [bigSep_empty]; iempintro
  | insert a S ha ih =>
    rw [bigSep_ins ha]
    iintro ⟨⟨%f, %hf, H⟩, HS⟩
    ihave HS := ih $$ HS
    icases HS with ⟨%σ, %hσ, HS⟩
    iexists Function.update σ a f
    isplitr
    · ipureintro
      intro b hb
      by_cases h : b = a
      · subst h; rw [Function.update_self]; exact hf
      · rw [Function.update_of_ne h]; exact hσ b ((Finset.mem_insert.mp hb).resolve_left h)
    · rw [held_put c (Finset.mem_insert_self a S), Finset.erase_insert ha]
      isplitl [H]
      · iexact H
      · unfold held; iexact HS

variable {Λ₀ : Labels}

/-- The current blocks of the windows and the scratch buffers. -/
def pointRefs (cfg : Cfg sig Λ₀) (t : Fin cfg.N) : Finset (Ref sig .tc) :=
  (Finset.univ.image fun w => ((cfg.win w).stage (cfg.slots t w)).view.ref)
    ∪ ((Finset.univ.filter fun b : Ref sig .tc => b.isScoped) \ Finset.univ.image (stageRef cfg.spec))

/-- One grid point: if from every state whose blocks read `Y` the body ends in a state whose blocks are related to `Y` by
    `after`, then so it does of the blocks handed to it. -/
theorem row_of_W [∀ e, Nonempty (Val e)] (cfg : Cfg sig Λ₀) (t : Fin cfg.N) (defs : Defs nD τ sig Val Λ₀)
    (hst : ∀ w, ((cfg.win w).stage (cfg.slots t w)).IsWhole)
    (hinj : Function.Injective fun w => ((cfg.win w).stage (cfg.slots t w)).view.ref)
    (hsc : ∀ w, ((cfg.win w).stage (cfg.slots t w)).view.ref ∈ Finset.univ.image (stageRef cfg.spec))
    (n : ℕ) (p : Prog (TpuEff nD τ sig Val Λ₀ .tc) PUnit)
    (Y : (w : Fin cfg.W) → (cfg.win w).block.Idx → Val (cfg.win w).elt)
    (after : (w : Fin cfg.W) → ((cfg.win w).block.Idx → Val (cfg.win w).elt) → Prop)
    (hW : ∀ σ : St sig Val, (∀ w, ((cfg.win w).stage (cfg.slots t w)).view.read Val (σ ((cfg.win w).stage (cfg.slots t w)).view.ref) = Y w) →
      W defs (pointRefs cfg t) n p
        (fun _ σ' => ∀ w, after w (((cfg.win w).stage (cfg.slots t w)).view.read Val (σ' ((cfg.win w).stage (cfg.slots t w)).view.ref))) σ)
    (O : sProp 𝕄) :
    iprop((ΦA cfg.spec c : sProp 𝕄) ∗ O ∗ bigSep Finset.univ fun w => ownsTc c ((cfg.win w).stage (cfg.slots t w)) fullShare (Y w))
      ⊢ wp frame (wpE defs Variants.nat (c : Thread nD τ) none) Set.univ p fun _ =>
          iprop((ΦA cfg.spec c : sProp 𝕄) ∗ O
            ∗ bigSep Finset.univ fun w => iprop(∃ X, ⌜after w X⌝ ∗ ownsTc c ((cfg.win w).stage (cfg.slots t w)) fullShare X)) := by
  classical
  have hdis : Disjoint (Finset.univ.image fun w => ((cfg.win w).stage (cfg.slots t w)).view.ref)
      ((Finset.univ.filter fun b : Ref sig .tc => b.isScoped) \ Finset.univ.image (stageRef cfg.spec)) := by
    rw [Finset.disjoint_left]
    intro b hb hb'
    obtain ⟨w, -, rfl⟩ := Finset.mem_image.mp hb
    exact (Finset.mem_sdiff.mp hb').2 (hsc w)
  let P : (b : Ref sig .tc) → b.ty.Contents Val → Prop := fun b f =>
    ∀ w, ∀ h : b = ((cfg.win w).stage (cfg.slots t w)).view.ref, ((cfg.win w).stage (cfg.slots t w)).view.read Val (moved h f) = Y w
  have hin : iprop((bigSep Finset.univ fun w => ownsTc c ((cfg.win w).stage (cfg.slots t w)) fullShare (Y w))
        ∗ scopedRest (Ix := Unit) (Name := ℕ) (U := UR sig nD τ) (Lvl := ℕ) (Val := Val) cfg.spec c)
      ⊢ (bigSep (pointRefs cfg t) fun b => iprop(∃ f : Buf Val ((c : Thread nD τ).loc b), ⌜P b f⌝ ∗ (((c : Thread nD τ).loc b) ↦{fullShare} f)) : sProp 𝕄) := by
    unfold pointRefs
    rw [bigSep_uni hdis, bigSep_image_of_injOn hinj.injOn]
    refine sep_mono2 (bs_mono ?_) (bs_mono ?_)
    · intro w _
      unfold ownsTc owns
      rw [(hst w).set_eq_univ]
      iintro ⟨%f, %hf, H⟩
      iexists f
      isplitr
      · ipureintro
        intro w' h
        obtain rfl := hinj h
        exact hf
      · iexact H
    · intro b hb
      iintro ⟨%f, H⟩
      iexists f
      isplitr
      · ipureintro
        intro w h
        subst h
        exact absurd (hsc w) (Finset.mem_sdiff.mp hb).2
      · iexact H
  have hout : ∀ σ : St sig Val, (∀ w, after w (((cfg.win w).stage (cfg.slots t w)).view.read Val (σ ((cfg.win w).stage (cfg.slots t w)).view.ref))) →
      (held c (pointRefs cfg t) σ : sProp 𝕄)
      ⊢ iprop((bigSep Finset.univ fun w => iprop(∃ X, ⌜after w X⌝ ∗ ownsTc c ((cfg.win w).stage (cfg.slots t w)) fullShare X))
        ∗ scopedRest (Ix := Unit) (Name := ℕ) (U := UR sig nD τ) (Lvl := ℕ) (Val := Val) cfg.spec c) := by
    intro σ hσ
    unfold held pointRefs
    rw [bigSep_uni hdis, bigSep_image_of_injOn hinj.injOn]
    refine sep_mono2 (bs_mono ?_) (bs_mono ?_)
    · intro w _
      unfold ownsTc owns
      rw [(hst w).set_eq_univ]
      iintro H
      iexists ((cfg.win w).stage (cfg.slots t w)).view.read Val (σ ((cfg.win w).stage (cfg.slots t w)).view.ref)
      isplitr
      · ipureintro; exact hσ w
      iexists (σ ((cfg.win w).stage (cfg.slots t w)).view.ref)
      isplitr
      · ipureintro; rfl
      · iexact H
    · intro b hb
      iintro H
      iexists σ b
      iexact H
  unfold ΦA
  iintro ⟨⟨Hs, Hr⟩, HO, Hb⟩
  ihave H := hin $$ [Hs Hb]
  · isplitl [Hb] <;> iassumption
  ihave H := (held_gather c (pointRefs cfg t) P) $$ H
  icases H with ⟨%σ, %hσ, H⟩
  have hσ' := hW σ fun w => hσ _ (Finset.mem_union_left _ (Finset.mem_image_of_mem _ (Finset.mem_univ w))) w rfl
  iapply (W_sound c defs (pointRefs cfg t) Set.univ n none (fun u hu => by cases hu) p _ σ hσ')
  isplitl [H]
  · iexact H
  iintro %x %σ' %hx H
  ihave H := (hout σ' hx) $$ H
  icases H with ⟨Hb, Hs⟩
  isplitl [Hs Hr]
  · isplitl [Hs] <;> iassumption
  isplitl [HO] <;> iassumption

end Cert.Proof.Pure

end
-- ==== Proof.Safe.lean ====
/- Bodies that run from any contents of the buffers they may touch and leave some of them as they found them: what a frame
   needs of a body, built up statement by statement without a word about the values computed. -/
module

public import proofs.«01_k».proof.Proof.Pure

@[expose] public section

noncomputable section

namespace Cert.Proof.Pure

open Idealize.ShloMosaic Idealize.SL.Sem

variable {nD : Nat} {τ : Topo} {sig : RefSig} {Val : EltTy → Type} {Λ : Labels}

/-- From any contents the program runs, its result meets `φ`, and the buffers of `R` end as they were. -/
def SafeP (defs : Defs nD τ sig Val Λ) (B R : Finset (Ref sig .tc)) (n : ℕ) {α : Type} (φ : α → Prop)
    (p : Prog (TpuEff nD τ sig Val Λ .tc) α) : Prop :=
  ∀ σ : St sig Val, W defs B n p (fun a σ' => φ a ∧ ∀ b ∈ R, σ' b = σ b) σ

/-- `SafeP` with nothing asked of the result. -/
abbrev Safe (defs : Defs nD τ sig Val Λ) (B R : Finset (Ref sig .tc)) (n : ℕ) {α : Type}
    (p : Prog (TpuEff nD τ sig Val Λ .tc) α) : Prop := SafeP defs B R n (fun _ => True) p

variable {defs : Defs nD τ sig Val Λ} {B R : Finset (Ref sig .tc)} {n : ℕ} {α β : Type}

theorem SafeP.ret {φ : α → Prop} {a : α} (h : φ a) : SafeP defs B R n φ (pure a : Prog (TpuEff nD τ sig Val Λ .tc) α) := fun σ => by
  cases n <;> exact ⟨h, fun _ _ => rfl⟩

theorem SafeP.bind' {φ : α → Prop} {ψ : β → Prop} {p : Prog (TpuEff nD τ sig Val Λ .tc) α} {f : α → Prog (TpuEff nD τ sig Val Λ .tc) β}
    (hp : SafeP defs B R n φ p) (hf : ∀ a, φ a → SafeP defs B R n ψ (f a)) : SafeP defs B R n ψ (p >>= f) := fun σ => by
  rw [W_bind]
  refine W_mono defs B n p _ _ σ (fun a σ' h => ?_) (hp σ)
  refine W_mono defs B n (f a) _ _ σ' (fun b σ'' h' => ⟨h'.1, fun r hr => (h'.2 r hr).trans (h.2 r hr)⟩) (hf a h.1 σ')

theorem SafeP.bind {ψ : β → Prop} {p : Prog (TpuEff nD τ sig Val Λ .tc) α} {f : α → Prog (TpuEff nD τ sig Val Λ .tc) β}
    (hp : Safe defs B R n p) (hf : ∀ a, SafeP defs B R n ψ (f a)) : SafeP defs B R n ψ (p >>= f) :=
  SafeP.bind' hp fun a _ => hf a

theorem SafeP.weaken {φ ψ : α → Prop} {p : Prog (TpuEff nD τ sig Val Λ .tc) α} (h : SafeP defs B R n φ p) (hψ : ∀ a, φ a → ψ a) :
    SafeP defs B R n ψ p := fun σ => W_mono defs B n p _ _ σ (fun _ _ h => ⟨hψ _ h.1, h.2⟩) (h σ)

theorem Safe.load {cs : CoreSpace} {s : Shape} {e : EltTy} {m : Memref sig .tc cs s e} {r : LoadRect s} {h : m.view.LoadsAt r}
    (hB : m.view.ref ∈ B) : Safe defs B R n (Prog.lift (.load m r h) : Prog (TpuEff nD τ sig Val Λ .tc) _) := fun σ => by
  cases n <;> exact ⟨hB, trivial, fun _ _ => rfl⟩

theorem Safe.store {cs : CoreSpace} {s : Shape} {e : EltTy} {m : Memref sig .tc cs s e} {r : Rect s} {w : r.shape.Idx → Val e}
    {M : Finset r.shape.Idx} {h : (m.access r).Stores M} {hm : M = Finset.univ ∨ ∀ a, r.stride a = 1}
    (hB : m.view.ref ∈ B) (hR : m.view.ref ∉ R) :
    Safe defs B R n (Prog.lift (.store m r w M h hm) : Prog (TpuEff nD τ sig Val Λ .tc) _) := fun σ => by
  cases n <;> exact ⟨hB, trivial, fun b hb => Function.update_of_ne (fun he => hR (by rw [← he]; exact hb)) _ _⟩

theorem Safe.call {ℓ : Λ.Label} {a : Λ.Args ℓ} (h : Safe defs B R n (defs .tc ℓ a)) :
    Safe defs B R (n + 1) (Prog.lift (.call ℓ a) : Prog (TpuEff nD τ sig Val Λ .tc) _) := fun σ => h σ

theorem Safe.forFrom {σ : Type} {k : ℕ} {body : Fin k → σ → Prog (TpuEff nD τ sig Val Λ .tc) σ} (h : ∀ i a, Safe defs B R n (body i a))
    (l : List (Fin k)) : ∀ a, Safe defs B R n (Scf.forFrom body l a) := by
  induction l with
  | nil => intro a; exact SafeP.ret trivial
  | cons i l ih => intro a; exact SafeP.bind (h i a) fun a' => ih a'

theorem Safe.for {σ : Type} {w : ℕ} {l : Scf.Loop w} {hok : l.OK} {init : σ} {body : Fin l.trips → σ → Prog (TpuEff nD τ sig Val Λ .tc) σ}
    (h : ∀ i a, Safe defs B R n (body i a)) : Safe defs B R n (Scf.Loop.for l hok init body) := by
  show Safe defs B R n (Scf.for l.lb l.ub l.st hok init body)
  rw [Scf.for_eq]; exact Safe.forFrom h _ _

theorem SafeP.ite {φ : α → Prop} {c : Prop} [Decidable c] {p q : Prog (TpuEff nD τ sig Val Λ .tc) α}
    (hp : c → SafeP defs B R n φ p) (hq : ¬ c → SafeP defs B R n φ q) : SafeP defs B R n φ (if c then p else q) := by
  split
  · exact hp ‹_›
  · exact hq ‹_›

theorem SafeP.dite {φ : α → Prop} {c : Prop} [Decidable c] {p : c → Prog (TpuEff nD τ sig Val Λ .tc) α} {q : ¬ c → Prog (TpuEff nD τ sig Val Λ .tc) α}
    (hp : ∀ h, SafeP defs B R n φ (p h)) (hq : ∀ h, SafeP defs B R n φ (q h)) : SafeP defs B R n φ (dite c p q) := by
  split
  · exact hp _
  · exact hq _

end Cert.Proof.Pure

end
-- ==== Proof.BodyA.lean ====
module

public import proofs.«01_k».proof.Proof.Safe
public import proofs.«01_k».proof.Kernel

@[expose] public section

/-! The frames of the pieces the kernel body was printed in: each runs, and leaves the input blocks as they were. Pieces 1 to 59. -/

namespace Cert.Proof.Body

open Idealize.ShloMosaic Idealize.SL.Sem
open Cert.Kernel Cert.Proof.Pure

variable {F : FTy → Type} [BitOps F] [Facts] {B R : Finset (Ref sig .tc)} {n : ℕ}
variable {i : grid0.Coords}
variable {arg2 : Memref sig .tc .vmem S1x512x128 .bf16} {harg2 : arg2.IsWhole}
variable {arg3 : Memref sig .tc .vmem S1x256x128 .bf16} {harg3 : arg3.IsWhole}
variable {arg4 : Memref sig .tc .vmem S1x8x128 .f32} {harg4 : arg4.IsWhole}
variable {arg5 : Memref sig .tc .vmem S1x4096x128 .bf16} {harg5 : arg5.IsWhole}
variable {arg6 : Memref sig .tc .vmem S1x4096x128 .bf16} {harg6 : arg6.IsWhole}
variable {arg7 : Memref sig .tc .vmem S1x16x128x256 .bf16} {harg7 : arg7.IsWhole}
variable {arg8 : Memref sig .tc .vmem S128x128 .bf16} {harg8 : arg8.IsWhole}
variable {arg9 : Memref sig .tc .vmem S1x512x128 .f32} {harg9 : arg9.IsWhole}
variable {arg10 : Memref sig .tc .vmem S4096x128 .i32} {harg10 : arg10.IsWhole}
variable {arg11 : Memref sig .tc .vmem S4096x128 .f32} {harg11 : arg11.IsWhole}
variable {arg12 : Memref sig .tc .vmem S16x2x256x512 .f32} {harg12 : arg12.IsWhole}
variable {arg13 : Memref sig .tc .vmem S2x80x512 .f32} {harg13 : arg13.IsWhole}

section

variable (b2 : arg2.view.ref ∈ B)
variable (b3 : arg3.view.ref ∈ B)
variable (b4 : arg4.view.ref ∈ B)
variable (b5 : arg5.view.ref ∈ B)
variable (b6 : arg6.view.ref ∈ B)
variable (b7 : arg7.view.ref ∈ B)
variable (b8 : arg8.view.ref ∈ B)
variable (b9 : arg9.view.ref ∈ B) (r9 : arg9.view.ref ∉ R)
variable (b10 : arg10.view.ref ∈ B) (r10 : arg10.view.ref ∉ R)
variable (b11 : arg11.view.ref ∈ B) (r11 : arg11.view.ref ∉ R)
variable (b12 : arg12.view.ref ∈ B) (r12 : arg12.view.ref ∉ R)
variable (b13 : arg13.view.ref ∈ B) (r13 : arg13.view.ref ∉ R)

include b2 b3 b4 b5 b6 b7 b8 b9 r9 b10 r10 b11 r11 b12 r12 b13 r13

theorem safe_part1 {v51 v52 v59 v61 c0_i32_28 c1_i32_30 k0_t1}  :
    Safe (defs₀ (F := F)) B R n (k0_part1 i arg2 harg2 arg3 harg3 arg4 harg4 arg5 harg5 arg6
      harg6 arg7 harg7 arg8 harg8 arg9 harg9 arg10 harg10 arg11 harg11 arg12 harg12 arg13 harg13
      v51 v52 v59 v61 c0_i32_28 c1_i32_30 k0_t1) := by
  unfold k0_part1
  repeat'
    first
      | with_reducible refine SafeP.bind ?_ fun _ => ?_
      | with_reducible exact SafeP.ret trivial
      | exact Safe.load (by assumption)
      | exact Safe.store (by assumption) (by assumption)

theorem safe_part2 {v51 v52 v59 v61 k0_t1 v325 v369}  :
    Safe (defs₀ (F := F)) B R n (k0_part2 i arg2 harg2 arg3 harg3 arg4 harg4 arg5 harg5 arg6
      harg6 arg7 harg7 arg8 harg8 arg9 harg9 arg10 harg10 arg11 harg11 arg12 harg12 arg13 harg13
      v51 v52 v59 v61 k0_t1 v325 v369) := by
  unfold k0_part2
  repeat'
    first
      | with_reducible refine SafeP.bind ?_ fun _ => ?_
      | with_reducible exact SafeP.ret trivial
      | exact Safe.load (by assumption)
      | exact Safe.store (by assumption) (by assumption)

theorem safe_part3 {v51 v52 v59 v61 k0_t1 v325 v417}  :
    Safe (defs₀ (F := F)) B R n (k0_part3 i arg2 harg2 arg3 harg3 arg4 harg4 arg5 harg5 arg6
      harg6 arg7 harg7 arg8 harg8 arg9 harg9 arg10 harg10 arg11 harg11 arg12 harg12 arg13 harg13
      v51 v52 v59 v61 k0_t1 v325 v417) := by
  unfold k0_part3
  repeat'
    first
      | with_reducible refine SafeP.bind ?_ fun _ => ?_
      | with_reducible exact SafeP.ret trivial
      | exact Safe.load (by assumption)
      | exact Safe.store (by assumption) (by assumption)

theorem safe_part4 {v51 v52 v59 v61 k0_t1 v325 v424 v465}  :
    Safe (defs₀ (F := F)) B R n (k0_part4 i arg2 harg2 arg3 harg3 arg4 harg4 arg5 harg5 arg6
      harg6 arg7 harg7 arg8 harg8 arg9 harg9 arg10 harg10 arg11 harg11 arg12 harg12 arg13 harg13
      v51 v52 v59 v61 k0_t1 v325 v424 v465) := by
  unfold k0_part4
  repeat'
    first
      | with_reducible refine SafeP.bind ?_ fun _ => ?_
      | with_reducible exact SafeP.ret trivial
      | exact Safe.load (by assumption)
      | exact Safe.store (by assumption) (by assumption)

theorem safe_part5 {v51 v52 v59 v61 v85 c1_i32_31 k0_t2}  :
    Safe (defs₀ (F := F)) B R n (k0_part5 i arg2 harg2 arg3 harg3 arg4 harg4 arg5 harg5 arg6
      harg6 arg7 harg7 arg8 harg8 arg9 harg9 arg10 harg10 arg11 harg11 arg12 harg12 arg13 harg13
      v51 v52 v59 v61 v85 c1_i32_31 k0_t2) := by
  unfold k0_part5
  repeat'
    first
      | with_reducible refine SafeP.bind ?_ fun _ => ?_
      | with_reducible exact SafeP.ret trivial
      | exact Safe.load (by assumption)
      | exact Safe.store (by assumption) (by assumption)

theorem safe_part6 {v51 v52 v59 v61 k0_t2 v325 v369}  :
    Safe (defs₀ (F := F)) B R n (k0_part6 i arg2 harg2 arg3 harg3 arg4 harg4 arg5 harg5 arg6
      harg6 arg7 harg7 arg8 harg8 arg9 harg9 arg10 harg10 arg11 harg11 arg12 harg12 arg13 harg13
      v51 v52 v59 v61 k0_t2 v325 v369) := by
  unfold k0_part6
  repeat'
    first
      | with_reducible refine SafeP.bind ?_ fun _ => ?_
      | with_reducible exact SafeP.ret trivial
      | exact Safe.load (by assumption)
      | exact Safe.store (by assumption) (by assumption)

theorem safe_part7 {v51 v52 v59 v61 k0_t2 v325 v417}  :
    Safe (defs₀ (F := F)) B R n (k0_part7 i arg2 harg2 arg3 harg3 arg4 harg4 arg5 harg5 arg6
      harg6 arg7 harg7 arg8 harg8 arg9 harg9 arg10 harg10 arg11 harg11 arg12 harg12 arg13 harg13
      v51 v52 v59 v61 k0_t2 v325 v417) := by
  unfold k0_part7
  repeat'
    first
      | with_reducible refine SafeP.bind ?_ fun _ => ?_
      | with_reducible exact SafeP.ret trivial
      | exact Safe.load (by assumption)
      | exact Safe.store (by assumption) (by assumption)

theorem safe_part8 {v51 v52 v59 v61 k0_t2 v325 v424 v465}  :
    Safe (defs₀ (F := F)) B R n (k0_part8 i arg2 harg2 arg3 harg3 arg4 harg4 arg5 harg5 arg6
      harg6 arg7 harg7 arg8 harg8 arg9 harg9 arg10 harg10 arg11 harg11 arg12 harg12 arg13 harg13
      v51 v52 v59 v61 k0_t2 v325 v424 v465) := by
  unfold k0_part8
  repeat'
    first
      | with_reducible refine SafeP.bind ?_ fun _ => ?_
      | with_reducible exact SafeP.ret trivial
      | exact Safe.load (by assumption)
      | exact Safe.store (by assumption) (by assumption)

theorem safe_part9 {v51 v52 v59 v61 v86 k0_h1}  :
    Safe (defs₀ (F := F)) B R n (k0_part9 i arg2 harg2 arg3 harg3 arg4 harg4 arg5 harg5 arg6
      harg6 arg7 harg7 arg8 harg8 arg9 harg9 arg10 harg10 arg11 harg11 arg12 harg12 arg13 harg13
      v51 v52 v59 v61 v86 k0_h1) := by
  unfold k0_part9
  repeat'
    first
      | with_reducible refine SafeP.bind ?_ fun _ => ?_
      | with_reducible exact SafeP.ret trivial
      | exact Safe.load (by assumption)
      | exact Safe.store (by assumption) (by assumption)

theorem safe_part10 {v51 v52 v59 v61 v86 k0_h1 v372}  :
    Safe (defs₀ (F := F)) B R n (k0_part10 i arg2 harg2 arg3 harg3 arg4 harg4 arg5 harg5 arg6
      harg6 arg7 harg7 arg8 harg8 arg9 harg9 arg10 harg10 arg11 harg11 arg12 harg12 arg13 harg13
      v51 v52 v59 v61 v86 k0_h1 v372) := by
  unfold k0_part10
  repeat'
    first
      | with_reducible refine SafeP.bind ?_ fun _ => ?_
      | with_reducible exact SafeP.ret trivial
      | exact Safe.load (by assumption)
      | exact Safe.store (by assumption) (by assumption)

theorem safe_part11 {v51 v52 v59 v61 v92 k0_h2}  :
    Safe (defs₀ (F := F)) B R n (k0_part11 i arg2 harg2 arg3 harg3 arg4 harg4 arg5 harg5 arg6
      harg6 arg7 harg7 arg8 harg8 arg9 harg9 arg10 harg10 arg11 harg11 arg12 harg12 arg13 harg13
      v51 v52 v59 v61 v92 k0_h2) := by
  unfold k0_part11
  repeat'
    first
      | with_reducible refine SafeP.bind ?_ fun _ => ?_
      | with_reducible exact SafeP.ret trivial
      | exact Safe.load (by assumption)
      | exact Safe.store (by assumption) (by assumption)

theorem safe_part12 {c0_i32_43 c1_i32_45 k0_t3 arg15 arg16 arg17 arg18}  :
    Safe (defs₀ (F := F)) B R n (k0_part12 i arg2 harg2 arg3 harg3 arg4 harg4 arg5 harg5 arg6
      harg6 arg7 harg7 arg8 harg8 arg9 harg9 arg10 harg10 arg11 harg11 arg12 harg12 arg13 harg13
      c0_i32_43 c1_i32_45 k0_t3 arg15 arg16 arg17 arg18) := by
  unfold k0_part12
  repeat'
    first
      | with_reducible refine SafeP.bind ?_ fun _ => ?_
      | with_reducible exact SafeP.ret trivial
      | exact Safe.load (by assumption)
      | exact Safe.store (by assumption) (by assumption)

theorem safe_part13 {v328 v346 v352 v358 v364 v367 cst_213}  :
    Safe (defs₀ (F := F)) B R n (k0_part13 i arg2 harg2 arg3 harg3 arg4 harg4 arg5 harg5 arg6
      harg6 arg7 harg7 arg8 harg8 arg9 harg9 arg10 harg10 arg11 harg11 arg12 harg12 arg13 harg13
      v328 v346 v352 v358 v364 v367 cst_213) := by
  unfold k0_part13
  repeat'
    first
      | with_reducible refine SafeP.bind ?_ fun _ => ?_
      | with_reducible exact SafeP.ret trivial
      | exact Safe.load (by assumption)
      | exact Safe.store (by assumption) (by assumption)

theorem safe_part14 {v105 c1_i32_46 k0_t4 arg15 arg16 arg17 arg18}  :
    Safe (defs₀ (F := F)) B R n (k0_part14 i arg2 harg2 arg3 harg3 arg4 harg4 arg5 harg5 arg6
      harg6 arg7 harg7 arg8 harg8 arg9 harg9 arg10 harg10 arg11 harg11 arg12 harg12 arg13 harg13
      v105 c1_i32_46 k0_t4 arg15 arg16 arg17 arg18) := by
  unfold k0_part14
  repeat'
    first
      | with_reducible refine SafeP.bind ?_ fun _ => ?_
      | with_reducible exact SafeP.ret trivial
      | exact Safe.load (by assumption)
      | exact Safe.store (by assumption) (by assumption)

theorem safe_part15 {v328 v346 v352 v358 v364 v367 cst_213}  :
    Safe (defs₀ (F := F)) B R n (k0_part15 i arg2 harg2 arg3 harg3 arg4 harg4 arg5 harg5 arg6
      harg6 arg7 harg7 arg8 harg8 arg9 harg9 arg10 harg10 arg11 harg11 arg12 harg12 arg13 harg13
      v328 v346 v352 v358 v364 v367 cst_213) := by
  unfold k0_part15
  repeat'
    first
      | with_reducible refine SafeP.bind ?_ fun _ => ?_
      | with_reducible exact SafeP.ret trivial
      | exact Safe.load (by assumption)
      | exact Safe.store (by assumption) (by assumption)

theorem safe_part16 {c0_i32_52 c1_i32_54 k0_t5 arg15 arg16 arg17 arg18}  :
    Safe (defs₀ (F := F)) B R n (k0_part16 i arg2 harg2 arg3 harg3 arg4 harg4 arg5 harg5 arg6
      harg6 arg7 harg7 arg8 harg8 arg9 harg9 arg10 harg10 arg11 harg11 arg12 harg12 arg13 harg13
      c0_i32_52 c1_i32_54 k0_t5 arg15 arg16 arg17 arg18) := by
  unfold k0_part16
  repeat'
    first
      | with_reducible refine SafeP.bind ?_ fun _ => ?_
      | with_reducible exact SafeP.ret trivial
      | exact Safe.load (by assumption)
      | exact Safe.store (by assumption) (by assumption)

theorem safe_part17 {v328 v346 v352 v358 v364 v367 cst_213}  :
    Safe (defs₀ (F := F)) B R n (k0_part17 i arg2 harg2 arg3 harg3 arg4 harg4 arg5 harg5 arg6
      harg6 arg7 harg7 arg8 harg8 arg9 harg9 arg10 harg10 arg11 harg11 arg12 harg12 arg13 harg13
      v328 v346 v352 v358 v364 v367 cst_213) := by
  unfold k0_part17
  repeat'
    first
      | with_reducible refine SafeP.bind ?_ fun _ => ?_
      | with_reducible exact SafeP.ret trivial
      | exact Safe.load (by assumption)
      | exact Safe.store (by assumption) (by assumption)

theorem safe_part18 {v121 c1_i32_55 k0_t6 arg15 arg16 arg17 arg18}  :
    Safe (defs₀ (F := F)) B R n (k0_part18 i arg2 harg2 arg3 harg3 arg4 harg4 arg5 harg5 arg6
      harg6 arg7 harg7 arg8 harg8 arg9 harg9 arg10 harg10 arg11 harg11 arg12 harg12 arg13 harg13
      v121 c1_i32_55 k0_t6 arg15 arg16 arg17 arg18) := by
  unfold k0_part18
  repeat'
    first
      | with_reducible refine SafeP.bind ?_ fun _ => ?_
      | with_reducible exact SafeP.ret trivial
      | exact Safe.load (by assumption)
      | exact Safe.store (by assumption) (by assumption)

theorem safe_part19 {v328 v346 v352 v358 v364 v367 cst_213}  :
    Safe (defs₀ (F := F)) B R n (k0_part19 i arg2 harg2 arg3 harg3 arg4 harg4 arg5 harg5 arg6
      harg6 arg7 harg7 arg8 harg8 arg9 harg9 arg10 harg10 arg11 harg11 arg12 harg12 arg13 harg13
      v328 v346 v352 v358 v364 v367 cst_213) := by
  unfold k0_part19
  repeat'
    first
      | with_reducible refine SafeP.bind ?_ fun _ => ?_
      | with_reducible exact SafeP.ret trivial
      | exact Safe.load (by assumption)
      | exact Safe.store (by assumption) (by assumption)

theorem safe_part20 {v328 c0_i32_203 c1_i32_205 k0_t8 arg19 arg20 arg21 arg22}  :
    Safe (defs₀ (F := F)) B R n (k0_part20 i arg2 harg2 arg3 harg3 arg4 harg4 arg5 harg5 arg6
      harg6 arg7 harg7 arg8 harg8 arg9 harg9 arg10 harg10 arg11 harg11 arg12 harg12 arg13 harg13
      v328 c0_i32_203 c1_i32_205 k0_t8 arg19 arg20 arg21 arg22) := by
  unfold k0_part20
  repeat'
    first
      | with_reducible refine SafeP.bind ?_ fun _ => ?_
      | with_reducible exact SafeP.ret trivial
      | exact Safe.load (by assumption)
      | exact Safe.store (by assumption) (by assumption)

theorem safe_part21 {v328 c0_i32_203 c1_i32_205 k0_t8 arg19 arg20 arg21 arg22}  :
    Safe (defs₀ (F := F)) B R n (k0_part21 i arg2 harg2 arg3 harg3 arg4 harg4 arg5 harg5 arg6
      harg6 arg7 harg7 arg8 harg8 arg9 harg9 arg10 harg10 arg11 harg11 arg12 harg12 arg13 harg13
      v328 c0_i32_203 c1_i32_205 k0_t8 arg19 arg20 arg21 arg22) := by
  unfold k0_part21
  repeat'
    first
      | (with_reducible apply safe_part20 <;> assumption)
      | with_reducible refine SafeP.bind ?_ fun _ => ?_
      | with_reducible exact SafeP.ret trivial
      | exact Safe.load (by assumption)
      | exact Safe.store (by assumption) (by assumption)

theorem safe_part22 {v328 v337 c1_i32_206 k0_t9 arg19 arg20 arg21 arg22}  :
    Safe (defs₀ (F := F)) B R n (k0_part22 i arg2 harg2 arg3 harg3 arg4 harg4 arg5 harg5 arg6
      harg6 arg7 harg7 arg8 harg8 arg9 harg9 arg10 harg10 arg11 harg11 arg12 harg12 arg13 harg13
      v328 v337 c1_i32_206 k0_t9 arg19 arg20 arg21 arg22) := by
  unfold k0_part22
  repeat'
    first
      | with_reducible refine SafeP.bind ?_ fun _ => ?_
      | with_reducible exact SafeP.ret trivial
      | exact Safe.load (by assumption)
      | exact Safe.store (by assumption) (by assumption)

theorem safe_part23 {v328 v337 c1_i32_206 k0_t9 arg19 arg20 arg21 arg22}  :
    Safe (defs₀ (F := F)) B R n (k0_part23 i arg2 harg2 arg3 harg3 arg4 harg4 arg5 harg5 arg6
      harg6 arg7 harg7 arg8 harg8 arg9 harg9 arg10 harg10 arg11 harg11 arg12 harg12 arg13 harg13
      v328 v337 c1_i32_206 k0_t9 arg19 arg20 arg21 arg22) := by
  unfold k0_part23
  repeat'
    first
      | (with_reducible apply safe_part22 <;> assumption)
      | with_reducible refine SafeP.bind ?_ fun _ => ?_
      | with_reducible exact SafeP.ret trivial
      | exact Safe.load (by assumption)
      | exact Safe.store (by assumption) (by assumption)

theorem safe_part24 {v153_1 c0_i32_73 c1_i32_75 k0_t16 arg15 arg16 arg17 arg18}  :
    Safe (defs₀ (F := F)) B R n (k0_part24 i arg2 harg2 arg3 harg3 arg4 harg4 arg5 harg5 arg6
      harg6 arg7 harg7 arg8 harg8 arg9 harg9 arg10 harg10 arg11 harg11 arg12 harg12 arg13 harg13
      v153_1 c0_i32_73 c1_i32_75 k0_t16 arg15 arg16 arg17 arg18) := by
  unfold k0_part24
  repeat'
    first
      | with_reducible refine SafeP.bind ?_ fun _ => ?_
      | with_reducible exact SafeP.ret trivial
      | exact Safe.load (by assumption)
      | exact Safe.store (by assumption) (by assumption)

theorem safe_part25 {v153_1 c0_i32_73 c1_i32_75 k0_t16 arg15 arg16 arg17 arg18}  :
    Safe (defs₀ (F := F)) B R n (k0_part25 i arg2 harg2 arg3 harg3 arg4 harg4 arg5 harg5 arg6
      harg6 arg7 harg7 arg8 harg8 arg9 harg9 arg10 harg10 arg11 harg11 arg12 harg12 arg13 harg13
      v153_1 c0_i32_73 c1_i32_75 k0_t16 arg15 arg16 arg17 arg18) := by
  unfold k0_part25
  repeat'
    first
      | (with_reducible apply safe_part24 <;> assumption)
      | with_reducible refine SafeP.bind ?_ fun _ => ?_
      | with_reducible exact SafeP.ret trivial
      | exact Safe.load (by assumption)
      | exact Safe.store (by assumption) (by assumption)

theorem safe_part26 {v153_1 v162 c1_i32_76 k0_t17 arg15 arg16 arg17 arg18}  :
    Safe (defs₀ (F := F)) B R n (k0_part26 i arg2 harg2 arg3 harg3 arg4 harg4 arg5 harg5 arg6
      harg6 arg7 harg7 arg8 harg8 arg9 harg9 arg10 harg10 arg11 harg11 arg12 harg12 arg13 harg13
      v153_1 v162 c1_i32_76 k0_t17 arg15 arg16 arg17 arg18) := by
  unfold k0_part26
  repeat'
    first
      | with_reducible refine SafeP.bind ?_ fun _ => ?_
      | with_reducible exact SafeP.ret trivial
      | exact Safe.load (by assumption)
      | exact Safe.store (by assumption) (by assumption)

theorem safe_part27 {v153_1 v162 c1_i32_76 k0_t17 arg15 arg16 arg17 arg18}  :
    Safe (defs₀ (F := F)) B R n (k0_part27 i arg2 harg2 arg3 harg3 arg4 harg4 arg5 harg5 arg6
      harg6 arg7 harg7 arg8 harg8 arg9 harg9 arg10 harg10 arg11 harg11 arg12 harg12 arg13 harg13
      v153_1 v162 c1_i32_76 k0_t17 arg15 arg16 arg17 arg18) := by
  unfold k0_part27
  repeat'
    first
      | (with_reducible apply safe_part26 <;> assumption)
      | with_reducible refine SafeP.bind ?_ fun _ => ?_
      | with_reducible exact SafeP.ret trivial
      | exact Safe.load (by assumption)
      | exact Safe.store (by assumption) (by assumption)

theorem safe_part28 {v153_1 c0_i32_82 c1_i32_84 k0_t18}  :
    Safe (defs₀ (F := F)) B R n (k0_part28 i arg2 harg2 arg3 harg3 arg4 harg4 arg5 harg5 arg6
      harg6 arg7 harg7 arg8 harg8 arg9 harg9 arg10 harg10 arg11 harg11 arg12 harg12 arg13 harg13
      v153_1 c0_i32_82 c1_i32_84 k0_t18) := by
  unfold k0_part28
  repeat'
    first
      | with_reducible refine SafeP.bind ?_ fun _ => ?_
      | with_reducible exact SafeP.ret trivial
      | exact Safe.load (by assumption)
      | exact Safe.store (by assumption) (by assumption)

theorem safe_part29 {v51 v153_1 v171 v172 v173 k0_t18 arg15 v329 v332 v340 v342 v351 v356 v361
    v363}  :
    Safe (defs₀ (F := F)) B R n (k0_part29 i arg2 harg2 arg3 harg3 arg4 harg4 arg5 harg5 arg6
      harg6 arg7 harg7 arg8 harg8 arg9 harg9 arg10 harg10 arg11 harg11 arg12 harg12 arg13 harg13
      v51 v153_1 v171 v172 v173 k0_t18 arg15 v329 v332 v340 v342 v351 v356 v361 v363) := by
  unfold k0_part29
  repeat'
    first
      | with_reducible refine SafeP.bind ?_ fun _ => ?_
      | with_reducible exact SafeP.ret trivial
      | exact Safe.load (by assumption)
      | exact Safe.store (by assumption) (by assumption)

theorem safe_part30 {v51 v153_1 v171 v173 k0_t18 v332 v335 v338 v344 v346 v356 v361 v372 v374 v399
    v409 v411 v412}  :
    Safe (defs₀ (F := F)) B R n (k0_part30 i arg2 harg2 arg3 harg3 arg4 harg4 arg5 harg5 arg6
      harg6 arg7 harg7 arg8 harg8 arg9 harg9 arg10 harg10 arg11 harg11 arg12 harg12 arg13 harg13
      v51 v153_1 v171 v173 k0_t18 v332 v335 v338 v344 v346 v356 v361 v372 v374 v399 v409 v411
      v412) := by
  unfold k0_part30
  repeat'
    first
      | with_reducible refine SafeP.bind ?_ fun _ => ?_
      | with_reducible exact SafeP.ret trivial
      | exact Safe.load (by assumption)
      | exact Safe.store (by assumption) (by assumption)

theorem safe_part31 {v153_1 k0_t18 v325 v338 v366 v449 v459 v461 v462}  :
    Safe (defs₀ (F := F)) B R n (k0_part31 i arg2 harg2 arg3 harg3 arg4 harg4 arg5 harg5 arg6
      harg6 arg7 harg7 arg8 harg8 arg9 harg9 arg10 harg10 arg11 harg11 arg12 harg12 arg13 harg13
      v153_1 k0_t18 v325 v338 v366 v449 v459 v461 v462) := by
  unfold k0_part31
  repeat'
    first
      | with_reducible refine SafeP.bind ?_ fun _ => ?_
      | with_reducible exact SafeP.ret trivial
      | exact Safe.load (by assumption)
      | exact Safe.store (by assumption) (by assumption)

theorem safe_part32 {v51 v153_1 v171 v172 v173 k0_t18 v474 v478 v489 v493 v495 v500 v502}  :
    Safe (defs₀ (F := F)) B R n (k0_part32 i arg2 harg2 arg3 harg3 arg4 harg4 arg5 harg5 arg6
      harg6 arg7 harg7 arg8 harg8 arg9 harg9 arg10 harg10 arg11 harg11 arg12 harg12 arg13 harg13
      v51 v153_1 v171 v172 v173 k0_t18 v474 v478 v489 v493 v495 v500 v502) := by
  unfold k0_part32
  repeat'
    first
      | with_reducible refine SafeP.bind ?_ fun _ => ?_
      | with_reducible exact SafeP.ret trivial
      | exact Safe.load (by assumption)
      | exact Safe.store (by assumption) (by assumption)

theorem safe_part33 {v51 v153_1 v171 v173 k0_t18 v474 v481 v484 v491 v493 v505 v510 v519 v521
    v547}  :
    Safe (defs₀ (F := F)) B R n (k0_part33 i arg2 harg2 arg3 harg3 arg4 harg4 arg5 harg5 arg6
      harg6 arg7 harg7 arg8 harg8 arg9 harg9 arg10 harg10 arg11 harg11 arg12 harg12 arg13 harg13
      v51 v153_1 v171 v173 k0_t18 v474 v481 v484 v491 v493 v505 v510 v519 v521 v547) := by
  unfold k0_part33
  repeat'
    first
      | with_reducible refine SafeP.bind ?_ fun _ => ?_
      | with_reducible exact SafeP.ret trivial
      | exact Safe.load (by assumption)
      | exact Safe.store (by assumption) (by assumption)

theorem safe_part34 {v51 v153_1 v171 v173 k0_t18 v325 v487 v495 v515 v523 v573 v597}  :
    Safe (defs₀ (F := F)) B R n (k0_part34 i arg2 harg2 arg3 harg3 arg4 harg4 arg5 harg5 arg6
      harg6 arg7 harg7 arg8 harg8 arg9 harg9 arg10 harg10 arg11 harg11 arg12 harg12 arg13 harg13
      v51 v153_1 v171 v173 k0_t18 v325 v487 v495 v515 v523 v573 v597) := by
  unfold k0_part34
  repeat'
    first
      | with_reducible refine SafeP.bind ?_ fun _ => ?_
      | with_reducible exact SafeP.ret trivial
      | exact Safe.load (by assumption)
      | exact Safe.store (by assumption) (by assumption)

theorem safe_part35 {v51 v153_1 v171 v172 v173 k0_t18 v623 v627 v636 v638 v640}  :
    Safe (defs₀ (F := F)) B R n (k0_part35 i arg2 harg2 arg3 harg3 arg4 harg4 arg5 harg5 arg6
      harg6 arg7 harg7 arg8 harg8 arg9 harg9 arg10 harg10 arg11 harg11 arg12 harg12 arg13 harg13
      v51 v153_1 v171 v172 v173 k0_t18 v623 v627 v636 v638 v640) := by
  unfold k0_part35
  repeat'
    first
      | with_reducible refine SafeP.bind ?_ fun _ => ?_
      | with_reducible exact SafeP.ret trivial
      | exact Safe.load (by assumption)
      | exact Safe.store (by assumption) (by assumption)

theorem safe_part36 {v51 v153_1 v171 v173 k0_t18 v623 v627 v630 v633 v640 v642 v649 v654 v668 v670
    v687}  :
    Safe (defs₀ (F := F)) B R n (k0_part36 i arg2 harg2 arg3 harg3 arg4 harg4 arg5 harg5 arg6
      harg6 arg7 harg7 arg8 harg8 arg9 harg9 arg10 harg10 arg11 harg11 arg12 harg12 arg13 harg13
      v51 v153_1 v171 v173 k0_t18 v623 v627 v630 v633 v640 v642 v649 v654 v668 v670 v687) := by
  unfold k0_part36
  repeat'
    first
      | with_reducible refine SafeP.bind ?_ fun _ => ?_
      | with_reducible exact SafeP.ret trivial
      | exact Safe.load (by assumption)
      | exact Safe.store (by assumption) (by assumption)

theorem safe_part37 {v51 v153_1 v171 v173 k0_t18 v325 v633 v636 v644 v659 v664 v672 v722 v737}  :
    Safe (defs₀ (F := F)) B R n (k0_part37 i arg2 harg2 arg3 harg3 arg4 harg4 arg5 harg5 arg6
      harg6 arg7 harg7 arg8 harg8 arg9 harg9 arg10 harg10 arg11 harg11 arg12 harg12 arg13 harg13
      v51 v153_1 v171 v173 k0_t18 v325 v633 v636 v644 v659 v664 v672 v722 v737) := by
  unfold k0_part37
  repeat'
    first
      | with_reducible refine SafeP.bind ?_ fun _ => ?_
      | with_reducible exact SafeP.ret trivial
      | exact Safe.load (by assumption)
      | exact Safe.store (by assumption) (by assumption)

theorem safe_part38 {v153_1 v172 k0_t18 v773 v776 v779 v780 c256_i32_326}  :
    Safe (defs₀ (F := F)) B R n (k0_part38 i arg2 harg2 arg3 harg3 arg4 harg4 arg5 harg5 arg6
      harg6 arg7 harg7 arg8 harg8 arg9 harg9 arg10 harg10 arg11 harg11 arg12 harg12 arg13 harg13
      v153_1 v172 k0_t18 v773 v776 v779 v780 c256_i32_326) := by
  unfold k0_part38
  repeat'
    first
      | with_reducible refine SafeP.bind ?_ fun _ => ?_
      | with_reducible exact SafeP.ret trivial
      | exact Safe.load (by assumption)
      | exact Safe.store (by assumption) (by assumption)

theorem safe_part39 {v51 v153_1 v171 v173 k0_t18 v772 v776 v779 v787 v789 v798 v803 v815 v817
    v822}  :
    Safe (defs₀ (F := F)) B R n (k0_part39 i arg2 harg2 arg3 harg3 arg4 harg4 arg5 harg5 arg6
      harg6 arg7 harg7 arg8 harg8 arg9 harg9 arg10 harg10 arg11 harg11 arg12 harg12 arg13 harg13
      v51 v153_1 v171 v173 k0_t18 v772 v776 v779 v787 v789 v798 v803 v815 v817 v822) := by
  unfold k0_part39
  repeat'
    first
      | with_reducible refine SafeP.bind ?_ fun _ => ?_
      | with_reducible exact SafeP.ret trivial
      | exact Safe.load (by assumption)
      | exact Safe.store (by assumption) (by assumption)

theorem safe_part40 {v51 v153_1 v171 v172 v173 c0_i32_82 c1_i32_84 k0_t18 arg15}  :
    Safe (defs₀ (F := F)) B R n (k0_part40 i arg2 harg2 arg3 harg3 arg4 harg4 arg5 harg5 arg6
      harg6 arg7 harg7 arg8 harg8 arg9 harg9 arg10 harg10 arg11 harg11 arg12 harg12 arg13 harg13
      v51 v153_1 v171 v172 v173 c0_i32_82 c1_i32_84 k0_t18 arg15) := by
  unfold k0_part40
  repeat'
    first
      | (with_reducible apply safe_part28 <;> assumption)
      | (with_reducible apply safe_part29 <;> assumption)
      | (with_reducible apply safe_part30 <;> assumption)
      | (with_reducible apply safe_part31 <;> assumption)
      | (with_reducible apply safe_part32 <;> assumption)
      | (with_reducible apply safe_part33 <;> assumption)
      | (with_reducible apply safe_part34 <;> assumption)
      | (with_reducible apply safe_part35 <;> assumption)
      | (with_reducible apply safe_part36 <;> assumption)
      | (with_reducible apply safe_part37 <;> assumption)
      | (with_reducible apply safe_part38 <;> assumption)
      | (with_reducible apply safe_part39 <;> assumption)
      | with_reducible refine SafeP.bind ?_ fun _ => ?_
      | with_reducible exact SafeP.ret trivial
      | exact Safe.load (by assumption)
      | exact Safe.store (by assumption) (by assumption)

theorem safe_part41 {v153_1 v179 c1_i32_85 k0_t19}  :
    Safe (defs₀ (F := F)) B R n (k0_part41 i arg2 harg2 arg3 harg3 arg4 harg4 arg5 harg5 arg6
      harg6 arg7 harg7 arg8 harg8 arg9 harg9 arg10 harg10 arg11 harg11 arg12 harg12 arg13 harg13
      v153_1 v179 c1_i32_85 k0_t19) := by
  unfold k0_part41
  repeat'
    first
      | with_reducible refine SafeP.bind ?_ fun _ => ?_
      | with_reducible exact SafeP.ret trivial
      | exact Safe.load (by assumption)
      | exact Safe.store (by assumption) (by assumption)

theorem safe_part42 {v51 v153_1 v171 v172 v173 k0_t19 arg15 v329 v332 v340 v342 v351 v356 v361
    v363}  :
    Safe (defs₀ (F := F)) B R n (k0_part42 i arg2 harg2 arg3 harg3 arg4 harg4 arg5 harg5 arg6
      harg6 arg7 harg7 arg8 harg8 arg9 harg9 arg10 harg10 arg11 harg11 arg12 harg12 arg13 harg13
      v51 v153_1 v171 v172 v173 k0_t19 arg15 v329 v332 v340 v342 v351 v356 v361 v363) := by
  unfold k0_part42
  repeat'
    first
      | with_reducible refine SafeP.bind ?_ fun _ => ?_
      | with_reducible exact SafeP.ret trivial
      | exact Safe.load (by assumption)
      | exact Safe.store (by assumption) (by assumption)

theorem safe_part43 {v51 v153_1 v171 v173 k0_t19 v332 v335 v338 v344 v346 v356 v361 v372 v374 v399
    v409 v411 v412}  :
    Safe (defs₀ (F := F)) B R n (k0_part43 i arg2 harg2 arg3 harg3 arg4 harg4 arg5 harg5 arg6
      harg6 arg7 harg7 arg8 harg8 arg9 harg9 arg10 harg10 arg11 harg11 arg12 harg12 arg13 harg13
      v51 v153_1 v171 v173 k0_t19 v332 v335 v338 v344 v346 v356 v361 v372 v374 v399 v409 v411
      v412) := by
  unfold k0_part43
  repeat'
    first
      | with_reducible refine SafeP.bind ?_ fun _ => ?_
      | with_reducible exact SafeP.ret trivial
      | exact Safe.load (by assumption)
      | exact Safe.store (by assumption) (by assumption)

theorem safe_part44 {v153_1 k0_t19 v325 v338 v366 v449 v459 v461 v462}  :
    Safe (defs₀ (F := F)) B R n (k0_part44 i arg2 harg2 arg3 harg3 arg4 harg4 arg5 harg5 arg6
      harg6 arg7 harg7 arg8 harg8 arg9 harg9 arg10 harg10 arg11 harg11 arg12 harg12 arg13 harg13
      v153_1 k0_t19 v325 v338 v366 v449 v459 v461 v462) := by
  unfold k0_part44
  repeat'
    first
      | with_reducible refine SafeP.bind ?_ fun _ => ?_
      | with_reducible exact SafeP.ret trivial
      | exact Safe.load (by assumption)
      | exact Safe.store (by assumption) (by assumption)

theorem safe_part45 {v51 v153_1 v171 v172 v173 k0_t19 v474 v478 v489 v493 v495 v500 v502}  :
    Safe (defs₀ (F := F)) B R n (k0_part45 i arg2 harg2 arg3 harg3 arg4 harg4 arg5 harg5 arg6
      harg6 arg7 harg7 arg8 harg8 arg9 harg9 arg10 harg10 arg11 harg11 arg12 harg12 arg13 harg13
      v51 v153_1 v171 v172 v173 k0_t19 v474 v478 v489 v493 v495 v500 v502) := by
  unfold k0_part45
  repeat'
    first
      | with_reducible refine SafeP.bind ?_ fun _ => ?_
      | with_reducible exact SafeP.ret trivial
      | exact Safe.load (by assumption)
      | exact Safe.store (by assumption) (by assumption)

theorem safe_part46 {v51 v153_1 v171 v173 k0_t19 v474 v481 v484 v491 v493 v505 v510 v519 v521
    v547}  :
    Safe (defs₀ (F := F)) B R n (k0_part46 i arg2 harg2 arg3 harg3 arg4 harg4 arg5 harg5 arg6
      harg6 arg7 harg7 arg8 harg8 arg9 harg9 arg10 harg10 arg11 harg11 arg12 harg12 arg13 harg13
      v51 v153_1 v171 v173 k0_t19 v474 v481 v484 v491 v493 v505 v510 v519 v521 v547) := by
  unfold k0_part46
  repeat'
    first
      | with_reducible refine SafeP.bind ?_ fun _ => ?_
      | with_reducible exact SafeP.ret trivial
      | exact Safe.load (by assumption)
      | exact Safe.store (by assumption) (by assumption)

theorem safe_part47 {v51 v153_1 v171 v173 k0_t19 v325 v487 v495 v515 v523 v573 v597}  :
    Safe (defs₀ (F := F)) B R n (k0_part47 i arg2 harg2 arg3 harg3 arg4 harg4 arg5 harg5 arg6
      harg6 arg7 harg7 arg8 harg8 arg9 harg9 arg10 harg10 arg11 harg11 arg12 harg12 arg13 harg13
      v51 v153_1 v171 v173 k0_t19 v325 v487 v495 v515 v523 v573 v597) := by
  unfold k0_part47
  repeat'
    first
      | with_reducible refine SafeP.bind ?_ fun _ => ?_
      | with_reducible exact SafeP.ret trivial
      | exact Safe.load (by assumption)
      | exact Safe.store (by assumption) (by assumption)

theorem safe_part48 {v51 v153_1 v171 v172 v173 k0_t19 v623 v627 v636 v638 v640}  :
    Safe (defs₀ (F := F)) B R n (k0_part48 i arg2 harg2 arg3 harg3 arg4 harg4 arg5 harg5 arg6
      harg6 arg7 harg7 arg8 harg8 arg9 harg9 arg10 harg10 arg11 harg11 arg12 harg12 arg13 harg13
      v51 v153_1 v171 v172 v173 k0_t19 v623 v627 v636 v638 v640) := by
  unfold k0_part48
  repeat'
    first
      | with_reducible refine SafeP.bind ?_ fun _ => ?_
      | with_reducible exact SafeP.ret trivial
      | exact Safe.load (by assumption)
      | exact Safe.store (by assumption) (by assumption)

theorem safe_part49 {v51 v153_1 v171 v173 k0_t19 v623 v627 v630 v633 v640 v642 v649 v654 v668 v670
    v687}  :
    Safe (defs₀ (F := F)) B R n (k0_part49 i arg2 harg2 arg3 harg3 arg4 harg4 arg5 harg5 arg6
      harg6 arg7 harg7 arg8 harg8 arg9 harg9 arg10 harg10 arg11 harg11 arg12 harg12 arg13 harg13
      v51 v153_1 v171 v173 k0_t19 v623 v627 v630 v633 v640 v642 v649 v654 v668 v670 v687) := by
  unfold k0_part49
  repeat'
    first
      | with_reducible refine SafeP.bind ?_ fun _ => ?_
      | with_reducible exact SafeP.ret trivial
      | exact Safe.load (by assumption)
      | exact Safe.store (by assumption) (by assumption)

theorem safe_part50 {v51 v153_1 v171 v173 k0_t19 v325 v633 v636 v644 v659 v664 v672 v722 v737}  :
    Safe (defs₀ (F := F)) B R n (k0_part50 i arg2 harg2 arg3 harg3 arg4 harg4 arg5 harg5 arg6
      harg6 arg7 harg7 arg8 harg8 arg9 harg9 arg10 harg10 arg11 harg11 arg12 harg12 arg13 harg13
      v51 v153_1 v171 v173 k0_t19 v325 v633 v636 v644 v659 v664 v672 v722 v737) := by
  unfold k0_part50
  repeat'
    first
      | with_reducible refine SafeP.bind ?_ fun _ => ?_
      | with_reducible exact SafeP.ret trivial
      | exact Safe.load (by assumption)
      | exact Safe.store (by assumption) (by assumption)

theorem safe_part51 {v153_1 v172 k0_t19 v773 v776 v779 v780 c256_i32_326}  :
    Safe (defs₀ (F := F)) B R n (k0_part51 i arg2 harg2 arg3 harg3 arg4 harg4 arg5 harg5 arg6
      harg6 arg7 harg7 arg8 harg8 arg9 harg9 arg10 harg10 arg11 harg11 arg12 harg12 arg13 harg13
      v153_1 v172 k0_t19 v773 v776 v779 v780 c256_i32_326) := by
  unfold k0_part51
  repeat'
    first
      | with_reducible refine SafeP.bind ?_ fun _ => ?_
      | with_reducible exact SafeP.ret trivial
      | exact Safe.load (by assumption)
      | exact Safe.store (by assumption) (by assumption)

theorem safe_part52 {v51 v153_1 v171 v173 k0_t19 v772 v776 v779 v787 v789 v798 v803 v815 v817
    v822}  :
    Safe (defs₀ (F := F)) B R n (k0_part52 i arg2 harg2 arg3 harg3 arg4 harg4 arg5 harg5 arg6
      harg6 arg7 harg7 arg8 harg8 arg9 harg9 arg10 harg10 arg11 harg11 arg12 harg12 arg13 harg13
      v51 v153_1 v171 v173 k0_t19 v772 v776 v779 v787 v789 v798 v803 v815 v817 v822) := by
  unfold k0_part52
  repeat'
    first
      | with_reducible refine SafeP.bind ?_ fun _ => ?_
      | with_reducible exact SafeP.ret trivial
      | exact Safe.load (by assumption)
      | exact Safe.store (by assumption) (by assumption)

theorem safe_part53 {v51 v153_1 v171 v172 v173 v179 c1_i32_85 k0_t19 arg15}  :
    Safe (defs₀ (F := F)) B R n (k0_part53 i arg2 harg2 arg3 harg3 arg4 harg4 arg5 harg5 arg6
      harg6 arg7 harg7 arg8 harg8 arg9 harg9 arg10 harg10 arg11 harg11 arg12 harg12 arg13 harg13
      v51 v153_1 v171 v172 v173 v179 c1_i32_85 k0_t19 arg15) := by
  unfold k0_part53
  repeat'
    first
      | (with_reducible apply safe_part41 <;> assumption)
      | (with_reducible apply safe_part42 <;> assumption)
      | (with_reducible apply safe_part43 <;> assumption)
      | (with_reducible apply safe_part44 <;> assumption)
      | (with_reducible apply safe_part45 <;> assumption)
      | (with_reducible apply safe_part46 <;> assumption)
      | (with_reducible apply safe_part47 <;> assumption)
      | (with_reducible apply safe_part48 <;> assumption)
      | (with_reducible apply safe_part49 <;> assumption)
      | (with_reducible apply safe_part50 <;> assumption)
      | (with_reducible apply safe_part51 <;> assumption)
      | (with_reducible apply safe_part52 <;> assumption)
      | with_reducible refine SafeP.bind ?_ fun _ => ?_
      | with_reducible exact SafeP.ret trivial
      | exact Safe.load (by assumption)
      | exact Safe.store (by assumption) (by assumption)

theorem safe_part54 {v153_1 v182 k0_h3}  :
    Safe (defs₀ (F := F)) B R n (k0_part54 i arg2 harg2 arg3 harg3 arg4 harg4 arg5 harg5 arg6
      harg6 arg7 harg7 arg8 harg8 arg9 harg9 arg10 harg10 arg11 harg11 arg12 harg12 arg13 harg13
      v153_1 v182 k0_h3) := by
  unfold k0_part54
  repeat'
    first
      | with_reducible refine SafeP.bind ?_ fun _ => ?_
      | with_reducible exact SafeP.ret trivial
      | exact Safe.load (by assumption)
      | exact Safe.store (by assumption) (by assumption)

theorem safe_part55 {v51 v153_1 v171 v172 v173 v181 k0_h3 v328 v331 v339 v341 v350 v355 v360 v362
    cst_217 v363}  :
    Safe (defs₀ (F := F)) B R n (k0_part55 i arg2 harg2 arg3 harg3 arg4 harg4 arg5 harg5 arg6
      harg6 arg7 harg7 arg8 harg8 arg9 harg9 arg10 harg10 arg11 harg11 arg12 harg12 arg13 harg13
      v51 v153_1 v171 v172 v173 v181 k0_h3 v328 v331 v339 v341 v350 v355 v360 v362 cst_217 v363) := by
  unfold k0_part55
  repeat'
    first
      | with_reducible refine SafeP.bind ?_ fun _ => ?_
      | with_reducible exact SafeP.ret trivial
      | exact Safe.load (by assumption)
      | exact Safe.store (by assumption) (by assumption)

theorem safe_part56 {v51 v153_1 v171 v173 k0_h3 v331 v334 v337 v343 v345 v355 v360 v371 v373 v398
    v413 cst_226}  :
    Safe (defs₀ (F := F)) B R n (k0_part56 i arg2 harg2 arg3 harg3 arg4 harg4 arg5 harg5 arg6
      harg6 arg7 harg7 arg8 harg8 arg9 harg9 arg10 harg10 arg11 harg11 arg12 harg12 arg13 harg13
      v51 v153_1 v171 v173 k0_h3 v331 v334 v337 v343 v345 v355 v360 v371 v373 v398 v413 cst_226) := by
  unfold k0_part56
  repeat'
    first
      | with_reducible refine SafeP.bind ?_ fun _ => ?_
      | with_reducible exact SafeP.ret trivial
      | exact Safe.load (by assumption)
      | exact Safe.store (by assumption) (by assumption)

theorem safe_part57 {v153_1 v182 k0_h3 v337 v365 v448 v463 cst_234}  :
    Safe (defs₀ (F := F)) B R n (k0_part57 i arg2 harg2 arg3 harg3 arg4 harg4 arg5 harg5 arg6
      harg6 arg7 harg7 arg8 harg8 arg9 harg9 arg10 harg10 arg11 harg11 arg12 harg12 arg13 harg13
      v153_1 v182 k0_h3 v337 v365 v448 v463 cst_234) := by
  unfold k0_part57
  repeat'
    first
      | with_reducible refine SafeP.bind ?_ fun _ => ?_
      | with_reducible exact SafeP.ret trivial
      | exact Safe.load (by assumption)
      | exact Safe.store (by assumption) (by assumption)

theorem safe_part58 {v51 v153_1 v171 v172 v173 k0_h3 v473 v477 v488 v490 v492 v494 v499 v501
    cst_254 v502}  :
    Safe (defs₀ (F := F)) B R n (k0_part58 i arg2 harg2 arg3 harg3 arg4 harg4 arg5 harg5 arg6
      harg6 arg7 harg7 arg8 harg8 arg9 harg9 arg10 harg10 arg11 harg11 arg12 harg12 arg13 harg13
      v51 v153_1 v171 v172 v173 k0_h3 v473 v477 v488 v490 v492 v494 v499 v501 cst_254 v502) := by
  unfold k0_part58
  repeat'
    first
      | with_reducible refine SafeP.bind ?_ fun _ => ?_
      | with_reducible exact SafeP.ret trivial
      | exact Safe.load (by assumption)
      | exact Safe.store (by assumption) (by assumption)

theorem safe_part59 {v51 v153_1 v171 v173 k0_h3 v480 v483 v490 v492 v494 v504 v509 v518 v520 v547
    v549}  :
    Safe (defs₀ (F := F)) B R n (k0_part59 i arg2 harg2 arg3 harg3 arg4 harg4 arg5 harg5 arg6
      harg6 arg7 harg7 arg8 harg8 arg9 harg9 arg10 harg10 arg11 harg11 arg12 harg12 arg13 harg13
      v51 v153_1 v171 v173 k0_h3 v480 v483 v490 v492 v494 v504 v509 v518 v520 v547 v549) := by
  unfold k0_part59
  repeat'
    first
      | with_reducible refine SafeP.bind ?_ fun _ => ?_
      | with_reducible exact SafeP.ret trivial
      | exact Safe.load (by assumption)
      | exact Safe.store (by assumption) (by assumption)

end

end Cert.Proof.Body
-- ==== Proof.BodyB.lean ====
module

public import proofs.«01_k».proof.Proof.Safe
public import proofs.«01_k».proof.Kernel

@[expose] public section

/-! The frames of the pieces the kernel body was printed in: each runs, and leaves the input blocks as they were. Pieces 60 to 110. -/

namespace Cert.Proof.Body

open Idealize.ShloMosaic Idealize.SL.Sem
open Cert.Kernel Cert.Proof.Pure

variable {F : FTy → Type} [BitOps F] [Facts] {B R : Finset (Ref sig .tc)} {n : ℕ}
variable {i : grid0.Coords}
variable {arg2 : Memref sig .tc .vmem S1x512x128 .bf16} {harg2 : arg2.IsWhole}
variable {arg3 : Memref sig .tc .vmem S1x256x128 .bf16} {harg3 : arg3.IsWhole}
variable {arg4 : Memref sig .tc .vmem S1x8x128 .f32} {harg4 : arg4.IsWhole}
variable {arg5 : Memref sig .tc .vmem S1x4096x128 .bf16} {harg5 : arg5.IsWhole}
variable {arg6 : Memref sig .tc .vmem S1x4096x128 .bf16} {harg6 : arg6.IsWhole}
variable {arg7 : Memref sig .tc .vmem S1x16x128x256 .bf16} {harg7 : arg7.IsWhole}
variable {arg8 : Memref sig .tc .vmem S128x128 .bf16} {harg8 : arg8.IsWhole}
variable {arg9 : Memref sig .tc .vmem S1x512x128 .f32} {harg9 : arg9.IsWhole}
variable {arg10 : Memref sig .tc .vmem S4096x128 .i32} {harg10 : arg10.IsWhole}
variable {arg11 : Memref sig .tc .vmem S4096x128 .f32} {harg11 : arg11.IsWhole}
variable {arg12 : Memref sig .tc .vmem S16x2x256x512 .f32} {harg12 : arg12.IsWhole}
variable {arg13 : Memref sig .tc .vmem S2x80x512 .f32} {harg13 : arg13.IsWhole}

section

variable (b2 : arg2.view.ref ∈ B)
variable (b3 : arg3.view.ref ∈ B)
variable (b4 : arg4.view.ref ∈ B)
variable (b5 : arg5.view.ref ∈ B)
variable (b6 : arg6.view.ref ∈ B)
variable (b7 : arg7.view.ref ∈ B)
variable (b8 : arg8.view.ref ∈ B)
variable (b9 : arg9.view.ref ∈ B) (r9 : arg9.view.ref ∉ R)
variable (b10 : arg10.view.ref ∈ B) (r10 : arg10.view.ref ∉ R)
variable (b11 : arg11.view.ref ∈ B) (r11 : arg11.view.ref ∉ R)
variable (b12 : arg12.view.ref ∈ B) (r12 : arg12.view.ref ∉ R)
variable (b13 : arg13.view.ref ∈ B) (r13 : arg13.view.ref ∉ R)

include b2 b3 b4 b5 b6 b7 b8 b9 r9 b10 r10 b11 r11 b12 r12 b13 r13

theorem safe_part60 {v153_1 v189 k0_h4}  :
    Safe (defs₀ (F := F)) B R n (k0_part60 i arg2 harg2 arg3 harg3 arg4 harg4 arg5 harg5 arg6
      harg6 arg7 harg7 arg8 harg8 arg9 harg9 arg10 harg10 arg11 harg11 arg12 harg12 arg13 harg13
      v153_1 v189 k0_h4) := by
  unfold k0_part60
  repeat'
    first
      | with_reducible refine SafeP.bind ?_ fun _ => ?_
      | with_reducible exact SafeP.ret trivial
      | exact Safe.load (by assumption)
      | exact Safe.store (by assumption) (by assumption)

theorem safe_part61 {v51 v153_1 v171 v172 v173 v187 k0_h4 v328 v331 v339 v341 v350 v355 v360 v362
    cst_217 v363}  :
    Safe (defs₀ (F := F)) B R n (k0_part61 i arg2 harg2 arg3 harg3 arg4 harg4 arg5 harg5 arg6
      harg6 arg7 harg7 arg8 harg8 arg9 harg9 arg10 harg10 arg11 harg11 arg12 harg12 arg13 harg13
      v51 v153_1 v171 v172 v173 v187 k0_h4 v328 v331 v339 v341 v350 v355 v360 v362 cst_217 v363) := by
  unfold k0_part61
  repeat'
    first
      | with_reducible refine SafeP.bind ?_ fun _ => ?_
      | with_reducible exact SafeP.ret trivial
      | exact Safe.load (by assumption)
      | exact Safe.store (by assumption) (by assumption)

theorem safe_part62 {v51 v153_1 v171 v173 k0_h4 v331 v334 v337 v343 v345 v355 v360 v371 v373 v398
    v413 cst_226}  :
    Safe (defs₀ (F := F)) B R n (k0_part62 i arg2 harg2 arg3 harg3 arg4 harg4 arg5 harg5 arg6
      harg6 arg7 harg7 arg8 harg8 arg9 harg9 arg10 harg10 arg11 harg11 arg12 harg12 arg13 harg13
      v51 v153_1 v171 v173 k0_h4 v331 v334 v337 v343 v345 v355 v360 v371 v373 v398 v413 cst_226) := by
  unfold k0_part62
  repeat'
    first
      | with_reducible refine SafeP.bind ?_ fun _ => ?_
      | with_reducible exact SafeP.ret trivial
      | exact Safe.load (by assumption)
      | exact Safe.store (by assumption) (by assumption)

theorem safe_part63 {v200 v205 c0_i32_100 c1_i32_102 k0_t20 arg15}  :
    Safe (defs₀ (F := F)) B R n (k0_part63 i arg2 harg2 arg3 harg3 arg4 harg4 arg5 harg5 arg6
      harg6 arg7 harg7 arg8 harg8 arg9 harg9 arg10 harg10 arg11 harg11 arg12 harg12 arg13 harg13
      v200 v205 c0_i32_100 c1_i32_102 k0_t20 arg15) := by
  unfold k0_part63
  repeat'
    first
      | with_reducible refine SafeP.bind ?_ fun _ => ?_
      | with_reducible exact SafeP.ret trivial
      | exact Safe.load (by assumption)
      | exact Safe.store (by assumption) (by assumption)

theorem safe_part64 {v200 v205 k0_t20 arg16 v326 v352 v365}  :
    Safe (defs₀ (F := F)) B R n (k0_part64 i arg2 harg2 arg3 harg3 arg4 harg4 arg5 harg5 arg6
      harg6 arg7 harg7 arg8 harg8 arg9 harg9 arg10 harg10 arg11 harg11 arg12 harg12 arg13 harg13
      v200 v205 k0_t20 arg16 v326 v352 v365) := by
  unfold k0_part64
  repeat'
    first
      | with_reducible refine SafeP.bind ?_ fun _ => ?_
      | with_reducible exact SafeP.ret trivial
      | exact Safe.load (by assumption)
      | exact Safe.store (by assumption) (by assumption)

theorem safe_part65 {v200 k0_t20 v325 v372 v374 v378 v398 v402 v404 v406}  :
    Safe (defs₀ (F := F)) B R n (k0_part65 i arg2 harg2 arg3 harg3 arg4 harg4 arg5 harg5 arg6
      harg6 arg7 harg7 arg8 harg8 arg9 harg9 arg10 harg10 arg11 harg11 arg12 harg12 arg13 harg13
      v200 k0_t20 v325 v372 v374 v378 v398 v402 v404 v406) := by
  unfold k0_part65
  repeat'
    first
      | with_reducible refine SafeP.bind ?_ fun _ => ?_
      | with_reducible exact SafeP.ret trivial
      | exact Safe.load (by assumption)
      | exact Safe.store (by assumption) (by assumption)

theorem safe_part66 {v200 v205 k0_t20 v418 v419 v421 v425}  :
    Safe (defs₀ (F := F)) B R n (k0_part66 i arg2 harg2 arg3 harg3 arg4 harg4 arg5 harg5 arg6
      harg6 arg7 harg7 arg8 harg8 arg9 harg9 arg10 harg10 arg11 harg11 arg12 harg12 arg13 harg13
      v200 v205 k0_t20 v418 v419 v421 v425) := by
  unfold k0_part66
  repeat'
    first
      | with_reducible refine SafeP.bind ?_ fun _ => ?_
      | with_reducible exact SafeP.ret trivial
      | exact Safe.load (by assumption)
      | exact Safe.store (by assumption) (by assumption)

theorem safe_part67 {v200 v205 k0_t20 v325 v445 v465 v467 v469 v471 v489}  :
    Safe (defs₀ (F := F)) B R n (k0_part67 i arg2 harg2 arg3 harg3 arg4 harg4 arg5 harg5 arg6
      harg6 arg7 harg7 arg8 harg8 arg9 harg9 arg10 harg10 arg11 harg11 arg12 harg12 arg13 harg13
      v200 v205 k0_t20 v325 v445 v465 v467 v469 v471 v489) := by
  unfold k0_part67
  repeat'
    first
      | with_reducible refine SafeP.bind ?_ fun _ => ?_
      | with_reducible exact SafeP.ret trivial
      | exact Safe.load (by assumption)
      | exact Safe.store (by assumption) (by assumption)

theorem safe_part68 {v200 v205 k0_t20 v491 v511 v512 v514 v516 v518 v531}  :
    Safe (defs₀ (F := F)) B R n (k0_part68 i arg2 harg2 arg3 harg3 arg4 harg4 arg5 harg5 arg6
      harg6 arg7 harg7 arg8 harg8 arg9 harg9 arg10 harg10 arg11 harg11 arg12 harg12 arg13 harg13
      v200 v205 k0_t20 v491 v511 v512 v514 v516 v518 v531) := by
  unfold k0_part68
  repeat'
    first
      | with_reducible refine SafeP.bind ?_ fun _ => ?_
      | with_reducible exact SafeP.ret trivial
      | exact Safe.load (by assumption)
      | exact Safe.store (by assumption) (by assumption)

theorem safe_part69 {v205 k0_t20 v325 v538 v558 v560 v562 v564 v568 v570 v572}  :
    Safe (defs₀ (F := F)) B R n (k0_part69 i arg2 harg2 arg3 harg3 arg4 harg4 arg5 harg5 arg6
      harg6 arg7 harg7 arg8 harg8 arg9 harg9 arg10 harg10 arg11 harg11 arg12 harg12 arg13 harg13
      v205 k0_t20 v325 v538 v558 v560 v562 v564 v568 v570 v572) := by
  unfold k0_part69
  repeat'
    first
      | with_reducible refine SafeP.bind ?_ fun _ => ?_
      | with_reducible exact SafeP.ret trivial
      | exact Safe.load (by assumption)
      | exact Safe.store (by assumption) (by assumption)

theorem safe_part70 {v200 v205 k0_t20 v584 v604 v605 v607 v609 v611}  :
    Safe (defs₀ (F := F)) B R n (k0_part70 i arg2 harg2 arg3 harg3 arg4 harg4 arg5 harg5 arg6
      harg6 arg7 harg7 arg8 harg8 arg9 harg9 arg10 harg10 arg11 harg11 arg12 harg12 arg13 harg13
      v200 v205 k0_t20 v584 v604 v605 v607 v609 v611) := by
  unfold k0_part70
  repeat'
    first
      | with_reducible refine SafeP.bind ?_ fun _ => ?_
      | with_reducible exact SafeP.ret trivial
      | exact Safe.load (by assumption)
      | exact Safe.store (by assumption) (by assumption)

theorem safe_part71 {v200 v205 c0_i32_100 c1_i32_102 k0_t20 arg15 arg16}  :
    Safe (defs₀ (F := F)) B R n (k0_part71 i arg2 harg2 arg3 harg3 arg4 harg4 arg5 harg5 arg6
      harg6 arg7 harg7 arg8 harg8 arg9 harg9 arg10 harg10 arg11 harg11 arg12 harg12 arg13 harg13
      v200 v205 c0_i32_100 c1_i32_102 k0_t20 arg15 arg16) := by
  unfold k0_part71
  repeat'
    first
      | (with_reducible apply safe_part63 <;> assumption)
      | (with_reducible apply safe_part64 <;> assumption)
      | (with_reducible apply safe_part65 <;> assumption)
      | (with_reducible apply safe_part66 <;> assumption)
      | (with_reducible apply safe_part67 <;> assumption)
      | (with_reducible apply safe_part68 <;> assumption)
      | (with_reducible apply safe_part69 <;> assumption)
      | (with_reducible apply safe_part70 <;> assumption)
      | with_reducible refine SafeP.bind ?_ fun _ => ?_
      | with_reducible exact SafeP.ret trivial
      | exact Safe.load (by assumption)
      | exact Safe.store (by assumption) (by assumption)

theorem safe_part72 {v200 v205 v212 c1_i32_103 k0_t21 arg15}  :
    Safe (defs₀ (F := F)) B R n (k0_part72 i arg2 harg2 arg3 harg3 arg4 harg4 arg5 harg5 arg6
      harg6 arg7 harg7 arg8 harg8 arg9 harg9 arg10 harg10 arg11 harg11 arg12 harg12 arg13 harg13
      v200 v205 v212 c1_i32_103 k0_t21 arg15) := by
  unfold k0_part72
  repeat'
    first
      | with_reducible refine SafeP.bind ?_ fun _ => ?_
      | with_reducible exact SafeP.ret trivial
      | exact Safe.load (by assumption)
      | exact Safe.store (by assumption) (by assumption)

theorem safe_part73 {v200 v205 k0_t21 arg16 v326 v352 v365}  :
    Safe (defs₀ (F := F)) B R n (k0_part73 i arg2 harg2 arg3 harg3 arg4 harg4 arg5 harg5 arg6
      harg6 arg7 harg7 arg8 harg8 arg9 harg9 arg10 harg10 arg11 harg11 arg12 harg12 arg13 harg13
      v200 v205 k0_t21 arg16 v326 v352 v365) := by
  unfold k0_part73
  repeat'
    first
      | with_reducible refine SafeP.bind ?_ fun _ => ?_
      | with_reducible exact SafeP.ret trivial
      | exact Safe.load (by assumption)
      | exact Safe.store (by assumption) (by assumption)

theorem safe_part74 {v200 k0_t21 v325 v372 v374 v378 v398 v402 v404 v406}  :
    Safe (defs₀ (F := F)) B R n (k0_part74 i arg2 harg2 arg3 harg3 arg4 harg4 arg5 harg5 arg6
      harg6 arg7 harg7 arg8 harg8 arg9 harg9 arg10 harg10 arg11 harg11 arg12 harg12 arg13 harg13
      v200 k0_t21 v325 v372 v374 v378 v398 v402 v404 v406) := by
  unfold k0_part74
  repeat'
    first
      | with_reducible refine SafeP.bind ?_ fun _ => ?_
      | with_reducible exact SafeP.ret trivial
      | exact Safe.load (by assumption)
      | exact Safe.store (by assumption) (by assumption)

theorem safe_part75 {v200 v205 k0_t21 v418 v419 v421 v425}  :
    Safe (defs₀ (F := F)) B R n (k0_part75 i arg2 harg2 arg3 harg3 arg4 harg4 arg5 harg5 arg6
      harg6 arg7 harg7 arg8 harg8 arg9 harg9 arg10 harg10 arg11 harg11 arg12 harg12 arg13 harg13
      v200 v205 k0_t21 v418 v419 v421 v425) := by
  unfold k0_part75
  repeat'
    first
      | with_reducible refine SafeP.bind ?_ fun _ => ?_
      | with_reducible exact SafeP.ret trivial
      | exact Safe.load (by assumption)
      | exact Safe.store (by assumption) (by assumption)

theorem safe_part76 {v200 v205 k0_t21 v325 v445 v465 v467 v469 v471 v489}  :
    Safe (defs₀ (F := F)) B R n (k0_part76 i arg2 harg2 arg3 harg3 arg4 harg4 arg5 harg5 arg6
      harg6 arg7 harg7 arg8 harg8 arg9 harg9 arg10 harg10 arg11 harg11 arg12 harg12 arg13 harg13
      v200 v205 k0_t21 v325 v445 v465 v467 v469 v471 v489) := by
  unfold k0_part76
  repeat'
    first
      | with_reducible refine SafeP.bind ?_ fun _ => ?_
      | with_reducible exact SafeP.ret trivial
      | exact Safe.load (by assumption)
      | exact Safe.store (by assumption) (by assumption)

theorem safe_part77 {v200 v205 k0_t21 v491 v511 v512 v514 v516 v518 v531}  :
    Safe (defs₀ (F := F)) B R n (k0_part77 i arg2 harg2 arg3 harg3 arg4 harg4 arg5 harg5 arg6
      harg6 arg7 harg7 arg8 harg8 arg9 harg9 arg10 harg10 arg11 harg11 arg12 harg12 arg13 harg13
      v200 v205 k0_t21 v491 v511 v512 v514 v516 v518 v531) := by
  unfold k0_part77
  repeat'
    first
      | with_reducible refine SafeP.bind ?_ fun _ => ?_
      | with_reducible exact SafeP.ret trivial
      | exact Safe.load (by assumption)
      | exact Safe.store (by assumption) (by assumption)

theorem safe_part78 {v205 k0_t21 v325 v538 v558 v560 v562 v564 v568 v570 v572}  :
    Safe (defs₀ (F := F)) B R n (k0_part78 i arg2 harg2 arg3 harg3 arg4 harg4 arg5 harg5 arg6
      harg6 arg7 harg7 arg8 harg8 arg9 harg9 arg10 harg10 arg11 harg11 arg12 harg12 arg13 harg13
      v205 k0_t21 v325 v538 v558 v560 v562 v564 v568 v570 v572) := by
  unfold k0_part78
  repeat'
    first
      | with_reducible refine SafeP.bind ?_ fun _ => ?_
      | with_reducible exact SafeP.ret trivial
      | exact Safe.load (by assumption)
      | exact Safe.store (by assumption) (by assumption)

theorem safe_part79 {v200 v205 k0_t21 v584 v604 v605 v607 v609 v611}  :
    Safe (defs₀ (F := F)) B R n (k0_part79 i arg2 harg2 arg3 harg3 arg4 harg4 arg5 harg5 arg6
      harg6 arg7 harg7 arg8 harg8 arg9 harg9 arg10 harg10 arg11 harg11 arg12 harg12 arg13 harg13
      v200 v205 k0_t21 v584 v604 v605 v607 v609 v611) := by
  unfold k0_part79
  repeat'
    first
      | with_reducible refine SafeP.bind ?_ fun _ => ?_
      | with_reducible exact SafeP.ret trivial
      | exact Safe.load (by assumption)
      | exact Safe.store (by assumption) (by assumption)

theorem safe_part80 {v200 v205 v212 c1_i32_103 k0_t21 arg15 arg16}  :
    Safe (defs₀ (F := F)) B R n (k0_part80 i arg2 harg2 arg3 harg3 arg4 harg4 arg5 harg5 arg6
      harg6 arg7 harg7 arg8 harg8 arg9 harg9 arg10 harg10 arg11 harg11 arg12 harg12 arg13 harg13
      v200 v205 v212 c1_i32_103 k0_t21 arg15 arg16) := by
  unfold k0_part80
  repeat'
    first
      | (with_reducible apply safe_part72 <;> assumption)
      | (with_reducible apply safe_part73 <;> assumption)
      | (with_reducible apply safe_part74 <;> assumption)
      | (with_reducible apply safe_part75 <;> assumption)
      | (with_reducible apply safe_part76 <;> assumption)
      | (with_reducible apply safe_part77 <;> assumption)
      | (with_reducible apply safe_part78 <;> assumption)
      | (with_reducible apply safe_part79 <;> assumption)
      | with_reducible refine SafeP.bind ?_ fun _ => ?_
      | with_reducible exact SafeP.ret trivial
      | exact Safe.load (by assumption)
      | exact Safe.store (by assumption) (by assumption)

theorem safe_part81 {v200 v205 v214_0 v215 k0_h5}  :
    Safe (defs₀ (F := F)) B R n (k0_part81 i arg2 harg2 arg3 harg3 arg4 harg4 arg5 harg5 arg6
      harg6 arg7 harg7 arg8 harg8 arg9 harg9 arg10 harg10 arg11 harg11 arg12 harg12 arg13 harg13
      v200 v205 v214_0 v215 k0_h5) := by
  unfold k0_part81
  repeat'
    first
      | with_reducible refine SafeP.bind ?_ fun _ => ?_
      | with_reducible exact SafeP.ret trivial
      | exact Safe.load (by assumption)
      | exact Safe.store (by assumption) (by assumption)

theorem safe_part82 {v200 v205 v214_1 k0_h5 v325 v351 v364}  :
    Safe (defs₀ (F := F)) B R n (k0_part82 i arg2 harg2 arg3 harg3 arg4 harg4 arg5 harg5 arg6
      harg6 arg7 harg7 arg8 harg8 arg9 harg9 arg10 harg10 arg11 harg11 arg12 harg12 arg13 harg13
      v200 v205 v214_1 k0_h5 v325 v351 v364) := by
  unfold k0_part82
  repeat'
    first
      | with_reducible refine SafeP.bind ?_ fun _ => ?_
      | with_reducible exact SafeP.ret trivial
      | exact Safe.load (by assumption)
      | exact Safe.store (by assumption) (by assumption)

theorem safe_part83 {v200 v215 k0_h5 v371 v373 v377 v397 v403 v405 v407 v408}  :
    Safe (defs₀ (F := F)) B R n (k0_part83 i arg2 harg2 arg3 harg3 arg4 harg4 arg5 harg5 arg6
      harg6 arg7 harg7 arg8 harg8 arg9 harg9 arg10 harg10 arg11 harg11 arg12 harg12 arg13 harg13
      v200 v215 k0_h5 v371 v373 v377 v397 v403 v405 v407 v408) := by
  unfold k0_part83
  repeat'
    first
      | with_reducible refine SafeP.bind ?_ fun _ => ?_
      | with_reducible exact SafeP.ret trivial
      | exact Safe.load (by assumption)
      | exact Safe.store (by assumption) (by assumption)

theorem safe_part84 {v200 v205 k0_h5 v417 v418 v420 v424 v444 v447 cst_249}  :
    Safe (defs₀ (F := F)) B R n (k0_part84 i arg2 harg2 arg3 harg3 arg4 harg4 arg5 harg5 arg6
      harg6 arg7 harg7 arg8 harg8 arg9 harg9 arg10 harg10 arg11 harg11 arg12 harg12 arg13 harg13
      v200 v205 k0_h5 v417 v418 v420 v424 v444 v447 cst_249) := by
  unfold k0_part84
  repeat'
    first
      | with_reducible refine SafeP.bind ?_ fun _ => ?_
      | with_reducible exact SafeP.ret trivial
      | exact Safe.load (by assumption)
      | exact Safe.store (by assumption) (by assumption)

theorem safe_part85 {v200 v205 v220_0 v222 k0_h6}  :
    Safe (defs₀ (F := F)) B R n (k0_part85 i arg2 harg2 arg3 harg3 arg4 harg4 arg5 harg5 arg6
      harg6 arg7 harg7 arg8 harg8 arg9 harg9 arg10 harg10 arg11 harg11 arg12 harg12 arg13 harg13
      v200 v205 v220_0 v222 k0_h6) := by
  unfold k0_part85
  repeat'
    first
      | with_reducible refine SafeP.bind ?_ fun _ => ?_
      | with_reducible exact SafeP.ret trivial
      | exact Safe.load (by assumption)
      | exact Safe.store (by assumption) (by assumption)

theorem safe_part86 {v200 v205 v220_1 k0_h6 v325 v351 v364}  :
    Safe (defs₀ (F := F)) B R n (k0_part86 i arg2 harg2 arg3 harg3 arg4 harg4 arg5 harg5 arg6
      harg6 arg7 harg7 arg8 harg8 arg9 harg9 arg10 harg10 arg11 harg11 arg12 harg12 arg13 harg13
      v200 v205 v220_1 k0_h6 v325 v351 v364) := by
  unfold k0_part86
  repeat'
    first
      | with_reducible refine SafeP.bind ?_ fun _ => ?_
      | with_reducible exact SafeP.ret trivial
      | exact Safe.load (by assumption)
      | exact Safe.store (by assumption) (by assumption)

theorem safe_part87 {v229 v231 v236 c0_i32_121 c1_i32_123 k0_t22}  :
    Safe (defs₀ (F := F)) B R n (k0_part87 i arg2 harg2 arg3 harg3 arg4 harg4 arg5 harg5 arg6
      harg6 arg7 harg7 arg8 harg8 arg9 harg9 arg10 harg10 arg11 harg11 arg12 harg12 arg13 harg13
      v229 v231 v236 c0_i32_121 c1_i32_123 k0_t22) := by
  unfold k0_part87
  repeat'
    first
      | with_reducible refine SafeP.bind ?_ fun _ => ?_
      | with_reducible exact SafeP.ret trivial
      | exact Safe.load (by assumption)
      | exact Safe.store (by assumption) (by assumption)

theorem safe_part88 {v229 v231 v236 k0_t22 v326 v353 v357}  :
    Safe (defs₀ (F := F)) B R n (k0_part88 i arg2 harg2 arg3 harg3 arg4 harg4 arg5 harg5 arg6
      harg6 arg7 harg7 arg8 harg8 arg9 harg9 arg10 harg10 arg11 harg11 arg12 harg12 arg13 harg13
      v229 v231 v236 k0_t22 v326 v353 v357) := by
  unfold k0_part88
  repeat'
    first
      | with_reducible refine SafeP.bind ?_ fun _ => ?_
      | with_reducible exact SafeP.ret trivial
      | exact Safe.load (by assumption)
      | exact Safe.store (by assumption) (by assumption)

theorem safe_part89 {v229 v236 k0_t22 v325 v366 v391}  :
    Safe (defs₀ (F := F)) B R n (k0_part89 i arg2 harg2 arg3 harg3 arg4 harg4 arg5 harg5 arg6
      harg6 arg7 harg7 arg8 harg8 arg9 harg9 arg10 harg10 arg11 harg11 arg12 harg12 arg13 harg13
      v229 v236 k0_t22 v325 v366 v391) := by
  unfold k0_part89
  repeat'
    first
      | with_reducible refine SafeP.bind ?_ fun _ => ?_
      | with_reducible exact SafeP.ret trivial
      | exact Safe.load (by assumption)
      | exact Safe.store (by assumption) (by assumption)

theorem safe_part90 {v229 v231 v236 k0_t22 v403 v405}  :
    Safe (defs₀ (F := F)) B R n (k0_part90 i arg2 harg2 arg3 harg3 arg4 harg4 arg5 harg5 arg6
      harg6 arg7 harg7 arg8 harg8 arg9 harg9 arg10 harg10 arg11 harg11 arg12 harg12 arg13 harg13
      v229 v231 v236 k0_t22 v403 v405) := by
  unfold k0_part90
  repeat'
    first
      | with_reducible refine SafeP.bind ?_ fun _ => ?_
      | with_reducible exact SafeP.ret trivial
      | exact Safe.load (by assumption)
      | exact Safe.store (by assumption) (by assumption)

theorem safe_part91 {v229 v231 v236 k0_t22 v325 v443 v458}  :
    Safe (defs₀ (F := F)) B R n (k0_part91 i arg2 harg2 arg3 harg3 arg4 harg4 arg5 harg5 arg6
      harg6 arg7 harg7 arg8 harg8 arg9 harg9 arg10 harg10 arg11 harg11 arg12 harg12 arg13 harg13
      v229 v231 v236 k0_t22 v325 v443 v458) := by
  unfold k0_part91
  repeat'
    first
      | with_reducible refine SafeP.bind ?_ fun _ => ?_
      | with_reducible exact SafeP.ret trivial
      | exact Safe.load (by assumption)
      | exact Safe.store (by assumption) (by assumption)

theorem safe_part92 {v229 v231 v236 k0_t22 v480 v482 v489 v491}  :
    Safe (defs₀ (F := F)) B R n (k0_part92 i arg2 harg2 arg3 harg3 arg4 harg4 arg5 harg5 arg6
      harg6 arg7 harg7 arg8 harg8 arg9 harg9 arg10 harg10 arg11 harg11 arg12 harg12 arg13 harg13
      v229 v231 v236 k0_t22 v480 v482 v489 v491) := by
  unfold k0_part92
  repeat'
    first
      | with_reducible refine SafeP.bind ?_ fun _ => ?_
      | with_reducible exact SafeP.ret trivial
      | exact Safe.load (by assumption)
      | exact Safe.store (by assumption) (by assumption)

theorem safe_part93 {v231 v236 k0_t22 v325 v520 v523 v524}  :
    Safe (defs₀ (F := F)) B R n (k0_part93 i arg2 harg2 arg3 harg3 arg4 harg4 arg5 harg5 arg6
      harg6 arg7 harg7 arg8 harg8 arg9 harg9 arg10 harg10 arg11 harg11 arg12 harg12 arg13 harg13
      v231 v236 k0_t22 v325 v520 v523 v524) := by
  unfold k0_part93
  repeat'
    first
      | with_reducible refine SafeP.bind ?_ fun _ => ?_
      | with_reducible exact SafeP.ret trivial
      | exact Safe.load (by assumption)
      | exact Safe.store (by assumption) (by assumption)

theorem safe_part94 {v229 v231 v236 k0_t22 v557 c2_i32_370}  :
    Safe (defs₀ (F := F)) B R n (k0_part94 i arg2 harg2 arg3 harg3 arg4 harg4 arg5 harg5 arg6
      harg6 arg7 harg7 arg8 harg8 arg9 harg9 arg10 harg10 arg11 harg11 arg12 harg12 arg13 harg13
      v229 v231 v236 k0_t22 v557 c2_i32_370) := by
  unfold k0_part94
  repeat'
    first
      | with_reducible refine SafeP.bind ?_ fun _ => ?_
      | with_reducible exact SafeP.ret trivial
      | exact Safe.load (by assumption)
      | exact Safe.store (by assumption) (by assumption)

theorem safe_part95 {v229 v231 v236 k0_t22 v557 v592}  :
    Safe (defs₀ (F := F)) B R n (k0_part95 i arg2 harg2 arg3 harg3 arg4 harg4 arg5 harg5 arg6
      harg6 arg7 harg7 arg8 harg8 arg9 harg9 arg10 harg10 arg11 harg11 arg12 harg12 arg13 harg13
      v229 v231 v236 k0_t22 v557 v592) := by
  unfold k0_part95
  repeat'
    first
      | with_reducible refine SafeP.bind ?_ fun _ => ?_
      | with_reducible exact SafeP.ret trivial
      | exact Safe.load (by assumption)
      | exact Safe.store (by assumption) (by assumption)

theorem safe_part96 {v229 v231 v236 v241 c1_i32_124 k0_t23}  :
    Safe (defs₀ (F := F)) B R n (k0_part96 i arg2 harg2 arg3 harg3 arg4 harg4 arg5 harg5 arg6
      harg6 arg7 harg7 arg8 harg8 arg9 harg9 arg10 harg10 arg11 harg11 arg12 harg12 arg13 harg13
      v229 v231 v236 v241 c1_i32_124 k0_t23) := by
  unfold k0_part96
  repeat'
    first
      | with_reducible refine SafeP.bind ?_ fun _ => ?_
      | with_reducible exact SafeP.ret trivial
      | exact Safe.load (by assumption)
      | exact Safe.store (by assumption) (by assumption)

theorem safe_part97 {v229 v231 v236 k0_t23 v326 v353 v357}  :
    Safe (defs₀ (F := F)) B R n (k0_part97 i arg2 harg2 arg3 harg3 arg4 harg4 arg5 harg5 arg6
      harg6 arg7 harg7 arg8 harg8 arg9 harg9 arg10 harg10 arg11 harg11 arg12 harg12 arg13 harg13
      v229 v231 v236 k0_t23 v326 v353 v357) := by
  unfold k0_part97
  repeat'
    first
      | with_reducible refine SafeP.bind ?_ fun _ => ?_
      | with_reducible exact SafeP.ret trivial
      | exact Safe.load (by assumption)
      | exact Safe.store (by assumption) (by assumption)

theorem safe_part98 {v229 v236 k0_t23 v325 v366 v391}  :
    Safe (defs₀ (F := F)) B R n (k0_part98 i arg2 harg2 arg3 harg3 arg4 harg4 arg5 harg5 arg6
      harg6 arg7 harg7 arg8 harg8 arg9 harg9 arg10 harg10 arg11 harg11 arg12 harg12 arg13 harg13
      v229 v236 k0_t23 v325 v366 v391) := by
  unfold k0_part98
  repeat'
    first
      | with_reducible refine SafeP.bind ?_ fun _ => ?_
      | with_reducible exact SafeP.ret trivial
      | exact Safe.load (by assumption)
      | exact Safe.store (by assumption) (by assumption)

theorem safe_part99 {v229 v231 v236 k0_t23 v403 v405}  :
    Safe (defs₀ (F := F)) B R n (k0_part99 i arg2 harg2 arg3 harg3 arg4 harg4 arg5 harg5 arg6
      harg6 arg7 harg7 arg8 harg8 arg9 harg9 arg10 harg10 arg11 harg11 arg12 harg12 arg13 harg13
      v229 v231 v236 k0_t23 v403 v405) := by
  unfold k0_part99
  repeat'
    first
      | with_reducible refine SafeP.bind ?_ fun _ => ?_
      | with_reducible exact SafeP.ret trivial
      | exact Safe.load (by assumption)
      | exact Safe.store (by assumption) (by assumption)

theorem safe_part100 {v229 v231 v236 k0_t23 v325 v443 v458}  :
    Safe (defs₀ (F := F)) B R n (k0_part100 i arg2 harg2 arg3 harg3 arg4 harg4 arg5 harg5 arg6
      harg6 arg7 harg7 arg8 harg8 arg9 harg9 arg10 harg10 arg11 harg11 arg12 harg12 arg13 harg13
      v229 v231 v236 k0_t23 v325 v443 v458) := by
  unfold k0_part100
  repeat'
    first
      | with_reducible refine SafeP.bind ?_ fun _ => ?_
      | with_reducible exact SafeP.ret trivial
      | exact Safe.load (by assumption)
      | exact Safe.store (by assumption) (by assumption)

theorem safe_part101 {v229 v231 v236 k0_t23 v480 v482 v489 v491}  :
    Safe (defs₀ (F := F)) B R n (k0_part101 i arg2 harg2 arg3 harg3 arg4 harg4 arg5 harg5 arg6
      harg6 arg7 harg7 arg8 harg8 arg9 harg9 arg10 harg10 arg11 harg11 arg12 harg12 arg13 harg13
      v229 v231 v236 k0_t23 v480 v482 v489 v491) := by
  unfold k0_part101
  repeat'
    first
      | with_reducible refine SafeP.bind ?_ fun _ => ?_
      | with_reducible exact SafeP.ret trivial
      | exact Safe.load (by assumption)
      | exact Safe.store (by assumption) (by assumption)

theorem safe_part102 {v231 v236 k0_t23 v325 v520 v523 v524}  :
    Safe (defs₀ (F := F)) B R n (k0_part102 i arg2 harg2 arg3 harg3 arg4 harg4 arg5 harg5 arg6
      harg6 arg7 harg7 arg8 harg8 arg9 harg9 arg10 harg10 arg11 harg11 arg12 harg12 arg13 harg13
      v231 v236 k0_t23 v325 v520 v523 v524) := by
  unfold k0_part102
  repeat'
    first
      | with_reducible refine SafeP.bind ?_ fun _ => ?_
      | with_reducible exact SafeP.ret trivial
      | exact Safe.load (by assumption)
      | exact Safe.store (by assumption) (by assumption)

theorem safe_part103 {v229 v231 v236 k0_t23 v557 c2_i32_370}  :
    Safe (defs₀ (F := F)) B R n (k0_part103 i arg2 harg2 arg3 harg3 arg4 harg4 arg5 harg5 arg6
      harg6 arg7 harg7 arg8 harg8 arg9 harg9 arg10 harg10 arg11 harg11 arg12 harg12 arg13 harg13
      v229 v231 v236 k0_t23 v557 c2_i32_370) := by
  unfold k0_part103
  repeat'
    first
      | with_reducible refine SafeP.bind ?_ fun _ => ?_
      | with_reducible exact SafeP.ret trivial
      | exact Safe.load (by assumption)
      | exact Safe.store (by assumption) (by assumption)

theorem safe_part104 {v229 v231 v236 k0_t23 v557 v592}  :
    Safe (defs₀ (F := F)) B R n (k0_part104 i arg2 harg2 arg3 harg3 arg4 harg4 arg5 harg5 arg6
      harg6 arg7 harg7 arg8 harg8 arg9 harg9 arg10 harg10 arg11 harg11 arg12 harg12 arg13 harg13
      v229 v231 v236 k0_t23 v557 v592) := by
  unfold k0_part104
  repeat'
    first
      | with_reducible refine SafeP.bind ?_ fun _ => ?_
      | with_reducible exact SafeP.ret trivial
      | exact Safe.load (by assumption)
      | exact Safe.store (by assumption) (by assumption)

theorem safe_part105 {v229 v231 v236 v242 k0_h7}  :
    Safe (defs₀ (F := F)) B R n (k0_part105 i arg2 harg2 arg3 harg3 arg4 harg4 arg5 harg5 arg6
      harg6 arg7 harg7 arg8 harg8 arg9 harg9 arg10 harg10 arg11 harg11 arg12 harg12 arg13 harg13
      v229 v231 v236 v242 k0_h7) := by
  unfold k0_part105
  repeat'
    first
      | with_reducible refine SafeP.bind ?_ fun _ => ?_
      | with_reducible exact SafeP.ret trivial
      | exact Safe.load (by assumption)
      | exact Safe.store (by assumption) (by assumption)

theorem safe_part106 {v229 v231 v236 k0_h7 v325 v352 v356 v358}  :
    Safe (defs₀ (F := F)) B R n (k0_part106 i arg2 harg2 arg3 harg3 arg4 harg4 arg5 harg5 arg6
      harg6 arg7 harg7 arg8 harg8 arg9 harg9 arg10 harg10 arg11 harg11 arg12 harg12 arg13 harg13
      v229 v231 v236 k0_h7 v325 v352 v356 v358) := by
  unfold k0_part106
  repeat'
    first
      | with_reducible refine SafeP.bind ?_ fun _ => ?_
      | with_reducible exact SafeP.ret trivial
      | exact Safe.load (by assumption)
      | exact Safe.store (by assumption) (by assumption)

theorem safe_part107 {v229 v236 v242 k0_h7 v390}  :
    Safe (defs₀ (F := F)) B R n (k0_part107 i arg2 harg2 arg3 harg3 arg4 harg4 arg5 harg5 arg6
      harg6 arg7 harg7 arg8 harg8 arg9 harg9 arg10 harg10 arg11 harg11 arg12 harg12 arg13 harg13
      v229 v236 v242 k0_h7 v390) := by
  unfold k0_part107
  repeat'
    first
      | with_reducible refine SafeP.bind ?_ fun _ => ?_
      | with_reducible exact SafeP.ret trivial
      | exact Safe.load (by assumption)
      | exact Safe.store (by assumption) (by assumption)

theorem safe_part108 {v229 v231 v236 k0_h7 v402 v404}  :
    Safe (defs₀ (F := F)) B R n (k0_part108 i arg2 harg2 arg3 harg3 arg4 harg4 arg5 harg5 arg6
      harg6 arg7 harg7 arg8 harg8 arg9 harg9 arg10 harg10 arg11 harg11 arg12 harg12 arg13 harg13
      v229 v231 v236 k0_h7 v402 v404) := by
  unfold k0_part108
  repeat'
    first
      | with_reducible refine SafeP.bind ?_ fun _ => ?_
      | with_reducible exact SafeP.ret trivial
      | exact Safe.load (by assumption)
      | exact Safe.store (by assumption) (by assumption)

theorem safe_part109 {v229 v231 v236 v248 k0_h8}  :
    Safe (defs₀ (F := F)) B R n (k0_part109 i arg2 harg2 arg3 harg3 arg4 harg4 arg5 harg5 arg6
      harg6 arg7 harg7 arg8 harg8 arg9 harg9 arg10 harg10 arg11 harg11 arg12 harg12 arg13 harg13
      v229 v231 v236 v248 k0_h8) := by
  unfold k0_part109
  repeat'
    first
      | with_reducible refine SafeP.bind ?_ fun _ => ?_
      | with_reducible exact SafeP.ret trivial
      | exact Safe.load (by assumption)
      | exact Safe.store (by assumption) (by assumption)

theorem safe_part110 {v229 v231 v236 k0_h8 v325 v352 v356 v358}  :
    Safe (defs₀ (F := F)) B R n (k0_part110 i arg2 harg2 arg3 harg3 arg4 harg4 arg5 harg5 arg6
      harg6 arg7 harg7 arg8 harg8 arg9 harg9 arg10 harg10 arg11 harg11 arg12 harg12 arg13 harg13
      v229 v231 v236 k0_h8 v325 v352 v356 v358) := by
  unfold k0_part110
  repeat'
    first
      | with_reducible refine SafeP.bind ?_ fun _ => ?_
      | with_reducible exact SafeP.ret trivial
      | exact Safe.load (by assumption)
      | exact Safe.store (by assumption) (by assumption)

end

end Cert.Proof.Body
-- ==== Proof.BodyC.lean ====
module

public import proofs.«01_k».proof.Proof.Safe
public import proofs.«01_k».proof.Kernel

@[expose] public section

/-! The frames of the pieces the kernel body was printed in: each runs, and leaves the input blocks as they were. Pieces 111, 112 and 118 to 133. -/

namespace Cert.Proof.Body

open Idealize.ShloMosaic Idealize.SL.Sem
open Cert.Kernel Cert.Proof.Pure

variable {F : FTy → Type} [BitOps F] [Facts] {B R : Finset (Ref sig .tc)} {n : ℕ}
variable {i : grid0.Coords}
variable {arg2 : Memref sig .tc .vmem S1x512x128 .bf16} {harg2 : arg2.IsWhole}
variable {arg3 : Memref sig .tc .vmem S1x256x128 .bf16} {harg3 : arg3.IsWhole}
variable {arg4 : Memref sig .tc .vmem S1x8x128 .f32} {harg4 : arg4.IsWhole}
variable {arg5 : Memref sig .tc .vmem S1x4096x128 .bf16} {harg5 : arg5.IsWhole}
variable {arg6 : Memref sig .tc .vmem S1x4096x128 .bf16} {harg6 : arg6.IsWhole}
variable {arg7 : Memref sig .tc .vmem S1x16x128x256 .bf16} {harg7 : arg7.IsWhole}
variable {arg8 : Memref sig .tc .vmem S128x128 .bf16} {harg8 : arg8.IsWhole}
variable {arg9 : Memref sig .tc .vmem S1x512x128 .f32} {harg9 : arg9.IsWhole}
variable {arg10 : Memref sig .tc .vmem S4096x128 .i32} {harg10 : arg10.IsWhole}
variable {arg11 : Memref sig .tc .vmem S4096x128 .f32} {harg11 : arg11.IsWhole}
variable {arg12 : Memref sig .tc .vmem S16x2x256x512 .f32} {harg12 : arg12.IsWhole}
variable {arg13 : Memref sig .tc .vmem S2x80x512 .f32} {harg13 : arg13.IsWhole}

theorem safe_part120 {arg14 arg15 arg16 arg17 v330 c0_i32_204 c1_i32_206 k0_t10 arg19 arg20 arg21
    arg22} (b10 : arg10.view.ref ∈ B) (r10 : arg10.view.ref ∉ R) :
    Safe (defs₀ (F := F)) B R n (k0_part120 i arg10 harg10 arg14 arg15 arg16 arg17 v330
      c0_i32_204 c1_i32_206 k0_t10 arg19 arg20 arg21 arg22) := by
  unfold k0_part120
  repeat'
    first
      | with_reducible refine SafeP.bind ?_ fun _ => ?_
      | with_reducible exact SafeP.ret trivial
      | exact Safe.load (by assumption)
      | exact Safe.store (by assumption) (by assumption)

theorem safe_part121 {arg14 arg15 arg16 arg17 v330 c0_i32_204 c1_i32_206 k0_t10 arg19 arg20 arg21
    arg22} (b10 : arg10.view.ref ∈ B) (r10 : arg10.view.ref ∉ R) :
    Safe (defs₀ (F := F)) B R n (k0_part121 i arg10 harg10 arg14 arg15 arg16 arg17 v330
      c0_i32_204 c1_i32_206 k0_t10 arg19 arg20 arg21 arg22) := by
  unfold k0_part121
  repeat'
    first
      | (with_reducible apply safe_part120 <;> assumption)
      | with_reducible refine SafeP.bind ?_ fun _ => ?_
      | with_reducible exact SafeP.ret trivial
      | exact Safe.load (by assumption)
      | exact Safe.store (by assumption) (by assumption)

theorem safe_part122 {arg14 arg15 arg16 arg17 v330 v339 c1_i32_207 k0_t11 arg19 arg20 arg21 arg22}
    (b10 : arg10.view.ref ∈ B) (r10 : arg10.view.ref ∉ R) :
    Safe (defs₀ (F := F)) B R n (k0_part122 i arg10 harg10 arg14 arg15 arg16 arg17 v330 v339
      c1_i32_207 k0_t11 arg19 arg20 arg21 arg22) := by
  unfold k0_part122
  repeat'
    first
      | with_reducible refine SafeP.bind ?_ fun _ => ?_
      | with_reducible exact SafeP.ret trivial
      | exact Safe.load (by assumption)
      | exact Safe.store (by assumption) (by assumption)

theorem safe_part123 {arg14 arg15 arg16 arg17 v330 v339 c1_i32_207 k0_t11 arg19 arg20 arg21 arg22}
    (b10 : arg10.view.ref ∈ B) (r10 : arg10.view.ref ∉ R) :
    Safe (defs₀ (F := F)) B R n (k0_part123 i arg10 harg10 arg14 arg15 arg16 arg17 v330 v339
      c1_i32_207 k0_t11 arg19 arg20 arg21 arg22) := by
  unfold k0_part123
  repeat'
    first
      | (with_reducible apply safe_part122 <;> assumption)
      | with_reducible refine SafeP.bind ?_ fun _ => ?_
      | with_reducible exact SafeP.ret trivial
      | exact Safe.load (by assumption)
      | exact Safe.store (by assumption) (by assumption)

theorem safe_part124 {arg14 arg15 arg16 arg17 v363 c0_i32_221 c1_i32_223 k0_t12 arg19 arg20 arg21
    arg22} (b10 : arg10.view.ref ∈ B) (r10 : arg10.view.ref ∉ R) :
    Safe (defs₀ (F := F)) B R n (k0_part124 i arg10 harg10 arg14 arg15 arg16 arg17 v363
      c0_i32_221 c1_i32_223 k0_t12 arg19 arg20 arg21 arg22) := by
  unfold k0_part124
  repeat'
    first
      | with_reducible refine SafeP.bind ?_ fun _ => ?_
      | with_reducible exact SafeP.ret trivial
      | exact Safe.load (by assumption)
      | exact Safe.store (by assumption) (by assumption)

theorem safe_part125 {arg14 arg15 arg16 arg17 v363 c0_i32_221 c1_i32_223 k0_t12 arg19 arg20 arg21
    arg22} (b10 : arg10.view.ref ∈ B) (r10 : arg10.view.ref ∉ R) :
    Safe (defs₀ (F := F)) B R n (k0_part125 i arg10 harg10 arg14 arg15 arg16 arg17 v363
      c0_i32_221 c1_i32_223 k0_t12 arg19 arg20 arg21 arg22) := by
  unfold k0_part125
  repeat'
    first
      | (with_reducible apply safe_part124 <;> assumption)
      | with_reducible refine SafeP.bind ?_ fun _ => ?_
      | with_reducible exact SafeP.ret trivial
      | exact Safe.load (by assumption)
      | exact Safe.store (by assumption) (by assumption)

theorem safe_part126 {arg14 arg15 arg16 arg17 v363 v372 c1_i32_224 k0_t13 arg19 arg20 arg21 arg22}
    (b10 : arg10.view.ref ∈ B) (r10 : arg10.view.ref ∉ R) :
    Safe (defs₀ (F := F)) B R n (k0_part126 i arg10 harg10 arg14 arg15 arg16 arg17 v363 v372
      c1_i32_224 k0_t13 arg19 arg20 arg21 arg22) := by
  unfold k0_part126
  repeat'
    first
      | with_reducible refine SafeP.bind ?_ fun _ => ?_
      | with_reducible exact SafeP.ret trivial
      | exact Safe.load (by assumption)
      | exact Safe.store (by assumption) (by assumption)

theorem safe_part127 {arg14 arg15 arg16 arg17 v363 v372 c1_i32_224 k0_t13 arg19 arg20 arg21 arg22}
    (b10 : arg10.view.ref ∈ B) (r10 : arg10.view.ref ∉ R) :
    Safe (defs₀ (F := F)) B R n (k0_part127 i arg10 harg10 arg14 arg15 arg16 arg17 v363 v372
      c1_i32_224 k0_t13 arg19 arg20 arg21 arg22) := by
  unfold k0_part127
  repeat'
    first
      | (with_reducible apply safe_part126 <;> assumption)
      | with_reducible refine SafeP.bind ?_ fun _ => ?_
      | with_reducible exact SafeP.ret trivial
      | exact Safe.load (by assumption)
      | exact Safe.store (by assumption) (by assumption)

theorem safe_part128 {arg14 arg15 arg16 arg17 v396 c0_i32_238 c1_i32_240 k0_t14 arg19 arg20 arg21
    arg22} (b10 : arg10.view.ref ∈ B) (r10 : arg10.view.ref ∉ R) :
    Safe (defs₀ (F := F)) B R n (k0_part128 i arg10 harg10 arg14 arg15 arg16 arg17 v396
      c0_i32_238 c1_i32_240 k0_t14 arg19 arg20 arg21 arg22) := by
  unfold k0_part128
  repeat'
    first
      | with_reducible refine SafeP.bind ?_ fun _ => ?_
      | with_reducible exact SafeP.ret trivial
      | exact Safe.load (by assumption)
      | exact Safe.store (by assumption) (by assumption)

theorem safe_part129 {arg14 arg15 arg16 arg17 v396 c0_i32_238 c1_i32_240 k0_t14 arg19 arg20 arg21
    arg22} (b10 : arg10.view.ref ∈ B) (r10 : arg10.view.ref ∉ R) :
    Safe (defs₀ (F := F)) B R n (k0_part129 i arg10 harg10 arg14 arg15 arg16 arg17 v396
      c0_i32_238 c1_i32_240 k0_t14 arg19 arg20 arg21 arg22) := by
  unfold k0_part129
  repeat'
    first
      | (with_reducible apply safe_part128 <;> assumption)
      | with_reducible refine SafeP.bind ?_ fun _ => ?_
      | with_reducible exact SafeP.ret trivial
      | exact Safe.load (by assumption)
      | exact Safe.store (by assumption) (by assumption)

theorem safe_part130 {arg14 arg15 arg16 arg17 v396 v405 c1_i32_241 k0_t15 arg19 arg20 arg21 arg22}
    (b10 : arg10.view.ref ∈ B) (r10 : arg10.view.ref ∉ R) :
    Safe (defs₀ (F := F)) B R n (k0_part130 i arg10 harg10 arg14 arg15 arg16 arg17 v396 v405
      c1_i32_241 k0_t15 arg19 arg20 arg21 arg22) := by
  unfold k0_part130
  repeat'
    first
      | with_reducible refine SafeP.bind ?_ fun _ => ?_
      | with_reducible exact SafeP.ret trivial
      | exact Safe.load (by assumption)
      | exact Safe.store (by assumption) (by assumption)

theorem safe_part131 {arg14 arg15 arg16 arg17 v396 v405 c1_i32_241 k0_t15 arg19 arg20 arg21 arg22}
    (b10 : arg10.view.ref ∈ B) (r10 : arg10.view.ref ∉ R) :
    Safe (defs₀ (F := F)) B R n (k0_part131 i arg10 harg10 arg14 arg15 arg16 arg17 v396 v405
      c1_i32_241 k0_t15 arg19 arg20 arg21 arg22) := by
  unfold k0_part131
  repeat'
    first
      | (with_reducible apply safe_part130 <;> assumption)
      | with_reducible refine SafeP.bind ?_ fun _ => ?_
      | with_reducible exact SafeP.ret trivial
      | exact Safe.load (by assumption)
      | exact Safe.store (by assumption) (by assumption)

theorem safe_part132 {arg14 arg15 arg16 arg17 v20} (b10 : arg10.view.ref ∈ B) (r10 :
    arg10.view.ref ∉ R) :
    Safe (defs₀ (F := F)) B R n (k0_part132 i arg10 harg10 arg14 arg15 arg16 arg17 v20) := by
  unfold k0_part132
  repeat'
    first
      | (with_reducible apply safe_part121 <;> assumption)
      | (with_reducible apply safe_part123 <;> assumption)
      | with_reducible refine SafeP.bind ?_ fun _ => ?_
      | with_reducible exact SafeP.ret trivial
      | with_reducible refine Safe.for fun _ _ => ?_
      | exact Safe.load (by assumption)
      | exact Safe.store (by assumption) (by assumption)

theorem safe_part133 {arg14 arg15 arg16 arg17 v20 v352 v353 v357 v363} (b10 : arg10.view.ref ∈ B)
    (r10 : arg10.view.ref ∉ R) :
    Safe (defs₀ (F := F)) B R n (k0_part133 i arg10 harg10 arg14 arg15 arg16 arg17 v20 v352 v353
      v357 v363) := by
  unfold k0_part133
  repeat'
    first
      | (with_reducible apply safe_part125 <;> assumption)
      | (with_reducible apply safe_part127 <;> assumption)
      | with_reducible refine SafeP.bind ?_ fun _ => ?_
      | with_reducible exact SafeP.ret trivial
      | with_reducible refine Safe.for fun _ _ => ?_
      | exact Safe.load (by assumption)
      | exact Safe.store (by assumption) (by assumption)

section

variable (b2 : arg2.view.ref ∈ B)
variable (b3 : arg3.view.ref ∈ B)
variable (b4 : arg4.view.ref ∈ B)
variable (b5 : arg5.view.ref ∈ B)
variable (b6 : arg6.view.ref ∈ B)
variable (b7 : arg7.view.ref ∈ B)
variable (b8 : arg8.view.ref ∈ B)
variable (b9 : arg9.view.ref ∈ B) (r9 : arg9.view.ref ∉ R)
variable (b10 : arg10.view.ref ∈ B) (r10 : arg10.view.ref ∉ R)
variable (b11 : arg11.view.ref ∈ B) (r11 : arg11.view.ref ∉ R)
variable (b12 : arg12.view.ref ∈ B) (r12 : arg12.view.ref ∉ R)
variable (b13 : arg13.view.ref ∈ B) (r13 : arg13.view.ref ∉ R)

include b2 b3 b4 b5 b6 b7 b8 b9 r9 b10 r10 b11 r11 b12 r12 b13 r13

theorem safe_part118 {v254 v255}  :
    Safe (defs₀ (F := F)) B R n (k0_part118 i arg2 harg2 arg3 harg3 arg4 harg4 arg5 harg5 arg6
      harg6 arg7 harg7 arg8 harg8 arg9 harg9 arg10 harg10 arg11 harg11 arg12 harg12 arg13 harg13
      v254 v255) := by
  unfold k0_part118
  repeat'
    first
      | with_reducible refine SafeP.bind ?_ fun _ => ?_
      | with_reducible exact SafeP.ret trivial
      | exact Safe.load (by assumption)
      | exact Safe.store (by assumption) (by assumption)

theorem safe_part119 {v285}  :
    Safe (defs₀ (F := F)) B R n (k0_part119 i arg2 harg2 arg3 harg3 arg4 harg4 arg5 harg5 arg6
      harg6 arg7 harg7 arg8 harg8 arg9 harg9 arg10 harg10 arg11 harg11 arg12 harg12 arg13 harg13
      v285) := by
  unfold k0_part119
  repeat'
    first
      | with_reducible refine SafeP.bind ?_ fun _ => ?_
      | with_reducible exact SafeP.ret trivial
      | exact Safe.load (by assumption)
      | exact Safe.store (by assumption) (by assumption)

theorem safe_part111  :
    Safe (defs₀ (F := F)) B R n (k0_part111 i arg2 harg2 arg3 harg3 arg4 harg4 arg5 harg5 arg6
      harg6 arg7 harg7 arg8 harg8 arg9 harg9 arg10 harg10 arg11 harg11 arg12 harg12 arg13
      harg13) := by
  unfold k0_part111
  repeat'
    first
      | with_reducible refine SafeP.bind ?_ fun _ => ?_
      | with_reducible exact SafeP.ret trivial
      | exact Safe.load (by assumption)
      | exact Safe.store (by assumption) (by assumption)

theorem safe_part112 {v0 v20 v23 v37 v39 v40}  :
    Safe (defs₀ (F := F)) B R n (k0_part112 i arg2 harg2 arg3 harg3 arg4 harg4 arg5 harg5 arg6
      harg6 arg7 harg7 arg8 harg8 arg9 harg9 arg10 harg10 arg11 harg11 arg12 harg12 arg13 harg13
      v0 v20 v23 v37 v39 v40) := by
  unfold k0_part112
  repeat'
    first
      | with_reducible refine SafeP.bind ?_ fun _ => ?_
      | with_reducible exact SafeP.ret trivial
      | exact Safe.load (by assumption)
      | exact Safe.store (by assumption) (by assumption)

end

end Cert.Proof.Body
-- ==== Proof.Body.lean ====
module

public import proofs.«01_k».proof.Proof.Safe
public import proofs.«01_k».proof.Kernel
public import proofs.«01_k».proof.Proof.BodyA
public import proofs.«01_k».proof.Proof.BodyB
public import proofs.«01_k».proof.Proof.BodyC

@[expose] public section

/-! The frame of the whole kernel body: the search loop ends, the pieces are put together, and every run leaves the seven input blocks as they were. -/

namespace Cert.Proof.Body

open Idealize.ShloMosaic Idealize.SL.Sem
open Cert.Kernel Cert.Proof.Pure

variable {F : FTy → Type} [BitOps F] [Facts] {B R : Finset (Ref sig .tc)} {n : ℕ}
variable {i : grid0.Coords}
variable {arg2 : Memref sig .tc .vmem S1x512x128 .bf16} {harg2 : arg2.IsWhole}
variable {arg3 : Memref sig .tc .vmem S1x256x128 .bf16} {harg3 : arg3.IsWhole}
variable {arg4 : Memref sig .tc .vmem S1x8x128 .f32} {harg4 : arg4.IsWhole}
variable {arg5 : Memref sig .tc .vmem S1x4096x128 .bf16} {harg5 : arg5.IsWhole}
variable {arg6 : Memref sig .tc .vmem S1x4096x128 .bf16} {harg6 : arg6.IsWhole}
variable {arg7 : Memref sig .tc .vmem S1x16x128x256 .bf16} {harg7 : arg7.IsWhole}
variable {arg8 : Memref sig .tc .vmem S128x128 .bf16} {harg8 : arg8.IsWhole}
variable {arg9 : Memref sig .tc .vmem S1x512x128 .f32} {harg9 : arg9.IsWhole}
variable {arg10 : Memref sig .tc .vmem S4096x128 .i32} {harg10 : arg10.IsWhole}
variable {arg11 : Memref sig .tc .vmem S4096x128 .f32} {harg11 : arg11.IsWhole}
variable {arg12 : Memref sig .tc .vmem S16x2x256x512 .f32} {harg12 : arg12.IsWhole}
variable {arg13 : Memref sig .tc .vmem S2x80x512 .f32} {harg13 : arg13.IsWhole}

theorem guard_done {x : BitVec 1} : Scalar.andi (Scalar.cmpi .slt (Scalar.muli 4#32 3#32) 12#32) x ≠ 1#1 := by
  rw [show Scalar.cmpi .slt (Scalar.muli 4#32 3#32) 12#32 = 0#1 from by decide]
  revert x; decide

theorem defs_one {a14 a15 a16 a17} : defs₀ (F := F) .tc (1 : (Λ₀ F).Label) ⟨i, arg10, harg10, a14, a15, a16, a17⟩
    = cc0_while1 i arg10 harg10 a14 a15 a16 a17 := by
  unfold defs₀; rw [Defs.onTc_tc]

/-- The search loop counts its own rounds and stops at the fourth, so it ends from every count up to four. -/
theorem safe_while1 (b10 : arg10.view.ref ∈ B) (r10 : arg10.view.ref ∉ R) : ∀ (k j : ℕ), j ≤ 4 → 4 ≤ j + k → ∀ a15 a16 a17,
    Safe (defs₀ (F := F)) B R k (cc0_while1 i arg10 harg10 (BitVec.ofNat 32 j) a15 a16 a17) := by
  intro k
  induction k with
  | zero =>
    intro j hj hk a15 a16 a17
    obtain rfl : j = 4 := by omega
    unfold cc0_while1
    exact SafeP.ite (fun hc => absurd hc guard_done) fun _ => SafeP.ret trivial
  | succ k ih =>
    intro j hj hk a15 a16 a17
    unfold cc0_while1
    refine SafeP.ite (fun hc => ?_) fun _ => SafeP.ret trivial
    have hj' : j ≠ 4 := by rintro rfl; exact guard_done hc
    have hs : Scalar.addi (BitVec.ofNat 32 j) 1#32 = BitVec.ofNat 32 (j + 1) := by
      obtain rfl | rfl | rfl | rfl : j = 0 ∨ j = 1 ∨ j = 2 ∨ j = 3 := by omega
      all_goals rfl
    clear hc
    repeat'
      first
      | (with_reducible apply safe_part132 <;> assumption)
      | (with_reducible apply safe_part133 <;> assumption)
      | (with_reducible apply safe_part129 <;> assumption)
      | (with_reducible apply safe_part131 <;> assumption)
      | with_reducible refine SafeP.bind ?_ fun _ => ?_
      | with_reducible exact SafeP.ret trivial
      | with_reducible refine Safe.for fun _ _ => ?_
      | (refine Safe.call ?_; rw [hs, defs_one]; exact ih (j + 1) (by omega) (by omega) _ _ _)

section

variable (b2 : arg2.view.ref ∈ B)
variable (b3 : arg3.view.ref ∈ B)
variable (b4 : arg4.view.ref ∈ B)
variable (b5 : arg5.view.ref ∈ B)
variable (b6 : arg6.view.ref ∈ B)
variable (b7 : arg7.view.ref ∈ B)
variable (b8 : arg8.view.ref ∈ B)
variable (b9 : arg9.view.ref ∈ B) (r9 : arg9.view.ref ∉ R)
variable (b10 : arg10.view.ref ∈ B) (r10 : arg10.view.ref ∉ R)
variable (b11 : arg11.view.ref ∈ B) (r11 : arg11.view.ref ∉ R)
variable (b12 : arg12.view.ref ∈ B) (r12 : arg12.view.ref ∉ R)
variable (b13 : arg13.view.ref ∈ B) (r13 : arg13.view.ref ∉ R)

include b2 b3 b4 b5 b6 b7 b8 b9 r9 b10 r10 b11 r11 b12 r12 b13 r13

theorem safe_part113 {v20 v51 v52 v59 v61 v78 v80 c0_i32_28 v81}  :
    Safe (defs₀ (F := F)) B R n (k0_part113 i arg2 harg2 arg3 harg3 arg4 harg4 arg5 harg5 arg6
      harg6 arg7 harg7 arg8 harg8 arg9 harg9 arg10 harg10 arg11 harg11 arg12 harg12 arg13 harg13
      v20 v51 v52 v59 v61 v78 v80 c0_i32_28 v81) := by
  unfold k0_part113
  repeat'
    first
      | (with_reducible apply safe_part1 <;> assumption)
      | (with_reducible apply safe_part2 <;> assumption)
      | (with_reducible apply safe_part3 <;> assumption)
      | (with_reducible apply safe_part4 <;> assumption)
      | (with_reducible apply safe_part5 <;> assumption)
      | (with_reducible apply safe_part6 <;> assumption)
      | (with_reducible apply safe_part7 <;> assumption)
      | (with_reducible apply safe_part8 <;> assumption)
      | (with_reducible apply safe_part9 <;> assumption)
      | (with_reducible apply safe_part10 <;> assumption)
      | (with_reducible apply safe_part11 <;> assumption)
      | (with_reducible apply safe_part12 <;> assumption)
      | (with_reducible apply safe_part13 <;> assumption)
      | (with_reducible apply safe_part14 <;> assumption)
      | (with_reducible apply safe_part15 <;> assumption)
      | with_reducible refine SafeP.bind ?_ fun _ => ?_
      | with_reducible exact SafeP.ret trivial
      | with_reducible refine SafeP.ite (fun _ => ?_) fun _ => ?_
      | with_reducible refine SafeP.dite (fun _ => ?_) fun _ => ?_
      | with_reducible refine Safe.for fun _ _ => ?_
      | exact Safe.load (by assumption)
      | exact Safe.store (by assumption) (by assumption)

theorem safe_part114 {v20 v51 v112 v113 v114}  :
    SafeP (defs₀ (F := F)) B R n (fun y => y.2.2.2 = 0#32) (k0_part114 i arg2 harg2 arg3 harg3 arg4 harg4 arg5 harg5 arg6
      harg6 arg7 harg7 arg8 harg8 arg9 harg9 arg10 harg10 arg11 harg11 arg12 harg12 arg13 harg13
      v20 v51 v112 v113 v114) := by
  unfold k0_part114
  repeat'
    first
      | (with_reducible apply safe_part16 <;> assumption)
      | (with_reducible apply safe_part17 <;> assumption)
      | (with_reducible apply safe_part18 <;> assumption)
      | (with_reducible apply safe_part19 <;> assumption)
      | (with_reducible apply safe_part21 <;> assumption)
      | (with_reducible apply safe_part23 <;> assumption)
      | with_reducible refine SafeP.bind ?_ fun _ => ?_
      | with_reducible first | exact SafeP.ret trivial | exact SafeP.ret rfl
      | with_reducible refine Safe.for fun _ _ => ?_
      | exact Safe.load (by assumption)
      | exact Safe.store (by assumption) (by assumption)

theorem safe_part115 {v20 v51 v78 v80 v152_0 v152_1 v152_2}  :
    Safe (defs₀ (F := F)) B R (n + 5) (k0_part115 i arg2 harg2 arg3 harg3 arg4 harg4 arg5 harg5 arg6
      harg6 arg7 harg7 arg8 harg8 arg9 harg9 arg10 harg10 arg11 harg11 arg12 harg12 arg13 harg13
      v20 v51 v78 v80 v152_0 v152_1 v152_2 0#32) := by
  unfold k0_part115
  repeat'
    first
      | (refine Safe.call ?_; rw [defs_one]; exact safe_while1 b10 r10 _ 0 (by omega) (by omega) _ _ _)
      | (with_reducible apply safe_part25 <;> assumption)
      | (with_reducible apply safe_part27 <;> assumption)
      | (with_reducible apply safe_part40 <;> assumption)
      | (with_reducible apply safe_part53 <;> assumption)
      | (with_reducible apply safe_part54 <;> assumption)
      | (with_reducible apply safe_part55 <;> assumption)
      | (with_reducible apply safe_part56 <;> assumption)
      | (with_reducible apply safe_part57 <;> assumption)
      | (with_reducible apply safe_part58 <;> assumption)
      | (with_reducible apply safe_part59 <;> assumption)
      | with_reducible refine SafeP.bind ?_ fun _ => ?_
      | with_reducible exact SafeP.ret trivial
      | with_reducible refine SafeP.ite (fun _ => ?_) fun _ => ?_
      | with_reducible refine SafeP.dite (fun _ => ?_) fun _ => ?_
      | with_reducible refine Safe.for fun _ _ => ?_
      | exact Safe.load (by assumption)
      | exact Safe.store (by assumption) (by assumption)

theorem safe_part116 {v51 v78 v80 v153_1 v171 v172 v173 v187 v189}  :
    Safe (defs₀ (F := F)) B R n (k0_part116 i arg2 harg2 arg3 harg3 arg4 harg4 arg5 harg5 arg6
      harg6 arg7 harg7 arg8 harg8 arg9 harg9 arg10 harg10 arg11 harg11 arg12 harg12 arg13 harg13
      v51 v78 v80 v153_1 v171 v172 v173 v187 v189) := by
  unfold k0_part116
  repeat'
    first
      | (with_reducible apply safe_part60 <;> assumption)
      | (with_reducible apply safe_part61 <;> assumption)
      | (with_reducible apply safe_part62 <;> assumption)
      | (with_reducible apply safe_part71 <;> assumption)
      | (with_reducible apply safe_part80 <;> assumption)
      | (with_reducible apply safe_part81 <;> assumption)
      | (with_reducible apply safe_part82 <;> assumption)
      | (with_reducible apply safe_part83 <;> assumption)
      | (with_reducible apply safe_part84 <;> assumption)
      | (with_reducible apply safe_part85 <;> assumption)
      | (with_reducible apply safe_part86 <;> assumption)
      | with_reducible refine SafeP.bind ?_ fun _ => ?_
      | with_reducible exact SafeP.ret trivial
      | with_reducible refine SafeP.ite (fun _ => ?_) fun _ => ?_
      | with_reducible refine SafeP.dite (fun _ => ?_) fun _ => ?_
      | with_reducible refine Safe.for fun _ _ => ?_
      | exact Safe.load (by assumption)
      | exact Safe.store (by assumption) (by assumption)

theorem safe_part117 {v78 v80 v227_0 v227_1}  :
    Safe (defs₀ (F := F)) B R n (k0_part117 i arg2 harg2 arg3 harg3 arg4 harg4 arg5 harg5 arg6
      harg6 arg7 harg7 arg8 harg8 arg9 harg9 arg10 harg10 arg11 harg11 arg12 harg12 arg13 harg13
      v78 v80 v227_0 v227_1) := by
  unfold k0_part117
  repeat'
    first
      | (with_reducible apply safe_part87 <;> assumption)
      | (with_reducible apply safe_part88 <;> assumption)
      | (with_reducible apply safe_part89 <;> assumption)
      | (with_reducible apply safe_part90 <;> assumption)
      | (with_reducible apply safe_part91 <;> assumption)
      | (with_reducible apply safe_part92 <;> assumption)
      | (with_reducible apply safe_part93 <;> assumption)
      | (with_reducible apply safe_part94 <;> assumption)
      | (with_reducible apply safe_part95 <;> assumption)
      | (with_reducible apply safe_part96 <;> assumption)
      | (with_reducible apply safe_part97 <;> assumption)
      | (with_reducible apply safe_part98 <;> assumption)
      | (with_reducible apply safe_part99 <;> assumption)
      | (with_reducible apply safe_part100 <;> assumption)
      | (with_reducible apply safe_part101 <;> assumption)
      | (with_reducible apply safe_part102 <;> assumption)
      | (with_reducible apply safe_part103 <;> assumption)
      | (with_reducible apply safe_part104 <;> assumption)
      | (with_reducible apply safe_part105 <;> assumption)
      | (with_reducible apply safe_part106 <;> assumption)
      | (with_reducible apply safe_part107 <;> assumption)
      | (with_reducible apply safe_part108 <;> assumption)
      | (with_reducible apply safe_part109 <;> assumption)
      | (with_reducible apply safe_part110 <;> assumption)
      | with_reducible refine SafeP.bind ?_ fun _ => ?_
      | with_reducible exact SafeP.ret trivial
      | with_reducible refine SafeP.ite (fun _ => ?_) fun _ => ?_
      | with_reducible refine SafeP.dite (fun _ => ?_) fun _ => ?_
      | with_reducible refine Safe.for fun _ _ => ?_
      | exact Safe.load (by assumption)
      | exact Safe.store (by assumption) (by assumption)

theorem safe_dsa  :
    Safe (defs₀ (F := F)) B R (n + 5) (cc0_dsa i arg2 harg2 arg3 harg3 arg4 harg4 arg5 harg5 arg6
      harg6 arg7 harg7 arg8 harg8 arg9 harg9 arg10 harg10 arg11 harg11 arg12 harg12 arg13
      harg13) := by
  unfold cc0_dsa
  refine SafeP.bind (by apply safe_part111 <;> assumption) fun _ => ?_
  refine SafeP.bind (by apply safe_part112 <;> assumption) fun _ => ?_
  refine SafeP.bind (by apply safe_part113 <;> assumption) fun _ => ?_
  refine SafeP.bind' (by apply safe_part114 <;> assumption) fun _ h114 => ?_
  refine SafeP.bind (by rw [h114]; apply safe_part115 <;> assumption) fun _ => ?_
  refine SafeP.bind (by apply safe_part116 <;> assumption) fun _ => ?_
  refine SafeP.bind (by apply safe_part117 <;> assumption) fun _ => ?_
  refine SafeP.bind (by apply safe_part118 <;> assumption) fun _ => ?_
  refine SafeP.bind (by apply safe_part119 <;> assumption) fun _ => ?_
  repeat'
    first
      | with_reducible refine SafeP.bind ?_ fun _ => ?_
      | with_reducible exact SafeP.ret trivial
      | exact Safe.load (by assumption)
      | exact Safe.store (by assumption) (by assumption)

end

end Cert.Proof.Body
-- ==== Proof.Run.lean ====
/- The launch of the attention call: the run over all grid points from the frame of one body, and what it says of the
   arguments. -/
module

public import proofs.«01_k».proof.Defs
public import proofs.«01_k».proof.Proof.Row
public import proofs.«01_k».proof.Proof.Body
public import proofs.«01_k».proof.Proof.Gen.Kernel
public import proofs.«01_k».proof.Proof.Gen.Kernel.Launch
public import proofs.«01_k».proof.Proof.Gen.Kernel.Points
public import Idealize.ShloMosaic.Adequacy
public import Idealize.ShloMosaic.Init

@[expose] public section

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel Cert.Proof.Pure

variable {F : FTy → Type} [BitOps F]

/-- What the buffers hold when the call begins. -/
def V (m : (ℓ : Loc nD τ sig) → Buf (Elt F) ℓ) (c : Dev nD) (b : Ref sig .tc) : Buf (Elt F) ((c : Thread nD τ).loc b) :=
  StableHlo.after (Gen.hostOps0 (F := F)) (fun b => m (c, b)) b

/-- The call's data: a block that is read is left as it was found. -/
def rdat (m : (ℓ : Loc nD τ sig) → Buf (Elt F) ℓ) (c : Dev nD) : RDat τ (Elt F) Unit ℕ (UR sig nD τ) ℕ (cfg0 (F := F)) c where
  A w := V m c (arrRef (cfg0 (F := F)).spec w)
  after w _ Y X := ((cfg0 (F := F)).win w).isOut = false → X = Y
  Φ _ := ΦA (cfg0 (F := F)).spec c
  q _ := fullShare
  owed _ := 0

theorem stage_whole (t : Fin (cfg0 (F := F)).N) (w : Fin 8) : (((cfg0 (F := F)).win w).stage ((cfg0 (F := F)).slots t w)).IsWhole :=
  Gen.stage_whole0 w _

theorem stage_mem (t : Fin (cfg0 (F := F)).N) (w : Fin 8) :
    (((cfg0 (F := F)).win w).stage ((cfg0 (F := F)).slots t w)).view.ref ∈ Finset.univ.image (stageRef (cfg0 (F := F)).spec) :=
  Finset.mem_image.mpr ⟨⟨w, (cfg0 (F := F)).slots t w⟩, Finset.mem_univ _, rfl⟩

theorem stage_inj (t : Fin (cfg0 (F := F)).N) :
    Function.Injective fun w => (((cfg0 (F := F)).win w).stage ((cfg0 (F := F)).slots t w)).view.ref := fun w w' h => by
  have := Gen.winFacts0.stage_inj (a₁ := ⟨w, (cfg0 (F := F)).slots t w⟩) (a₂ := ⟨w', (cfg0 (F := F)).slots t w'⟩) h
  exact congrArg Sigma.fst this

theorem stage_mem_point (t : Fin (cfg0 (F := F)).N) (w : Fin 8) :
    (((cfg0 (F := F)).win w).stage ((cfg0 (F := F)).slots t w)).view.ref ∈ pointRefs (cfg0 (F := F)) t :=
  Finset.mem_union_left _ (Finset.mem_image_of_mem _ (Finset.mem_univ w))

theorem scratch_mem_point (t : Fin (cfg0 (F := F)).N) (b : Ref sig .tc) (hb : b ∈ [cc0_scratch0, cc0_scratch1, cc0_scratch2, cc0_scratch3]) :
    b ∈ pointRefs (cfg0 (F := F)) t :=
  Finset.mem_union_right _ ((show ∀ b ∈ [cc0_scratch0, cc0_scratch1, cc0_scratch2, cc0_scratch3],
    b ∈ (Finset.univ.filter fun b : Ref sig .tc => b.isScoped) \ Finset.univ.image (stageRef spec0) from by decide) b hb)

/-- The blocks that are read. -/
def inRefs (t : Fin (cfg0 (F := F)).N) : Finset (Ref sig .tc) :=
  (Finset.univ.filter fun w : Fin 8 => ((cfg0 (F := F)).win w).isOut = false).image
    fun w => (((cfg0 (F := F)).win w).stage ((cfg0 (F := F)).slots t w)).view.ref

theorem out_notMem (t : Fin (cfg0 (F := F)).N) :
    (((cfg0 (F := F)).win (7 : Fin 8)).stage ((cfg0 (F := F)).slots t (7 : Fin 8))).view.ref ∉ inRefs (F := F) t := by
  intro h
  obtain ⟨w, hw, e⟩ := Finset.mem_image.mp h
  have := stage_inj t e
  subst this
  exact absurd (Finset.mem_filter.mp hw).2 (show ¬ (spec0 7).isOut = false from by decide)

theorem scratch_notMem (t : Fin (cfg0 (F := F)).N) (b : Ref sig .tc) (hb : b ∈ [cc0_scratch0, cc0_scratch1, cc0_scratch2, cc0_scratch3]) :
    b ∉ inRefs (F := F) t := by
  intro h
  obtain ⟨w, -, rfl⟩ := Finset.mem_image.mp h
  have hne : ∀ b ∈ [cc0_scratch0, cc0_scratch1, cc0_scratch2, cc0_scratch3], b ∉ Finset.univ.image (stageRef spec0) := by decide
  exact hne _ hb (stage_mem t w)

theorem body_safe (t : Fin (cfg0 (F := F)).N) :
    Safe (defs₀ (F := F)) (pointRefs (cfg0 (F := F)) t) (inRefs t) 5 (Gen.bodyAt0 (F := F) t) :=
  Body.safe_dsa (n := 0) (stage_mem_point t 0) (stage_mem_point t 1) (stage_mem_point t 2) (stage_mem_point t 3) (stage_mem_point t 4)
    (stage_mem_point t 5) (stage_mem_point t 6) (stage_mem_point t 7) (out_notMem t)
    (scratch_mem_point t cc0_scratch0 (by decide)) (scratch_notMem t cc0_scratch0 (by decide))
    (scratch_mem_point t cc0_scratch1 (by decide)) (scratch_notMem t cc0_scratch1 (by decide))
    (scratch_mem_point t cc0_scratch2 (by decide)) (scratch_notMem t cc0_scratch2 (by decide))
    (scratch_mem_point t cc0_scratch3 (by decide)) (scratch_notMem t cc0_scratch3 (by decide))

theorem defs_row (t : Fin (cfg0 (F := F)).N) :
    defs₀ (F := F) .tc (cfg0 (F := F)).body ((cfg0 (F := F)).bodyArgs t ((cfg0 (F := F)).slots t)) = Gen.bodyAt0 (F := F) t := by
  unfold defs₀; rw [Defs.onTc_tc]

theorem body (m : (ℓ : Loc nD τ sig) → Buf (Elt F) ℓ) (c : Dev nD) :
    (rdat m c).BodyObligation (defs₀ (F := F)) Variants.nat () Set.univ := fun t Y _ => by
  rw [defs_row]
  refine row_of_W c (cfg0 (F := F)) t (defs₀ (F := F)) (stage_whole t) (stage_inj t) (stage_mem t) 5 (Gen.bodyAt0 (F := F) t) Y
    (fun w X => ((cfg0 (F := F)).win w).isOut = false → X = Y w) (fun σ hσ => ?_) _
  refine W_mono _ _ _ _ _ _ σ (fun _ σ' h w hw => ?_) (body_safe t σ)
  rw [h.2 _ (Finset.mem_image.mpr ⟨w, Finset.mem_filter.mpr ⟨Finset.mem_univ _, hw⟩, rfl⟩)]
  exact hσ w

theorem run (m : (ℓ : Loc nD τ sig) → Buf (Elt F) ℓ) (g : Dev nD → PrngReg) :
    θ_run (defs (F := F)) (onTc (τ := τ) (main (F := F))) ⟨m, fun _ => 0, g⟩ (fun r =>
      (∀ c : Dev nD, ∀ w : Fin 8, ((cfg0 (F := F)).win w).isOut = false →
        r.2.mem (((cfg0 (F := F)).spec w).arr.view.loc (c.tc : Thread nD τ)) = V m c (arrRef (cfg0 (F := F)).spec w))
      ∧ r.2.sem = fun _ => 0) :=
  RDat.θ_run_frame (cfgs (F := F)) 0 Gen.launch0 (defs₀ (F := F)) Variants.nat (rdat m) m g (main (F := F))
    (fun c => body m c) (fun c w => by unfold RDat.share; split <;> rfl) (fun _ _ => rfl) (V m)
    (hmain_prefix (cfgs (F := F)) 0 (defs₀ (F := F)) Variants.nat m (main (F := F)) Gen.hostOps0 Gen.hostOps0_sub rfl
      (fun c => Gen.main_chain c))
    (fun _ _ => rfl) (fun _ _ => rfl) _
    (fun r h => ⟨fun c w hw => RDat.FramePost.arr_in h.1 c w hw, h.2⟩)

end Cert.Proof.Run

end
-- ==== Proof.FHost.lean ====
/- What the host code before the expert call leaves: the two tables, the halves of the first bias, the reshaped second bias
   and the permutation. -/
module

public import proofs.«01_k».proof.Defs
public import proofs.«01_k».proof.Proof.Gen.Kernel2Ideal
public import proofs.«01_k».proof.Proof.Gen.Kernel2Ideal.Launch
public import Idealize.ShloMosaic.Lib.Routing.Ops

@[expose] public section

noncomputable section

namespace Cert.Proof.FHost

open Idealize.ShloMosaic Idealize.ShloMosaic.TcCoe Idealize.ShloMosaic.Tactic Idealize.ShloMosaic.StableHlo
open Idealize.SL Idealize.SL.RA Idealize.SL.BI Idealize.SL.Sem
open Cert.Kernel2Ideal Cert.Kernel2Ideal.Gen

variable {F : FTy → Type} [FloatOps F]

/-- The stretches of host operations before the call. -/
abbrev opss : List (List (HloOp τ sig (Elt F))) :=
  [hostOps0, hostOps0_1, hostOps0_2, hostOps0_3, hostOps0_4, hostOps0_5, hostOps0_6, hostOps0_7, hostOps0_8, hostOps0_9, hostOps0_10]

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub⟩

theorem opss_fresh : (opss : List (List (HloOp τ sig (Elt F)))).Forall fun ops => ops.Forall fun op => op.fresh = ∅ := by
  refine ⟨?_, ?_, ?_, ?_, ?_, ?_, ?_, ?_, ?_, ?_, ?_⟩ <;> (repeat' first | exact rfl | refine ⟨rfl, ?_⟩)

/-- What the buffers hold when the call begins. -/
def V (m : (ℓ : Loc nD τ sig) → Buf (Elt F) ℓ) (c : Dev nD) (b : Ref sig .tc) : Buf (Elt F) ((c : Thread nD τ).loc b) :=
  StableHlo.after (opss (F := F)).flatten (fun b => m (c, b)) b

/-- The counts rounded up to whole blocks of 512. -/
def padded (n : IVec S32 32) : IVec S32 32 :=
  let x := subi (addi n (broadcastInDim S32 ![] bcast_S_S32 (constantI S_ 32 512#32))) (broadcastInDim S32 ![] bcast_S_S32 (constantI S_ 32 1#32))
  let d := broadcastInDim S32 ![] bcast_S_S32 (constantI S_ 32 512#32)
  muli (select (andi (cmpi .ne (signi x) (broadcastInDim S32 ![] bcast_S_S32 (signi (constantI S_ 32 512#32))))
      (cmpi .ne (Host.remsi x d) (broadcastInDim S32 ![] bcast_S_S32 (constantI S_ 32 0#32))))
    (subi (Host.divsi x d) (broadcastInDim S32 ![] bcast_S_S32 (constantI S_ 32 1#32))) (Host.divsi x d)) d

/-- Where each expert's rows end. -/
def ends (n : IVec S32 32) : IVec S32 32 :=
  Host.reduceWindow IntOp.addi ![32] ![1] ![31] ![0] (padded n) (broadcastInDim S_ ![] bcast_S_S_ (constantI S_ 32 0#32)) reduceWindows_S32_S32_w32s1p31_0 h_S_

/-- The number of experts whose rows end at or before a block's first row. -/
def before (n : IVec S32 32) : IVec S160x32 1 :=
  cmpi .sle (broadcastInDim S160x32 ![0, 1] bcast_S1x32_S160x32_0_1 (broadcastInDim S1x32 ![1] bcast_S32_S1x32_1 (ends n)))
    (broadcastInDim S160x32 ![0, 1] bcast_S160x1_S160x32_0_1 (broadcastInDim S160x1 ![0] bcast_S160_S160x1_0
      (muli (iotaInDim S160 32 0) (broadcastInDim S160 ![] bcast_S_S160 (constantI S_ 32 512#32)))))

/-- The expert of each block. -/
def blkE (n : IVec S32 32) : IVec S160 32 :=
  minsi (Host.reduce IntOp.addi (extui 32 (before n) natLt_1_32) (constantI S_ 32 0#32) reducesTo_S160x32_S160_d1 h_S_)
    (broadcastInDim S160 ![] bcast_S_S160 (constantI S_ 32 31#32))

/-- The number of blocks in use. -/
def used (n : IVec S32 32) : IVec S1 32 :=
  let x := extractStridedSlice S1 ![31] (ends n) slices_S32_S1_31
  let d := broadcastInDim S1 ![] bcast_S_S1 (constantI S_ 32 512#32)
  select (andi (cmpi .ne (signi x) (broadcastInDim S1 ![] bcast_S_S1 (signi (constantI S_ 32 512#32))))
      (cmpi .ne (Host.remsi x d) (broadcastInDim S1 ![] bcast_S_S1 (constantI S_ 32 0#32))))
    (subi (Host.divsi x d) (broadcastInDim S1 ![] bcast_S_S1 (constantI S_ 32 1#32))) (Host.divsi x d)

/-- The column order: even columns first, then the odd ones. -/
def order : IVec S256x256 32 :=
  select (cmpi .slt (iotaInDim S256x256 32 1) (broadcastInDim S256x256 ![] bcast_S_S256x256 (constantI S_ 32 128#32)))
    (muli (broadcastInDim S256x256 ![] bcast_S_S256x256 (constantI S_ 32 2#32)) (iotaInDim S256x256 32 1))
    (addi (muli (broadcastInDim S256x256 ![] bcast_S_S256x256 (constantI S_ 32 2#32))
      (subi (iotaInDim S256x256 32 1) (broadcastInDim S256x256 ![] bcast_S_S256x256 (constantI S_ 32 128#32))))
      (broadcastInDim S256x256 ![] bcast_S_S256x256 (constantI S_ 32 1#32)))

/-- The permutation as a matrix of ones and zeros. -/
def perm : FVec F S256x256 .bf16 :=
  truncf .bf16 (select (cmpi .eq (iotaInDim S256x256 32 0) order) (broadcastInDim S256x256 ![] bcast_S_S256x256 (constant S_ .f32 0x3F800000#32))
    (broadcastInDim S256x256 ![] bcast_S_S256x256 (constant S_ .f32 0x00000000#32))) bitsLt_bf16_f32

section Values

variable (m : (ℓ : Loc nD τ sig) → Buf (Elt F) ℓ) (c : Dev nD)

set_option maxRecDepth 8192
set_option maxHeartbeats 40000000

theorem V_v19 : V m c main_v19 = blkE (m ((c : Thread nD τ).loc main_arg0)) := by
  unfold V
  simp only [opss, List.flatten_cons, List.flatten_nil, hostOps0, hostOps0_1, hostOps0_2, hostOps0_3, hostOps0_4, hostOps0_5, hostOps0_6, hostOps0_7, hostOps0_8, hostOps0_9, hostOps0_10,
    List.cons_append, List.nil_append, List.append_nil, TRef.binary, TRef.nullary, TRef.ternary, TRef.unary, TRef.toBuf, TRef.ofBuf, cast_eq]
  after_results_simp <;> rfl

theorem V_v21 : V m c main_v21 = used (m ((c : Thread nD τ).loc main_arg0)) := by
  unfold V
  simp only [opss, List.flatten_cons, List.flatten_nil, hostOps0, hostOps0_1, hostOps0_2, hostOps0_3, hostOps0_4, hostOps0_5, hostOps0_6, hostOps0_7, hostOps0_8, hostOps0_9, hostOps0_10,
    List.cons_append, List.nil_append, List.append_nil, TRef.binary, TRef.nullary, TRef.ternary, TRef.unary, TRef.toBuf, TRef.ofBuf, cast_eq]
  after_results_simp <;> rfl

theorem V_v42 : V m c main_v42 = perm (F := F) := by
  unfold V
  simp only [opss, List.flatten_cons, List.flatten_nil, hostOps0, hostOps0_1, hostOps0_2, hostOps0_3, hostOps0_4, hostOps0_5, hostOps0_6, hostOps0_7, hostOps0_8, hostOps0_9, hostOps0_10,
    List.cons_append, List.nil_append, List.append_nil, TRef.binary, TRef.nullary, TRef.ternary, TRef.unary, TRef.toBuf, TRef.ofBuf, cast_eq]
  after_results_simp <;> rfl

theorem V_v23 : V m c main_v23 = shapeCast S32x1x1024 (Host.slice S32x1024 ![0, 0] ![1, 2] (m ((c : Thread nD τ).loc main_arg3)) slicesBy_S32x2048_S32x1024_0s1_0s2) shapeCasts_S32x1024_S32x1x1024 := by
  unfold V
  simp only [opss, List.flatten_cons, List.flatten_nil, hostOps0, hostOps0_1, hostOps0_2, hostOps0_3, hostOps0_4, hostOps0_5, hostOps0_6, hostOps0_7, hostOps0_8, hostOps0_9, hostOps0_10,
    List.cons_append, List.nil_append, List.append_nil, TRef.binary, TRef.nullary, TRef.ternary, TRef.unary, TRef.toBuf, TRef.ofBuf, cast_eq]
  after_results_simp <;> rfl

theorem V_v25 : V m c main_v25 = shapeCast S32x1x1024 (Host.slice S32x1024 ![0, 1] ![1, 2] (m ((c : Thread nD τ).loc main_arg3)) slicesBy_S32x2048_S32x1024_0s1_1s2) shapeCasts_S32x1024_S32x1x1024 := by
  unfold V
  simp only [opss, List.flatten_cons, List.flatten_nil, hostOps0, hostOps0_1, hostOps0_2, hostOps0_3, hostOps0_4, hostOps0_5, hostOps0_6, hostOps0_7, hostOps0_8, hostOps0_9, hostOps0_10,
    List.cons_append, List.nil_append, List.append_nil, TRef.binary, TRef.nullary, TRef.ternary, TRef.unary, TRef.toBuf, TRef.ofBuf, cast_eq]
  after_results_simp <;> rfl

theorem V_v26 : V m c main_v26 = shapeCast S32x1x1024 (m ((c : Thread nD τ).loc main_arg5)) shapeCasts_S32x1024_S32x1x1024 := by
  unfold V
  simp only [opss, List.flatten_cons, List.flatten_nil, hostOps0, hostOps0_1, hostOps0_2, hostOps0_3, hostOps0_4, hostOps0_5, hostOps0_6, hostOps0_7, hostOps0_8, hostOps0_9, hostOps0_10,
    List.cons_append, List.nil_append, List.append_nil, TRef.binary, TRef.nullary, TRef.ternary, TRef.unary, TRef.toBuf, TRef.ofBuf, cast_eq]
  after_results_simp <;> rfl

theorem V_arg (b : Ref sig .tc) (hb : b ∈ [main_arg0, main_arg1, main_arg2, main_arg3, main_arg4, main_arg5]) :
    V m c b = m ((c : Thread nD τ).loc b) := by
  unfold V
  simp only [List.mem_cons, List.not_mem_nil, or_false] at hb
  simp only [opss, List.flatten_cons, List.flatten_nil, hostOps0, hostOps0_1, hostOps0_2, hostOps0_3, hostOps0_4, hostOps0_5, hostOps0_6, hostOps0_7, hostOps0_8, hostOps0_9, hostOps0_10,
    List.cons_append, List.nil_append, List.append_nil, TRef.binary, TRef.nullary, TRef.ternary, TRef.unary, TRef.toBuf, TRef.ofBuf, cast_eq]
  rcases hb with rfl | rfl | rfl | rfl | rfl | rfl <;> after_results_simp <;> rfl

end Values

/-- A block's expert is one of the 32. -/
theorem blkE_le (n : IVec S32 32) (j : S160.Idx) : (blkE n j).toNat ≤ 31 := by
  classical
  obtain ⟨i, rfl⟩ : ∃ i : Fin 160, j = ValueIdx.ix1 i := ⟨j 0, funext fun a => by match a with | ⟨0, _⟩ => rfl⟩
  obtain ⟨k, hk, h⟩ : ∃ k ≤ 32, Host.reduce IntOp.addi (extui 32 (before n) natLt_1_32) (constantI S_ 32 0#32) reducesTo_S160x32_S160_d1 h_S_ (ValueIdx.ix1 i)
      = BitVec.ofNat 32 k :=
    ⟨_, Nat.count_le (p := fun q => if hq : q < 32 then before n (ValueIdx.ix2 i (⟨q, hq⟩ : Fin 32)) = 1#1 else False),
      Routing.reduce_count (n := 160) (m := 32) (by decide) (before n) natLt_1_32 reducesTo_S160x32_S160_d1 h_S_ i
        (fun q => if hq : q < 32 then before n (ValueIdx.ix2 i (⟨q, hq⟩ : Fin 32)) = 1#1 else False) (fun q => by rw [dif_pos q.isLt])⟩
  have e : blkE n (ValueIdx.ix1 i) = Scalar.minsi (Host.reduce IntOp.addi (extui 32 (before n) natLt_1_32) (constantI S_ 32 0#32) reducesTo_S160x32_S160_d1 h_S_ (ValueIdx.ix1 i)) 31#32 := rfl
  rw [e, h]
  have : ∀ k : Fin 33, (Scalar.minsi (BitVec.ofNat 32 k.val) 31#32).toNat ≤ 31 := by decide
  exact this ⟨k, by omega⟩

end Cert.Proof.FHost

end
-- ==== Proof.FPure.lean ====
/- Bodies read as functions of plain contents, for a call that prefetches tables: a body loads from the buffers of `B` and
   stores into those of them held whole, and `wpS` says from which contents it ends with which. `row` carries that reading to
   one grid point of the call, the blocks, the scratch buffers and the tables gathered into one state. -/
module

public import Idealize.ShloMosaic.Lib.Tactic
public import Idealize.ShloMosaic.Lib.Pipeline.Frame
public import Idealize.SL.ProofMode.BigOp

@[expose] public section

noncomputable section

namespace Cert.Proof.FPure

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type} {Λ : Labels}

variable (sig Val) in
/-- Contents of every buffer the core names. -/
abbrev St : Type := (b : Ref sig .tc) → b.ty.Contents Val

/-- What one effect asks of the contents: a load names a buffer of `B`, a store one of `B` that is no table. -/
def effW (B T : Finset (Ref sig .tc)) {β : Type} (e : TpuEff nD τ sig Val Λ .tc β) (Q : β → St sig Val → Prop) (σ : St sig Val) : Prop :=
  match β, e, Q with
  | _, .load m r _, Q => m.view.ref ∈ B ∧ Q (m.view.readAt Val r (σ m.view.ref)) σ
  | _, .store m r w M _ _, Q =>
      (m.view.ref ∈ B ∧ m.view.ref ∉ T) ∧ Q ⟨⟩ (Function.update σ m.view.ref ((m.access r).write Val (σ m.view.ref) w M))
  | _, _, _ => False

/-- A whole program. -/
def wpS (B T : Finset (Ref sig .tc)) {α : Type} : Prog (TpuEff nD τ sig Val Λ .tc) α → (α → St sig Val → Prop) → St sig Val → Prop
  | .ret a, Q, σ => Q a σ
  | .op e k, Q, σ => effW B T e (fun x σ' => wpS B T (k x) Q σ') σ

section Rules

variable (B T : Finset (Ref sig .tc))

theorem effW_mono {β : Type} (e : TpuEff nD τ sig Val Λ .tc β) (Q Q' : β → St sig Val → Prop) (σ : St sig Val)
    (h : ∀ x σ', Q x σ' → Q' x σ') : effW B T e Q σ → effW B T e Q' σ := by
  cases e <;> simp only [effW] <;> first | exact fun hf => hf.elim | exact fun hf => ⟨hf.1, h _ _ hf.2⟩

theorem wpS_mono {α : Type} (p : Prog (TpuEff nD τ sig Val Λ .tc) α) : ∀ (Q Q' : α → St sig Val → Prop) (σ : St sig Val),
    (∀ x σ', Q x σ' → Q' x σ') → wpS B T p Q σ → wpS B T p Q' σ := by
  induction p with
  | ret a => intro Q Q' σ h; exact h _ _
  | op e k ih => intro Q Q' σ h; exact effW_mono B T e _ _ σ fun x σ' => ih x Q Q' σ' h

theorem wpS_bind {α β : Type} (p : Prog (TpuEff nD τ sig Val Λ .tc) α) (f : α → Prog (TpuEff nD τ sig Val Λ .tc) β)
    (Q : β → St sig Val → Prop) : ∀ σ, wpS B T (p >>= f) Q σ = wpS B T p (fun a σ' => wpS B T (f a) Q σ') σ := by
  induction p with
  | ret a => intro σ; rfl
  | op e k ih =>
      intro σ
      show effW B T e (fun x σ' => wpS B T (k x >>= f) Q σ') σ = effW B T e (fun x σ' => wpS B T (k x) _ σ') σ
      simp only [ih]

end Rules

/-! ### The program logic -/

section Sound

variable (c : Dev nD)

local notation "𝕄" => MT nD τ sig Unit Val ℕ (UR sig nD τ) ℕ

/-- The share a buffer is held at: a table at a half, any other whole. -/
def shr (T : Finset (Ref sig .tc)) (b : Ref sig .tc) : PosShare TreeShare := if b ∈ T then fullShare.right else fullShare

/-- The buffers of `B`, each at its contents in `σ`. -/
def held (B T : Finset (Ref sig .tc)) (σ : St sig Val) : sProp 𝕄 :=
  bigSep B fun b => ((c : Thread nD τ).loc b ↦{shr T b} (σ b : Buf Val ((c : Thread nD τ).loc b)))

theorem held_take {B T : Finset (Ref sig .tc)} {b : Ref sig .tc} (hb : b ∈ B) (σ : St sig Val) :
    (held c B T σ : sProp 𝕄) = iprop(((c : Thread nD τ).loc b ↦{shr T b} (σ b : Buf Val ((c : Thread nD τ).loc b))) ∗ bigSep (B.erase b) fun b => ((c : Thread nD τ).loc b ↦{shr T b} (σ b : Buf Val ((c : Thread nD τ).loc b)))) :=
  bigSep_erase hb

theorem held_put {B T : Finset (Ref sig .tc)} {b : Ref sig .tc} (hb : b ∈ B) (σ : St sig Val) (f : b.ty.Contents Val) :
    (held c B T (Function.update σ b f) : sProp 𝕄) = iprop(((c : Thread nD τ).loc b ↦{shr T b} (f : Buf Val ((c : Thread nD τ).loc b))) ∗ bigSep (B.erase b) fun b => ((c : Thread nD τ).loc b ↦{shr T b} (σ b : Buf Val ((c : Thread nD τ).loc b)))) := by
  rw [held_take c hb, Function.update_self]
  congr 1
  exact bigSep_congr fun b' hb' => by rw [Function.update_of_ne (Finset.ne_of_mem_erase hb')]

variable (defs : Defs nD τ sig Val Λ) (B T : Finset (Ref sig .tc))

/-- A program that meets `wpS` from the contents `σ` runs, holding the buffers of `B` at them, and ends at contents `wpS`
    promises. -/
theorem wpS_sound (bd : Option ℕ) (E : Set ℕ) {α : Type} (p : Prog (TpuEff nD τ sig Val Λ .tc) α) :
    ∀ (Q : α → St sig Val → Prop) (σ : St sig Val), wpS B T p Q σ → ∀ K : α → sProp 𝕄,
      iprop(held c B T σ ∗ (∀ x σ', ⌜Q x σ'⌝ -∗ held c B T σ' -∗ K x))
        ⊢ wp frame (wpE defs Variants.nat (c : Thread nD τ) bd) E p K := by
  induction p with
  | ret a =>
      intro Q σ h K
      iintro ⟨H, Hk⟩
      rw [wp_ret]; imodintro
      iapply Hk $$ %a %σ [] H
      ipureintro; exact h
  | op e k ih =>
      intro Q σ h K
      cases e
      case load m r hl =>
        obtain ⟨hB, h⟩ := h
        have hs := ih _ Q σ h K
        rw [held_take c hB] at hs ⊢
        iintro ⟨⟨H, Hr⟩, Hk⟩
        iapply (wp_load Variants.nat (c : Thread nD τ) bd E (defs := defs) (S := Finset.univ) (Finset.subset_univ _)) $$ H
        iintro H
        iapply hs
        isplitl [H Hr]
        · isplitl [H] <;> iassumption
        iexact Hk
      case store m r w M hx hm =>
        obtain ⟨⟨hB, hT⟩, h⟩ := h
        have hs := ih _ Q _ h K
        rw [held_take c hB]
        rw [held_put c hB] at hs
        have hq : shr T m.view.ref = fullShare := if_neg hT
        rw [hq] at hs ⊢
        iintro ⟨⟨H, Hr⟩, Hk⟩
        iapply (wp_store Variants.nat (c : Thread nD τ) bd E (defs := defs) (m := m) (r := r) (w := w) (Mk := M) (hx := hx) (hm := hm) (k := k) (Q := K) (S := Finset.univ) (f := σ m.view.ref) (Finset.subset_univ _)) $$ H
        iintro H
        iapply hs
        isplitl [H Hr]
        · isplitl [H] <;> iassumption
        iexact Hk
      all_goals exact h.elim

end Sound

/-! ### One grid point -/

section Row

local notation "𝕄" => MT nD τ sig Unit Val ℕ (UR sig nD τ) ℕ

theorem bigSep_ins {M : Type} [URA M] {I : Type} [DecidableEq I] {i : I} {s : Finset I} (h : i ∉ s) {Φ : I → sProp M} :
    bigSep (insert i s) Φ = iprop(Φ i ∗ bigSep s Φ) := bigSep_insert h

theorem bigSep_uni {M : Type} [URA M] {I : Type} [DecidableEq I] {s t : Finset I} (h : Disjoint s t) {Φ : I → sProp M} :
    bigSep (s ∪ t) Φ = iprop(bigSep s Φ ∗ bigSep t Φ) := bigSep_union h

theorem bs_mono {M : Type} [URA M] {I : Type} {s : Finset I} {Φ Ψ : I → sProp M} (h : ∀ i ∈ s, Φ i ⊢ Ψ i) :
    bigSep s Φ ⊢ bigSep s Ψ := bigSep_mono h

theorem sep_mono2 {M : Type} [URA M] {P P' Q Q' : sProp M} (h : P ⊢ P') (h' : Q ⊢ Q') : iprop(P ∗ Q) ⊢ iprop(P' ∗ Q') :=
  Idealize.SL.BI.sep_mono h h'

/-- Contents of one name read at an equal one. -/
def moved {b b' : Ref sig .tc} (h : b = b') (f : b.ty.Contents Val) : b'.ty.Contents Val := by subst h; exact f

variable (c : Dev nD)

/-- The buffers of `B`, each at contents of which `P` holds, are one state's. -/
theorem held_gather [∀ e, Nonempty (Val e)] (B T : Finset (Ref sig .tc)) (P : (b : Ref sig .tc) → b.ty.Contents Val → Prop) :
    (bigSep B fun b => iprop(∃ f : Buf Val ((c : Thread nD τ).loc b), ⌜P b f⌝ ∗ (((c : Thread nD τ).loc b) ↦{shr T b} f)) : sProp 𝕄)
      ⊢ iprop(∃ σ : St sig Val, ⌜∀ b ∈ B, P b (σ b)⌝ ∗ held c B T σ) := by
  induction B using Finset.induction_on with
  | empty =>
    rw [bigSep_empty]; iintro -; iexists (fun b _ => Classical.choice inferInstance)
    isplitr
    · ipureintro; intro b hb; exact absurd hb (Finset.notMem_empty b)
    · unfold held; rw [bigSep_empty]; iempintro
  | insert a S ha ih =>
    rw [bigSep_ins ha]
    iintro ⟨⟨%f, %hf, H⟩, HS⟩
    ihave HS := ih $$ HS
    icases HS with ⟨%σ, %hσ, HS⟩
    iexists Function.update σ a f
    isplitr
    · ipureintro
      intro b hb
      by_cases h : b = a
      · subst h; rw [Function.update_self]; exact hf
      · rw [Function.update_of_ne h]; exact hσ b ((Finset.mem_insert.mp hb).resolve_left h)
    · rw [held_put c (Finset.mem_insert_self a S), Finset.erase_insert ha]
      isplitl [H]
      · iexact H
      · unfold held; iexact HS

variable {Λ₀ : Labels}

/-- The current blocks of the windows. -/
def stRefs (cfg : Cfg sig Λ₀) (t : Fin cfg.N) : Finset (Ref sig .tc) :=
  Finset.univ.image fun w => ((cfg.win w).stage (cfg.slots t w)).view.ref

/-- The scratch buffers. -/
def scRefs (cfg : Cfg sig Λ₀) : Finset (Ref sig .tc) :=
  (Finset.univ.filter fun b : Ref sig .tc => b.isScoped) \ Finset.univ.image (stageRef cfg.spec)

/-- The tables. -/
def tbRefs (pre : Prefetch sig) : Finset (Ref sig .tc) := Finset.univ.image pre.ref

/-- What a body may name at a point. -/
def ptRefs (cfg : Cfg sig Λ₀) (pre : Prefetch sig) (t : Fin cfg.N) : Finset (Ref sig .tc) :=
  (stRefs cfg t ∪ scRefs cfg) ∪ tbRefs pre

/-- What is held between points: the scratch buffers at contents of which `I` holds, the generator's register, the tables. -/
def between (cfg : Cfg sig Λ₀) (pre : Prefetch sig) (v : pre.Contents Val) (I : St sig Val → Prop) : sProp 𝕄 :=
  iprop((∃ σ : St sig Val, ⌜I σ⌝ ∗ held c (scRefs cfg) ∅ σ) ∗ (∃ r, prngReg c r) ∗ ΦT pre v c)

/-- One grid point. -/
theorem row [∀ e, Nonempty (Val e)] (cfg : Cfg sig Λ₀) (pre : Prefetch sig) (v : pre.Contents Val) (t : Fin cfg.N) (defs : Defs nD τ sig Val Λ₀)
    (hst : ∀ w, ((cfg.win w).stage (cfg.slots t w)).IsWhole)
    (hinj : Function.Injective fun w => ((cfg.win w).stage (cfg.slots t w)).view.ref)
    (hsc : ∀ w, ((cfg.win w).stage (cfg.slots t w)).view.ref ∈ Finset.univ.image (stageRef cfg.spec))
    (hscoped : ∀ b ∈ stRefs cfg t, b.isScoped = true)
    (hpu : ∀ k, (pre.ref k).isScoped = false) (hpi : Function.Injective pre.ref)
    (p : Prog (TpuEff nD τ sig Val Λ₀ .tc) PUnit)
    (Y : (w : Fin cfg.W) → (cfg.win w).block.Idx → Val (cfg.win w).elt)
    (after : (w : Fin cfg.W) → ((cfg.win w).block.Idx → Val (cfg.win w).elt) → Prop)
    (I J : St sig Val → Prop)
    (hI : ∀ σ σ' : St sig Val, (∀ b ∈ scRefs cfg, σ b = σ' b) → I σ → I σ')
    (hW : ∀ σ : St sig Val, (∀ w, ((cfg.win w).stage (cfg.slots t w)).view.read Val (σ ((cfg.win w).stage (cfg.slots t w)).view.ref) = Y w) →
      (∀ k, σ (pre.ref k) = v k) → I σ →
      wpS (ptRefs cfg pre t) (tbRefs pre) p
        (fun _ σ' => (∀ w, after w (((cfg.win w).stage (cfg.slots t w)).view.read Val (σ' ((cfg.win w).stage (cfg.slots t w)).view.ref)))
          ∧ (∀ k, σ' (pre.ref k) = v k) ∧ J σ') σ)
    (O : sProp 𝕄) :
    iprop((between c cfg pre v I : sProp 𝕄) ∗ O ∗ bigSep Finset.univ fun w => ownsTc c ((cfg.win w).stage (cfg.slots t w)) fullShare (Y w))
      ⊢ wp frame (wpE defs Variants.nat (c : Thread nD τ) none) Set.univ p fun _ =>
          iprop((between c cfg pre v J : sProp 𝕄) ∗ O
            ∗ bigSep Finset.univ fun w => iprop(∃ X, ⌜after w X⌝ ∗ ownsTc c ((cfg.win w).stage (cfg.slots t w)) fullShare X)) := by
  classical
  have hdis : Disjoint (stRefs cfg t) (scRefs cfg) := by
    rw [Finset.disjoint_left]
    intro b hb hb'
    obtain ⟨w, -, rfl⟩ := Finset.mem_image.mp hb
    exact (Finset.mem_sdiff.mp hb').2 (hsc w)
  have hscp : ∀ b ∈ stRefs cfg t ∪ scRefs cfg, b.isScoped = true := by
    intro b hb
    rcases Finset.mem_union.mp hb with h | h
    · exact hscoped b h
    · exact (Finset.mem_filter.mp (Finset.mem_sdiff.mp h).1).2
  have htb : ∀ b ∈ stRefs cfg t ∪ scRefs cfg, b ∉ tbRefs pre := by
    intro b hb hb'
    obtain ⟨k, -, rfl⟩ := Finset.mem_image.mp hb'
    have := hscp _ hb
    rw [hpu k] at this
    exact absurd this Bool.false_ne_true
  have hdis2 : Disjoint (stRefs cfg t ∪ scRefs cfg) (tbRefs pre) := Finset.disjoint_left.mpr fun b hb => htb b hb
  let P : St sig Val → (b : Ref sig .tc) → b.ty.Contents Val → Prop := fun σ₀ b f =>
    (∀ w, ∀ h : b = ((cfg.win w).stage (cfg.slots t w)).view.ref, ((cfg.win w).stage (cfg.slots t w)).view.read Val (moved h f) = Y w)
    ∧ (∀ k, ∀ h : b = pre.ref k, moved h f = v k) ∧ (b ∈ scRefs cfg → f = σ₀ b)
  have hin : ∀ σ₀ : St sig Val, iprop((bigSep Finset.univ fun w => ownsTc c ((cfg.win w).stage (cfg.slots t w)) fullShare (Y w))
        ∗ held c (scRefs cfg) ∅ σ₀ ∗ ΦT pre v c)
      ⊢ (bigSep (ptRefs cfg pre t) fun b => iprop(∃ f : Buf Val ((c : Thread nD τ).loc b), ⌜P σ₀ b f⌝ ∗ (((c : Thread nD τ).loc b) ↦{shr (tbRefs pre) b} f)) : sProp 𝕄) := by
    intro σ₀
    unfold ptRefs
    rw [bigSep_uni hdis2, bigSep_uni hdis]
    have h1 : (bigSep Finset.univ fun w => ownsTc c ((cfg.win w).stage (cfg.slots t w)) fullShare (Y w) : sProp 𝕄)
        ⊢ bigSep (stRefs cfg t) fun b => iprop(∃ f : Buf Val ((c : Thread nD τ).loc b), ⌜P σ₀ b f⌝ ∗ (((c : Thread nD τ).loc b) ↦{shr (tbRefs pre) b} f)) := by
      unfold stRefs
      rw [bigSep_image_of_injOn hinj.injOn]
      refine bs_mono ?_
      intro w _
      have hm : ((cfg.win w).stage (cfg.slots t w)).view.ref ∈ stRefs cfg t := Finset.mem_image_of_mem _ (Finset.mem_univ w)
      rw [show shr (tbRefs pre) ((cfg.win w).stage (cfg.slots t w)).view.ref = fullShare from if_neg (htb _ (Finset.mem_union_left _ hm))]
      unfold ownsTc owns
      rw [(hst w).set_eq_univ]
      iintro ⟨%f, %hf, H⟩
      iexists f
      isplitr
      · ipureintro
        refine ⟨?_, ?_, ?_⟩
        · intro w' h
          obtain rfl := hinj h
          exact hf
        · intro k h
          exact absurd (Finset.mem_image.mpr ⟨k, Finset.mem_univ _, h.symm⟩) (htb _ (Finset.mem_union_left _ hm))
        · intro h
          exact absurd h (Finset.disjoint_left.mp hdis hm)
      · iexact H
    have h2 : (held c (scRefs cfg) ∅ σ₀ : sProp 𝕄)
        ⊢ bigSep (scRefs cfg) fun b => iprop(∃ f : Buf Val ((c : Thread nD τ).loc b), ⌜P σ₀ b f⌝ ∗ (((c : Thread nD τ).loc b) ↦{shr (tbRefs pre) b} f)) := by
      unfold held
      refine bs_mono ?_
      intro b hb
      rw [show shr (tbRefs pre) b = fullShare from if_neg (htb _ (Finset.mem_union_right _ hb)),
        show shr (∅ : Finset (Ref sig .tc)) b = fullShare from if_neg (Finset.notMem_empty b)]
      iintro H
      iexists (σ₀ b)
      isplitr
      · ipureintro
        refine ⟨?_, ?_, fun _ => rfl⟩
        · intro w h; subst h; exact absurd (hsc w) (Finset.mem_sdiff.mp hb).2
        · intro k h; subst h
          exact absurd (Finset.mem_image_of_mem _ (Finset.mem_univ k)) (htb _ (Finset.mem_union_right _ hb))
      · iexact H
    have h3 : (ΦT pre v c : sProp 𝕄)
        ⊢ bigSep (tbRefs pre) fun b => iprop(∃ f : Buf Val ((c : Thread nD τ).loc b), ⌜P σ₀ b f⌝ ∗ (((c : Thread nD τ).loc b) ↦{shr (tbRefs pre) b} f)) := by
      unfold ΦT prefHeld
      unfold tbRefs
      rw [bigSep_image_of_injOn hpi.injOn]
      refine bs_mono ?_
      intro k _
      have hk : pre.ref k ∈ tbRefs pre := Finset.mem_image_of_mem _ (Finset.mem_univ k)
      rw [show shr (Finset.univ.image pre.ref) (pre.ref k) = fullShare.right from if_pos hk]
      iintro H
      iexists (v k)
      isplitr
      · ipureintro
        refine ⟨?_, ?_, ?_⟩
        · intro w h
          exact absurd hk (htb _ (Finset.mem_union_left _ (Finset.mem_image.mpr ⟨w, Finset.mem_univ _, h.symm⟩)))
        · intro k' h
          obtain rfl := hpi h
          rfl
        · intro h; exact absurd hk (htb _ (Finset.mem_union_right _ h))
      · iexact H
    iintro ⟨Ha, Hb, Hc⟩
    ihave Ha := h1 $$ Ha
    ihave Hb := h2 $$ Hb
    ihave Hc := h3 $$ Hc
    isplitl [Ha Hb]
    · isplitl [Ha] <;> iassumption
    iexact Hc
  have hout : ∀ σ : St sig Val, (∀ w, after w (((cfg.win w).stage (cfg.slots t w)).view.read Val (σ ((cfg.win w).stage (cfg.slots t w)).view.ref))) →
      (∀ k, σ (pre.ref k) = v k) →
      (held c (ptRefs cfg pre t) (tbRefs pre) σ : sProp 𝕄)
      ⊢ iprop((bigSep Finset.univ fun w => iprop(∃ X, ⌜after w X⌝ ∗ ownsTc c ((cfg.win w).stage (cfg.slots t w)) fullShare X))
        ∗ held c (scRefs cfg) ∅ σ ∗ ΦT pre v c) := by
    intro σ hσ hv
    unfold held ptRefs
    rw [bigSep_uni hdis2, bigSep_uni hdis]
    have h1 : (bigSep (stRefs cfg t) fun b => ((c : Thread nD τ).loc b ↦{shr (tbRefs pre) b} (σ b : Buf Val ((c : Thread nD τ).loc b))) : sProp 𝕄)
        ⊢ bigSep Finset.univ fun w => iprop(∃ X, ⌜after w X⌝ ∗ ownsTc c ((cfg.win w).stage (cfg.slots t w)) fullShare X) := by
      unfold stRefs
      rw [bigSep_image_of_injOn hinj.injOn]
      refine bs_mono ?_
      intro w _
      have hm : ((cfg.win w).stage (cfg.slots t w)).view.ref ∈ stRefs cfg t := Finset.mem_image_of_mem _ (Finset.mem_univ w)
      rw [show shr (tbRefs pre) ((cfg.win w).stage (cfg.slots t w)).view.ref = fullShare from if_neg (htb _ (Finset.mem_union_left _ hm))]
      unfold ownsTc owns
      rw [(hst w).set_eq_univ]
      iintro H
      iexists ((cfg.win w).stage (cfg.slots t w)).view.read Val (σ ((cfg.win w).stage (cfg.slots t w)).view.ref)
      isplitr
      · ipureintro; exact hσ w
      iexists (σ ((cfg.win w).stage (cfg.slots t w)).view.ref)
      isplitr
      · ipureintro; rfl
      · iexact H
    have h2 : (bigSep (scRefs cfg) fun b => ((c : Thread nD τ).loc b ↦{shr (tbRefs pre) b} (σ b : Buf Val ((c : Thread nD τ).loc b))) : sProp 𝕄)
        ⊢ bigSep (scRefs cfg) fun b => ((c : Thread nD τ).loc b ↦{shr ∅ b} (σ b : Buf Val ((c : Thread nD τ).loc b))) := by
      refine bs_mono ?_
      intro b hb
      rw [show shr (tbRefs pre) b = fullShare from if_neg (htb _ (Finset.mem_union_right _ hb)),
        show shr (∅ : Finset (Ref sig .tc)) b = fullShare from if_neg (Finset.notMem_empty b)]
    have h3 : (bigSep (tbRefs pre) fun b => ((c : Thread nD τ).loc b ↦{shr (tbRefs pre) b} (σ b : Buf Val ((c : Thread nD τ).loc b))) : sProp 𝕄)
        ⊢ ΦT pre v c := by
      unfold ΦT prefHeld
      unfold tbRefs
      rw [bigSep_image_of_injOn hpi.injOn]
      refine bs_mono ?_
      intro k _
      rw [show shr (Finset.univ.image pre.ref) (pre.ref k) = fullShare.right from if_pos (Finset.mem_image_of_mem _ (Finset.mem_univ k)), hv k]
    iintro ⟨⟨Ha, Hb⟩, Hc⟩
    ihave Ha := h1 $$ Ha
    ihave Hb := h2 $$ Hb
    ihave Hc := h3 $$ Hc
    isplitl [Ha]
    · iexact Ha
    isplitl [Hb] <;> iassumption
  unfold between
  iintro ⟨⟨⟨%σ₀, %hσ₀, Hs⟩, Hr, HT⟩, HO, Hb⟩
  ihave H := (hin σ₀) $$ [Hs Hb HT]
  · isplitl [Hb]
    · iexact Hb
    isplitl [Hs] <;> iassumption
  ihave H := (held_gather c (ptRefs cfg pre t) (tbRefs pre) (P σ₀)) $$ H
  icases H with ⟨%σ, %hσ, H⟩
  have hσ' := hW σ
    (fun w => (hσ _ (Finset.mem_union_left _ (Finset.mem_union_left _ (Finset.mem_image_of_mem _ (Finset.mem_univ w))))).1 w rfl)
    (fun k => (hσ _ (Finset.mem_union_right _ (Finset.mem_image_of_mem _ (Finset.mem_univ k)))).2.1 k rfl)
    (hI σ₀ σ (fun b hb => ((hσ _ (Finset.mem_union_left _ (Finset.mem_union_right _ hb))).2.2 hb).symm) hσ₀)
  iapply (wpS_sound c defs (ptRefs cfg pre t) (tbRefs pre) none Set.univ p _ σ hσ')
  isplitl [H]
  · iexact H
  iintro %x %σ' %hx H
  ihave H := (hout σ' hx.1 hx.2.1) $$ H
  icases H with ⟨Hb, Hs, HT⟩
  isplitl [Hs Hr HT]
  · isplitl [Hs]
    · iexists σ'
      isplitr
      · ipureintro; exact hx.2.2
      · iexact Hs
    isplitl [Hr] <;> iassumption
  isplitl [HO] <;> iassumption

end Row

end Cert.Proof.FPure

end
-- ==== Proof.FBody.lean ====
/- The body of the expert call: what one grid point does to the contents of the buffers it names. -/
module

public import proofs.«01_k».proof.Proof.FPure
public import proofs.«01_k».proof.Kernel2Ideal
public import Idealize.ShloMosaic.Lib.Pointwise

@[expose] public section

noncomputable section

namespace Cert.Proof.FBody

open Idealize.ShloMosaic Idealize.SL.Sem
open Cert.Kernel2Ideal Cert.Proof.FPure
open Cert.Kernel2Ideal.Facts₀ Cert.Kernel2Ideal.Facts

variable {F : FTy → Type} [FloatOps F] [Facts]

/-! ### What is computed -/

/-- The word a table holds at a place. -/
def smv {s : Shape} (m : Memref sig .tc .smem s .i32) (r : Rect s) (h1 : r.shape.numel = 1) (σ : St sig (Elt F)) : BitVec 32 :=
  m.view.readAt (Elt F) r.toLoadRect (σ m.view.ref) (Shape.Idx.first (h1.symm ▸ Nat.one_pos))

theorem slab_inb (j : Fin 8) : ∀ a, (![0, 0, 0, 256 * j.val] : Fin 4 → Nat) a + S1x1x1024x256.size a ≤ S1x1x1024x2048.size a := by
  revert j; decide

/-- Columns `256 j …` of an expert's first matrix. -/
def slab (X : S1x1x1024x2048.Idx → Elt F .f32) (j : Fin 8) : Vec F S1x1x1024x256 .f32 :=
  View.ld X (Rect.unit (s := S1x1x1024x2048) ![0, 0, 0, 256 * j.val] S1x1x1024x256.size (slab_inb j))

/-- They, their even columns moved to the left half and their odd ones to the right. -/
def tile (X : S1x1x1024x2048.Idx → Elt F .f32) (P : S256x256.Idx → Elt F .bf16) (j : Fin 8) : FVec F S1024x256 .bf16 :=
  truncf .bf16 (matmul dot_S1024x256_S256x256_S1024x256_1_0_0_1_n_n none
    (truncf .bf16 (shapeCast S1024x256 (slab X j) shapeCasts_S1x1x1024x256_S1024x256) bitsLt_bf16_f32)
    (shapeCast S256x256 P shapeCasts_S256x256_S256x256) (constant S1024x256 .f32 0x00000000#32)) bitsLt_bf16_f32

/-- The gate columns of all tiles, -/
def gateW (X : S1x1x1024x2048.Idx → Elt F .f32) (P : S256x256.Idx → Elt F .bf16) : Vec F S1024x1024 .bf16 := fun x =>
  tile X P ⟨(x 1).val / 128, Nat.div_lt_of_lt_mul (x 1).isLt⟩ (ix2 (x 0) ⟨(x 1).val % 128, Nat.lt_of_lt_of_le (Nat.mod_lt _ (by decide)) (by decide)⟩)

/-- and the linear ones. -/
def linW (X : S1x1x1024x2048.Idx → Elt F .f32) (P : S256x256.Idx → Elt F .bf16) : Vec F S1024x1024 .bf16 := fun x =>
  tile X P ⟨(x 1).val / 128, Nat.div_lt_of_lt_mul (x 1).isLt⟩ (ix2 (x 0) ⟨128 + (x 1).val % 128, Nat.add_lt_add_left (Nat.mod_lt _ (by decide)) 128⟩)

/-- An expert's second matrix. -/
def downW (X : S1x1x1024x1024.Idx → Elt F .f32) : Vec F S1024x1024 .bf16 :=
  truncf .bf16 (shapeCast S1024x1024 X shapeCasts_S1x1x1024x1024_S1024x1024) bitsLt_bf16_f32

/-- A block of rows through an expert. -/
def expert (x : Vec F S512x1024 .f32) (g l d : Vec F S1024x1024 .bf16) (bg bl bd : Vec F S1x1x1024 .f32) : Vec F S512x1024 .f32 :=
  have v20 : FVec F S512x1024 .bf16 := truncf .bf16 x bitsLt_bf16_f32
  have v22 : FVec F S512x1024 .f32 := matmul dot_S512x1024_S1024x1024_S512x1024_1_0_0_1_n_n none v20 g (constant S512x1024 .f32 0x00000000#32)
  have v26 : FVec F S512x1024 .f32 := addf v22 (broadcastTo S512x1024 (shapeCast S1x1024 bg shapeCasts_S1x1x1024_S1x1024) broadcasts_S1x1024_S512x1024)
  have v28 : FVec F S512x1024 .f32 := minimumf v26 (broadcast S512x1024 (Scalar.ofBits .f32 0x40E00000#32))
  have v30 : FVec F S512x1024 .f32 := matmul dot_S512x1024_S1024x1024_S512x1024_1_0_0_1_n_n none v20 l (constant S512x1024 .f32 0x00000000#32)
  have v34 : FVec F S512x1024 .f32 := addf v30 (broadcastTo S512x1024 (shapeCast S1x1024 bl shapeCasts_S1x1x1024_S1x1024) broadcasts_S1x1024_S512x1024)
  have v36 : FVec F S512x1024 .f32 := maximumf (broadcast S512x1024 (Scalar.ofBits .f32 0xC0E00000#32)) v34
  have v38 : FVec F S512x1024 .f32 := minimumf (broadcast S512x1024 (Scalar.ofBits .f32 0x40E00000#32)) v36
  have v41 : FVec F S512x1024 .f32 := logistic (mulf (broadcast S512x1024 (Scalar.ofBits .f32 0x3FD9DB23#32)) v28)
  have v45 : FVec F S512x1024 .f32 := mulf (mulf v28 v41) (addf v38 (broadcast S512x1024 (Scalar.ofBits .f32 0x3F800000#32)))
  have v48 : FVec F S512x1024 .f32 := matmul dot_S512x1024_S1024x1024_S512x1024_1_0_0_1_n_n none (truncf .bf16 v45 bitsLt_bf16_f32) d (constant S512x1024 .f32 0x00000000#32)
  addf v48 (broadcastTo S512x1024 (shapeCast S1x1024 bd shapeCasts_S1x1x1024_S1x1024) broadcasts_S1x1024_S512x1024)

theorem full_ld2 {A C : ℕ} {e : EltTy} (X : (⟨2, ![A, C]⟩ : Shape).Idx → Elt F e) (inb : ∀ x, (![0, 0] : Fin 2 → ℕ) x + (⟨2, ![A, C]⟩ : Shape).size x ≤ (⟨2, ![A, C]⟩ : Shape).size x) :
    View.ld (Val := Elt F) X (Rect.unit (s := ⟨2, ![A, C]⟩) ![0, 0] (⟨2, ![A, C]⟩ : Shape).size inb) = X := by
  funext x
  refine congrArg X (funext fun a => Fin.ext ?_)
  refine a.cases ?_ fun y => ?_
  · show 0 + 1 * (x 0).val = (x 0).val
    omega
  · obtain rfl : y = 0 := Subsingleton.elim _ _
    show 0 + 1 * (x 1).val = (x 1).val
    omega

theorem full_ld3 {A C D : ℕ} {e : EltTy} (X : (⟨3, ![A, C, D]⟩ : Shape).Idx → Elt F e) (inb : ∀ x, (![0, 0, 0] : Fin 3 → ℕ) x + (⟨3, ![A, C, D]⟩ : Shape).size x ≤ (⟨3, ![A, C, D]⟩ : Shape).size x) :
    View.ld (Val := Elt F) X (Rect.unit (s := ⟨3, ![A, C, D]⟩) ![0, 0, 0] (⟨3, ![A, C, D]⟩ : Shape).size inb) = X := by
  funext x
  refine congrArg X (funext fun a => Fin.ext ?_)
  show (![0, 0, 0] : Fin 3 → ℕ) a + 1 * (x a).val = (x a).val
  have := (show ∀ a : Fin 3, (![0, 0, 0] : Fin 3 → ℕ) a = 0 from by decide) a
  omega

theorem full_ld4 {A C D G : ℕ} {e : EltTy} (X : (⟨4, ![A, C, D, G]⟩ : Shape).Idx → Elt F e) (inb : ∀ x, (![0, 0, 0, 0] : Fin 4 → ℕ) x + (⟨4, ![A, C, D, G]⟩ : Shape).size x ≤ (⟨4, ![A, C, D, G]⟩ : Shape).size x) :
    View.ld (Val := Elt F) X (Rect.unit (s := ⟨4, ![A, C, D, G]⟩) ![0, 0, 0, 0] (⟨4, ![A, C, D, G]⟩ : Shape).size inb) = X := by
  funext x
  refine congrArg X (funext fun a => Fin.ext ?_)
  show (![0, 0, 0, 0] : Fin 4 → ℕ) a + 1 * (x a).val = (x a).val
  have := (show ∀ a : Fin 4, (![0, 0, 0, 0] : Fin 4 → ℕ) a = 0 from by decide) a
  omega

/-! ### One effect at a time -/

section Steps

variable {B T : Finset (Ref sig .tc)} {α β : Type} {Q : α → St sig (Elt F) → Prop} {σ : St sig (Elt F)}

theorem s_bind {p : Prog (TpuEff nD τ sig (Elt F) Λ₀ .tc) β} {f : β → Prog (TpuEff nD τ sig (Elt F) Λ₀ .tc) α}
    (h : wpS B T p (fun a σ' => wpS B T (f a) Q σ') σ) : wpS B T (p >>= f) Q σ := by
  rw [wpS_bind]; exact h

theorem s_ret {a : α} (h : Q a σ) : wpS B T (pure a : Prog (TpuEff nD τ sig (Elt F) Λ₀ .tc) α) Q σ := h

theorem s_ld {sp : CoreSpace} {s : Shape} {e : EltTy} {m : Memref sig .tc sp s e} {r : LoadRect s} {hl : m.view.LoadsAt r}
    {k : (r.shape.Idx → Elt F e) → Prog (TpuEff nD τ sig (Elt F) Λ₀ .tc) α}
    (hB : m.view.ref ∈ B) {v : r.shape.Idx → Elt F e} (hv : m.view.readAt (Elt F) r (σ m.view.ref) = v) (h : wpS B T (k v) Q σ) :
    wpS B T (Prog.lift (.load m r hl) >>= k) Q σ := by subst hv; exact ⟨hB, h⟩

theorem s_st {sp : CoreSpace} {s : Shape} {e : EltTy} {m : Memref sig .tc sp s e} {r : Rect s} {w : r.shape.Idx → Elt F e} {M : Finset r.shape.Idx}
    {hx : (m.access r).Stores M} {hm} {k : PUnit → Prog (TpuEff nD τ sig (Elt F) Λ₀ .tc) α}
    (hB : m.view.ref ∈ B) (hT : m.view.ref ∉ T)
    (h : wpS B T (k ⟨⟩) Q (Function.update σ m.view.ref ((m.access r).write (Elt F) (σ m.view.ref) w M))) :
    wpS B T (Prog.lift (.store m r w M hx hm) >>= k) Q σ := ⟨⟨hB, hT⟩, h⟩

theorem s_ite {c : Prop} {_ : Decidable c} {p q : Prog (TpuEff nD τ sig (Elt F) Λ₀ .tc) α} (h : c → wpS B T p Q σ) (h' : ¬ c → wpS B T q Q σ) :
    wpS B T (if c then p else q) Q σ := by
  split
  · exact h ‹_›
  · exact h' ‹_›

theorem s_sm {s : Shape} {m : Memref sig .tc .smem s .i32} {r : Rect s} {h1 : r.shape.numel = 1} {hp : EltTy.i32.packing = 1}
    {k : Elt F .i32 → Prog (TpuEff nD τ sig (Elt F) Λ₀ .tc) α}
    (hB : m.view.ref ∈ B) (h : wpS B T (k (smv m r h1 σ)) Q σ) :
    wpS B T (smemLoad (p := .tc) m r h1 hp >>= k) Q σ := ⟨hB, h⟩

end Steps

section Body

variable (a1 : Memref sig .tc .smem S160 .i32) (h1 : a1.IsWhole)
variable (a2 : Memref sig .tc .smem S1 .i32) (h2 : a2.IsWhole)
variable (a3 : Memref sig .tc .vmem S512x1024 .f32) (h3 : a3.IsWhole)
variable (a4 : Memref sig .tc .vmem S1x1x1024x2048 .f32) (h4 : a4.IsWhole)
variable (a5 : Memref sig .tc .vmem S1x1x1024 .f32) (h5 : a5.IsWhole)
variable (a6 : Memref sig .tc .vmem S1x1x1024 .f32) (h6 : a6.IsWhole)
variable (a7 : Memref sig .tc .vmem S1x1x1024x1024 .f32) (h7 : a7.IsWhole)
variable (a8 : Memref sig .tc .vmem S1x1x1024 .f32) (h8 : a8.IsWhole)
variable (a9 : Memref sig .tc .vmem S256x256 .bf16) (h9 : a9.IsWhole)
variable (a10 : Memref sig .tc .vmem S512x1024 .f32) (h10 : a10.IsWhole)
variable (a11 : Memref sig .tc .vmem S1024x1024 .bf16) (h11 : a11.IsWhole)
variable (a12 : Memref sig .tc .vmem S1024x1024 .bf16) (h12 : a12.IsWhole)
variable (a13 : Memref sig .tc .vmem S1024x1024 .bf16) (h13 : a13.IsWhole)
variable (B T : Finset (Ref sig .tc))

/-- What is known of the buffers the body is called with. -/
structure Sep : Prop where
  mem : ∀ b ∈ [a1.view.ref, a2.view.ref, a3.view.ref, a4.view.ref, a5.view.ref, a6.view.ref, a7.view.ref, a8.view.ref, a9.view.ref, a10.view.ref, a11.view.ref, a12.view.ref, a13.view.ref], b ∈ B
  notTab : ∀ b ∈ [a10.view.ref, a11.view.ref, a12.view.ref, a13.view.ref], b ∉ T
  ne : ∀ b ∈ [a1.view.ref, a2.view.ref, a3.view.ref, a4.view.ref, a5.view.ref, a6.view.ref, a7.view.ref, a8.view.ref, a9.view.ref], b ∉ [a10.view.ref, a11.view.ref, a12.view.ref, a13.view.ref]
  nodup : [a10.view.ref, a11.view.ref, a12.view.ref, a13.view.ref].Nodup

/-- The scratch buffers hold the first `n` tiles of the gate, the first `n'` of the linear columns and, where `W` holds, the second
    matrix; nothing but them is changed from `σ₀`. -/
structure Good (σ₀ σ : St sig (Elt F)) (n n' : ℕ) (W : Prop) : Prop where
  keep : ∀ b, b ≠ a11.view.ref → b ≠ a12.view.ref → b ≠ a13.view.ref → σ b = σ₀ b
  g : ∀ r c : Fin 1024, c.val < 128 * n → a11.view.read (Elt F) (σ a11.view.ref) (ix2 r c)
    = gateW (a4.view.read (Elt F) (σ₀ a4.view.ref)) (a9.view.read (Elt F) (σ₀ a9.view.ref)) (ix2 r c)
  l : ∀ r c : Fin 1024, c.val < 128 * n' → a12.view.read (Elt F) (σ a12.view.ref) (ix2 r c)
    = linW (a4.view.read (Elt F) (σ₀ a4.view.ref)) (a9.view.read (Elt F) (σ₀ a9.view.ref)) (ix2 r c)
  d : W → a13.view.read (Elt F) (σ a13.view.ref) = downW (a7.view.read (Elt F) (σ₀ a7.view.ref))

variable {a1 a2 a3 a4 a5 a6 a7 a8 a9 a10 a11 a12 a13} {h1 h2 h3 h4 h5 h6 h7 h8 h9 h10 h11 h12 h13} {B T}
variable {σ₀ σ : St sig (Elt F)} {n n' : ℕ} {W : Prop}

theorem write_cols {a : Memref sig .tc .vmem S1024x1024 .bf16} {f : a.view.ref.ty.Contents (Elt F)} {off : Fin 2 → ℕ} (hoff : off = ![0, 128 * n]) (hn : n < 8)
    {inb : ∀ x, off x + S1024x128.size x ≤ S1024x1024.size x} {v : Vec F S1024x128 .bf16} {G : S1024x1024.Idx → Elt F .bf16}
    (hv : ∀ (r : Fin 1024) (c : Fin 128), v (ix2 r c) = G (ix2 r ⟨128 * n + c.val, by omega⟩))
    (h : ∀ r c : Fin 1024, c.val < 128 * n → a.view.read (Elt F) f (ix2 r c) = G (ix2 r c)) :
    ∀ r c : Fin 1024, c.val < 128 * (n + 1) →
      a.view.read (Elt F) ((a.access (Rect.unit (s := S1024x1024) off S1024x128.size inb)).write (Elt F) f v Finset.univ) (ix2 r c) = G (ix2 r c) := by
  subst hoff
  intro r c hc
  by_cases hlt : c.val < 128 * n
  · rw [← h r c hlt]
    refine View.read_slice_write_of_not_mem _ _ _ _ ?_
    intro hm
    obtain ⟨x, -, hx⟩ := Finset.mem_map.mp hm
    have h1 : ((Rect.unit (s := S1024x1024) ![0, 128 * n] S1024x128.size inb).emb x 1).val = 128 * n + 1 * (x 1).val := rfl
    rw [hx] at h1
    have h2 : ((ix2 r c : S1024x1024.Idx) 1).val = c.val := rfl
    omega
  · have e : (ix2 r c : S1024x1024.Idx) = (Rect.unit (s := S1024x1024) ![0, 128 * n] S1024x128.size inb).emb (ix2 r ⟨c.val - 128 * n, by omega⟩) := by
      funext x
      refine Fin.ext ?_
      refine x.cases ?_ fun y => ?_
      · show r.val = 0 + 1 * r.val
        omega
      · obtain rfl : y = 0 := Subsingleton.elim _ _
        show c.val = 128 * n + 1 * (c.val - 128 * n)
        omega
    have hw := View.read_slice_write_emb (v := a.view) (Val := Elt F) (Rect.unit (s := S1024x1024) ![0, 128 * n] S1024x128.size inb) f v (M := Finset.univ) (x := ix2 r ⟨c.val - 128 * n, by omega⟩) (Finset.mem_univ _)
    rw [← e] at hw
    refine hw.trans ((hv _ _).trans ?_)
    congr 2
    exact Fin.ext (by show 128 * n + (c.val - 128 * n) = c.val; omega)

theorem left_apply (X : S1x1x1024x2048.Idx → Elt F .f32) (P : S256x256.Idx → Elt F .bf16) (hn : n < 8) (r : Fin 1024) (c : Fin 128) :
    shapeCast S1024x128 (extractStridedSlice S1024x128 ![0, 0] (tile X P ⟨n, hn⟩) slices_S1024x256_o0_0_S1024x128) shapeCasts_S1024x128_S1024x128 (ix2 r c)
      = gateW X P (ix2 r ⟨128 * n + c.val, by omega⟩) := by
  rw [shapeCast_self, extractStridedSlice_apply (k := ix2 r ⟨c.val, by omega⟩)]
  · have h1 : (128 * n + c.val) / 128 = n := by omega
    have h2 : (128 * n + c.val) % 128 = c.val := by omega
    show _ = tile X P ⟨(128 * n + c.val) / 128, _⟩ (ix2 r ⟨(128 * n + c.val) % 128, _⟩)
    simp only [h1, h2]
  · intro a
    refine a.cases ?_ fun y => ?_
    · show r.val = 0 + r.val
      omega
    · obtain rfl : y = 0 := Subsingleton.elim _ _
      show c.val = 0 + c.val
      omega

theorem right_apply (X : S1x1x1024x2048.Idx → Elt F .f32) (P : S256x256.Idx → Elt F .bf16) (hn : n < 8) (r : Fin 1024) (c : Fin 128) :
    shapeCast S1024x128 (extractStridedSlice S1024x128 ![0, 128] (tile X P ⟨n, hn⟩) slices_S1024x256_o0_128_S1024x128) shapeCasts_S1024x128_S1024x128 (ix2 r c)
      = linW X P (ix2 r ⟨128 * n + c.val, by omega⟩) := by
  rw [shapeCast_self, extractStridedSlice_apply (k := ix2 r ⟨128 + c.val, by omega⟩)]
  · have h1 : (128 * n + c.val) / 128 = n := by omega
    have h2 : (128 * n + c.val) % 128 = c.val := by omega
    show _ = tile X P ⟨(128 * n + c.val) / 128, _⟩ (ix2 r ⟨128 + (128 * n + c.val) % 128, _⟩)
    simp only [h1, h2]
  · intro a
    refine a.cases ?_ fun y => ?_
    · show r.val = 0 + r.val
      omega
    · obtain rfl : y = 0 := Subsingleton.elim _ _
      rfl

variable (S : Sep a1 a2 a3 a4 a5 a6 a7 a8 a9 a10 a11 a12 a13 B T)
include S

theorem Good.in4 (h : Good a4 a7 a9 a11 a12 a13 σ₀ σ n n' W) : σ a4.view.ref = σ₀ a4.view.ref := by
  have := S.ne a4.view.ref (by simp)
  simp only [List.mem_cons, not_or] at this
  exact h.keep _ this.2.1 this.2.2.1 this.2.2.2.1

theorem Good.in7 (h : Good a4 a7 a9 a11 a12 a13 σ₀ σ n n' W) : σ a7.view.ref = σ₀ a7.view.ref := by
  have := S.ne a7.view.ref (by simp)
  simp only [List.mem_cons, not_or] at this
  exact h.keep _ this.2.1 this.2.2.1 this.2.2.2.1

theorem Good.in9 (h : Good a4 a7 a9 a11 a12 a13 σ₀ σ n n' W) : σ a9.view.ref = σ₀ a9.view.ref := by
  have := S.ne a9.view.ref (by simp)
  simp only [List.mem_cons, not_or] at this
  exact h.keep _ this.2.1 this.2.2.1 this.2.2.2.1

theorem Good.put11 (h : Good a4 a7 a9 a11 a12 a13 σ₀ σ n n' W) {off : Fin 2 → ℕ} (hoff : off = ![0, 128 * n]) (hn : n < 8)
    {inb : ∀ x, off x + S1024x128.size x ≤ S1024x1024.size x} {v : Vec F S1024x128 .bf16}
    (hv : v = shapeCast S1024x128 (extractStridedSlice S1024x128 ![0, 0] (tile (a4.view.read (Elt F) (σ₀ a4.view.ref)) (a9.view.read (Elt F) (σ₀ a9.view.ref)) ⟨n, hn⟩) slices_S1024x256_o0_0_S1024x128) shapeCasts_S1024x128_S1024x128) :
    Good a4 a7 a9 a11 a12 a13 σ₀ (Function.update σ a11.view.ref ((a11.access (Rect.unit (s := S1024x1024) off S1024x128.size inb)).write (Elt F) (σ a11.view.ref) v Finset.univ)) (n + 1) n' W := by
  have hd := S.nodup
  simp only [List.nodup_cons, List.mem_cons, not_or] at hd
  refine ⟨fun b h1 h2 h3 => ?_, ?_, fun r c hc => ?_, fun hW => ?_⟩
  · rw [Function.update_of_ne h1]; exact h.keep b h1 h2 h3
  · rw [Function.update_self]
    exact write_cols hoff hn (fun r c => by rw [hv]; exact left_apply _ _ hn r c) h.g
  · rw [Function.update_of_ne (Ne.symm hd.2.1.1)]; exact h.l r c hc
  · rw [Function.update_of_ne (Ne.symm hd.2.1.2.1)]; exact h.d hW

theorem Good.put12 (h : Good a4 a7 a9 a11 a12 a13 σ₀ σ n n' W) {off : Fin 2 → ℕ} (hoff : off = ![0, 128 * n']) (hn : n' < 8)
    {inb : ∀ x, off x + S1024x128.size x ≤ S1024x1024.size x} {v : Vec F S1024x128 .bf16}
    (hv : v = shapeCast S1024x128 (extractStridedSlice S1024x128 ![0, 128] (tile (a4.view.read (Elt F) (σ₀ a4.view.ref)) (a9.view.read (Elt F) (σ₀ a9.view.ref)) ⟨n', hn⟩) slices_S1024x256_o0_128_S1024x128) shapeCasts_S1024x128_S1024x128) :
    Good a4 a7 a9 a11 a12 a13 σ₀ (Function.update σ a12.view.ref ((a12.access (Rect.unit (s := S1024x1024) off S1024x128.size inb)).write (Elt F) (σ a12.view.ref) v Finset.univ)) n (n' + 1) W := by
  have hd := S.nodup
  simp only [List.nodup_cons, List.mem_cons, not_or] at hd
  refine ⟨fun b h1 h2 h3 => ?_, fun r c hc => ?_, ?_, fun hW => ?_⟩
  · rw [Function.update_of_ne h2]; exact h.keep b h1 h2 h3
  · rw [Function.update_of_ne hd.2.1.1]; exact h.g r c hc
  · rw [Function.update_self]
    exact write_cols hoff hn (fun r c => by rw [hv]; exact right_apply _ _ hn r c) h.l
  · rw [Function.update_of_ne (Ne.symm hd.2.2.1.1)]; exact h.d hW

variable {α : Type} {Q : α → St sig (Elt F) → Prop}

/-- A load of one slab of the first matrix. -/
theorem s_ld4 (h : Good a4 a7 a9 a11 a12 a13 σ₀ σ n n' W) (j : Fin 8) {off : Fin 4 → ℕ} (hoff : off = ![0, 0, 0, 256 * j.val])
    {inb : ∀ x, off x + S1x1x1024x256.size x ≤ S1x1x1024x2048.size x} {hl : a4.view.LoadsAt (Rect.unit (s := S1x1x1024x2048) off S1x1x1024x256.size inb).toLoadRect}
    {k : Vec F S1x1x1024x256 .f32 → Prog (TpuEff nD τ sig (Elt F) Λ₀ .tc) α}
    (hk : wpS B T (k (slab (a4.view.read (Elt F) (σ₀ a4.view.ref)) j)) Q σ) :
    wpS B T (Prog.lift (.load a4 (Rect.unit (s := S1x1x1024x2048) off S1x1x1024x256.size inb).toLoadRect hl) >>= k) Q σ := by
  subst hoff
  refine s_ld (S.mem _ (by simp)) ?_ hk
  rw [h.in4 S]; rfl

/-- The load of the moving of columns. -/
theorem s_ld9 (h : Good a4 a7 a9 a11 a12 a13 σ₀ σ n n' W) {inb : ∀ x, (![0, 0] : Fin 2 → ℕ) x + S256x256.size x ≤ S256x256.size x}
    {hl : a9.view.LoadsAt (Rect.unit (s := S256x256) ![0, 0] S256x256.size inb).toLoadRect}
    {k : Vec F S256x256 .bf16 → Prog (TpuEff nD τ sig (Elt F) Λ₀ .tc) α}
    (hk : wpS B T (k (a9.view.read (Elt F) (σ₀ a9.view.ref))) Q σ) :
    wpS B T (Prog.lift (.load a9 (Rect.unit (s := S256x256) ![0, 0] S256x256.size inb).toLoadRect hl) >>= k) Q σ := by
  refine s_ld (S.mem _ (by simp)) ?_ hk
  rw [h.in9 S]
  exact full_ld2 _ _

/-- A store of the left half of a tile; the load before it is not used. -/
theorem s_st11 (h : Good a4 a7 a9 a11 a12 a13 σ₀ σ n n' W) {off : Fin 2 → ℕ} (hoff : off = ![0, 128 * n]) (hn : n < 8)
    {inb : ∀ x, off x + S1024x128.size x ≤ S1024x1024.size x} {v : Vec F S1024x128 .bf16}
    {hx : (a11.access (Rect.unit (s := S1024x1024) off S1024x128.size inb)).Stores Finset.univ} {hm}
    {k : PUnit → Prog (TpuEff nD τ sig (Elt F) Λ₀ .tc) α}
    (hv : v = shapeCast S1024x128 (extractStridedSlice S1024x128 ![0, 0] (tile (a4.view.read (Elt F) (σ₀ a4.view.ref)) (a9.view.read (Elt F) (σ₀ a9.view.ref)) ⟨n, hn⟩) slices_S1024x256_o0_0_S1024x128) shapeCasts_S1024x128_S1024x128)
    (hk : ∀ σ', Good a4 a7 a9 a11 a12 a13 σ₀ σ' (n + 1) n' W → wpS B T (k ⟨⟩) Q σ') :
    wpS B T (Prog.lift (.store a11 (Rect.unit (s := S1024x1024) off S1024x128.size inb) v Finset.univ hx hm) >>= k) Q σ :=
  ⟨⟨S.mem _ (by simp), S.notTab _ (by simp)⟩, hk _ (h.put11 S hoff hn hv)⟩

/-- The same of the right half. -/
theorem s_st12 (h : Good a4 a7 a9 a11 a12 a13 σ₀ σ n n' W) {off : Fin 2 → ℕ} (hoff : off = ![0, 128 * n']) (hn : n' < 8)
    {inb : ∀ x, off x + S1024x128.size x ≤ S1024x1024.size x} {v : Vec F S1024x128 .bf16}
    {hx : (a12.access (Rect.unit (s := S1024x1024) off S1024x128.size inb)).Stores Finset.univ} {hm}
    {k : PUnit → Prog (TpuEff nD τ sig (Elt F) Λ₀ .tc) α}
    (hv : v = shapeCast S1024x128 (extractStridedSlice S1024x128 ![0, 128] (tile (a4.view.read (Elt F) (σ₀ a4.view.ref)) (a9.view.read (Elt F) (σ₀ a9.view.ref)) ⟨n', hn⟩) slices_S1024x256_o0_128_S1024x128) shapeCasts_S1024x128_S1024x128)
    (hk : ∀ σ', Good a4 a7 a9 a11 a12 a13 σ₀ σ' n (n' + 1) W → wpS B T (k ⟨⟩) Q σ') :
    wpS B T (Prog.lift (.store a12 (Rect.unit (s := S1024x1024) off S1024x128.size inb) v Finset.univ hx hm) >>= k) Q σ :=
  ⟨⟨S.mem _ (by simp), S.notTab _ (by simp)⟩, hk _ (h.put12 S hoff hn hv)⟩

/-! ### The pieces the body was printed in -/

variable {i : grid0.Coords}

theorem s_part1 {Q : (Σ' (v20 : FVec F S256x256 .bf16) (v49 : FVec F S1024x256 .bf16), FVec F S1024x256 .f32) → St sig (Elt F) → Prop}
    (h : Good a4 a7 a9 a11 a12 a13 σ₀ σ 0 0 W)
    (hQ : ∀ σ', Good a4 a7 a9 a11 a12 a13 σ₀ σ' 2 2 W →
      Q ⟨shapeCast S256x256 (a9.view.read (Elt F) (σ₀ a9.view.ref)) shapeCasts_S256x256_S256x256,
        truncf .bf16 (shapeCast S1024x256 (slab (a4.view.read (Elt F) (σ₀ a4.view.ref)) 2) shapeCasts_S1x1x1024x256_S1024x256) bitsLt_bf16_f32,
        constant S1024x256 .f32 0x00000000#32⟩ σ') :
    wpS B T (k0_part1 (F := F) i a1 h1 a2 h2 a3 h3 a4 h4 a5 h5 a6 h6 a7 h7 a8 h8 a9 h9 a10 h10 a11 h11 a12 h12 a13 h13) Q σ := by
  unfold k0_part1
  refine s_ld9 S h ?_
  refine s_ld4 S h 0 rfl ?_
  refine s_ld (S.mem _ (by simp)) rfl ?_
  refine s_st11 S h rfl (by decide) rfl fun σ h => ?_
  refine s_ld (S.mem _ (by simp)) rfl ?_
  refine s_st12 S h rfl (by decide) rfl fun σ h => ?_
  refine s_ld4 S h 1 rfl ?_
  refine s_ld (S.mem _ (by simp)) rfl ?_
  refine s_st11 S h rfl (by decide) rfl fun σ h => ?_
  refine s_ld (S.mem _ (by simp)) rfl ?_
  refine s_st12 S h rfl (by decide) rfl fun σ h => ?_
  refine s_ld4 S h 2 rfl ?_
  exact s_ret (hQ σ h)

theorem s_part2 {Q : FVec F S1024x128 .bf16 → St sig (Elt F) → Prop}
    (h : Good a4 a7 a9 a11 a12 a13 σ₀ σ 2 2 W)
    (hQ : ∀ σ', Good a4 a7 a9 a11 a12 a13 σ₀ σ' 5 4 W →
      Q (extractStridedSlice S1024x128 ![0, 128] (tile (a4.view.read (Elt F) (σ₀ a4.view.ref)) (a9.view.read (Elt F) (σ₀ a9.view.ref)) 4) slices_S1024x256_o0_128_S1024x128) σ') :
    wpS B T (k0_part2 (F := F) i a1 h1 a2 h2 a3 h3 a4 h4 a5 h5 a6 h6 a7 h7 a8 h8 a9 h9 a10 h10 a11 h11 a12 h12 a13 h13
      (shapeCast S256x256 (a9.view.read (Elt F) (σ₀ a9.view.ref)) shapeCasts_S256x256_S256x256)
      (truncf .bf16 (shapeCast S1024x256 (slab (a4.view.read (Elt F) (σ₀ a4.view.ref)) 2) shapeCasts_S1x1x1024x256_S1024x256) bitsLt_bf16_f32)
      (constant S1024x256 .f32 0x00000000#32)) Q σ := by
  unfold k0_part2
  refine s_ld (S.mem _ (by simp)) rfl ?_
  refine s_st11 S h rfl (by decide) rfl fun σ h => ?_
  refine s_ld (S.mem _ (by simp)) rfl ?_
  refine s_st12 S h rfl (by decide) rfl fun σ h => ?_
  refine s_ld4 S h 3 rfl ?_
  refine s_ld (S.mem _ (by simp)) rfl ?_
  refine s_st11 S h rfl (by decide) rfl fun σ h => ?_
  refine s_ld (S.mem _ (by simp)) rfl ?_
  refine s_st12 S h rfl (by decide) rfl fun σ h => ?_
  refine s_ld4 S h 4 rfl ?_
  refine s_ld (S.mem _ (by simp)) rfl ?_
  refine s_st11 S h rfl (by decide) rfl fun σ h => ?_
  exact s_ret (hQ σ h)

theorem s_part3 {Q : (Σ' (v114 : FVec F S1024x256 .bf16), FVec F S1024x256 .f32) → St sig (Elt F) → Prop}
    (h : Good a4 a7 a9 a11 a12 a13 σ₀ σ 5 4 W)
    (hQ : ∀ σ', Good a4 a7 a9 a11 a12 a13 σ₀ σ' 7 7 W →
      Q ⟨truncf .bf16 (shapeCast S1024x256 (slab (a4.view.read (Elt F) (σ₀ a4.view.ref)) 7) shapeCasts_S1x1x1024x256_S1024x256) bitsLt_bf16_f32,
        constant S1024x256 .f32 0x00000000#32⟩ σ') :
    wpS B T (k0_part3 (F := F) i a1 h1 a2 h2 a3 h3 a4 h4 a5 h5 a6 h6 a7 h7 a8 h8 a9 h9 a10 h10 a11 h11 a12 h12 a13 h13
      (shapeCast S256x256 (a9.view.read (Elt F) (σ₀ a9.view.ref)) shapeCasts_S256x256_S256x256)
      (extractStridedSlice S1024x128 ![0, 128] (tile (a4.view.read (Elt F) (σ₀ a4.view.ref)) (a9.view.read (Elt F) (σ₀ a9.view.ref)) 4) slices_S1024x256_o0_128_S1024x128)) Q σ := by
  unfold k0_part3
  refine s_ld (S.mem _ (by simp)) rfl ?_
  refine s_st12 S h rfl (by decide) rfl fun σ h => ?_
  refine s_ld4 S h 5 rfl ?_
  refine s_ld (S.mem _ (by simp)) rfl ?_
  refine s_st11 S h rfl (by decide) rfl fun σ h => ?_
  refine s_ld (S.mem _ (by simp)) rfl ?_
  refine s_st12 S h rfl (by decide) rfl fun σ h => ?_
  refine s_ld4 S h 6 rfl ?_
  refine s_ld (S.mem _ (by simp)) rfl ?_
  refine s_st11 S h rfl (by decide) rfl fun σ h => ?_
  refine s_ld (S.mem _ (by simp)) rfl ?_
  refine s_st12 S h rfl (by decide) rfl fun σ h => ?_
  refine s_ld4 S h 7 rfl ?_
  exact s_ret (hQ σ h)

theorem s_part4 {Q : FVec F S512x1024 .f32 → St sig (Elt F) → Prop}
    (hQ : Q (expert (a3.view.read (Elt F) (σ a3.view.ref)) (a11.view.read (Elt F) (σ a11.view.ref)) (a12.view.read (Elt F) (σ a12.view.ref))
      (a13.view.read (Elt F) (σ a13.view.ref)) (a5.view.read (Elt F) (σ a5.view.ref)) (a6.view.read (Elt F) (σ a6.view.ref)) (a8.view.read (Elt F) (σ a8.view.ref))) σ) :
    wpS B T (k0_part4 (F := F) i a1 h1 a2 h2 a3 h3 a4 h4 a5 h5 a6 h6 a7 h7 a8 h8 a9 h9 a10 h10 a11 h11 a12 h12 a13 h13) Q σ := by
  unfold k0_part4
  refine s_ld (S.mem _ (by simp)) (full_ld2 _ _) ?_
  refine s_ld (S.mem _ (by simp)) (full_ld2 _ _) ?_
  refine s_ld (S.mem _ (by simp)) (full_ld3 _ _) ?_
  refine s_ld (S.mem _ (by simp)) (full_ld2 _ _) ?_
  refine s_ld (S.mem _ (by simp)) (full_ld3 _ _) ?_
  refine s_ld (S.mem _ (by simp)) (full_ld2 _ _) ?_
  refine s_ld (S.mem _ (by simp)) (full_ld3 _ _) ?_
  exact s_ret hQ

omit S in
/-- What a store over a whole two-axis buffer leaves is what was stored. -/
theorem read_full2 {A C : ℕ} {e : EltTy} (m : Memref sig .tc .vmem ⟨2, ![A, C]⟩ e) (f : m.view.ref.ty.Contents (Elt F))
    (inb : ∀ x, (![0, 0] : Fin 2 → ℕ) x + (⟨2, ![A, C]⟩ : Shape).size x ≤ (⟨2, ![A, C]⟩ : Shape).size x) (v : (⟨2, ![A, C]⟩ : Shape).Idx → Elt F e) :
    m.view.read (Elt F) ((m.access (Rect.unit (s := ⟨2, ![A, C]⟩) ![0, 0] (⟨2, ![A, C]⟩ : Shape).size inb)).write (Elt F) f v Finset.univ) = v := by
  rw [← full_ld2 (m.view.read (Elt F) _) inb]
  exact View.read_write_univ (v := m.view.slice (Rect.unit (s := ⟨2, ![A, C]⟩) ![0, 0] (⟨2, ![A, C]⟩ : Shape).size inb)) f v

omit S in
/-- The block is past the last one in use exactly where the body does not say it is before it. -/
theorem cond3_iff (i : grid0.Coords) (v : BitVec 32) : k0_cond3 i v = 1#1 ↔ ¬ k0_cond2 i v = 1#1 := by
  have h : ∀ b : BitVec 1, (Scalar.cmpi .ne (Scalar.extui (Scalar.xori b 1#1) : BitVec 32) 0#32 = 1#1) ↔ ¬ (Scalar.cmpi .ne (Scalar.extui b : BitVec 32) 0#32 = 1#1) := by decide
  exact h _

omit S in
/-- Whether the scratch buffers are filled: the block is in use, and is the first one or not of the expert of the one before. -/
def fills (i : grid0.Coords) (v1 v2 v8 : BitVec 32) : BitVec 1 :=
  Scalar.cmpi .ne (Scalar.extui (Scalar.andi (Scalar.cmpi .slt (BitVec.ofNat 32 (i 0).val) v2)
    (Scalar.ori (Scalar.cmpi .eq (BitVec.ofNat 32 (i 0).val) 0#32) (Scalar.cmpi .ne v1 v8))) : BitVec 32) 0#32

set_option maxHeartbeats 4000000 in
/-- The body: the scratch buffers are filled where `fills` says so and else kept; the block of the result is the expert's where the
    block is in use and else zero. -/
theorem s_body (v1 v2 v8 : BitVec 32) (σ₀ : St sig (Elt F))
    (e1 : smv a1 (Rect.unit (s := S160) (k0_off1 i) S1.size (k0_off1_inb i)) numel1_S1 σ₀ = v1)
    (e2 : smv a2 (Rect.unit (s := S1) ![0] S1.size inb_S1_S1_0) numel1_S1 σ₀ = v2)
    (e8 : smv a1 (Rect.unit (s := S160) (k0_off2 i) S1.size (k0_off2_inb i)) numel1_S1 σ₀ = v8) {Q : PUnit → St sig (Elt F) → Prop}
    (hQ : ∀ σ', (∀ b, b ∉ [a10.view.ref, a11.view.ref, a12.view.ref, a13.view.ref] → σ' b = σ₀ b) →
      (fills i v1 v2 v8 = 1#1 →
        a11.view.read (Elt F) (σ' a11.view.ref) = gateW (a4.view.read (Elt F) (σ₀ a4.view.ref)) (a9.view.read (Elt F) (σ₀ a9.view.ref))
        ∧ a12.view.read (Elt F) (σ' a12.view.ref) = linW (a4.view.read (Elt F) (σ₀ a4.view.ref)) (a9.view.read (Elt F) (σ₀ a9.view.ref))
        ∧ a13.view.read (Elt F) (σ' a13.view.ref) = downW (a7.view.read (Elt F) (σ₀ a7.view.ref))) →
      (¬ fills i v1 v2 v8 = 1#1 → σ' a11.view.ref = σ₀ a11.view.ref ∧ σ' a12.view.ref = σ₀ a12.view.ref ∧ σ' a13.view.ref = σ₀ a13.view.ref) →
      (k0_cond2 i v2 = 1#1 → a10.view.read (Elt F) (σ' a10.view.ref)
        = expert (a3.view.read (Elt F) (σ₀ a3.view.ref)) (a11.view.read (Elt F) (σ' a11.view.ref)) (a12.view.read (Elt F) (σ' a12.view.ref))
            (a13.view.read (Elt F) (σ' a13.view.ref)) (a5.view.read (Elt F) (σ₀ a5.view.ref)) (a6.view.read (Elt F) (σ₀ a6.view.ref)) (a8.view.read (Elt F) (σ₀ a8.view.ref))) →
      (¬ k0_cond2 i v2 = 1#1 → a10.view.read (Elt F) (σ' a10.view.ref) = broadcast S512x1024 (Scalar.ofBits .f32 0x00000000#32)) →
      Q ⟨⟩ σ') :
    wpS B T (cc0_moe_ffn (F := F) i a1 h1 a2 h2 a3 h3 a4 h4 a5 h5 a6 h6 a7 h7 a8 h8 a9 h9 a10 h10 a11 h11 a12 h12 a13 h13) Q σ₀ := by
  have hd := S.nodup
  simp only [List.nodup_cons, List.mem_cons, not_or] at hd
  have hin : ∀ b ∈ [a1.view.ref, a2.view.ref, a3.view.ref, a4.view.ref, a5.view.ref, a6.view.ref, a7.view.ref, a8.view.ref, a9.view.ref],
      b ≠ a10.view.ref ∧ b ≠ a11.view.ref ∧ b ≠ a12.view.ref ∧ b ≠ a13.view.ref := by
    intro b hb
    have := S.ne b hb
    simp only [List.mem_cons, not_or] at this
    exact ⟨this.1, this.2.1, this.2.2.1, this.2.2.2.1⟩
  have hrest : ∀ σ : St sig (Elt F), (∀ b, b ≠ a11.view.ref → b ≠ a12.view.ref → b ≠ a13.view.ref → σ b = σ₀ b) →
      (fills i v1 v2 v8 = 1#1 →
        a11.view.read (Elt F) (σ a11.view.ref) = gateW (a4.view.read (Elt F) (σ₀ a4.view.ref)) (a9.view.read (Elt F) (σ₀ a9.view.ref))
        ∧ a12.view.read (Elt F) (σ a12.view.ref) = linW (a4.view.read (Elt F) (σ₀ a4.view.ref)) (a9.view.read (Elt F) (σ₀ a9.view.ref))
        ∧ a13.view.read (Elt F) (σ a13.view.ref) = downW (a7.view.read (Elt F) (σ₀ a7.view.ref))) →
      (¬ fills i v1 v2 v8 = 1#1 → σ a11.view.ref = σ₀ a11.view.ref ∧ σ a12.view.ref = σ₀ a12.view.ref ∧ σ a13.view.ref = σ₀ a13.view.ref) →
      wpS B T (if k0_h2 : k0_cond2 i v2 = 1#1 then
          (k0_part4 (F := F) i a1 h1 a2 h2 a3 h3 a4 h4 a5 h5 a6 h6 a7 h7 a8 h8 a9 h9 a10 h10 a11 h11 a12 h12 a13 h13) >>= fun v52 =>
            Prog.lift (.load a10 (Rect.unit (s := S512x1024) ![0, 0] S512x1024.size inb_S512x1024_S512x1024_0_0).toLoadRect (View.loadsAt_vmem h_S512x1024)) >>= fun _ =>
            Prog.lift (.store a10 (Rect.unit (s := S512x1024) ![0, 0] S512x1024.size inb_S512x1024_S512x1024_0_0) v52 Finset.univ (View.stores_vmem_bits_univ h_S512x1024 rfl) (.inl rfl)) >>= fun _ =>
            (if k0_h3 : k0_cond3 i v2 = 1#1 then
            (Prog.lift (.load a10 (Rect.unit (s := S512x1024) ![0, 0] S512x1024.size inb_S512x1024_S512x1024_0_0).toLoadRect (View.loadsAt_vmem h_S512x1024)) : Prog (TpuEff nD τ sig (Elt F) Λ₀ .tc) _) >>= fun _ =>
            Prog.lift (.store a10 (Rect.unit (s := S512x1024) ![0, 0] S512x1024.size inb_S512x1024_S512x1024_0_0) (broadcast S512x1024 (Scalar.ofBits .f32 0x00000000#32)) Finset.univ (View.stores_vmem_bits_univ h_S512x1024 rfl) (.inl rfl)) >>= fun _ =>
            pure (⟨⟩ : PUnit)
        else pure (⟨⟩ : PUnit))
        else (if k0_h3 : k0_cond3 i v2 = 1#1 then
            (Prog.lift (.load a10 (Rect.unit (s := S512x1024) ![0, 0] S512x1024.size inb_S512x1024_S512x1024_0_0).toLoadRect (View.loadsAt_vmem h_S512x1024)) : Prog (TpuEff nD τ sig (Elt F) Λ₀ .tc) _) >>= fun _ =>
            Prog.lift (.store a10 (Rect.unit (s := S512x1024) ![0, 0] S512x1024.size inb_S512x1024_S512x1024_0_0) (broadcast S512x1024 (Scalar.ofBits .f32 0x00000000#32)) Finset.univ (View.stores_vmem_bits_univ h_S512x1024 rfl) (.inl rfl)) >>= fun _ =>
            pure (⟨⟩ : PUnit)
        else pure (⟨⟩ : PUnit))) Q σ := by
    intro σ hk hf hn
    have e : ∀ b ∈ [a1.view.ref, a2.view.ref, a3.view.ref, a4.view.ref, a5.view.ref, a6.view.ref, a7.view.ref, a8.view.ref, a9.view.ref], σ b = σ₀ b :=
      fun b hb => hk b (hin b hb).2.1 (hin b hb).2.2.1 (hin b hb).2.2.2
    have fin : ∀ v : FVec F S512x1024 .f32,
        (k0_cond2 i v2 = 1#1 → v = expert (a3.view.read (Elt F) (σ₀ a3.view.ref)) (a11.view.read (Elt F) (σ a11.view.ref)) (a12.view.read (Elt F) (σ a12.view.ref))
            (a13.view.read (Elt F) (σ a13.view.ref)) (a5.view.read (Elt F) (σ₀ a5.view.ref)) (a6.view.read (Elt F) (σ₀ a6.view.ref)) (a8.view.read (Elt F) (σ₀ a8.view.ref))) →
        (¬ k0_cond2 i v2 = 1#1 → v = broadcast S512x1024 (Scalar.ofBits .f32 0x00000000#32)) →
        Q ⟨⟩ (Function.update σ a10.view.ref ((a10.access (Rect.unit (s := S512x1024) ![0, 0] S512x1024.size inb_S512x1024_S512x1024_0_0)).write (Elt F) (σ a10.view.ref) v Finset.univ)) := by
      intro v hv hv'
      have g11 := Function.update_of_ne (Ne.symm hd.1.1) ((a10.access (Rect.unit (s := S512x1024) ![0, 0] S512x1024.size inb_S512x1024_S512x1024_0_0)).write (Elt F) (σ a10.view.ref) v Finset.univ) σ
      have g12 := Function.update_of_ne (Ne.symm hd.1.2.1) ((a10.access (Rect.unit (s := S512x1024) ![0, 0] S512x1024.size inb_S512x1024_S512x1024_0_0)).write (Elt F) (σ a10.view.ref) v Finset.univ) σ
      have g13 := Function.update_of_ne (Ne.symm hd.1.2.2.1) ((a10.access (Rect.unit (s := S512x1024) ![0, 0] S512x1024.size inb_S512x1024_S512x1024_0_0)).write (Elt F) (σ a10.view.ref) v Finset.univ) σ
      refine hQ _ (fun b hb => ?_) ?_ ?_ ?_ ?_
      · simp only [List.mem_cons, not_or] at hb
        rw [Function.update_of_ne hb.1]
        exact hk b hb.2.1 hb.2.2.1 hb.2.2.2.1
      · rw [g11, g12, g13]; exact hf
      · rw [g11, g12, g13]; exact hn
      · intro h; rw [g11, g12, g13, Function.update_self, read_full2]; exact hv h
      · intro h; rw [Function.update_self, read_full2]; exact hv' h
    by_cases h2 : k0_cond2 i v2 = 1#1
    · rw [dif_pos h2]
      refine s_bind (s_part4 S ?_)
      refine s_ld (S.mem _ (by simp)) rfl ?_
      refine s_st (S.mem _ (by simp)) (S.notTab _ (by simp)) ?_
      rw [dif_neg (fun h3 => (cond3_iff i v2).mp h3 h2)]
      refine s_ret (fin _ (fun _ => ?_) (fun h => absurd h2 h))
      rw [e a3.view.ref (by simp), e a5.view.ref (by simp), e a6.view.ref (by simp), e a8.view.ref (by simp)]
    · rw [dif_neg h2]
      rw [dif_pos ((cond3_iff i v2).mpr h2)]
      refine s_ld (S.mem _ (by simp)) rfl ?_
      refine s_st (S.mem _ (by simp)) (S.notTab _ (by simp)) ?_
      exact s_ret (fin _ (fun h => absurd h h2) (fun _ => rfl))
  unfold cc0_moe_ffn
  refine s_sm (S.mem _ (by simp)) ?_
  refine s_sm (S.mem _ (by simp)) ?_
  refine s_sm (S.mem _ (by simp)) ?_
  rw [e1, e2, e8]
  refine s_ite (c := fills i v1 v2 v8 = 1#1) (fun hf => ?_) (fun hf => ?_)
  · have h0 : Good a4 a7 a9 a11 a12 a13 σ₀ σ₀ 0 0 False := ⟨fun _ _ _ _ => rfl, fun _ _ h => absurd h (by omega), fun _ _ h => absurd h (by omega), fun h => h.elim⟩
    refine s_bind (s_part1 S h0 fun σ h => ?_)
    refine s_bind (s_part2 S h fun σ h => ?_)
    refine s_bind (s_part3 S h fun σ h => ?_)
    refine s_ld (S.mem _ (by simp)) rfl ?_
    refine s_st11 S h rfl (by decide) rfl fun σ h => ?_
    refine s_ld (S.mem _ (by simp)) rfl ?_
    refine s_st12 S h rfl (by decide) rfl fun σ h => ?_
    refine s_ld (S.mem _ (by simp)) (full_ld4 _ _) ?_
    refine s_ld (S.mem _ (by simp)) rfl ?_
    refine s_st (S.mem _ (by simp)) (S.notTab _ (by simp)) ?_
    have g11 := Function.update_of_ne hd.2.1.2.1 ((a13.access (Rect.unit (s := S1024x1024) ![0, 0] S1024x1024.size inb_S1024x1024_S1024x1024_0_0)).write (Elt F) (σ a13.view.ref)
      (shapeCast S1024x1024 (downW (a7.view.read (Elt F) (σ a7.view.ref))) shapeCasts_S1024x1024_S1024x1024) Finset.univ) σ
    have g12 := Function.update_of_ne hd.2.2.1.1 ((a13.access (Rect.unit (s := S1024x1024) ![0, 0] S1024x1024.size inb_S1024x1024_S1024x1024_0_0)).write (Elt F) (σ a13.view.ref)
      (shapeCast S1024x1024 (downW (a7.view.read (Elt F) (σ a7.view.ref))) shapeCasts_S1024x1024_S1024x1024) Finset.univ) σ
    refine hrest (Function.update σ a13.view.ref ((a13.access (Rect.unit (s := S1024x1024) ![0, 0] S1024x1024.size inb_S1024x1024_S1024x1024_0_0)).write (Elt F) (σ a13.view.ref)
      (shapeCast S1024x1024 (downW (a7.view.read (Elt F) (σ a7.view.ref))) shapeCasts_S1024x1024_S1024x1024) Finset.univ)) (fun b n11 n12 n13 => ?_) (fun _ => ⟨?_, ?_, ?_⟩) (fun hn => absurd hf hn)
    · rw [Function.update_of_ne n13]; exact h.keep b n11 n12 n13
    · rw [g11]
      funext x
      rw [eq_ix2 x]
      exact h.g (x 0) (x 1) (x 1).isLt
    · rw [g12]
      funext x
      rw [eq_ix2 x]
      exact h.l (x 0) (x 1) (x 1).isLt
    · rw [Function.update_self, shapeCast_self, read_full2, h.in7 S]
  · exact hrest σ₀ (fun _ _ _ _ => rfl) (fun h => absurd h hf) (fun _ => ⟨rfl, rfl, rfl⟩)

end Body

end Cert.Proof.FBody

end
-- ==== Proof.FWord.lean ====
/- Arithmetic of the words the expert call computes with. -/
module

public import proofs.«01_k».proof.Proof.FBody
public import proofs.«01_k».proof.Proof.Gen.Kernel2Ideal

@[expose] public section

noncomputable section

namespace Cert.Proof.FWord

open Idealize.ShloMosaic Idealize.SL.Sem
open Cert.Kernel2Ideal Cert.Kernel2Ideal.Gen Cert.Proof.FBody

theorem slt_iff (k : ℕ) (hk : k < 160) (v : BitVec 32) : (BitVec.ofNat 32 k).slt v = true ↔ (k : ℤ) < v.toInt := by
  rw [BitVec.slt_iff_toInt_lt]
  have : (BitVec.ofNat 32 k).toInt = (k : ℤ) := by
    rw [BitVec.toInt_eq_toNat_cond, BitVec.toNat_ofNat, Nat.mod_eq_of_lt (by omega)]
    rw [if_pos (by omega)]
  rw [this]

theorem cond2_iff (i : grid0.Coords) (v : BitVec 32) : k0_cond2 i v = 1#1 ↔ ((i 0).val : ℤ) < v.toInt := by
  have h : ∀ b : Bool, (Scalar.cmpi .ne (Scalar.extui (BitVec.ofBool b) : BitVec 32) 0#32 = 1#1) ↔ b = true := by decide
  exact (h _).trans (slt_iff _ (i 0).isLt v)

theorem fills_iff (i : grid0.Coords) (v1 v2 v8 : BitVec 32) :
    fills i v1 v2 v8 = 1#1 ↔ ((i 0).val : ℤ) < v2.toInt ∧ ((i 0).val = 0 ∨ v1 ≠ v8) := by
  have h : ∀ b c d : Bool, (Scalar.cmpi .ne (Scalar.extui (Scalar.andi (BitVec.ofBool b) (Scalar.ori (BitVec.ofBool c) (BitVec.ofBool d))) : BitVec 32) 0#32 = 1#1)
      ↔ (b = true ∧ (c = true ∨ d = true)) := by decide
  refine (h _ _ _).trans (and_congr (slt_iff _ (i 0).isLt v2) (or_congr ?_ ?_))
  · rw [beq_iff_eq]
    have := (i 0).isLt
    have e : grid0.bound 0 = 160 := rfl
    constructor
    · intro h
      have := congrArg BitVec.toNat h
      rw [BitVec.toNat_ofNat, Nat.mod_eq_of_lt (by omega)] at this
      exact this
    · intro h; rw [h]
  · exact bne_iff_ne

theorem toInt_small (k : ℕ) (hk : k < 160) : (BitVec.ofNat 32 k).toInt = (k : ℤ) ∧ (BitVec.ofNat 32 k).toNat = k := by
  have : (BitVec.ofNat 32 k).toNat = k := by rw [BitVec.toNat_ofNat, Nat.mod_eq_of_lt (by omega)]
  refine ⟨?_, this⟩
  rw [BitVec.toInt_eq_toNat_cond, this, if_pos (by omega)]

theorem toNat_of_small (x : BitVec 32) (h0 : 0 ≤ x.toInt) : (x.toNat : ℤ) = x.toInt := by
  have := x.isLt
  rw [BitVec.toInt_eq_toNat_cond] at h0 ⊢
  split at h0 <;> split <;> omega

theorem toNat_ofNat' (n : ℕ) : (BitVec.ofNat 32 n).toNat = n % 4294967296 := by rw [BitVec.toNat_ofNat]

/-- Half of the range: a word that is positive less one. -/
theorem toInt_pred (v : BitVec 32) (h : 0 < v.toInt) : (v - 1#32).toInt = v.toInt - 1 := by
  have hv := toNat_of_small v h.le
  have hlt : v.toInt < 2 ^ 31 := by
    have := BitVec.toInt_lt (x := v)
    simpa using this
  have e : v - 1#32 = BitVec.ofNat 32 (v.toNat - 1) := by
    apply BitVec.eq_of_toNat_eq
    have h1 : (1#32).toNat = 1 := by decide
    rw [BitVec.toNat_sub, h1, toNat_ofNat' (v.toNat - 1)]
    omega
  rw [e, BitVec.toInt_eq_toNat_cond, BitVec.toNat_ofNat, Nat.mod_eq_of_lt (by omega)]
  split <;> omega

theorem minsi_def (x y : BitVec 32) : Scalar.minsi x y = if x.slt y then x else y := rfl

theorem max_nonneg (x : BitVec 32) : 0 ≤ (Scalar.maxsi x 0#32).toInt ∧ x.toInt ≤ (Scalar.maxsi x 0#32).toInt := by
  have h : Scalar.maxsi x 0#32 = if (0#32).slt x then x else 0#32 := rfl
  have h0 : (0#32).toInt = 0 := by decide
  rw [h]
  by_cases hx : (0#32).slt x = true
  · rw [if_pos hx]
    rw [BitVec.slt_iff_toInt_lt, h0] at hx
    omega
  · rw [if_neg hx]
    rw [BitVec.slt_iff_toInt_lt, h0] at hx
    omega

theorem first_le (k : ℕ) (hk : k < 160) (v : BitVec 32) :
    (Scalar.minsi (BitVec.ofNat 32 k) (Scalar.maxsi (Scalar.subi v 1#32) 0#32)).toNat ≤ 159 := by
  obtain ⟨h1, h2⟩ := toInt_small k hk
  generalize Scalar.subi v 1#32 = x
  have hm := max_nonneg x
  generalize Scalar.maxsi x 0#32 = y at hm
  rw [minsi_def]
  by_cases h : (BitVec.ofNat 32 k).slt y = true
  · rw [if_pos h, h2]; omega
  · rw [if_neg h]
    rw [slt_iff k hk] at h
    have := toNat_of_small y hm.1
    omega

/-- At a block in use the rows are the block's own. -/
theorem first_eq (k : ℕ) (hk : k < 160) (v : BitVec 32) (h : (k : ℤ) < v.toInt) :
    (Scalar.minsi (BitVec.ofNat 32 k) (Scalar.maxsi (Scalar.subi v 1#32) 0#32)).toNat = k := by
  obtain ⟨h1, h2⟩ := toInt_small k hk
  have hx : (Scalar.subi v 1#32).toInt = v.toInt - 1 := toInt_pred v (by omega)
  generalize Scalar.subi v 1#32 = x at hx
  have hm := max_nonneg x
  generalize Scalar.maxsi x 0#32 = y at hm
  rw [minsi_def]
  by_cases h' : (BitVec.ofNat 32 k).slt y = true
  · rw [if_pos h', h2]
  · rw [if_neg h']
    rw [slt_iff k hk] at h'
    have := toNat_of_small y hm.1
    by_cases hy : y.toInt = (k : ℤ)
    · omega
    · omega

theorem coords_val : ∀ t : Fin grid0.N, (grid0.coords t 0).val = t.val := by decide +kernel

theorem off2_zero : ∀ t : Fin grid0.N, ∀ h : 0 < t.val, k0_off2 (grid0.coords t) = k0_off1 (grid0.coords ⟨t.val - 1, by omega⟩) := by decide +kernel

end Cert.Proof.FWord

end
-- ==== Proof.FSpec.lean ====
/- What the expert call computes, as a formula over the arguments. -/
module

public import Idealize.ShloMosaic.Lib.Pointwise

@[expose] public section

noncomputable section

namespace Cert.Proof.FSpec

open Idealize.ShloMosaic

variable (X : (⟨2, ![81920, 1024]⟩ : Shape).Idx → EReal) (W1 : (⟨4, ![2, 32, 1024, 2048]⟩ : Shape).Idx → EReal)
  (B1 : (⟨2, ![32, 2048]⟩ : Shape).Idx → EReal) (W2 : (⟨4, ![2, 32, 1024, 1024]⟩ : Shape).Idx → EReal)
  (B2 : (⟨2, ![32, 1024]⟩ : Shape).Idx → EReal)

/-- Column `f` of an expert's first layer at row `r`. -/
def hid (e : Fin 32) (r : Fin 81920) (f : Fin 2048) : EReal := ∑ d : Fin 1024, X (ix2 r d) * W1 (ix4 0 e d f) + B1 (ix2 e f)

/-- The activation of a gate value and a linear one. -/
def gated (x y : EReal) : EReal :=
  min x (Ideal.ofBits .f32 0x40E00000#32) * Ideal.logistic (Ideal.ofBits .f32 0x3FD9DB23#32 * min x (Ideal.ofBits .f32 0x40E00000#32))
    * (min (Ideal.ofBits .f32 0x40E00000#32) (max (Ideal.ofBits .f32 0xC0E00000#32) y) + 1)

theorem even_lt (k : Fin 1024) : 2 * k.val < 2048 := by omega

theorem odd_lt (k : Fin 1024) : 1 + 2 * k.val < 2048 := by omega

/-- The activation of an expert at row `r`: even columns gate, odd ones are gated. -/
def act (e : Fin 32) (r : Fin 81920) (k : Fin 1024) : EReal :=
  gated (hid X W1 B1 e r ⟨2 * k.val, even_lt k⟩) (hid X W1 B1 e r ⟨1 + 2 * k.val, odd_lt k⟩)

theorem blk_lt (r : Fin 81920) : r.val / 512 < 160 := Nat.div_lt_of_lt_mul r.isLt

/-- The result: rows of blocks in use go through their block's expert, the others are zero. -/
def G (u : BitVec 32) (e : Fin 160 → Fin 32) (i : (⟨2, ![81920, 1024]⟩ : Shape).Idx) : EReal :=
  if (((i 0).val / 512 : ℕ) : ℤ) < u.toInt then
    ∑ k : Fin 1024, act X W1 B1 (e ⟨(i 0).val / 512, blk_lt (i 0)⟩) (i 0) k * W2 (ix4 0 (e ⟨(i 0).val / 512, blk_lt (i 0)⟩) k (i 1))
      + B2 (ix2 (e ⟨(i 0).val / 512, blk_lt (i 0)⟩) (i 1))
  else 0

end Cert.Proof.FSpec
-- ==== Proof.FRef.lean ====
/- The reference of the expert call, read at an index. -/
module

public import proofs.«01_k».proof.Defs
public import proofs.«01_k».proof.Proof.FHost
public import proofs.«01_k».proof.Proof.FWord
public import proofs.«01_k».proof.Proof.FSpec
public import proofs.«01_k».proof.Proof.Gen.Reference2Ideal
public import proofs.«01_k».proof.Proof.Gen.Reference2Ideal.Run
public import Idealize.ShloMosaic.Lib.Routing.Ops

@[expose] public section

noncomputable section

namespace Cert.Proof.FRef

open Idealize.ShloMosaic Idealize.ShloMosaic.TcCoe Idealize.SL.Sem
open Cert.Reference2Ideal Cert.Reference2Ideal.Gen Cert.Proof.FHost

/-! ### Rows taken from a table of matrices -/

section Rows
variable {α : Type}

/-- The axes of `table[idx]` over a table of matrices. -/
abbrev matDims (N A B C : ℕ) (wf : GatherDims.WF ⟨3, ![N, A, B]⟩ ⟨2, ![C, 1]⟩ ⟨3, ![C, A, B]⟩ [1, 2] [0] [] [0] [] 1 ![1, A, B]) :
    GatherDims ⟨3, ![N, A, B]⟩ ⟨2, ![C, 1]⟩ ⟨3, ![C, A, B]⟩ where
  offsetDims := [1, 2]
  collapsedSliceDims := [0]
  operandBatchingDims := []
  startIndicesBatchingDims := []
  startIndexMap := [0]
  indexVectorDim := 1
  sliceSizes := ![1, A, B]
  wf := wf

/-- Entry `(c, y, z)` of the taken matrices is the table's entry `(b, y, z)`, where `b` is the number at `c`. -/
theorem gather_mat {N A B C : ℕ} (wf : GatherDims.WF ⟨3, ![N, A, B]⟩ ⟨2, ![C, 1]⟩ ⟨3, ![C, A, B]⟩ [1, 2] [0] [] [0] [] 1 ![1, A, B])
    (x : (⟨3, ![N, A, B]⟩ : Shape).Idx → α) (idx : IVec ⟨2, ![C, 1]⟩ 32) (c : Fin C) (y : Fin A) (z : Fin B) (b : Fin N)
    (hb : (idx (ix2 c 0)).toInt.toNat = b.val) :
    Host.gather (matDims N A B C wf) x idx (ix3 c y z) = x (ix3 b y z) := by
  unfold Host.gather
  refine congrArg x (funext fun a => Fin.ext ?_)
  show (matDims N A B C wf).start (ix3 c y z) idx a + (matDims N A B C wf).batchCoord (ix3 c y z) a + (matDims N A B C wf).offCoord (ix3 c y z) a = _
  rw [GatherDims.batchCoord_eq_zero _ _ _ List.not_mem_nil, Nat.add_zero]
  match a with
  | ⟨0, h0⟩ =>
    have hm : (⟨0, h0⟩ : Fin 3) ∈ (matDims N A B C wf).startIndexMap := List.mem_singleton.mpr rfl
    rw [GatherDims.offCoord_eq_zero _ _ _ (fun h => ((GatherDims.mem_sKept _ _).mp h).1 (List.mem_singleton.mpr rfl)), Nat.add_zero]
    unfold GatherDims.start
    rw [dif_pos hm]
    have hsi : (matDims N A B C wf).siIdx (ix3 c y z) ⟨List.idxOf (⟨0, h0⟩ : Fin 3) (matDims N A B C wf).startIndexMap,
        List.idxOf_lt_length_iff.2 hm⟩ = ix2 c 0 := by
      funext b; refine Fin.ext ?_
      match b with
      | ⟨0, _⟩ => rfl
      | ⟨1, _⟩ => rfl
    rw [hsi]
    show min (idx (ix2 c 0)).toInt.toNat (N - 1) = b.val
    rw [hb]
    omega
  | ⟨1, h1⟩ =>
    unfold GatherDims.start
    rw [dif_neg (by intro h; exact absurd (congrArg Fin.val (List.mem_singleton.mp h)) (Nat.one_ne_zero))]
    exact Nat.zero_add _
  | ⟨2, h2⟩ =>
    unfold GatherDims.start
    rw [dif_neg (by intro h; exact absurd (congrArg Fin.val (List.mem_singleton.mp h)) (Nat.succ_ne_zero 1))]
    exact Nat.zero_add _

end Rows

/-! ### The printed term, in parts -/

section Parts
variable {F : FTy → Type} [FloatOps F]

/-- The experts as a column of row numbers. -/
def col (E : IVec S160 32) : IVec S160x1 32 :=
  broadcastInDim S160x1 ![0] bcast_S160_S160x1_0
    (select (cmpi .slt E (broadcastInDim S160 ![] bcast_S_S160 (constantI S_ 32 0#32)))
      (addi E (broadcastInDim S160 ![] bcast_S_S160 (constantI S_ 32 32#32))) E)

/-- The first layer. -/
def hid (E : IVec S160 32) (X : FVec F S81920x1024 .f32) (W1 : FVec F S2x32x1024x2048 .f32) (B1 : FVec F S32x2048 .f32) : FVec F S160x512x2048 .f32 :=
  addf (Host.dotGeneral dot_S160x512x1024_S160x1024x2048_S160x512x2048_2_1_1_2_0_0 none (shapeCast _ X shapeCasts_S81920x1024_S160x512x1024)
      (Host.gather gather_S32x1024x2048_S160x1_S160x1024x2048_12_0_n_n_0_1_110242048
        (shapeCast _ (extractStridedSlice S1x32x1024x2048 ![0, 0, 0, 0] W1 slices_S2x32x1024x2048_S1x32x1024x2048_0_0_0_0) shapeCasts_S1x32x1024x2048_S32x1024x2048) (col E)))
    (broadcastInDim S160x512x2048 ![0, 1, 2] bcast_S160x1x2048_S160x512x2048_0_1_2
      (broadcastInDim S160x1x2048 ![0, 2] bcast_S160x2048_S160x1x2048_0_2 (Host.gather gather_S32x2048_S160x1_S160x2048_1_0_n_n_0_1_12048 B1 (col E))))

/-- The activation. -/
def act (H : FVec F S160x512x2048 .f32) : FVec F S160x512x1024 .f32 :=
  let T0 : FVec F S160x512x1024 .f32 := minimumf (Host.slice S160x512x1024 ![0, 0, 0] ![1, 1, 2] H slicesBy_S160x512x2048_S160x512x1024_0s1_0s1_0s2)
    (broadcastInDim S160x512x1024 ![] bcast_S_S160x512x1024 (constant S_ .f32 0x40E00000#32))
  let T4 : FVec F S160x512x1024 .f32 := broadcastInDim S160x512x1024 ![] bcast_S_S160x512x1024 (constant S_ .f32 0x3F800000#32)
  mulf (mulf T0 (Host.divf T4 (addf T4 (Host.exp (Host.negf (mulf (broadcastInDim S160x512x1024 ![] bcast_S_S160x512x1024 (constant S_ .f32 0x3FD9DB23#32)) T0))))))
    (addf (minimumf (broadcastInDim S160x512x1024 ![] bcast_S_S160x512x1024 (constant S_ .f32 0x40E00000#32))
      (maximumf (broadcastInDim S160x512x1024 ![] bcast_S_S160x512x1024 (constant S_ .f32 0xC0E00000#32))
        (Host.slice S160x512x1024 ![0, 0, 1] ![1, 1, 2] H slicesBy_S160x512x2048_S160x512x1024_0s1_0s1_1s2))) T4)

/-- The second layer. -/
def down (E : IVec S160 32) (A : FVec F S160x512x1024 .f32) (W2 : FVec F S2x32x1024x1024 .f32) (B2 : FVec F S32x1024 .f32) : FVec F S160x512x1024 .f32 :=
  addf (Host.dotGeneral dot_S160x512x1024_S160x1024x1024_S160x512x1024_2_1_1_2_0_0 none A
      (Host.gather gather_S32x1024x1024_S160x1_S160x1024x1024_12_0_n_n_0_1_110241024
        (shapeCast _ (extractStridedSlice S1x32x1024x1024 ![0, 0, 0, 0] W2 slices_S2x32x1024x1024_S1x32x1024x1024_0_0_0_0) shapeCasts_S1x32x1024x1024_S32x1024x1024) (col E)))
    (broadcastInDim S160x512x1024 ![0, 1, 2] bcast_S160x1x1024_S160x512x1024_0_1_2
      (broadcastInDim S160x1x1024 ![0, 2] bcast_S160x1024_S160x1x1024_0_2 (Host.gather gather_S32x1024_S160x1_S160x1024_1_0_n_n_0_1_11024 B2 (col E))))

/-- The blocks in use kept, the others cleared. -/
def keep (u : IVec S1 32) (Y : FVec F S160x512x1024 .f32) : FVec F S81920x1024 .f32 :=
  shapeCast _ (select (broadcastInDim S160x512x1024 ![0, 1, 2] bcast_S160x1x1_S160x512x1024_0_1_2 (broadcastInDim S160x1x1 ![0] bcast_S160_S160x1x1_0
      (cmpi .slt (iotaInDim S160 32 0) (broadcastInDim S160 ![0] bcast_S1_S160_0 u)))) Y
    (broadcastInDim S160x512x1024 ![] bcast_S_S160x512x1024 (constant S_ .f32 0x00000000#32))) shapeCasts_S160x512x1024_S81920x1024

set_option maxRecDepth 16384 in
set_option maxHeartbeats 4000000 in
theorem res_eq (m : (ℓ : Loc nD τ sig) → Buf (Elt F) ℓ) (c : Dev nD) :
    Value.res_main_v85 m c = keep (used (m ((c : Thread nD τ).loc main_arg0)))
      (down (blkE (m ((c : Thread nD τ).loc main_arg0)))
        (act (hid (blkE (m ((c : Thread nD τ).loc main_arg0))) (m ((c : Thread nD τ).loc main_arg1)) (m ((c : Thread nD τ).loc main_arg2)) (m ((c : Thread nD τ).loc main_arg3))))
        (m ((c : Thread nD τ).loc main_arg4)) (m ((c : Thread nD τ).loc main_arg5))) := rfl

end Parts

/-! ### The parts at an index -/

variable (E : IVec S160 32) (e : Fin 160 → Fin 32) (he : ∀ n, E (ix1 n) = BitVec.ofNat 32 (e n).val)

include he in
theorem col_at (n : Fin 160) : col E (ix2 n 0) = BitVec.ofNat 32 (e n).val := by
  have h : ∀ k : Fin 32, Scalar.select (IntOp.cmpi .slt (BitVec.ofNat 32 k.val) 0#32) (IntOp.addi (BitVec.ofNat 32 k.val) 32#32) (BitVec.ofNat 32 k.val) = BitVec.ofNat 32 k.val := by
    decide
  have : col E (ix2 n 0) = Scalar.select (IntOp.cmpi .slt (E (ix1 n)) 0#32) (IntOp.addi (E (ix1 n)) 32#32) (E (ix1 n)) := by
    unfold col
    pointwise
  rw [this, he, h]

theorem small (k : Fin 32) : (BitVec.ofNat 32 k.val).toInt.toNat = k.val := by
  revert k; decide

variable (X : FVec Ideal S81920x1024 .f32) (W1 : FVec Ideal S2x32x1024x2048 .f32) (B1 : FVec Ideal S32x2048 .f32)
  (W2 : FVec Ideal S2x32x1024x1024 .f32) (B2 : FVec Ideal S32x1024 .f32)

theorem row_lt (n : Fin 160) (m : Fin 512) : n.val * 512 + m.val < 81920 := by omega

include he in
theorem w1_at (n : Fin 160) (d : Fin 1024) (f : Fin 2048) :
    Host.gather gather_S32x1024x2048_S160x1_S160x1024x2048_12_0_n_n_0_1_110242048
        (shapeCast _ (extractStridedSlice S1x32x1024x2048 ![0, 0, 0, 0] W1 slices_S2x32x1024x2048_S1x32x1024x2048_0_0_0_0) shapeCasts_S1x32x1024x2048_S32x1024x2048) (col E)
      (ix3 n d f) = W1 (ix4 0 (e n) d f) := by
  refine (gather_mat _ _ _ n d f (e n) ?_).trans ?_
  · rw [col_at E e he, small]
  · pointwise

include he in
theorem w2_at (n : Fin 160) (k : Fin 1024) (q : Fin 1024) :
    Host.gather gather_S32x1024x1024_S160x1_S160x1024x1024_12_0_n_n_0_1_110241024
        (shapeCast _ (extractStridedSlice S1x32x1024x1024 ![0, 0, 0, 0] W2 slices_S2x32x1024x1024_S1x32x1024x1024_0_0_0_0) shapeCasts_S1x32x1024x1024_S32x1024x1024) (col E)
      (ix3 n k q) = W2 (ix4 0 (e n) k q) := by
  refine (gather_mat _ _ _ n k q (e n) ?_).trans ?_
  · rw [col_at E e he, small]
  · pointwise

include he in
theorem b1_at (n : Fin 160) (f : Fin 2048) :
    Host.gather gather_S32x2048_S160x1_S160x2048_1_0_n_n_0_1_12048 B1 (col E) (ix2 n f) = B1 (ix2 (e n) f) :=
  Routing.gather_row _ rfl rfl rfl rfl rfl B1 (col E) n f (e n) (col_at E e he n) (by decide)

include he in
theorem b2_at (n : Fin 160) (q : Fin 1024) :
    Host.gather gather_S32x1024_S160x1_S160x1024_1_0_n_n_0_1_11024 B2 (col E) (ix2 n q) = B2 (ix2 (e n) q) :=
  Routing.gather_row _ rfl rfl rfl rfl rfl B2 (col E) n q (e n) (col_at E e he n) (by decide)

theorem x_at (n : Fin 160) (m : Fin 512) (d : Fin 1024) :
    shapeCast S160x512x1024 X shapeCasts_S81920x1024_S160x512x1024 (ix3 n m d) = X (ix2 ⟨n.val * 512 + m.val, row_lt n m⟩ d) := by
  pointwise

include he in
theorem hid_at (n : Fin 160) (m : Fin 512) (f : Fin 2048) :
    hid E X W1 B1 (ix3 n m f) = FSpec.hid X W1 B1 (e n) ⟨n.val * 512 + m.val, row_lt n m⟩ f := by
  unfold hid FSpec.hid
  rw [← b1_at E e he B1 n f]
  simp only [← w1_at E e he W1 n, ← x_at X n m]
  pointwise

include he in
theorem act_at (n : Fin 160) (m : Fin 512) (k : Fin 1024) :
    act (hid E X W1 B1) (ix3 n m k) = FSpec.act X W1 B1 (e n) ⟨n.val * 512 + m.val, row_lt n m⟩ k := by
  unfold FSpec.act FSpec.gated
  rw [← hid_at E e he X W1 B1, ← hid_at E e he X W1 B1]
  generalize hid E X W1 B1 = H
  unfold act Ideal.logistic
  pointwise

include he in
theorem down_at (n : Fin 160) (m : Fin 512) (q : Fin 1024) :
    down E (act (hid E X W1 B1)) W2 B2 (ix3 n m q)
      = ∑ k : Fin 1024, FSpec.act X W1 B1 (e n) ⟨n.val * 512 + m.val, row_lt n m⟩ k * W2 (ix4 0 (e n) k q) + B2 (ix2 (e n) q) := by
  rw [← b2_at E e he B2 n q]
  simp only [← w2_at E e he W2 n, ← act_at E e he X W1 B1 n m]
  generalize act (hid E X W1 B1) = A
  unfold down
  pointwise

theorem keep_at (u : IVec S1 32) (Y : FVec Ideal S160x512x1024 .f32) (n : Fin 160) (m : Fin 512) (q : Fin 1024) :
    keep u Y (ix2 ⟨n.val * 512 + m.val, row_lt n m⟩ q) = if (n.val : ℤ) < (u (ix1 0)).toInt then Y (ix3 n m q) else 0 := by
  have h : keep u Y (ix2 ⟨n.val * 512 + m.val, row_lt n m⟩ q)
      = Scalar.select (IntOp.cmpi .slt (BitVec.ofNat 32 n.val) (u (ix1 0))) (Y (ix3 n m q)) 0 := by
    unfold keep
    pointwise
  rw [h]
  by_cases hn : (n.val : ℤ) < (u (ix1 0)).toInt
  · rw [if_pos hn, show IntOp.cmpi .slt (BitVec.ofNat 32 n.val) (u (ix1 0)) = 1#1 from
      congrArg BitVec.ofBool ((FWord.slt_iff n.val n.isLt _).mpr hn)]
    rfl
  · rw [if_neg hn, show IntOp.cmpi .slt (BitVec.ofNat 32 n.val) (u (ix1 0)) = 0#1 from
      congrArg BitVec.ofBool (Bool.eq_false_iff.mpr fun h => hn ((FWord.slt_iff n.val n.isLt _).mp h))]
    rfl

include he in
/-- The reference is the formula. -/
theorem all (u : IVec S1 32) : keep u (down E (act (hid E X W1 B1)) W2 B2) = FSpec.G X W1 B1 W2 B2 (u (ix1 0)) e := by
  funext i
  have hi : i = ix2 ⟨(i 0).val / 512 * 512 + (i 0).val % 512, by have := (i 0).isLt; rw [Nat.div_add_mod']; exact this⟩ (i 1) := by
    rw [eq_ix2 i]
    congr 1
    exact Fin.ext (Nat.div_add_mod' _ _).symm
  have hr : (⟨(i 0).val / 512 * 512 + (i 0).val % 512, by have := (i 0).isLt; rw [Nat.div_add_mod']; exact this⟩ : Fin 81920) = i 0 :=
    Fin.ext (Nat.div_add_mod' _ _)
  have h := keep_at u (down E (act (hid E X W1 B1)) W2 B2) ⟨(i 0).val / 512, FSpec.blk_lt (i 0)⟩ ⟨(i 0).val % 512, Nat.mod_lt _ (by decide)⟩ (i 1)
  have hd := down_at E e he X W1 B1 W2 B2 ⟨(i 0).val / 512, FSpec.blk_lt (i 0)⟩ ⟨(i 0).val % 512, Nat.mod_lt _ (by decide)⟩ (i 1)
  simp only [hr] at hd
  exact (congrArg _ hi).trans (h.trans (if_congr Iff.rfl hd rfl))

end Cert.Proof.FRef
-- ==== Proof.FAlg.lean ====
/- The values of the expert call's body: moving columns by a permutation matrix, and a block through an expert. -/
module

public import proofs.«01_k».proof.Proof.FBody
public import proofs.«01_k».proof.Proof.FHost
public import proofs.«01_k».proof.Proof.FSpec
public import proofs.«01_k».proof.Proof.Gen.Kernel2Ideal

@[expose] public section

noncomputable section

namespace Cert.Proof.FAlg

open Idealize.ShloMosaic Idealize.SL.Sem
open Cert.Kernel2Ideal Cert.Kernel2Ideal.Gen Cert.Proof.FBody

/-- The column a column of a tile comes from. -/
def src (c : Fin 256) : Fin 256 :=
  if h : c.val < 128 then ⟨2 * c.val, by omega⟩ else ⟨2 * (c.val - 128) + 1, by omega⟩

theorem order_word : ∀ c : Fin 256, Scalar.select (IntOp.cmpi .slt (BitVec.ofNat 32 c.val) 128#32) (IntOp.muli 2#32 (BitVec.ofNat 32 c.val))
    (IntOp.addi (IntOp.muli 2#32 (IntOp.subi (BitVec.ofNat 32 c.val) 128#32)) 1#32) = BitVec.ofNat 32 (src c).val := by
  decide +kernel

theorem order_at (k c : Fin 256) : FHost.order (ix2 k c) = BitVec.ofNat 32 (src c).val := by
  rw [← order_word c]
  unfold FHost.order
  pointwise

theorem perm_at (k c : Fin 256) : FHost.perm (F := Ideal) (ix2 k c) = if k = src c then 1 else 0 := by
  have h : FHost.perm (F := Ideal) (ix2 k c)
      = Scalar.select (IntOp.cmpi .eq (BitVec.ofNat 32 k.val) (FHost.order (ix2 k c))) 1 0 := by
    unfold FHost.perm
    generalize FHost.order = O
    pointwise
  rw [h, order_at]
  by_cases hk : k = src c
  · rw [if_pos hk, hk, show IntOp.cmpi .eq (BitVec.ofNat 32 (src c).val) (BitVec.ofNat 32 (src c).val) = 1#1 from
      congrArg BitVec.ofBool (beq_self_eq_true _)]
    rfl
  · rw [if_neg hk, show IntOp.cmpi .eq (BitVec.ofNat 32 k.val) (BitVec.ofNat 32 (src c).val) = 0#1 from
      congrArg BitVec.ofBool (beq_eq_false_iff_ne.mpr fun e => hk (Fin.ext (by
        have := congrArg BitVec.toNat e
        rw [BitVec.toNat_ofNat, BitVec.toNat_ofNat] at this
        omega)))]
    rfl

theorem col_lt (j : Fin 8) (k : Fin 256) : 256 * j.val + k.val < 2048 := by omega

theorem tile_at (X : S1x1x1024x2048.Idx → EReal) (j : Fin 8) (r : Fin 1024) (c : Fin 256) :
    tile (F := Ideal) X (FHost.perm (F := Ideal)) j (ix2 r c) = X (ix4 0 0 r ⟨256 * j.val + (src c).val, col_lt j (src c)⟩) := by
  have h : tile (F := Ideal) X (FHost.perm (F := Ideal)) j (ix2 r c)
      = ∑ k : Fin 256, X (ix4 0 0 r ⟨256 * j.val + k.val, col_lt j k⟩) * FHost.perm (F := Ideal) (ix2 k c) := by
    unfold tile slab
    generalize FHost.perm (F := Ideal) = P
    pointwise
  rw [h, Finset.sum_eq_single (src c)]
  · rw [perm_at, if_pos rfl, mul_one]
  · intro k _ hk
    rw [perm_at, if_neg hk, mul_zero]
  · intro h
    exact absurd (Finset.mem_univ _) h

theorem gate_at (X : S1x1x1024x2048.Idx → EReal) (r c : Fin 1024) :
    gateW (F := Ideal) X (FHost.perm (F := Ideal)) (ix2 r c) = X (ix4 0 0 r ⟨2 * c.val, FSpec.even_lt c⟩) := by
  refine (tile_at X _ r _).trans (congrArg X ?_)
  congr 1
  refine Fin.ext ?_
  show 256 * (c.val / 128) + (src ⟨c.val % 128, _⟩).val = 2 * c.val
  have h : c.val % 128 < 128 := Nat.mod_lt _ (by decide)
  unfold src
  rw [dif_pos h]
  show 256 * (c.val / 128) + 2 * (c.val % 128) = 2 * c.val
  omega

theorem lin_at (X : S1x1x1024x2048.Idx → EReal) (r c : Fin 1024) :
    linW (F := Ideal) X (FHost.perm (F := Ideal)) (ix2 r c) = X (ix4 0 0 r ⟨1 + 2 * c.val, FSpec.odd_lt c⟩) := by
  refine (tile_at X _ r _).trans (congrArg X ?_)
  congr 1
  refine Fin.ext ?_
  show 256 * (c.val / 128) + (src ⟨128 + c.val % 128, _⟩).val = 1 + 2 * c.val
  unfold src
  rw [dif_neg (Nat.not_lt.mpr (Nat.le_add_right _ _))]
  show 256 * (c.val / 128) + (2 * (128 + c.val % 128 - 128) + 1) = 1 + 2 * c.val
  omega

theorem down_at (X : S1x1x1024x1024.Idx → EReal) (r c : Fin 1024) : downW (F := Ideal) X (ix2 r c) = X (ix4 0 0 r c) := by
  unfold downW
  pointwise

theorem expert_at (x : FVec Ideal S512x1024 .f32) (g l d : FVec Ideal S1024x1024 .bf16) (bg bl bd : FVec Ideal S1x1x1024 .f32)
    (r : Fin 512) (q : Fin 1024) :
    expert (F := Ideal) x g l d bg bl bd (ix2 r q)
      = ∑ k : Fin 1024, FSpec.gated (∑ i : Fin 1024, x (ix2 r i) * g (ix2 i k) + bg (ix3 0 0 k)) (∑ i : Fin 1024, x (ix2 r i) * l (ix2 i k) + bl (ix3 0 0 k))
          * d (ix2 k q) + bd (ix3 0 0 q) := by
  unfold expert FSpec.gated
  pointwise

end Cert.Proof.FAlg
-- ==== Proof.FRun.lean ====
/- The launch of the expert call: the tables are admissible, one grid point, and the run over all of them. -/
module

public import proofs.«01_k».proof.Defs
public import proofs.«01_k».proof.Proof.FBody
public import proofs.«01_k».proof.Proof.FWord
public import proofs.«01_k».proof.Proof.FHost
public import proofs.«01_k».proof.Proof.Gen.Kernel2Ideal
public import proofs.«01_k».proof.Proof.Gen.Kernel2Ideal.Launch
public import Idealize.ShloMosaic.Adequacy
public import Idealize.ShloMosaic.Init

@[expose] public section

noncomputable section

namespace Cert.Proof.FRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel2Ideal Cert.Kernel2Ideal.Gen Cert.Proof.FPure Cert.Proof.FBody Cert.Proof.FHost Cert.Proof.FWord

variable {F : FTy → Type} [FloatOps F]

/-! ### The tables -/

/-- What the tables hold. -/
def pf (m : (ℓ : Loc nD τ sig) → Buf (Elt F) ℓ) : pre0.Contents (Elt F) := fun k => V m 0 (pre0.ref k)

variable (m : (ℓ : Loc nD τ sig) → Buf (Elt F) ℓ)

theorem pf_zero : pf m 0 = blkE (m (((0 : Dev nD) : Thread nD τ).loc main_arg0)) := V_v19 m 0

theorem pf_one : pf m 1 = used (m (((0 : Dev nD) : Thread nD τ).loc main_arg0)) := V_v21 m 0

theorem at_le (r : Rect (pre0.ref 0).ty.shape) (h1 : r.shape.numel = 1) : BitVec.toNat (w := 32) ((pf m).at 0 r h1) ≤ 31 := by
  have := blkE_le (m (((0 : Dev nD) : Thread nD τ).loc main_arg0)) (r.emb (Shape.Idx.first (h1.symm ▸ Nat.one_pos)))
  rw [← pf_zero] at this
  exact this

theorem okc {P : Prop} {Q : P → Prop} (h : P) : ∃ h : P, EltTy.bits .f32 = 32 ∨ Q h := ⟨h, .inl rfl⟩

theorem mul_one_le {a : ℕ} (h : a ≤ 31) : (a + 1) * 1 ≤ 32 := by omega

theorem ok_of (p : pre0.Contents (Elt F)) (at_le : ∀ (r : Rect (pre0.ref 0).ty.shape) (h1 : r.shape.numel = 1), BitVec.toNat (w := 32) (p.at 0 r h1) ≤ 31) :
    ok0 p := by
  refine ⟨fun i => okc ?_, fun i => okc ?_, fun i => okc ?_, fun i => okc ?_, fun i => okc ?_, fun i => okc ?_⟩
  · have h := first_le (i 0).val (i 0).isLt (p.at 1 (Rect.unit (s := S1) ![0] S1.size inb_S1_S1_0) numel1_S1)
    intro a
    match a with
    | 0 =>
      exact Nat.le_trans (Nat.mul_le_mul_right 512 (Nat.succ_le_succ h)) (by decide)
    | 1 => show (0 + 1) * 1024 ≤ 1024; decide
  · have h : cc0_transform_1 k0_off1_inb numel1_S1 p i 1 ≤ 31 := at_le _ _
    intro a
    match a with
    | 0 => show (0 + 1) * 1 ≤ 2; decide
    | 1 => exact mul_one_le h
    | 2 => show (0 + 1) * 1024 ≤ 1024; decide
    | 3 => show (0 + 1) * 2048 ≤ 2048; decide
  · have h : cc0_transform_2 k0_off1_inb numel1_S1 p i 0 ≤ 31 := at_le _ _
    intro a
    match a with
    | 0 => exact mul_one_le h
    | 1 => show (0 + 1) * 1 ≤ 1; decide
    | 2 => show (0 + 1) * 1024 ≤ 1024; decide
  · have h : cc0_transform_3 k0_off1_inb numel1_S1 p i 0 ≤ 31 := at_le _ _
    intro a
    match a with
    | 0 => exact mul_one_le h
    | 1 => show (0 + 1) * 1 ≤ 1; decide
    | 2 => show (0 + 1) * 1024 ≤ 1024; decide
  · have h : cc0_transform_4 k0_off1_inb numel1_S1 p i 1 ≤ 31 := at_le _ _
    intro a
    match a with
    | 0 => show (0 + 1) * 1 ≤ 2; decide
    | 1 => exact mul_one_le h
    | 2 => show (0 + 1) * 1024 ≤ 1024; decide
    | 3 => show (0 + 1) * 1024 ≤ 1024; decide
  · have h : cc0_transform_5 k0_off1_inb numel1_S1 p i 0 ≤ 31 := at_le _ _
    intro a
    match a with
    | 0 => exact mul_one_le h
    | 1 => show (0 + 1) * 1 ≤ 1; decide
    | 2 => show (0 + 1) * 1024 ≤ 1024; decide

theorem ok : ok0 (pf m) := ok_of (pf m) (at_le m)

/-- The tables' contents, admissible. -/
def adm : (pcfg0 (F := F)).Adm := ⟨pf m, ok m⟩

/-! ### What each point leaves -/

variable (a : (pcfg0 (F := F)).Adm) (U : (c : Dev nD) → (b : Ref sig .tc) → Buf (Elt F) ((c : Thread nD τ).loc b)) (c : Dev nD)

/-- The call at admissible tables. -/
abbrev cfgA : Cfg sig Λ₀ := cfg0 a

/-- The block of window `w`'s array at a point. -/
def blkOf (w : Fin 8) (t : Fin (cfgA a).N) : ((cfgA a).win w).block.Idx → Elt F ((cfgA a).win w).elt :=
  (((cfgA a).win w).blk t).view.read (Elt F) (U c (arrRef (cfgA a).spec w))

/-- The number of blocks in use. -/
def nb : BitVec 32 := a.1.at 1 (Rect.unit (s := S1) ![0] S1.size inb_S1_S1_0) numel1_S1

/-- The expert of a point. -/
def ex (t : Fin (cfgA a).N) : BitVec 32 := a.1.at 0 (Rect.unit (s := S160) (k0_off1 (grid0.coords t)) S1.size (k0_off1_inb (grid0.coords t))) numel1_S1

/-- The three matrices the scratch buffers hold at a point in use. -/
def gAt (t : Fin (cfgA a).N) : Vec F S1024x1024 .bf16 := gateW (blkOf a U c 1 t) (blkOf a U c 6 t)
def lAt (t : Fin (cfgA a).N) : Vec F S1024x1024 .bf16 := linW (blkOf a U c 1 t) (blkOf a U c 6 t)
def dAt (t : Fin (cfgA a).N) : Vec F S1024x1024 .bf16 := downW (blkOf a U c 4 t)

/-- The block of the result. -/
def outAt (t : Fin (cfgA a).N) : Vec F S512x1024 .f32 :=
  if (t.val : ℤ) < (nb a).toInt then
    expert (blkOf a U c 0 t) (gAt a U c t) (lAt a U c t) (dAt a U c t) (blkOf a U c 2 t) (blkOf a U c 3 t) (blkOf a U c 5 t)
  else broadcast S512x1024 (Scalar.ofBits .f32 0x00000000#32)

/-- One value at the last window, and others at the rest. -/
def pick {T : Fin 8 → Type} (B : (w : Fin 8) → T w) (o : T 7) : (w : Fin 8) → T w
  | 0 => B 0 | 1 => B 1 | 2 => B 2 | 3 => B 3 | 4 => B 4 | 5 => B 5 | 6 => B 6 | 7 => o

theorem pick_in {T : Fin 8 → Type} (B : (w : Fin 8) → T w) (o : T 7) (w : Fin 8) (hw : w ≠ 7) : pick B o w = B w := by
  match w, hw with
  | 0, _ => rfl | 1, _ => rfl | 2, _ => rfl | 3, _ => rfl | 4, _ => rfl | 5, _ => rfl | 6, _ => rfl
  | 7, h => exact absurd rfl h

/-- What a point leaves in each window. -/
def afterAt : (w : Fin 8) → (t : Fin (cfgA a).N) → ((cfgA a).win w).block.Idx → Elt F ((cfgA a).win w).elt :=
  pick (T := fun w => (t : Fin (cfgA a).N) → ((cfgA a).win w).block.Idx → Elt F ((cfgA a).win w).elt) (blkOf a U c) (outAt a U c)

/-- After a point in use the scratch buffers hold its expert's matrices. -/
def Inv (n : ℕ) (σ : St sig (Elt F)) : Prop := ∀ t : Fin (cfgA a).N, t.val + 1 = n → (t.val : ℤ) < (nb a).toInt →
  (Memref.whole cc0_scratch0).view.read (Elt F) (σ cc0_scratch0) = gAt a U c t
  ∧ (Memref.whole cc0_scratch1).view.read (Elt F) (σ cc0_scratch1) = lAt a U c t
  ∧ (Memref.whole cc0_scratch2).view.read (Elt F) (σ cc0_scratch2) = dAt a U c t

/-- The call's data. -/
def dat : Dat τ (Elt F) Unit ℕ (UR sig nD τ) ℕ (cfgA a) c where
  A w := U c (arrRef (cfgA a).spec w)
  after := afterAt a U c
  Φ t := between c (cfgA a) pre0 a.1 (Inv a U c t.val)
  q _ := fullShare
  owed _ := 0

theorem isOut_in (w : Fin 8) (hw : w ≠ 7) : ((cfgA a).win w).isOut = false :=
  (show ∀ w : Fin 8, w ≠ 7 → (spec0 w).isOut = false from by decide) w hw

theorem after_in (w : Fin 8) (hw : w ≠ 7) : (dat a U c).after w = blkOf a U c w := pick_in _ _ w hw

theorem idle0_all (p : pre0.Contents (Elt F)) (w : Fin 8) (i : grid0.Coords) : idle0 p w i = false := by
  match w with
  | 0 => rfl | 1 => rfl | 2 => rfl | 3 => rfl | 4 => rfl | 5 => rfl | 6 => rfl
  | 7 =>
    show (!(k0_cond2 i (p.atD 1 ![0]) == 1#1) && !(k0_cond3 i (p.atD 1 ![0]) == 1#1)) = false
    have := cond3_iff i (p.atD 1 ![0])
    by_cases h : k0_cond2 i (p.atD 1 ![0]) = 1#1
    · rw [beq_iff_eq.mpr h]; rfl
    · rw [beq_iff_eq.mpr (this.mpr h), Bool.not_true, Bool.and_false]

theorem idle_all (w : Fin 8) (i : grid0.Coords) : (cfgA a).idle w i = false := idle0_all a.1 w i

theorem fetched_eq (w : Fin 8) (t : Fin (cfgA a).N) (d : ((cfgA a).win w).block.Idx → Elt F ((cfgA a).win w).elt) :
    (dat a U c).fetched w t d = blkOf a U c w t := by
  funext j
  unfold Dat.fetched Window.fill
  rw [dif_pos ((((cfgA a).win w).moved_iff _ j).mpr fun a => (j a).isLt)]
  rfl

theorem before_in (w : Fin 8) (hw : w ≠ 7) (t : Fin (cfgA a).N)
    (d : ((cfgA a).win w).block.Idx → Elt F ((cfgA a).win w).elt) : (dat a U c).before w t d = blkOf a U c w t :=
  ((dat a U c).before_in_eq_fetched w (isOut_in a w hw) (fun i => idle_all a w i) (fun _ _ _ => rfl)
    (fun t => by rw [after_in a U c w hw]; rfl) t d).trans (fetched_eq a U c w t d)

theorem blkOf_congr (w : Fin 8) (t t' : Fin (cfgA a).N) (h : ((cfgA a).win w).index t = ((cfgA a).win w).index t') :
    blkOf a U c w t = blkOf a U c w t' :=
  (fetched_eq a U c w t (fun _ => Classical.choice inferInstance)).symm.trans
    (((dat a U c).fetched_congr w h rfl _).trans (fetched_eq a U c w t' _))

theorem index1 (t : Fin (cfgA a).N) : ((cfgA a).win 1).index t = (![0, (ex a t).toNat, 0, 0] : Fin 4 → ℕ) := rfl
theorem index4 (t : Fin (cfgA a).N) : ((cfgA a).win 4).index t = (![0, (ex a t).toNat, 0, 0] : Fin 4 → ℕ) := rfl
theorem index6 (t : Fin (cfgA a).N) : ((cfgA a).win 6).index t = (![0, 0] : Fin 2 → ℕ) := rfl

theorem ex_congr (t t' : Fin (cfgA a).N) (h : ex a t = ex a t') : gAt a U c t = gAt a U c t' ∧ lAt a U c t = lAt a U c t' ∧ dAt a U c t = dAt a U c t' := by
  have h1 : blkOf a U c 1 t = blkOf a U c 1 t' := blkOf_congr a U c 1 t t' ((index1 a t).trans (h ▸ (index1 a t').symm))
  have h4 : blkOf a U c 4 t = blkOf a U c 4 t' := blkOf_congr a U c 4 t t' ((index4 a t).trans (h ▸ (index4 a t').symm))
  have h6 : blkOf a U c 6 t = blkOf a U c 6 t' := blkOf_congr a U c 6 t t' ((index6 a t).trans (index6 a t').symm)
  unfold gAt lAt dAt
  rw [h1, h4, h6]
  exact ⟨rfl, rfl, rfl⟩

/-! ### One grid point -/

theorem stage_whole (t : Fin (cfgA a).N) (w : Fin 8) : (((cfgA a).win w).stage ((cfgA a).slots t w)).IsWhole := stage_whole0 w _

theorem stage_mem (t : Fin (cfgA a).N) (w : Fin 8) :
    (((cfgA a).win w).stage ((cfgA a).slots t w)).view.ref ∈ Finset.univ.image (stageRef (cfgA a).spec) :=
  Finset.mem_image.mpr ⟨⟨w, (cfgA a).slots t w⟩, Finset.mem_univ _, rfl⟩

theorem stage_inj (t : Fin (cfgA a).N) :
    Function.Injective fun w => (((cfgA a).win w).stage ((cfgA a).slots t w)).view.ref := fun w w' h => by
  have := winFacts0.stage_inj (a₁ := ⟨w, (cfgA a).slots t w⟩) (a₂ := ⟨w', (cfgA a).slots t w'⟩) h
  exact congrArg Sigma.fst this

theorem stage_pt (t : Fin (cfgA a).N) (w : Fin 8) :
    (((cfgA a).win w).stage ((cfgA a).slots t w)).view.ref ∈ ptRefs (cfgA a) pre0 t :=
  Finset.mem_union_left _ (Finset.mem_union_left _ (Finset.mem_image_of_mem _ (Finset.mem_univ w)))

theorem scratch_sc (b : Ref sig .tc) (hb : b ∈ [cc0_scratch0, cc0_scratch1, cc0_scratch2]) : b ∈ scRefs (cfgA a) :=
  (show ∀ b ∈ [cc0_scratch0, cc0_scratch1, cc0_scratch2],
    b ∈ (Finset.univ.filter fun b : Ref sig .tc => b.isScoped) \ Finset.univ.image (stageRef spec0) from by decide) b hb

theorem scratch_ne (t : Fin (cfgA a).N) (w : Fin 8) (b : Ref sig .tc) (hb : b ∈ [cc0_scratch0, cc0_scratch1, cc0_scratch2]) :
    b ≠ (((cfgA a).win w).stage ((cfgA a).slots t w)).view.ref := fun h =>
  (Finset.mem_sdiff.mp (scratch_sc a b hb)).2 (h ▸ stage_mem a t w)

theorem stage_scoped : ∀ b ∈ Finset.univ.image (stageRef spec0), b.isScoped = true := by decide

theorem tab_scoped (k : Fin 2) : (pre0.ref k).isScoped = false := by
  match k with | 0 => rfl | 1 => rfl

theorem ne_of_scoped (b b' : Ref sig .tc) (h : b.isScoped = true) (h' : b'.isScoped = false) : b ≠ b' := fun e => by
  rw [e, h'] at h; exact absurd h Bool.false_ne_true

end Cert.Proof.FRun

end
-- ==== Proof.FPoint.lean ====
/- One grid point of the expert call: what the body makes of the blocks, the tables and the scratch buffers is what the call's data say. -/
module

public import proofs.«01_k».proof.Proof.FRun

@[expose] public section

noncomputable section

namespace Cert.Proof.FPoint

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel2Ideal Cert.Kernel2Ideal.Gen Cert.Proof.FPure Cert.Proof.FBody Cert.Proof.FWord Cert.Proof.FRun

variable {F : FTy → Type} [FloatOps F]

variable (a : (pcfg0 (F := F)).Adm) (U : (c : Dev nD) → (b : Ref sig .tc) → Buf (Elt F) ((c : Thread nD τ).loc b)) (c : Dev nD)

/-- The block of window `w` in use at a point. -/
abbrev stg (t : Fin (cfgA a).N) (w : Fin 8) := ((cfgA a).win w).stage ((cfgA a).slots t w)

/-- The body at a point. -/
def bodyAt (t : Fin (cfgA a).N) : Prog (TpuEff nD τ sig (Elt F) Λ₀ .tc) PUnit :=
  cc0_moe_ffn (grid0.coords t) (Memref.whole main_v19) (Memref.isWhole_whole _) (Memref.whole main_v21) (Memref.isWhole_whole _)
    (stg a t 0) (stage_whole a t 0) (stg a t 1) (stage_whole a t 1) (stg a t 2) (stage_whole a t 2) (stg a t 3) (stage_whole a t 3)
    (stg a t 4) (stage_whole a t 4) (stg a t 5) (stage_whole a t 5) (stg a t 6) (stage_whole a t 6) (stg a t 7) (stage_whole a t 7)
    (Memref.whole cc0_scratch0) (Memref.isWhole_whole _) (Memref.whole cc0_scratch1) (Memref.isWhole_whole _) (Memref.whole cc0_scratch2) (Memref.isWhole_whole _)

theorem defs_row (t : Fin (cfgA a).N) :
    defs₀ (F := F) .tc (cfgA a).body ((cfgA a).bodyArgs t ((cfgA a).slots t)) = bodyAt a t := by
  unfold defs₀; rw [Defs.onTc_tc]; rfl

theorem tab_pt (t : Fin (cfgA a).N) (k : Fin 2) : pre0.ref k ∈ ptRefs (cfgA a) pre0 t :=
  Finset.mem_union_right _ (Finset.mem_image_of_mem pre0.ref (Finset.mem_univ k))

theorem scratch_pt (t : Fin (cfgA a).N) (b : Ref sig .tc) (hb : b ∈ [cc0_scratch0, cc0_scratch1, cc0_scratch2]) : b ∈ ptRefs (cfgA a) pre0 t :=
  Finset.mem_union_left _ (Finset.mem_union_right _ (scratch_sc a b hb))

theorem not_tab (b : Ref sig .tc) (h : b.isScoped = true) : b ∉ tbRefs pre0 := fun hb => by
  obtain ⟨k, -, e⟩ := Finset.mem_image.mp hb
  exact ne_of_scoped b (pre0.ref k) h (tab_scoped k) e.symm

theorem stg_scoped (t : Fin (cfgA a).N) (w : Fin 8) : (stg a t w).view.ref.isScoped = true := stage_scoped _ (stage_mem a t w)

theorem scratch_scoped : ∀ b ∈ [cc0_scratch0, cc0_scratch1, cc0_scratch2], b.isScoped = true := by decide

theorem stg_ne (t : Fin (cfgA a).N) (w w' : Fin 8) (h : w ≠ w') : (stg a t w).view.ref ≠ (stg a t w').view.ref := fun e =>
  h (stage_inj a t e)

/-- What the body stores into. -/
abbrev outs (t : Fin (cfgA a).N) : List (Ref sig .tc) :=
  [(stg a t 7).view.ref, (Memref.whole cc0_scratch0).view.ref, (Memref.whole cc0_scratch1).view.ref, (Memref.whole cc0_scratch2).view.ref]

theorem tab_outs (t : Fin (cfgA a).N) (k : Fin 2) : pre0.ref k ∉ outs a t := by
  intro h
  simp only [List.mem_cons, List.not_mem_nil, or_false] at h
  rcases h with h | h | h | h
  · exact ne_of_scoped _ _ (stg_scoped a t 7) (tab_scoped k) h.symm
  · exact ne_of_scoped cc0_scratch0 _ (by decide) (tab_scoped k) h.symm
  · exact ne_of_scoped cc0_scratch1 _ (by decide) (tab_scoped k) h.symm
  · exact ne_of_scoped cc0_scratch2 _ (by decide) (tab_scoped k) h.symm

theorem stg_outs (t : Fin (cfgA a).N) (w : Fin 8) (hw : w ≠ 7) : (stg a t w).view.ref ∉ outs a t := by
  intro h
  simp only [List.mem_cons, List.not_mem_nil, or_false] at h
  rcases h with h | h | h | h
  · exact stg_ne a t w 7 hw h
  · exact scratch_ne a t w cc0_scratch0 (by decide) h.symm
  · exact scratch_ne a t w cc0_scratch1 (by decide) h.symm
  · exact scratch_ne a t w cc0_scratch2 (by decide) h.symm

theorem sep (t : Fin (cfgA a).N) : Sep (Memref.whole main_v19) (Memref.whole main_v21) (stg a t 0) (stg a t 1) (stg a t 2) (stg a t 3)
    (stg a t 4) (stg a t 5) (stg a t 6) (stg a t 7) (Memref.whole cc0_scratch0) (Memref.whole cc0_scratch1) (Memref.whole cc0_scratch2)
    (ptRefs (cfgA a) pre0 t) (tbRefs pre0) where
  mem b hb := by
    simp only [List.mem_cons, List.not_mem_nil, or_false] at hb
    rcases hb with h | h | h | h | h | h | h | h | h | h | h | h | h <;> rw [h]
    · exact tab_pt a t 0
    · exact tab_pt a t 1
    · exact stage_pt a t 0
    · exact stage_pt a t 1
    · exact stage_pt a t 2
    · exact stage_pt a t 3
    · exact stage_pt a t 4
    · exact stage_pt a t 5
    · exact stage_pt a t 6
    · exact stage_pt a t 7
    · exact scratch_pt a t cc0_scratch0 (by decide)
    · exact scratch_pt a t cc0_scratch1 (by decide)
    · exact scratch_pt a t cc0_scratch2 (by decide)
  notTab b hb := by
    simp only [List.mem_cons, List.not_mem_nil, or_false] at hb
    rcases hb with h | h | h | h <;> rw [h]
    · exact not_tab _ (stg_scoped a t 7)
    · exact not_tab cc0_scratch0 (by decide)
    · exact not_tab cc0_scratch1 (by decide)
    · exact not_tab cc0_scratch2 (by decide)
  ne b hb := by
    simp only [List.mem_cons, List.not_mem_nil, or_false] at hb
    rcases hb with h | h | h | h | h | h | h | h | h <;> rw [h]
    · exact tab_outs a t 0
    · exact tab_outs a t 1
    · exact stg_outs a t 0 (by decide)
    · exact stg_outs a t 1 (by decide)
    · exact stg_outs a t 2 (by decide)
    · exact stg_outs a t 3 (by decide)
    · exact stg_outs a t 4 (by decide)
    · exact stg_outs a t 5 (by decide)
    · exact stg_outs a t 6 (by decide)
  nodup := by
    refine List.nodup_cons.mpr ⟨?_, show [cc0_scratch0, cc0_scratch1, cc0_scratch2].Nodup by decide⟩
    intro h
    simp only [List.mem_cons, List.not_mem_nil, or_false] at h
    rcases h with h | h | h
    · exact scratch_ne a t 7 cc0_scratch0 (by decide) h.symm
    · exact scratch_ne a t 7 cc0_scratch1 (by decide) h.symm
    · exact scratch_ne a t 7 cc0_scratch2 (by decide) h.symm

/-- The expert named before a point. -/
def exPrev (t : Fin (cfgA a).N) : BitVec 32 :=
  a.1.at 0 (Rect.unit (s := S160) (k0_off2 (grid0.coords t)) S1.size (k0_off2_inb (grid0.coords t))) numel1_S1

theorem at_congr (p : pre0.Contents (Elt F)) (o o' : Fin 1 → ℕ) (h : o = o') (hb : ∀ x, o x + S1.size x ≤ S160.size x) (hb' : ∀ x, o' x + S1.size x ≤ S160.size x) :
    p.at 0 (Rect.unit (s := S160) o S1.size hb) numel1_S1 = p.at 0 (Rect.unit (s := S160) o' S1.size hb') numel1_S1 := by
  subst h; rfl

theorem exPrev_eq (t : Fin (cfgA a).N) (h : 0 < t.val) : exPrev a t = ex a ⟨t.val - 1, by omega⟩ :=
  at_congr a.1 _ _ (off2_zero t h) _ _

theorem smv_tab0 (σ : St sig (Elt F)) (hT : ∀ k, σ (pre0.ref k) = a.1 k) (o : Fin 1 → ℕ) (hb : ∀ x, o x + S1.size x ≤ S160.size x) :
    smv (Memref.whole main_v19) (Rect.unit (s := S160) o S1.size hb) numel1_S1 σ = a.1.at 0 (Rect.unit (s := S160) o S1.size hb) numel1_S1 :=
  congrFun (hT 0) _

theorem smv_tab1 (σ : St sig (Elt F)) (hT : ∀ k, σ (pre0.ref k) = a.1 k) :
    smv (Memref.whole main_v21) (Rect.unit (s := S1) ![0] S1.size inb_S1_S1_0) numel1_S1 σ = nb a :=
  congrFun (hT 1) _

/-- The body at a point. -/
theorem point (t : Fin (cfgA a).N) (σ : St sig (Elt F))
    (hY : ∀ w, w ≠ 7 → (stg a t w).view.read (Elt F) (σ (stg a t w).view.ref) = blkOf a U c w t)
    (hT : ∀ k, σ (pre0.ref k) = a.1 k) (hI : Inv a U c t.val σ) :
    wpS (ptRefs (cfgA a) pre0 t) (tbRefs pre0) (bodyAt a t)
      (fun _ σ' => (∀ w, (stg a t w).view.read (Elt F) (σ' (stg a t w).view.ref) = afterAt a U c w t)
        ∧ (∀ k, σ' (pre0.ref k) = a.1 k) ∧ Inv a U c (t.val + 1) σ') σ := by
  refine s_body (sep a t) (ex a t) (nb a) (exPrev a t) σ (smv_tab0 a σ hT _ _) (smv_tab1 a σ hT) (smv_tab0 a σ hT _ _)
    (fun σ' keep hf hnf hl hz => ?_)
  have hcv : ((grid0.coords t 0).val : ℤ) = (t.val : ℤ) := by rw [coords_val t]
  have hc2 := cond2_iff (grid0.coords t) (nb a)
  have hfi := fills_iff (grid0.coords t) (ex a t) (nb a) (exPrev a t)
  rw [hcv] at hc2 hfi
  have hsc : (t.val : ℤ) < (nb a).toInt →
      (Memref.whole cc0_scratch0).view.read (Elt F) (σ' cc0_scratch0) = gAt a U c t
      ∧ (Memref.whole cc0_scratch1).view.read (Elt F) (σ' cc0_scratch1) = lAt a U c t
      ∧ (Memref.whole cc0_scratch2).view.read (Elt F) (σ' cc0_scratch2) = dAt a U c t := by
    intro hlive
    by_cases hfill : fills (grid0.coords t) (ex a t) (nb a) (exPrev a t) = 1#1
    · obtain ⟨h1, h2, h3⟩ := hf hfill
      rw [hY 1 (by decide), hY 6 (by decide)] at h1 h2
      rw [hY 4 (by decide)] at h3
      exact ⟨h1, h2, h3⟩
    · obtain ⟨h1, h2, h3⟩ := hnf hfill
      have hn := fun h => hfill (hfi.mpr ⟨hlive, h⟩)
      have ht : 0 < t.val := by
        rcases Nat.eq_zero_or_pos t.val with h | h
        · exact absurd (Or.inl (by rw [coords_val t, h])) hn
        · exact h
      have he : ex a t = exPrev a t := by
        by_contra h
        exact hn (Or.inr h)
      rw [exPrev_eq a t ht] at he
      obtain ⟨i1, i2, i3⟩ := hI ⟨t.val - 1, by omega⟩ (Nat.sub_add_cancel ht) (lt_of_le_of_lt (by push_cast; omega) hlive)
      obtain ⟨e1, e2, e3⟩ := ex_congr a U c t ⟨t.val - 1, by omega⟩ he
      have h1' : σ' cc0_scratch0 = σ cc0_scratch0 := h1
      have h2' : σ' cc0_scratch1 = σ cc0_scratch1 := h2
      have h3' : σ' cc0_scratch2 = σ cc0_scratch2 := h3
      rw [h1', h2', h3']
      exact ⟨i1.trans e1.symm, i2.trans e2.symm, i3.trans e3.symm⟩
  refine ⟨fun w => ?_, fun k => (keep _ (tab_outs a t k)).trans (hT k), fun t' ht' hlive => ?_⟩
  · by_cases hw : w = 7
    · subst hw
      show _ = outAt a U c t
      unfold outAt
      by_cases hlive : (t.val : ℤ) < (nb a).toInt
      · obtain ⟨s1, s2, s3⟩ := hsc hlive
        rw [if_pos hlive, ← s1, ← s2, ← s3, ← hY 0 (by decide), ← hY 2 (by decide), ← hY 3 (by decide), ← hY 5 (by decide)]
        exact hl (hc2.mpr hlive)
      · rw [if_neg hlive]
        exact hz (fun h => hlive (hc2.mp h))
    · rw [keep _ (stg_outs a t w hw), hY w hw]
      exact (congrFun (pick_in _ _ w hw) t).symm
  · obtain rfl : t' = t := Fin.ext (by omega)
    exact hsc hlive

end Cert.Proof.FPoint

end
-- ==== Proof.FLaunch.lean ====
/- The run of the expert call over all its grid points. -/
module

public import proofs.«01_k».proof.Proof.FPoint

@[expose] public section

noncomputable section

namespace Cert.Proof.FLaunch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel2Ideal Cert.Kernel2Ideal.Gen Cert.Proof.FPure Cert.Proof.FBody Cert.Proof.FWord Cert.Proof.FRun Cert.Proof.FPoint

variable {F : FTy → Type} [FloatOps F]

local notation "𝕄" => MT nD τ sig Unit (Elt F) ℕ (UR sig nD τ) ℕ

/-- A weakest precondition with what it is given and what it leaves rearranged. -/
theorem glue {nD : ℕ} {τ : Topo} {sig : RefSig} {Val : EltTy → Type} {Λ : Labels} (defs : Defs nD τ sig Val Λ) (c : Dev nD)
    (p : Prog (TpuEff nD τ sig Val Λ .tc) PUnit) {D : Type}
    {P O Bt J B B' : sProp (MT nD τ sig Unit Val ℕ (UR sig nD τ) ℕ)} {Bd : D → sProp (MT nD τ sig Unit Val ℕ (UR sig nD τ) ℕ)}
    (h1 : ∀ d, iprop(P ∗ O ∗ Bd d) ⊢ wp frame (wpE defs Variants.nat (c : Thread nD τ) none) Set.univ p fun _ => iprop(J ∗ O ∗ B))
    (h2 : Bt ⊢ iprop(∃ d, Bd d)) (h3 : B ⊢ B') :
    iprop(P ∗ O ∗ Bt) ⊢ wp frame (wpE defs Variants.nat (c : Thread nD τ) none) Set.univ p fun _ => iprop(J ∗ O ∗ B') := by
  iintro ⟨HΦ, HO, HB⟩
  ihave HB := h2 $$ HB
  icases HB with ⟨%d, HB⟩
  iapply (wp_mono frame _ Set.univ (fun _ => sep_mono2 .rfl (sep_mono2 .rfl h3)))
  iapply (h1 d)
  isplitl [HΦ]
  · iexact HΦ
  isplitl [HO]
  · iexact HO
  iexact HB

/-- What is held before the first point. -/
theorem start_of {nD : ℕ} {τ : Topo} {sig : RefSig} {Val : EltTy → Type} [∀ e, Nonempty (Val e)] {Λ₀ : Labels} (cfg : Cfg sig Λ₀) (pre : Prefetch sig) (v : pre.Contents Val) (c : Dev nD) (I : St sig Val → Prop) (hI : ∀ σ, I σ) :
    iprop(ΦA cfg.spec c ∗ ΦT pre v c) ⊢ (between c cfg pre v I : sProp (MT nD τ sig Unit Val ℕ (UR sig nD τ) ℕ)) := by
  have h : (scopedRest cfg.spec c : sProp (MT nD τ sig Unit Val ℕ (UR sig nD τ) ℕ))
      ⊢ bigSep (scRefs cfg) fun b => iprop(∃ f : Buf Val ((c : Thread nD τ).loc b), ⌜True⌝ ∗ (((c : Thread nD τ).loc b) ↦{shr ∅ b} f)) := by
    unfold scopedRest scRefs
    refine bs_mono fun b _ => ?_
    rw [show shr (∅ : Finset (Ref sig .tc)) b = fullShare from if_neg (Finset.notMem_empty b)]
    iintro ⟨%f, H⟩
    iexists f
    isplitr
    · ipureintro; trivial
    · iexact H
  unfold ΦA between
  iintro ⟨⟨Hs, Hr⟩, HT⟩
  ihave Hs := h $$ Hs
  ihave Hs := (held_gather c (scRefs cfg) ∅ (fun _ _ => True)) $$ Hs
  icases Hs with ⟨%σ, -, Hs⟩
  isplitl [Hs]
  · iexists σ
    isplitr
    · ipureintro; exact hI σ
    · iexact Hs
  isplitl [Hr] <;> iassumption

/-- What is held after the last point, the scratch buffers' contents forgotten. -/
theorem finish_of {nD : ℕ} {τ : Topo} {sig : RefSig} {Val : EltTy → Type} [∀ e, Nonempty (Val e)] {Λ₀ : Labels} (cfg : Cfg sig Λ₀) (pre : Prefetch sig) (v : pre.Contents Val) (c : Dev nD) (I : St sig Val → Prop) :
    (between c cfg pre v I : sProp (MT nD τ sig Unit Val ℕ (UR sig nD τ) ℕ)) ⊢ ΦA cfg.spec c := by
  have h : ∀ σ : St sig Val, (held c (scRefs cfg) ∅ σ : sProp (MT nD τ sig Unit Val ℕ (UR sig nD τ) ℕ)) ⊢ scopedRest cfg.spec c := by
    intro σ
    unfold scopedRest scRefs held
    refine bs_mono fun b _ => ?_
    rw [show shr (∅ : Finset (Ref sig .tc)) b = fullShare from if_neg (Finset.notMem_empty b)]
    iintro H
    iexists (σ b)
    iexact H
  unfold ΦA between
  iintro ⟨⟨%σ, -, Hs⟩, Hr, -⟩
  ihave Hs := (h σ) $$ Hs
  isplitl [Hs] <;> iassumption

section Any

variable (a : (pcfg0 (F := F)).Adm) (U : (c : Dev nD) → (b : Ref sig .tc) → Buf (Elt F) ((c : Thread nD τ).loc b)) (c : Dev nD)

/-- What the body finds in the windows: the blocks read, and in the last one anything. -/
def found (t : Fin (cfgA a).N) (d : ((cfgA a).win 7).block.Idx → Elt F ((cfgA a).win 7).elt) :
    (w : Fin 8) → ((cfgA a).win w).block.Idx → Elt F ((cfgA a).win w).elt :=
  pick (T := fun w => ((cfgA a).win w).block.Idx → Elt F ((cfgA a).win w).elt) (fun w => blkOf a U c w t) d

theorem own_in (t : Fin (cfgA a).N) (w : Fin 8) (hw : w ≠ 7) (d7 : ((cfgA a).win 7).block.Idx → Elt F ((cfgA a).win 7).elt) :
    iprop(∃ d, owns (c : Thread nD τ) (stg a t w) fullShare ((dat a U c).before w t d))
      ⊢ (ownsTc c (stg a t w) fullShare (found a U c t d7 w) : sProp 𝕄) := by
  iintro ⟨%d, H⟩
  rw [before_in a U c w hw t d, show found a U c t d7 w = blkOf a U c w t from pick_in _ _ w hw]
  iexact H

theorem gather (t : Fin (cfgA a).N) :
    (bigSep Finset.univ fun w : Fin 8 => iprop(∃ d, owns (c : Thread nD τ) (stg a t w) fullShare ((dat a U c).before w t d)))
      ⊢ iprop(∃ d, (bigSep Finset.univ fun w : Fin 8 => ownsTc c (stg a t w) fullShare (found a U c t d w) : sProp 𝕄)) := by
  rw [bigSep_W0]
  iintro ⟨H0, H1, H2, H3, H4, H5, H6, ⟨%d, H7⟩⟩
  iexists ((dat a U c).before 7 t d)
  rw [bigSep_W0]
  isplitl [H0]
  · iapply (own_in a U c t 0 (by decide) _) $$ H0
  isplitl [H1]
  · iapply (own_in a U c t 1 (by decide) _) $$ H1
  isplitl [H2]
  · iapply (own_in a U c t 2 (by decide) _) $$ H2
  isplitl [H3]
  · iapply (own_in a U c t 3 (by decide) _) $$ H3
  isplitl [H4]
  · iapply (own_in a U c t 4 (by decide) _) $$ H4
  isplitl [H5]
  · iapply (own_in a U c t 5 (by decide) _) $$ H5
  isplitl [H6]
  · iapply (own_in a U c t 6 (by decide) _) $$ H6
  iexact H7

theorem row_at (t : Fin (cfgA a).N) (O : sProp 𝕄) (d : ((cfgA a).win 7).block.Idx → Elt F ((cfgA a).win 7).elt) :
    iprop((between c (cfgA a) pre0 a.1 (Inv a U c t.val) : sProp 𝕄) ∗ O ∗ bigSep Finset.univ fun w : Fin 8 => ownsTc c (stg a t w) fullShare (found a U c t d w))
      ⊢ wp frame (wpE (defs₀ (F := F)) Variants.nat (c : Thread nD τ) none) Set.univ (bodyAt a t) fun _ =>
          iprop((between c (cfgA a) pre0 a.1 (Inv a U c (t.val + 1)) : sProp 𝕄) ∗ O
            ∗ bigSep Finset.univ fun w : Fin 8 => iprop(∃ X, ⌜X = afterAt a U c w t⌝ ∗ ownsTc c (stg a t w) fullShare X)) :=
  row c (cfgA a) pre0 a.1 t (defs₀ (F := F)) (stage_whole a t) (stage_inj a t) (stage_mem a t)
    (fun b hb => by obtain ⟨w, -, rfl⟩ := Finset.mem_image.mp hb; exact stg_scoped a t w)
    tab_scoped (by decide) (bodyAt a t) (found a U c t d) (fun w X => X = afterAt a U c w t) (Inv a U c t.val) (Inv a U c (t.val + 1))
    (fun σ σ' h hI t' ht' hl => by
      rw [← h _ (scratch_sc a cc0_scratch0 (by decide)), ← h _ (scratch_sc a cc0_scratch1 (by decide)), ← h _ (scratch_sc a cc0_scratch2 (by decide))]
      exact hI t' ht' hl)
    (fun σ hY hT hI => point a U c t σ (fun w hw => (hY w).trans (pick_in _ _ w hw)) hT hI) O

theorem own_out (t : Fin (cfgA a).N) (w : Fin 8) :
    iprop(∃ X, ⌜X = afterAt a U c w t⌝ ∗ ownsTc c (stg a t w) fullShare X) ⊢ (owns (c : Thread nD τ) (stg a t w) fullShare ((dat a U c).after w t) : sProp 𝕄) := by
  iintro ⟨%X, %hX, H⟩
  subst hX
  iexact H

theorem own_outs (t : Fin (cfgA a).N) :
    (bigSep Finset.univ fun w : Fin 8 => iprop(∃ X, ⌜X = afterAt a U c w t⌝ ∗ ownsTc c (stg a t w) fullShare X))
      ⊢ (bigSep Finset.univ fun w : Fin 8 => owns (c : Thread nD τ) (stg a t w) fullShare ((dat a U c).after w t) : sProp 𝕄) :=
  bs_mono fun w _ => own_out a U c t w

theorem body : BodyObligationLoose (dat a U c) (defs₀ (F := F)) Variants.nat () Set.univ := fun t => by
  rw [defs_row]
  simp only [idle0_all]
  exact glue (defs₀ (F := F)) c (bodyAt a t) (row_at a U c t ((dat a U c).owesAt () t.castSucc)) (gather a U c t) (own_outs a U c t)

theorem start : iprop(ΦA (cfgA a).spec c ∗ ΦT pre0 a.1 c) ⊢ (between c (cfgA a) pre0 a.1 (Inv a U c 0) : sProp 𝕄) :=
  start_of (cfgA a) pre0 a.1 c _ fun _ _ ht => absurd ht (Nat.succ_ne_zero _)

theorem finish (I : St sig (Elt F) → Prop) : (between c (cfgA a) pre0 a.1 I : sProp 𝕄) ⊢ ΦA (cfgA a).spec c :=
  finish_of (cfgA a) pre0 a.1 c I

theorem share_full (w : Fin 8) : (dat a U c).share w = fullShare := by unfold Dat.share; split <;> rfl

variable (m : (ℓ : Loc nD τ sig) → Buf (Elt F) ℓ)

/-- What the run ends with. -/
def Ends (r : PUnit × MemSt nD τ sig (Elt F)) : Prop :=
  (∀ c : Dev nD, (∀ w : Fin 8, r.2.mem ((spec0 w).arr.view.loc (c : Thread nD τ)) = (dat a U c).arrAt w (cfgA a).N)
    ∧ ∀ b ∈ restRefs sig spec0, r.2.mem ((c : Thread nD τ).loc b) = U c b)
  ∧ r.2.sem = fun _ => 0

set_option maxHeartbeats 1000000 in
theorem run_of (g : Dev nD → PrngReg)
    (hmain : HMainP (Ix := Unit) (Name := ℕ) (U := UR sig nD τ) (Lvl := ℕ) (pcfgs (F := F)) 0 (defs₀ (F := F)) Variants.nat m (main (F := F)) U)
    (hpf : ∀ c k, U c (pre0.ref k) = a.1 k) :
    θ_run (defs (F := F)) (onTc (τ := τ) (main (F := F))) ⟨m, fun _ => 0, g⟩ (Ends a U) :=
  θ_run_frameP_track (pcfgs (F := F)) (fun _ => a) (fun _ c => dat a U c) 0 launch0 (defs₀ (F := F)) Variants.nat m g (main (F := F))
    (fun c => body a U c) (fun c w => share_full a U c w) (fun _ _ => rfl) U hmain
    (fun _ _ => rfl) hpf (fun c => start a U c) (fun c => finish a c _) (Ends a U)
    (fun r h => h)

end Any

variable (m : (ℓ : Loc nD τ sig) → Buf (Elt F) ℓ)

theorem pf_dev (c : Dev nD) (k : Fin 2) : FHost.V m c (pre0.ref k) = pf m k := by
  obtain rfl : c = 0 := Subsingleton.elim _ _
  rfl

theorem hmain : HMainP (Ix := Unit) (Name := ℕ) (U := UR sig nD τ) (Lvl := ℕ) (pcfgs (F := F)) 0 (defs₀ (F := F)) Variants.nat m (main (F := F)) (FHost.V m) :=
  hmainP_prefixes (pcfgs (F := F)) 0 (defs₀ (F := F)) Variants.nat m (main (F := F)) FHost.opss FHost.opss_sub FHost.opss_fresh (fun c => main_chain c)

/-- The run: the arrays of the windows end at what the call's data say, every other buffer as it was. -/
theorem run (g : Dev nD → PrngReg) :
    θ_run (defs (F := F)) (onTc (τ := τ) (main (F := F))) ⟨m, fun _ => 0, g⟩ (Ends (adm m) (FHost.V m)) :=
  run_of (adm m) (FHost.V m) m g (hmain m) (pf_dev m)

end Cert.Proof.FLaunch

end
-- ==== Proof.FFrame.lean ====
/- What the run of the expert call says of its arguments and of its result. -/
module

public import proofs.«01_k».proof.Proof.FLaunch

@[expose] public section

noncomputable section

namespace Cert.Proof.FFrame

open Idealize.ShloMosaic Idealize.ShloMosaic.TcCoe Idealize.ShloMosaic.Tactic
open Idealize.SL.Sem Idealize.ShloMosaic.Pipeline
open Cert.Kernel2Ideal Cert.Kernel2Ideal.Gen Cert.Proof.FRun Cert.Proof.FLaunch

variable {F : FTy → Type} [FloatOps F]

section Any

variable (a : (pcfg0 (F := F)).Adm) (U : (c : Dev nD) → (b : Ref sig .tc) → Buf (Elt F) ((c : Thread nD τ).loc b)) (c : Dev nD)

/-- The array of a window that is read ends as it was. -/
theorem arr_in (w : Fin 8) (hw : w ≠ 7) : (dat a U c).arrAt w (cfgA a).N = U c (arrRef spec0 w) :=
  (dat a U c).arrAt_in w (isOut_in a w hw) _

theorem ends_in {r : PUnit × MemSt nD τ sig (Elt F)} (h : Ends a U r) (w : Fin 8) (hw : w ≠ 7) :
    r.2.mem ((spec0 w).arr.view.loc (c : Thread nD τ)) = U c (arrRef spec0 w) := ((h.1 c).1 w).trans (arr_in a U c w hw)

end Any

variable (m : (ℓ : Loc nD τ sig) → Buf (Elt F) ℓ)

/-- The arguments end as they were. -/
theorem args {r : PUnit × MemSt nD τ sig (Elt F)} (h : Ends (adm m) (FHost.V m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  ⟨((h.1 c).2 main_arg0 (by decide)).trans (FHost.V_arg m c main_arg0 (by decide)),
    (ends_in (adm m) (FHost.V m) c h 0 (by decide)).trans (FHost.V_arg m c main_arg1 (by decide)),
    (ends_in (adm m) (FHost.V m) c h 1 (by decide)).trans (FHost.V_arg m c main_arg2 (by decide)),
    ((h.1 c).2 main_arg3 (by decide)).trans (FHost.V_arg m c main_arg3 (by decide)),
    (ends_in (adm m) (FHost.V m) c h 4 (by decide)).trans (FHost.V_arg m c main_arg4 (by decide)),
    ((h.1 c).2 main_arg5 (by decide)).trans (FHost.V_arg m c main_arg5 (by decide))⟩

/-- The frame. -/
theorem frame (g : Dev nD → PrngReg) :
    θ_run (defs (F := F)) (onTc (τ := τ) (main (F := F))) ⟨m, fun _ => 0, g⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  (θ_run _ _ _).mono (fun _ h => ⟨fun c => args m h c, h.2⟩) (run m g)

end Cert.Proof.FFrame

end
-- ==== Proof.FValue.lean ====
/- The result of the expert call at the ideal instance: the formula. -/
module

public import proofs.«01_k».proof.Proof.FAlg
public import proofs.«01_k».proof.Proof.FLaunch
public import proofs.«01_k».proof.Proof.FFrame
public import Idealize.ShloMosaic.Lib.Pipeline.ValueKit.Geometry

@[expose] public section

noncomputable section

namespace Cert.Proof.FValue

open Idealize.ShloMosaic Idealize.ShloMosaic.TcCoe Idealize.SL.Sem
open Idealize.ShloMosaic.Pipeline
open Cert.Kernel2Ideal Cert.Kernel2Ideal.Gen Cert.Proof.FBody Cert.Proof.FRun Cert.Proof.FWord

variable (a : (pcfg0 (F := Ideal)).Adm) (U : (c : Dev nD) → (b : Ref sig .tc) → Buf (Elt Ideal) ((c : Thread nD τ).loc b)) (c : Dev nD)
variable (t : Fin (cfgA a).N)

theorem row_lt (r : Fin 512) : t.val * 512 + r.val < 81920 := by
  have h : t.val < 160 := t.isLt
  omega

theorem blk0_at (h : (t.val : ℤ) < (nb a).toInt) (r : Fin 512) (d : Fin 1024) :
    blkOf a U c 0 t (ix2 r d) = U c main_arg1 (ix2 ⟨t.val * 512 + r.val, row_lt a t r⟩ d) := by
  have hi : (Scalar.minsi (BitVec.ofNat 32 (grid0.coords t 0).val) (Scalar.maxsi (Scalar.subi (nb a) 1#32) 0#32)).toNat = t.val := by
    rw [coords_val t]
    exact first_eq t.val t.isLt (nb a) h
  refine congrArg (U c main_arg1) (funext fun x => Fin.ext ?_)
  match x with
  | 0 =>
    show (Scalar.minsi (BitVec.ofNat 32 (grid0.coords t 0).val) (Scalar.maxsi (Scalar.subi (nb a) 1#32) 0#32)).toNat * 512 + 1 * r.val = t.val * 512 + r.val
    rw [hi, Nat.one_mul]
  | 1 => show 0 * 1024 + 1 * d.val = d.val; omega

theorem blk1_at (e : Fin 32) (h : (ex a t).toNat = e.val) (d : Fin 1024) (f : Fin 2048) :
    blkOf a U c 1 t (ix4 0 0 d f) = U c main_arg2 (ix4 0 e d f) := by
  refine congrArg (U c main_arg2) (funext fun x => Fin.ext ?_)
  match x with
  | 0 => rfl
  | 1 => show (ex a t).toNat * 1 + 1 * 0 = e.val; omega
  | 2 => show 0 * 1024 + 1 * d.val = d.val; omega
  | 3 => show 0 * 2048 + 1 * f.val = f.val; omega

theorem blk4_at (e : Fin 32) (h : (ex a t).toNat = e.val) (d f : Fin 1024) :
    blkOf a U c 4 t (ix4 0 0 d f) = U c main_arg4 (ix4 0 e d f) := by
  refine congrArg (U c main_arg4) (funext fun x => Fin.ext ?_)
  match x with
  | 0 => rfl
  | 1 => show (ex a t).toNat * 1 + 1 * 0 = e.val; omega
  | 2 => show 0 * 1024 + 1 * d.val = d.val; omega
  | 3 => show 0 * 1024 + 1 * f.val = f.val; omega

theorem blk2_at (e : Fin 32) (h : (ex a t).toNat = e.val) (f : Fin 1024) :
    blkOf a U c 2 t (ix3 0 0 f) = U c main_v23 (ix3 e 0 f) := by
  refine congrArg (U c main_v23) (funext fun x => Fin.ext ?_)
  match x with
  | 0 => show (ex a t).toNat * 1 + 1 * 0 = e.val; omega
  | 1 => rfl
  | 2 => show 0 * 1024 + 1 * f.val = f.val; omega

theorem blk3_at (e : Fin 32) (h : (ex a t).toNat = e.val) (f : Fin 1024) :
    blkOf a U c 3 t (ix3 0 0 f) = U c main_v25 (ix3 e 0 f) := by
  refine congrArg (U c main_v25) (funext fun x => Fin.ext ?_)
  match x with
  | 0 => show (ex a t).toNat * 1 + 1 * 0 = e.val; omega
  | 1 => rfl
  | 2 => show 0 * 1024 + 1 * f.val = f.val; omega

theorem blk5_at (e : Fin 32) (h : (ex a t).toNat = e.val) (f : Fin 1024) :
    blkOf a U c 5 t (ix3 0 0 f) = U c main_v26 (ix3 e 0 f) := by
  refine congrArg (U c main_v26) (funext fun x => Fin.ext ?_)
  match x with
  | 0 => show (ex a t).toNat * 1 + 1 * 0 = e.val; omega
  | 1 => rfl
  | 2 => show 0 * 1024 + 1 * f.val = f.val; omega

theorem blk6_eq : blkOf a U c 6 t = U c main_v42 := by
  funext y
  refine congrArg (U c main_v42) (funext fun x => Fin.ext ?_)
  match x with
  | 0 => show 0 * 256 + 1 * (y 0).val = (y 0).val; omega
  | 1 => show 0 * 256 + 1 * (y 1).val = (y 1).val; omega

/-! ### The array the call leaves -/

section Array

variable (B1 : (⟨2, ![32, 2048]⟩ : Shape).Idx → EReal) (B2 : (⟨2, ![32, 1024]⟩ : Shape).Idx → EReal) (e : Fin 160 → Fin 32)

/-- What the buffers the call reads hold, and the experts its table names. -/
structure Holds : Prop where
  expert : ∀ t : Fin (cfgA a).N, (ex a t).toNat = (e t).val
  gateB : ∀ (x : Fin 32) (k : Fin 1024), U c main_v23 (ix3 x 0 k) = B1 (ix2 x ⟨2 * k.val, FSpec.even_lt k⟩)
  linB : ∀ (x : Fin 32) (k : Fin 1024), U c main_v25 (ix3 x 0 k) = B1 (ix2 x ⟨1 + 2 * k.val, FSpec.odd_lt k⟩)
  downB : ∀ (x : Fin 32) (q : Fin 1024), U c main_v26 (ix3 x 0 q) = B2 (ix2 x q)
  perm : U c main_v42 = FHost.perm (F := Ideal)

variable (H : Holds a U c B1 B2 e)

include H in
theorem gAt_at (d k : Fin 1024) : gAt a U c t (ix2 d k) = U c main_arg2 (ix4 0 (e t) d ⟨2 * k.val, FSpec.even_lt k⟩) := by
  unfold gAt
  rw [(blk6_eq a U c t).trans H.perm]
  exact (FAlg.gate_at _ d k).trans (blk1_at a U c t (e t) (H.expert t) d _)

include H in
theorem lAt_at (d k : Fin 1024) : lAt a U c t (ix2 d k) = U c main_arg2 (ix4 0 (e t) d ⟨1 + 2 * k.val, FSpec.odd_lt k⟩) := by
  unfold lAt
  rw [(blk6_eq a U c t).trans H.perm]
  exact (FAlg.lin_at _ d k).trans (blk1_at a U c t (e t) (H.expert t) d _)

include H in
theorem dAt_at (k q : Fin 1024) : dAt a U c t (ix2 k q) = U c main_arg4 (ix4 0 (e t) k q) :=
  (FAlg.down_at _ k q).trans (blk4_at a U c t (e t) (H.expert t) k q)

include H in
theorem out_at (r : Fin 512) (q : Fin 1024) :
    outAt a U c t (ix2 r q) = FSpec.G (U c main_arg1) (U c main_arg2) B1 (U c main_arg4) B2 (nb a) e (ix2 ⟨t.val * 512 + r.val, row_lt a t r⟩ q) := by
  have hd : (t.val * 512 + r.val) / 512 = t.val := by omega
  have ht : (⟨(t.val * 512 + r.val) / 512, FSpec.blk_lt ⟨t.val * 512 + r.val, row_lt a t r⟩⟩ : Fin 160) = t := Fin.ext hd
  unfold outAt FSpec.G
  by_cases hl : (t.val : ℤ) < (nb a).toInt
  · rw [if_pos hl, if_pos (by show (((t.val * 512 + r.val) / 512 : ℕ) : ℤ) < _; rw [hd]; exact hl)]
    refine (FAlg.expert_at _ _ _ _ _ _ _ r q).trans ?_
    show _ = ∑ k : Fin 1024, FSpec.act (U c main_arg1) (U c main_arg2) B1 (e ⟨(t.val * 512 + r.val) / 512, _⟩) ⟨t.val * 512 + r.val, row_lt a t r⟩ k
        * U c main_arg4 (ix4 0 (e ⟨(t.val * 512 + r.val) / 512, _⟩) k q) + B2 (ix2 (e ⟨(t.val * 512 + r.val) / 512, _⟩) q)
    rw [ht]
    unfold FSpec.act FSpec.hid
    simp only [gAt_at a U c t B1 B2 e H, lAt_at a U c t B1 B2 e H, dAt_at a U c t B1 B2 e H, blk0_at a U c t hl,
      (blk2_at a U c t (e t) (H.expert t) _).trans (H.gateB _ _), (blk3_at a U c t (e t) (H.expert t) _).trans (H.linB _ _),
      (blk5_at a U c t (e t) (H.expert t) _).trans (H.downB _ _)]
  · rw [if_neg hl, if_neg (by show ¬ (((t.val * 512 + r.val) / 512 : ℕ) : ℤ) < _; rw [hd]; exact hl)]
    exact Ideal.ofBits_zero_f32

theorem word_nat (k : ℕ) (hk : k < 160) : (BitVec.ofNat 32 k).toNat = k := by
  rw [BitVec.toNat_ofNat]; omega

theorem index7 : ((cfgA a).win 7).index t = (![t.val, 0] : Fin 2 → ℕ) := by
  have h : ((cfgA a).win 7).index t = (![(BitVec.ofNat 32 (grid0.coords t 0).val).toNat, 0] : Fin 2 → ℕ) := rfl
  rw [h, coords_val t, word_nat t.val t.isLt]

theorem flush7 : ((cfgA a).win 7).flush t = true := by
  unfold Window.flush
  rw [Bool.and_eq_true, Bool.or_eq_true, decide_eq_true_iff, decide_eq_true_iff]
  refine ⟨rfl, ?_⟩
  by_cases h : t.val + 1 = 160
  · exact .inl h
  · have ht : t.val < 160 := t.isLt
    refine .inr ⟨show t.val + 1 < 160 by omega, fun hc => ?_⟩
    rw [index7, index7] at hc
    have : t.val + 1 = t.val := congrFun hc 0
    omega

theorem emb7 (r : Fin 512) (q : Fin 1024) : (((cfgA a).win 7).blk t).view.emb (ix2 r q : S512x1024.Idx) = (ix2 ⟨t.val * 512 + r.val, row_lt a t r⟩ q : S81920x1024.Idx) := by
  refine funext fun (x : Fin 2) => Fin.ext ?_
  match x with
  | 0 =>
    show (BitVec.ofNat 32 (grid0.coords t 0).val).toNat * 512 + 1 * r.val = t.val * 512 + r.val
    rw [coords_val t, word_nat t.val t.isLt, Nat.one_mul]
  | 1 => show 0 * 1024 + 1 * q.val = q.val; omega

theorem mem_of {sp : Space} {s : Shape} {e : EltTy} (v : View sig .tc sp s e) (x : s.Idx) (i : v.ty.Idx) (h : v.emb x = i) : i ∈ v.set := h ▸ v.emb_mem_set x

theorem mem7 (r : Fin 512) (q : Fin 1024) (i : S81920x1024.Idx) (h : ix2 ⟨t.val * 512 + r.val, row_lt a t r⟩ q = i) :
    i ∈ (((cfgA a).win 7).blk t).view.set :=
  mem_of (((cfgA a).win 7).blk t).view (ix2 r q : S512x1024.Idx) i ((emb7 a t r q).trans h)

include H in
theorem array : (dat a U c).arrAt 7 (cfgA a).N = FSpec.G (U c main_arg1) (U c main_arg2) B1 (U c main_arg4) B2 (nb a) e := by
  refine (dat a U c).arrAt_eq_of_emb 7 _ (fun t _ (y : S512x1024.Idx) => ?_) (fun (i : S81920x1024.Idx) => ?_)
  · obtain ⟨r, q, rfl⟩ : ∃ r q, y = ix2 r q := ⟨y 0, y 1, eq_ix2 y⟩
    exact (out_at a U c t B1 B2 e H r q).trans (congrArg _ (emb7 a t r q).symm)
  · have h0 : (i 0).val < 81920 := (i 0).isLt
    have hb : (i 0).val / 512 < 160 := by omega
    exact ⟨⟨(i 0).val / 512, hb⟩, flush7 a _, mem7 a ⟨(i 0).val / 512, hb⟩ ⟨(i 0).val % 512, Nat.mod_lt _ (by decide)⟩ (i 1) i
      ((congrArg (fun k : Fin 81920 => ix2 k (i 1)) (Fin.ext (Nat.div_add_mod' _ _))).trans (eq_ix2 i).symm)⟩

end Array

/-! ### The run -/

variable (m : (ℓ : Loc nD τ sig) → Buf (Elt Ideal) ℓ)

/-- A word below 32 as an expert. -/
def toE (v : BitVec 32) (h : v.toNat ≤ 31) : Fin 32 := ⟨v.toNat, Nat.lt_succ_of_le h⟩

theorem toE_val (v : BitVec 32) (h : v.toNat ≤ 31) : (toE v h).val = v.toNat := rfl

/-- The experts of the blocks. -/
def exOf (n : IVec S32 32) (k : Fin 160) : Fin 32 := toE (FHost.blkE n (ix1 k)) (FHost.blkE_le n (ix1 k))

theorem exOf_val (n : IVec S32 32) (k : Fin 160) : (exOf n k).val = (FHost.blkE n (ix1 k)).toNat := by
  unfold exOf
  exact toE_val _ _

theorem word_toNat (v : BitVec 32) : v = BitVec.ofNat 32 v.toNat := by
  rw [BitVec.ofNat_toNat, BitVec.setWidth_eq]

theorem exOf_word (n : IVec S32 32) (k : Fin 160) : FHost.blkE n (ix1 k) = BitVec.ofNat 32 (exOf n k).val := by
  rw [exOf_val]
  exact word_toNat _

theorem toNat_eq (v w : BitVec 32) (k : ℕ) (h : v = w) (hk : k = w.toNat) : v.toNat = k := by
  rw [h, hk]

theorem ex_at : ex a t = a.1 0 (ix1 t : S160.Idx) := by
  refine congrArg (a.1 0) (funext fun (x : Fin 1) => Fin.ext ?_)
  obtain rfl : x = 0 := Subsingleton.elim _ _
  show (BitVec.ofNat 32 (grid0.coords t 0).val).toNat + 1 * 0 = t.val
  rw [coords_val t, word_nat t.val t.isLt, Nat.mul_zero, Nat.add_zero]

theorem nb_at : nb a = a.1 1 (ix1 0 : S1.Idx) := by
  refine congrArg (a.1 1) (funext fun (x : Fin 1) => Fin.ext ?_)
  obtain rfl : x = 0 := Subsingleton.elim _ _
  rfl

section Biases

variable (B1 : FVec Ideal S32x2048 .f32) (B2 : FVec Ideal S32x1024 .f32)

theorem even_at (x : Fin 32) (k : Fin 1024) :
    shapeCast S32x1x1024 (Host.slice S32x1024 ![0, 0] ![1, 2] B1 slicesBy_S32x2048_S32x1024_0s1_0s2) shapeCasts_S32x1024_S32x1x1024 (ix3 x 0 k)
      = B1 (ix2 x ⟨2 * k.val, FSpec.even_lt k⟩) := by
  pointwise

theorem odd_at (x : Fin 32) (k : Fin 1024) :
    shapeCast S32x1x1024 (Host.slice S32x1024 ![0, 1] ![1, 2] B1 slicesBy_S32x2048_S32x1024_0s1_1s2) shapeCasts_S32x1024_S32x1x1024 (ix3 x 0 k)
      = B1 (ix2 x ⟨1 + 2 * k.val, FSpec.odd_lt k⟩) := by
  pointwise

theorem down_at (x : Fin 32) (q : Fin 1024) : shapeCast S32x1x1024 B2 shapeCasts_S32x1024_S32x1x1024 (ix3 x 0 q) = B2 (ix2 x q) := by
  pointwise

end Biases

theorem holds_of (n : IVec S32 32) (B1 : FVec Ideal S32x2048 .f32) (B2 : FVec Ideal S32x1024 .f32) (h0 : a.1 0 = FHost.blkE n)
    (h23 : U c main_v23 = shapeCast S32x1x1024 (Host.slice S32x1024 ![0, 0] ![1, 2] B1 slicesBy_S32x2048_S32x1024_0s1_0s2) shapeCasts_S32x1024_S32x1x1024)
    (h25 : U c main_v25 = shapeCast S32x1x1024 (Host.slice S32x1024 ![0, 1] ![1, 2] B1 slicesBy_S32x2048_S32x1024_0s1_1s2) shapeCasts_S32x1024_S32x1x1024)
    (h26 : U c main_v26 = shapeCast S32x1x1024 B2 shapeCasts_S32x1024_S32x1x1024)
    (h42 : U c main_v42 = FHost.perm (F := Ideal)) : Holds a U c B1 B2 (exOf n) where
  expert t := toNat_eq _ _ _ ((ex_at a t).trans (congrFun h0 (ix1 t : S160.Idx))) (exOf_val n t)
  gateB x k := (congrFun h23 (ix3 x 0 k : S32x1x1024.Idx)).trans (even_at _ x k)
  linB x k := (congrFun h25 (ix3 x 0 k : S32x1x1024.Idx)).trans (odd_at _ x k)
  downB x q := (congrFun h26 (ix3 x 0 q : S32x1x1024.Idx)).trans (down_at _ x q)
  perm := h42

theorem array_of (n : IVec S32 32) (X : FVec Ideal S81920x1024 .f32) (W1 : FVec Ideal S2x32x1024x2048 .f32) (B1 : FVec Ideal S32x2048 .f32)
    (W2 : FVec Ideal S2x32x1024x1024 .f32) (B2 : FVec Ideal S32x1024 .f32) (H : Holds a U c B1 B2 (exOf n)) (h1 : a.1 1 = FHost.used n)
    (hX : U c main_arg1 = X) (hW1 : U c main_arg2 = W1) (hW2 : U c main_arg4 = W2) :
    (dat a U c).arrAt 7 (cfgA a).N = FSpec.G X W1 B1 W2 B2 (FHost.used n (ix1 0)) (exOf n) := by
  subst hX hW1 hW2
  exact (array a U c B1 B2 (exOf n) H).trans (congrArg (fun u => FSpec.G _ _ _ _ _ u _) ((nb_at a).trans (congrFun h1 (ix1 0 : S1.Idx))))

/-- What the call leaves, from the arguments. -/
def G (c : Dev nD) : FVec Ideal S81920x1024 .f32 :=
  FSpec.G (m ((c : Thread nD τ).loc main_arg1)) (m ((c : Thread nD τ).loc main_arg2)) (m ((c : Thread nD τ).loc main_arg3))
    (m ((c : Thread nD τ).loc main_arg4)) (m ((c : Thread nD τ).loc main_arg5))
    (FHost.used (m ((c : Thread nD τ).loc main_arg0)) (ix1 0)) (exOf (m ((c : Thread nD τ).loc main_arg0)))

set_option maxRecDepth 8192 in
theorem array_eq : (dat (adm m) (FHost.V m) c).arrAt 7 (cfgA (adm m)).N = G m c := by
  obtain rfl : c = 0 := Subsingleton.elim _ _
  exact array_of (adm m) (FHost.V m) 0 _ _ _ _ _ _
    (holds_of (adm m) (FHost.V m) 0 _ _ _ (pf_zero m) (FHost.V_v23 m 0) (FHost.V_v25 m 0) (FHost.V_v26 m 0) (FHost.V_v42 m 0)) (pf_one m)
    (FHost.V_arg m 0 main_arg1 (by decide)) (FHost.V_arg m 0 main_arg2 (by decide)) (FHost.V_arg m 0 main_arg4 (by decide))

theorem run (g : Dev nD → PrngReg) :
    θ_run (defs (F := Ideal)) (onTc (τ := τ) (main (F := Ideal))) ⟨m, fun _ => 0, g⟩ (fun r => ∀ c : Dev nD,
      r.2.mem ((c : Thread nD τ).loc main_v43) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun _ h c => ⟨((h.1 c).1 7).trans (array_eq c m), FFrame.args m h c⟩) (FLaunch.run m g)

end Cert.Proof.FValue

end
-- ==== Proof.FSame.lean ====
/- The printed expert call and the one read at the ideal instance have the same text: the same table of bodies and the same
   host code. -/
module

public import proofs.«01_k».proof.Defs
public import proofs.«01_k».proof.Proof.Gen.Kernel2
public import proofs.«01_k».proof.Proof.Gen.Kernel2Ideal
public import Idealize.ShloMosaic.Lib.Pipeline.Regions

@[expose] public section

noncomputable section

namespace Cert.Proof.FSame

open Idealize.ShloMosaic Idealize.ShloMosaic.TcCoe Idealize.SL.Sem

variable {F : FTy → Type} [FloatOps F]

theorem table : @Cert.Kernel2.defs F _ Cert.Kernel2.Gen.facts = @Cert.Kernel2Ideal.defs F _ Cert.Kernel2Ideal.Gen.facts := by
  chain_rfl

theorem main : @Cert.Kernel2.main F _ Cert.Kernel2.Gen.facts = @Cert.Kernel2Ideal.main F _ Cert.Kernel2Ideal.Gen.facts := by
  chain_rfl

end Cert.Proof.FSame

end
-- ==== Proof.FClaims.lean ====
/- The claims about the expert call. -/
module

public import proofs.«01_k».proof.Defs
public import proofs.«01_k».proof.Proof.FRef
public import proofs.«01_k».proof.Proof.FValue
public import proofs.«01_k».proof.Proof.FSame

@[expose] public section

noncomputable section

namespace Cert.Proof.FClaims

open Idealize.ShloMosaic Idealize.ShloMosaic.TcCoe Idealize.SL.Sem

/-- What the reference leaves, from its arguments. -/
theorem ref_eq (m' : (ℓ : Loc Cert.Reference2Ideal.nD Cert.Reference2Ideal.τ Cert.Reference2Ideal.sig) → Buf (Elt Ideal) ℓ) (c : Dev Cert.Reference2Ideal.nD) :
    Cert.Reference2Ideal.Value.res_main_v85 m' c
      = FSpec.G (m' ((c : Thread Cert.Reference2Ideal.nD Cert.Reference2Ideal.τ).loc Cert.Reference2Ideal.main_arg1))
        (m' ((c : Thread Cert.Reference2Ideal.nD Cert.Reference2Ideal.τ).loc Cert.Reference2Ideal.main_arg2))
        (m' ((c : Thread Cert.Reference2Ideal.nD Cert.Reference2Ideal.τ).loc Cert.Reference2Ideal.main_arg3))
        (m' ((c : Thread Cert.Reference2Ideal.nD Cert.Reference2Ideal.τ).loc Cert.Reference2Ideal.main_arg4))
        (m' ((c : Thread Cert.Reference2Ideal.nD Cert.Reference2Ideal.τ).loc Cert.Reference2Ideal.main_arg5))
        (FHost.used (m' ((c : Thread Cert.Reference2Ideal.nD Cert.Reference2Ideal.τ).loc Cert.Reference2Ideal.main_arg0)) (ix1 0))
        (FValue.exOf (m' ((c : Thread Cert.Reference2Ideal.nD Cert.Reference2Ideal.τ).loc Cert.Reference2Ideal.main_arg0))) :=
  (FRef.res_eq m' c).trans (FRef.all _ _ (FValue.exOf_word _) _ _ _ _ _ _)

theorem algebraic : algebraic_Kernel2Ideal_Reference2Ideal (hKernel2Ideal := Cert.Kernel2Ideal.Gen.facts) (hReference2Ideal := Cert.Reference2Ideal.Gen.facts) := by
  intro m g m' g' _ h
  refine ⟨FValue.G m, FValue.run m g, (θ_run _ _ _).mono (fun _ hr c => ⟨(hr c).1.trans ((ref_eq m' c).trans ?_), (hr c).2⟩) (Cert.Reference2Ideal.Value.run m' g')⟩
  obtain ⟨h0, h1, h2, h3, h4, h5⟩ := h c
  unfold FValue.G
  rw [h0, h1, h2, h3, h4, h5]

theorem frame_ideal : quiescent_Kernel2Ideal (hKernel2Ideal := Cert.Kernel2Ideal.Gen.facts) := fun m g _ => FFrame.frame m g

theorem frame_reference : quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- A run is the run of an equal program with an equal table. -/
theorem same {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s : MemSt nD τ sig Val}
    {Q : (PUnit × MemSt nD τ sig Val) → Prop} (h : θ_run d' (onTc (τ := τ) p') s Q) : θ_run d (onTc (τ := τ) p) s Q := by
  subst hd hp; exact h

set_option maxRecDepth 8192 in
set_option maxHeartbeats 1000000 in
theorem frame : quiescent_Kernel2 (hKernel2 := Cert.Kernel2.Gen.facts) := fun m g _ =>
  same FSame.table FSame.main (FFrame.frame (F := Bits) m g)

end Cert.Proof.FClaims

end
-- ==== Proof.ISpec.lean ====
/- What the projection call computes, index by index. -/
module

public import Idealize.ShloMosaic.Lib.Pointwise

@[expose] public section

noncomputable section

namespace Cert.Proof.ISpec

open Idealize.ShloMosaic

/-- A row's entry, divided by the root of the row's mean square, scaled and shifted. -/
def unit (x : Fin 1024 → EReal) (g sc sh : EReal) (i : Fin 1024) : EReal :=
  x i * Ideal.rsqrt (Ideal.div (∑ k : Fin 1024, x k * x k) (Ideal.ofBits .f32 0x44800000#32) + Ideal.ofBits .f32 0x358637BD#32) * g * (1 + sc) + sh

variable (H : (⟨3, ![4, 4096, 1024]⟩ : Shape).Idx → EReal) (sh sc : (⟨3, ![4, 1, 1024]⟩ : Shape).Idx → EReal)
  (g : (⟨2, ![1, 1024]⟩ : Shape).Idx → EReal) (W : (⟨2, ![1024, 2372]⟩ : Shape).Idx → EReal)

/-- The normalised rows. -/
def U (b : Fin 4) (s : Fin 4096) (i : Fin 1024) : EReal :=
  unit (fun k => H (ix3 b s k)) (g (ix2 0 i)) (sc (ix3 b 0 i)) (sh (ix3 b 0 i)) i

/-- Their product with the weights. -/
def Z (b : Fin 4) (s : Fin 4096) (q : Fin 2372) : EReal := ∑ i : Fin 1024, U H sh sc g b s i * W (ix2 i q)

theorem row_lt (n : Fin 16) (r : Fin 256) : 256 * n.val + r.val < 4096 := by omega

theorem val_lt (d : Fin 128) : 640 + d.val < 2372 := by omega

theorem rest_lt (q : Fin 1280) : 1092 + q.val < 2372 := by omega

/-- The values, their rows in groups of 256, a group's rows along the last axis. -/
def vals (i : (⟨4, ![4, 16, 128, 256]⟩ : Shape).Idx) : EReal :=
  Z H sh sc g W (i 0) ⟨256 * (i 1).val + (i 3).val, row_lt (i 1) (i 3)⟩ ⟨640 + (i 2).val, val_lt (i 2)⟩

/-- The columns that the recurrent mixer and the gates take. -/
def rest (i : (⟨3, ![4, 4096, 1280]⟩ : Shape).Idx) : EReal := Z H sh sc g W (i 0) (i 1) ⟨1092 + (i 2).val, rest_lt (i 2)⟩

/-! ### Rotary columns -/

/-- A head's columns turned by the angles: the first half against the second. -/
def turn (z : Fin 64 → EReal) (c t : Fin 32 → EReal) (d : Fin 64) : EReal :=
  if h : d.val < 32 then z d * c ⟨d.val, h⟩ - z ⟨d.val + 32, by omega⟩ * t ⟨d.val, h⟩
  else z d * c ⟨d.val - 32, by omega⟩ + z ⟨d.val - 32, by omega⟩ * t ⟨d.val - 32, by omega⟩

variable (C T : (⟨3, ![4, 4096, 32]⟩ : Shape).Idx → EReal)

theorem head_lt (o w : ℕ) (h : o + w ≤ 2372) (hw : 64 ∣ w) (q : Fin w) (d : Fin 64) : o + (64 * (q.val / 64) + d.val) < 2372 := by
  obtain ⟨k, rfl⟩ := hw
  have := q.isLt
  omega

/-- Column `q` of the heads that start at column `o`, turned. -/
def head (o w : ℕ) (h : o + w ≤ 2372) (hw : 64 ∣ w) (b : Fin 4) (s : Fin 4096) (q : Fin w) : EReal :=
  turn (fun d => Z H sh sc g W b s ⟨o + (64 * (q.val / 64) + d.val), head_lt o w h hw q d⟩) (fun e => C (ix3 b s e)) (fun e => T (ix3 b s e))
    ⟨q.val % 64, Nat.mod_lt _ (by decide)⟩

/-- The queries, scaled, a column's rows along the last axis. -/
def queries (i : (⟨3, ![4, 512, 4096]⟩ : Shape).Idx) : EReal :=
  head H sh sc g W C T 0 512 (by decide) (by decide) (i 0) (i 2) (i 1) * Ideal.ofBits .f32 0x3E000000#32

/-- The index queries, a column's rows along the last axis. -/
def indices (i : (⟨3, ![4, 256, 4096]⟩ : Shape).Idx) : EReal := head H sh sc g W C T 768 256 (by decide) (by decide) (i 0) (i 2) (i 1)

/-- The keys. -/
def keys (i : (⟨3, ![4, 4096, 128]⟩ : Shape).Idx) : EReal := head H sh sc g W C T 512 128 (by decide) (by decide) (i 0) (i 1) (i 2)

end Cert.Proof.ISpec

end
-- ==== Proof.IRef.lean ====
/- The projection's reference, index by index. -/
module

public import proofs.«01_k».proof.Proof.ISpec
public import proofs.«01_k».proof.Proof.Gen.Reference3Ideal.Run

@[expose] public section

noncomputable section

namespace Cert.Proof.IRef

open Idealize.ShloMosaic Idealize.ShloMosaic.TcCoe Idealize.SL.Sem
open Cert.Reference3Ideal Cert.Reference3Ideal.Gen

section Terms
variable {F : FTy → Type} [FloatOps F]
variable (H : FVec F S4x4096x1024 .f32) (sh sc : FVec F S4x1x1024 .f32) (g : FVec F S1x1024 .f32) (W : FVec F S1024x2372 .f32) (C T : FVec F S4x4096x32 .f32)

/-- The reciprocal root of each row's mean square. -/
def scale : FVec F S4x4096x1 .f32 :=
  Host.rsqrt (addf (Host.divf (broadcastInDim S4x4096x1 ![0, 1] bcast_S4x4096_S4x4096x1_0_1 (Host.reduceAdd (mulf H H) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))

/-- The normalised rows. -/
def rows : FVec F S4x4096x1024 .f32 :=
  addf (mulf (mulf (mulf H (broadcastInDim S4x4096x1024 ![0, 1, 2] bcast_S4x4096x1_S4x4096x1024_0_1_2 (scale H))) (broadcastInDim S4x4096x1024 ![0, 1, 2] bcast_S1x1x1024_S4x4096x1024_0_1_2 (broadcastInDim S1x1x1024 ![1, 2] bcast_S1x1024_S1x1x1024_1_2 g))) (broadcastInDim S4x4096x1024 ![0, 1, 2] bcast_S4x1x1024_S4x4096x1024_0_1_2 (addf (broadcastInDim S4x1x1024 ![] bcast_S_S4x1x1024 (constant S_ .f32 0x3F800000#32)) sc))) (broadcastInDim S4x4096x1024 ![0, 1, 2] bcast_S4x1x1024_S4x4096x1024_0_1_2 sh)

/-- A product with the weights. -/
def times (u : FVec F S4x4096x1024 .f32) : FVec F S4x4096x2372 .f32 :=
  shapeCast _ (Host.dotGeneral dot_S16384x1024_S1024x2372_S16384x2372_1_0_0_1_n_n none (shapeCast _ u shapeCasts_S4x4096x1024_S16384x1024) W) shapeCasts_S16384x2372_S4x4096x2372

/-- Eight heads turned. -/
def turn8 (x : FVec F S4x4096x8x64 .f32) : FVec F S4x4096x8x64 .f32 :=
  concatenate S4x4096x8x64 3 [⟨S4x4096x8x32, subf (mulf (extractStridedSlice S4x4096x8x32 ![0, 0, 0, 0] x slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 C))) (mulf (extractStridedSlice S4x4096x8x32 ![0, 0, 0, 32] x slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 T)))⟩,
    ⟨S4x4096x8x32, addf (mulf (extractStridedSlice S4x4096x8x32 ![0, 0, 0, 32] x slices_S4x4096x8x64_S4x4096x8x32_0_0_0_32) (broadcastInDim S4x4096x8x32 ![0, 1, 2, 3] bcast_S4x4096x1x32_S4x4096x8x32_0_1_2_3 (broadcastInDim S4x4096x1x32 ![0, 1, 3] bcast_S4x4096x32_S4x4096x1x32_0_1_3 C))) (mulf (extractStridedSlice S4x4096x8x32 ![0, 0, 0, 0] x slices_S4x4096x8x64_S4x4096x8x32_0_0_0_0) (broadcastInDim S4x4096x8x32 ![0, 1, 2, 3] bcast_S4x4096x1x32_S4x4096x8x32_0_1_2_3 (broadcastInDim S4x4096x1x32 ![0, 1, 3] bcast_S4x4096x32_S4x4096x1x32_0_1_3 T)))⟩] concatenates_S4x4096x8x32_S4x4096x8x32_S4x4096x8x64_d3

/-- Four heads turned. -/
def turn4 (x : FVec F S4x4096x4x64 .f32) : FVec F S4x4096x4x64 .f32 :=
  concatenate S4x4096x4x64 3 [⟨S4x4096x4x32, subf (mulf (extractStridedSlice S4x4096x4x32 ![0, 0, 0, 0] x slices_S4x4096x4x64_S4x4096x4x32_0_0_0_0) (broadcastInDim S4x4096x4x32 ![0, 1, 2, 3] bcast_S4x4096x1x32_S4x4096x4x32_0_1_2_3 (broadcastInDim S4x4096x1x32 ![0, 1, 3] bcast_S4x4096x32_S4x4096x1x32_0_1_3 C))) (mulf (extractStridedSlice S4x4096x4x32 ![0, 0, 0, 32] x slices_S4x4096x4x64_S4x4096x4x32_0_0_0_32) (broadcastInDim S4x4096x4x32 ![0, 1, 2, 3] bcast_S4x4096x1x32_S4x4096x4x32_0_1_2_3 (broadcastInDim S4x4096x1x32 ![0, 1, 3] bcast_S4x4096x32_S4x4096x1x32_0_1_3 T)))⟩,
    ⟨S4x4096x4x32, addf (mulf (extractStridedSlice S4x4096x4x32 ![0, 0, 0, 32] x slices_S4x4096x4x64_S4x4096x4x32_0_0_0_32) (broadcastInDim S4x4096x4x32 ![0, 1, 2, 3] bcast_S4x4096x1x32_S4x4096x4x32_0_1_2_3 (broadcastInDim S4x4096x1x32 ![0, 1, 3] bcast_S4x4096x32_S4x4096x1x32_0_1_3 C))) (mulf (extractStridedSlice S4x4096x4x32 ![0, 0, 0, 0] x slices_S4x4096x4x64_S4x4096x4x32_0_0_0_0) (broadcastInDim S4x4096x4x32 ![0, 1, 2, 3] bcast_S4x4096x1x32_S4x4096x4x32_0_1_2_3 (broadcastInDim S4x4096x1x32 ![0, 1, 3] bcast_S4x4096x32_S4x4096x1x32_0_1_3 T)))⟩] concatenates_S4x4096x4x32_S4x4096x4x32_S4x4096x4x64_d3

/-- Two heads turned. -/
def turn2 (x : FVec F S4x4096x2x64 .f32) : FVec F S4x4096x2x64 .f32 :=
  concatenate S4x4096x2x64 3 [⟨S4x4096x2x32, subf (mulf (extractStridedSlice S4x4096x2x32 ![0, 0, 0, 0] x slices_S4x4096x2x64_S4x4096x2x32_0_0_0_0) (broadcastInDim S4x4096x2x32 ![0, 1, 2, 3] bcast_S4x4096x1x32_S4x4096x2x32_0_1_2_3 (broadcastInDim S4x4096x1x32 ![0, 1, 3] bcast_S4x4096x32_S4x4096x1x32_0_1_3 C))) (mulf (extractStridedSlice S4x4096x2x32 ![0, 0, 0, 32] x slices_S4x4096x2x64_S4x4096x2x32_0_0_0_32) (broadcastInDim S4x4096x2x32 ![0, 1, 2, 3] bcast_S4x4096x1x32_S4x4096x2x32_0_1_2_3 (broadcastInDim S4x4096x1x32 ![0, 1, 3] bcast_S4x4096x32_S4x4096x1x32_0_1_3 T)))⟩,
    ⟨S4x4096x2x32, addf (mulf (extractStridedSlice S4x4096x2x32 ![0, 0, 0, 32] x slices_S4x4096x2x64_S4x4096x2x32_0_0_0_32) (broadcastInDim S4x4096x2x32 ![0, 1, 2, 3] bcast_S4x4096x1x32_S4x4096x2x32_0_1_2_3 (broadcastInDim S4x4096x1x32 ![0, 1, 3] bcast_S4x4096x32_S4x4096x1x32_0_1_3 C))) (mulf (extractStridedSlice S4x4096x2x32 ![0, 0, 0, 0] x slices_S4x4096x2x64_S4x4096x2x32_0_0_0_0) (broadcastInDim S4x4096x2x32 ![0, 1, 2, 3] bcast_S4x4096x1x32_S4x4096x2x32_0_1_2_3 (broadcastInDim S4x4096x1x32 ![0, 1, 3] bcast_S4x4096x32_S4x4096x1x32_0_1_3 T)))⟩] concatenates_S4x4096x2x32_S4x4096x2x32_S4x4096x2x64_d3

variable (z : FVec F S4x4096x2372 .f32)

/-- The queries. -/
def queries : FVec F S4x512x4096 .bf16 :=
  truncf .bf16 (transpose S4x512x4096 [0, 2, 1] (mulf (shapeCast _ (turn8 C T (shapeCast _ (extractStridedSlice S4x4096x512 ![0, 0, 0] z slices_S4x4096x2372_S4x4096x512_0_0_0) shapeCasts_S4x4096x512_S4x4096x8x64)) shapeCasts_S4x4096x8x64_S4x4096x512) (broadcastInDim S4x4096x512 ![] bcast_S_S4x4096x512 (constant S_ .f32 0x3E000000#32))) transposes_S4x4096x512_S4x512x4096_0_2_1) bitsLt_bf16_f32

/-- The index queries. -/
def indices : FVec F S4x256x4096 .bf16 :=
  truncf .bf16 (transpose S4x256x4096 [0, 2, 1] (shapeCast _ (turn4 C T (shapeCast _ (extractStridedSlice S4x4096x256 ![0, 0, 768] z slices_S4x4096x2372_S4x4096x256_0_0_768) shapeCasts_S4x4096x256_S4x4096x4x64)) shapeCasts_S4x4096x4x64_S4x4096x256) transposes_S4x4096x256_S4x256x4096_0_2_1) bitsLt_bf16_f32

/-- The keys. -/
def keys : FVec F S4x4096x128 .bf16 :=
  truncf .bf16 (shapeCast _ (turn2 C T (shapeCast _ (extractStridedSlice S4x4096x128 ![0, 0, 512] z slices_S4x4096x2372_S4x4096x128_0_0_512) shapeCasts_S4x4096x128_S4x4096x2x64)) shapeCasts_S4x4096x2x64_S4x4096x128) bitsLt_bf16_f32

/-- The values. -/
def vals : FVec F S4x16x128x256 .bf16 :=
  truncf .bf16 (transpose S4x16x128x256 [0, 1, 3, 2] (shapeCast _ (extractStridedSlice S4x4096x128 ![0, 0, 640] z slices_S4x4096x2372_S4x4096x128_0_0_640) shapeCasts_S4x4096x128_S4x16x256x128) transposes_S4x16x256x128_S4x16x128x256_0_1_3_2) bitsLt_bf16_f32

/-- The other columns. -/
def rest : FVec F S4x4096x1280 .f32 :=
  concatenate S4x4096x1280 2 [⟨S4x4096x256, extractStridedSlice S4x4096x256 ![0, 0, 1092] z slices_S4x4096x2372_S4x4096x256_0_0_1092⟩, ⟨S4x4096x256, extractStridedSlice S4x4096x256 ![0, 0, 1348] z slices_S4x4096x2372_S4x4096x256_0_0_1348⟩, ⟨S4x4096x256, extractStridedSlice S4x4096x256 ![0, 0, 1604] z slices_S4x4096x2372_S4x4096x256_0_0_1604⟩, ⟨S4x4096x256, extractStridedSlice S4x4096x256 ![0, 0, 1860] z slices_S4x4096x2372_S4x4096x256_0_0_1860⟩, ⟨S4x4096x256, extractStridedSlice S4x4096x256 ![0, 0, 2116] z slices_S4x4096x2372_S4x4096x256_0_0_2116⟩] concatenates_S4x4096x256_S4x4096x256_S4x4096x256_S4x4096x256_S4x4096x256_S4x4096x1280_d2

variable (m : (ℓ : Loc nD τ sig) → Buf (Elt F) ℓ) (ρ : Dev nD → PrngReg)

/-- The product, from the arguments. -/
abbrev prod (c : Dev nD) : FVec F S4x4096x2372 .f32 :=
  times (m ((c : Thread nD τ).loc main_arg4)) (rows (m ((c : Thread nD τ).loc main_arg0)) (m ((c : Thread nD τ).loc main_arg1)) (m ((c : Thread nD τ).loc main_arg2)) (m ((c : Thread nD τ).loc main_arg3)))

theorem run :
    θ_run defs (onTc (τ := τ) (main (F := F))) ⟨m, fun _ => 0, ρ⟩ fun r => ∀ c : Dev nD,
      r.2.mem ((c : Thread nD τ).loc main_v73) = queries (m ((c : Thread nD τ).loc main_arg5)) (m ((c : Thread nD τ).loc main_arg6)) (prod m c)
      ∧ r.2.mem ((c : Thread nD τ).loc main_v74) = indices (m ((c : Thread nD τ).loc main_arg5)) (m ((c : Thread nD τ).loc main_arg6)) (prod m c)
      ∧ r.2.mem ((c : Thread nD τ).loc main_v92) = keys (m ((c : Thread nD τ).loc main_arg5)) (m ((c : Thread nD τ).loc main_arg6)) (prod m c)
      ∧ r.2.mem ((c : Thread nD τ).loc main_v93) = vals (prod m c)
      ∧ r.2.mem ((c : Thread nD τ).loc main_v94) = rest (prod m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun _ h c =>
    have h := h c
    ⟨h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2⟩) (Value.run m ρ)

end Terms

variable (H : FVec Ideal S4x4096x1024 .f32) (sh sc : FVec Ideal S4x1x1024 .f32) (g : FVec Ideal S1x1024 .f32) (W : FVec Ideal S1024x2372 .f32) (C T : FVec Ideal S4x4096x32 .f32)

theorem rows_at (b : Fin 4) (s : Fin 4096) (i : Fin 1024) : rows H sh sc g (ix3 b s i) = ISpec.U H sh sc g b s i := by
  unfold rows scale ISpec.U ISpec.unit
  pointwise

theorem times_at (u : FVec Ideal S4x4096x1024 .f32) (b : Fin 4) (s : Fin 4096) (q : Fin 2372) :
    times W u (ix3 b s q) = ∑ i : Fin 1024, u (ix3 b s i) * W (ix2 i q) := by
  unfold times
  pointwise

theorem turn8_at (x : FVec Ideal S4x4096x8x64 .f32) (b : Fin 4) (s : Fin 4096) (h : Fin 8) (d : Fin 64) :
    turn8 C T x (ix4 b s h d) = ISpec.turn (fun d => x (ix4 b s h d)) (fun e => C (ix3 b s e)) (fun e => T (ix3 b s e)) d := by
  unfold turn8 ISpec.turn
  pointwise
  split_ifs with hd h3
  · exact congrArg (fun e => _ - x (ix4 b s h e) * _) (Fin.ext (Nat.add_comm _ _))
  · exact congrArg (fun e => x (ix4 b s h e) * _ + _) (Fin.ext (Nat.add_sub_cancel' (Nat.le_of_not_lt hd)))
  · exact absurd rfl h3

theorem turn4_at (x : FVec Ideal S4x4096x4x64 .f32) (b : Fin 4) (s : Fin 4096) (h : Fin 4) (d : Fin 64) :
    turn4 C T x (ix4 b s h d) = ISpec.turn (fun d => x (ix4 b s h d)) (fun e => C (ix3 b s e)) (fun e => T (ix3 b s e)) d := by
  unfold turn4 ISpec.turn
  pointwise
  split_ifs with hd h3
  · exact congrArg (fun e => _ - x (ix4 b s h e) * _) (Fin.ext (Nat.add_comm _ _))
  · exact congrArg (fun e => x (ix4 b s h e) * _ + _) (Fin.ext (Nat.add_sub_cancel' (Nat.le_of_not_lt hd)))
  · exact absurd rfl h3

theorem turn2_at (x : FVec Ideal S4x4096x2x64 .f32) (b : Fin 4) (s : Fin 4096) (h : Fin 2) (d : Fin 64) :
    turn2 C T x (ix4 b s h d) = ISpec.turn (fun d => x (ix4 b s h d)) (fun e => C (ix3 b s e)) (fun e => T (ix3 b s e)) d := by
  unfold turn2 ISpec.turn
  pointwise
  split_ifs with hd h3
  · exact congrArg (fun e => _ - x (ix4 b s h e) * _) (Fin.ext (Nat.add_comm _ _))
  · exact congrArg (fun e => x (ix4 b s h e) * _ + _) (Fin.ext (Nat.add_sub_cancel' (Nat.le_of_not_lt hd)))
  · exact absurd rfl h3

end Cert.Proof.IRef

end
-- ==== Proof.IRead.lean ====
/- The projection's reference, read at an index. -/
module

public import proofs.«01_k».proof.Proof.IRef

@[expose] public section

noncomputable section

namespace Cert.Proof.IRef

open Idealize.ShloMosaic Idealize.ShloMosaic.TcCoe
open Cert.Reference3Ideal Cert.Reference3Ideal.Gen

variable (H : FVec Ideal S4x4096x1024 .f32) (sh sc : FVec Ideal S4x1x1024 .f32) (g : FVec Ideal S1x1024 .f32) (W : FVec Ideal S1024x2372 .f32) (C T : FVec Ideal S4x4096x32 .f32)

variable (z : FVec Ideal S4x4096x2372 .f32)

theorem rest_at (b : Fin 4) (s : Fin 4096) (q : Fin 1280) : rest z (ix3 b s q) = z (ix3 b s ⟨1092 + q.val, ISpec.rest_lt q⟩) := by
  unfold rest
  pointwise
  have hq := q.isLt
  split_ifs <;> exact congrArg (fun e => z (ix3 b s e)) (Fin.ext (by dsimp only <;> omega))

theorem vals_at (b : Fin 4) (n : Fin 16) (d : Fin 128) (r : Fin 256) :
    vals z (ix4 b n d r) = z (ix3 b ⟨256 * n.val + r.val, ISpec.row_lt n r⟩ ⟨640 + d.val, ISpec.val_lt d⟩) := by
  unfold vals
  pointwise
  exact congrArg (fun e => z (ix3 b e _)) (Fin.ext (congrArg (· + r.val) (Nat.mul_comm n.val 256)))

/-- Columns as two heads. -/
def split2 : FVec Ideal S4x4096x2x64 .f32 :=
  shapeCast S4x4096x2x64 (extractStridedSlice S4x4096x128 ![0, 0, 512] z slices_S4x4096x2372_S4x4096x128_0_0_512) shapeCasts_S4x4096x128_S4x4096x2x64

theorem split2_at (b : Fin 4) (s : Fin 4096) (h : Fin 2) (d : Fin 64) : split2 z (ix4 b s h d) = z (ix3 b s ⟨512 + (64 * h.val + d.val), by omega⟩) := by
  unfold split2
  pointwise
  exact congrArg (fun e => z (ix3 b s e)) (Fin.ext (congrArg (fun n => 512 + (n + d.val)) (Nat.mul_comm h.val 64)))

/-- Two heads as columns. -/
def join2 (y : FVec Ideal S4x4096x2x64 .f32) : FVec Ideal S4x4096x128 .bf16 :=
  truncf .bf16 (shapeCast S4x4096x128 y shapeCasts_S4x4096x2x64_S4x4096x128) bitsLt_bf16_f32

theorem join2_at (y : FVec Ideal S4x4096x2x64 .f32) (b : Fin 4) (s : Fin 4096) (q : Fin 128) :
    join2 y (ix3 b s q) = y (ix4 b s ⟨q.val / 64, by omega⟩ ⟨q.val % 64, Nat.mod_lt _ (by decide)⟩) := by
  unfold join2
  pointwise

theorem keys_at (b : Fin 4) (s : Fin 4096) (q : Fin 128) :
    keys C T z (ix3 b s q) = ISpec.turn (fun d => z (ix3 b s ⟨512 + (64 * (q.val / 64) + d.val), ISpec.head_lt 512 128 (by decide) (by decide) q d⟩))
      (fun e => C (ix3 b s e)) (fun e => T (ix3 b s e)) ⟨q.val % 64, Nat.mod_lt _ (by decide)⟩ := by
  have e0 : keys C T z = join2 (turn2 C T (split2 z)) := rfl
  have e1 := join2_at (turn2 C T (split2 z)) b s q
  rw [turn2_at C T (split2 z) b s _ _] at e1
  simp only [split2_at] at e1
  rw [e0]
  exact e1

/-- Columns as four heads. -/
def split4 : FVec Ideal S4x4096x4x64 .f32 :=
  shapeCast S4x4096x4x64 (extractStridedSlice S4x4096x256 ![0, 0, 768] z slices_S4x4096x2372_S4x4096x256_0_0_768) shapeCasts_S4x4096x256_S4x4096x4x64

theorem split4_at (b : Fin 4) (s : Fin 4096) (h : Fin 4) (d : Fin 64) : split4 z (ix4 b s h d) = z (ix3 b s ⟨768 + (64 * h.val + d.val), by omega⟩) := by
  unfold split4
  pointwise
  exact congrArg (fun e => z (ix3 b s e)) (Fin.ext (congrArg (fun n => 768 + (n + d.val)) (Nat.mul_comm h.val 64)))

/-- Four heads as columns. -/
def join4 (y : FVec Ideal S4x4096x4x64 .f32) : FVec Ideal S4x256x4096 .bf16 :=
  truncf .bf16 (transpose S4x256x4096 [0, 2, 1] (shapeCast S4x4096x256 y shapeCasts_S4x4096x4x64_S4x4096x256) transposes_S4x4096x256_S4x256x4096_0_2_1) bitsLt_bf16_f32

theorem join4_at (y : FVec Ideal S4x4096x4x64 .f32) (b : Fin 4) (s : Fin 4096) (q : Fin 256) :
    join4 y (ix3 b q s) = y (ix4 b s ⟨q.val / 64, by omega⟩ ⟨q.val % 64, Nat.mod_lt _ (by decide)⟩) := by
  unfold join4
  pointwise

theorem indices_at (b : Fin 4) (s : Fin 4096) (q : Fin 256) :
    indices C T z (ix3 b q s) = ISpec.turn (fun d => z (ix3 b s ⟨768 + (64 * (q.val / 64) + d.val), ISpec.head_lt 768 256 (by decide) (by decide) q d⟩))
      (fun e => C (ix3 b s e)) (fun e => T (ix3 b s e)) ⟨q.val % 64, Nat.mod_lt _ (by decide)⟩ := by
  have e0 : indices C T z = join4 (turn4 C T (split4 z)) := rfl
  have e1 := join4_at (turn4 C T (split4 z)) b s q
  rw [turn4_at C T (split4 z) b s _ _] at e1
  simp only [split4_at] at e1
  rw [e0]
  exact e1

/-- Columns as eight heads. -/
def split8 : FVec Ideal S4x4096x8x64 .f32 :=
  shapeCast S4x4096x8x64 (extractStridedSlice S4x4096x512 ![0, 0, 0] z slices_S4x4096x2372_S4x4096x512_0_0_0) shapeCasts_S4x4096x512_S4x4096x8x64

theorem split8_at (b : Fin 4) (s : Fin 4096) (h : Fin 8) (d : Fin 64) : split8 z (ix4 b s h d) = z (ix3 b s ⟨0 + (64 * h.val + d.val), by omega⟩) := by
  unfold split8
  pointwise
  exact congrArg (fun e => z (ix3 b s e)) (Fin.ext (congrArg (fun n => n + d.val) (Nat.mul_comm h.val 64)))

/-- Eight heads as columns. -/
def join8 (y : FVec Ideal S4x4096x8x64 .f32) : FVec Ideal S4x512x4096 .bf16 :=
  truncf .bf16 (transpose S4x512x4096 [0, 2, 1] (mulf (shapeCast S4x4096x512 y shapeCasts_S4x4096x8x64_S4x4096x512) (broadcastInDim S4x4096x512 ![] bcast_S_S4x4096x512 (constant S_ .f32 0x3E000000#32))) transposes_S4x4096x512_S4x512x4096_0_2_1) bitsLt_bf16_f32

theorem join8_at (y : FVec Ideal S4x4096x8x64 .f32) (b : Fin 4) (s : Fin 4096) (q : Fin 512) :
    join8 y (ix3 b q s) = y (ix4 b s ⟨q.val / 64, by omega⟩ ⟨q.val % 64, Nat.mod_lt _ (by decide)⟩) * Ideal.ofBits .f32 0x3E000000#32 := by
  unfold join8
  pointwise

theorem queries_at (b : Fin 4) (s : Fin 4096) (q : Fin 512) :
    queries C T z (ix3 b q s) = ISpec.turn (fun d => z (ix3 b s ⟨0 + (64 * (q.val / 64) + d.val), ISpec.head_lt 0 512 (by decide) (by decide) q d⟩))
      (fun e => C (ix3 b s e)) (fun e => T (ix3 b s e)) ⟨q.val % 64, Nat.mod_lt _ (by decide)⟩ * Ideal.ofBits .f32 0x3E000000#32 := by
  have e0 : queries C T z = join8 (turn8 C T (split8 z)) := rfl
  have e1 := join8_at (turn8 C T (split8 z)) b s q
  rw [turn8_at C T (split8 z) b s _ _] at e1
  simp only [split8_at] at e1
  rw [e0]
  exact e1

/-! ### Whole arrays -/

theorem eta3 {p q r : ℕ} (i : (⟨3, ![p, q, r]⟩ : Shape).Idx) : i = ix3 (i 0) (i 1) (i 2) := by
  funext a
  fin_cases a <;> rfl

theorem eta4 {p q r t : ℕ} (i : (⟨4, ![p, q, r, t]⟩ : Shape).Idx) : i = ix4 (i 0) (i 1) (i 2) (i 3) := by
  funext a
  fin_cases a <;> rfl

variable (hz : ∀ (b : Fin 4) (s : Fin 4096) (q : Fin 2372), z (ix3 b s q) = ISpec.Z H sh sc g W b s q)
include hz

theorem rest_eq : rest z = ISpec.rest H sh sc g W := by
  have e (b : Fin 4) (s : Fin 4096) (q : Fin 1280) : rest z (ix3 b s q) = ISpec.rest H sh sc g W (ix3 b s q) := by
    rw [rest_at z, hz]
    rfl
  exact funext fun i => (congrArg (rest z) (eta3 i)).trans ((e (i 0) (i 1) (i 2)).trans (congrArg (ISpec.rest H sh sc g W) (eta3 i).symm))

theorem vals_eq : vals z = ISpec.vals H sh sc g W := by
  have e (b : Fin 4) (n : Fin 16) (d : Fin 128) (r : Fin 256) : vals z (ix4 b n d r) = ISpec.vals H sh sc g W (ix4 b n d r) := by
    rw [vals_at z, hz]
    rfl
  exact funext fun i => (congrArg (vals z) (eta4 i)).trans ((e (i 0) (i 1) (i 2) (i 3)).trans (congrArg (ISpec.vals H sh sc g W) (eta4 i).symm))

theorem keys_eq : keys C T z = ISpec.keys H sh sc g W C T := by
  have e (b : Fin 4) (s : Fin 4096) (q : Fin 128) : keys C T z (ix3 b s q) = ISpec.keys H sh sc g W C T (ix3 b s q) := by
    rw [keys_at C T z]
    simp only [hz]
    rfl
  exact funext fun i => (congrArg (keys C T z) (eta3 i)).trans ((e (i 0) (i 1) (i 2)).trans (congrArg (ISpec.keys H sh sc g W C T) (eta3 i).symm))

theorem indices_eq : indices C T z = ISpec.indices H sh sc g W C T := by
  have e (b : Fin 4) (s : Fin 4096) (q : Fin 256) : indices C T z (ix3 b q s) = ISpec.indices H sh sc g W C T (ix3 b q s) := by
    rw [indices_at C T z]
    simp only [hz]
    rfl
  exact funext fun i => (congrArg (indices C T z) (eta3 i)).trans ((e (i 0) (i 2) (i 1)).trans (congrArg (ISpec.indices H sh sc g W C T) (eta3 i).symm))

theorem queries_eq : queries C T z = ISpec.queries H sh sc g W C T := by
  have e (b : Fin 4) (s : Fin 4096) (q : Fin 512) : queries C T z (ix3 b q s) = ISpec.queries H sh sc g W C T (ix3 b q s) := by
    rw [queries_at C T z]
    simp only [hz]
    rfl
  exact funext fun i => (congrArg (queries C T z) (eta3 i)).trans ((e (i 0) (i 2) (i 1)).trans (congrArg (ISpec.queries H sh sc g W C T) (eta3 i).symm))

omit hz in
theorem prod_at (b : Fin 4) (s : Fin 4096) (q : Fin 2372) : times W (rows H sh sc g) (ix3 b s q) = ISpec.Z H sh sc g W b s q := by
  rw [times_at W (rows H sh sc g) b s q]
  exact Finset.sum_congr rfl fun i _ => congrArg (fun e => e * W (ix2 i q)) (rows_at H sh sc g b s i)

end Cert.Proof.IRef

end
-- ==== Proof.IPay.lean ====
/- The values that a block of the projection call stores. -/
module

public import proofs.«01_k».proof.Proof.ISpec
public import proofs.«01_k».proof.Proof.Gen.Kernel3Ideal.Value

@[expose] public section

noncomputable section

namespace Cert.Proof.IPay

open Idealize.ShloMosaic Idealize.SL.Sem
open Cert.Kernel3Ideal Cert.Kernel3Ideal.Gen

theorem unit_at (x : FVec Ideal S1x512x1024 .f32) (g : FVec Ideal S1x1024 .f32) (sc sh : FVec Ideal S1x1x1024 .f32) (r : Fin 512) (i : Fin 1024) :
    k0_pay3 (F := Ideal) x g sc sh (ix2 r i) = ISpec.unit (fun k => x (ix3 0 r k)) (g (ix2 0 i)) (sc (ix3 0 0 i)) (sh (ix3 0 0 i)) i := by
  unfold k0_pay3 ISpec.unit
  pointwise

theorem rest_at (u : FVec Ideal S512x1024 .bf16) (w : FVec Ideal S1024x1280 .bf16) (r : Fin 512) (q : Fin 1280) :
    k0_pay2 (F := Ideal) u w (ix3 0 r q) = ∑ i : Fin 1024, u (ix2 r i) * w (ix2 i q) := by
  unfold k0_pay2
  pointwise

theorem low_lt (r : Fin 256) : r.val < 512 := by omega

theorem high_lt (r : Fin 256) : 256 + r.val < 512 := by omega

theorem low_at (u : FVec Ideal S512x1024 .bf16) (w : FVec Ideal S1024x128 .bf16) (d : Fin 128) (r : Fin 256) :
    k0_pay16 (F := Ideal) u w (ix4 0 0 d r) = ∑ i : Fin 1024, u (ix2 ⟨r.val, low_lt r⟩ i) * w (ix2 i d) := by
  unfold k0_pay16 k0_pay15
  pointwise

theorem high_at (u : FVec Ideal S512x1024 .bf16) (w : FVec Ideal S1024x128 .bf16) (d : Fin 128) (r : Fin 256) :
    k0_pay17 (F := Ideal) u w (ix4 0 0 d r) = ∑ i : Fin 1024, u (ix2 ⟨256 + r.val, high_lt r⟩ i) * w (ix2 i d) := by
  unfold k0_pay17 k0_pay15
  pointwise

end Cert.Proof.IPay

end
-- ==== Proof.IRope.lean ====
/- Turning pairs of columns by the rotary angles, as the projection call does it. -/
module

public import proofs.«01_k».proof.Proof.IPay

@[expose] public section

noncomputable section

namespace Cert.Proof.IRope

open Idealize.ShloMosaic
open Cert.Kernel3Ideal Cert.Kernel3Ideal.Gen

/-- Whether a lane is in the first half of its head, as the body finds it. -/
def word (d : Fin 128) : BitVec 1 :=
  let w : BitVec 32 := Scalar.select (Scalar.cmpi .eq 64#32 0#32) 1#32 64#32
  let v := IntOp.remsi .vector (BitVec.ofNat 32 d.val) w
  IntOp.cmpi .slt (Scalar.select (IntOp.andi (IntOp.xori (IntOp.cmpi .slt v 0#32) (Scalar.cmpi .slt w 0#32)) (IntOp.cmpi .ne v 0#32)) (IntOp.addi v w) v) 32#32

theorem word_eq : ∀ d : Fin 128, word d = BitVec.ofBool (decide (d.val % 64 < 32)) := by decide +kernel

variable (x0 : FVec Ideal S1x512x1024 .f32) (x1 x2 : FVec Ideal S1x1x1024 .f32) (x3 : FVec Ideal S1x1024 .f32)
  (x4 : FVec Ideal S1024x2432 .bf16) (x5 x6 : FVec Ideal S1x512x128 .f32)

theorem mask_at (r : Fin 512) (d : Fin 128) : k0_pay28 (F := Ideal) x0 x1 x2 x3 x4 x5 x6 (ix2 r d) = word d := by
  unfold k0_pay28 k0_pay27 k0_pay23 k0_pay7 k0_pay6 word
  pointwise

/-- A row's columns turned. -/
def turn (z : Fin 128 → EReal) (M : BitVec 1) (c s : EReal) (d : Fin 128) : EReal :=
  z d * c + Scalar.select M (z ⟨(d.val + 128 - 96) % 128, Nat.mod_lt _ (by decide)⟩) (z ⟨(d.val + 128 - 32) % 128, Nat.mod_lt _ (by decide)⟩) * s

section Queries
variable (u : FVec Ideal S512x1024 .bf16) (c s : FVec Ideal S512x128 .f32) (M : IVec S512x128 1) (w : FVec Ideal S1024x128 .bf16) (r : Fin 512) (d : Fin 128)

/-- A tile of 128 columns turned. -/
def tile : EReal := turn (fun d => ∑ i : Fin 1024, u (ix2 r i) * w (ix2 i d)) (M (ix2 r d)) (c (ix2 r d)) (s (ix2 r d)) d

theorem keys_at : k0_pay14 (F := Ideal) u c s M w (ix3 0 r d) = tile u c s M w r d := by
  unfold k0_pay14 tile turn
  pointwise

theorem query0_at (I : IVec S512x128 32) (n : BitVec 32) (N : IVec S512x128 32) :
    k0_pay8 (F := Ideal) u c s I n N w (ix3 0 d r) = tile u c s (k0_pay7 I n N) w r d * Ideal.ofBits .f32 0x3E000000#32 := by
  unfold k0_pay8 tile turn
  generalize k0_pay7 I n N = M
  pointwise

theorem query1_at (I : IVec S512x128 32) (n : BitVec 32) (N : IVec S512x128 32) :
    k0_pay10 (F := Ideal) (k0_pay9 (F := Ideal) u c s I n N w) (Scalar.ofBits .f32 0x3E000000#32) (ix3 0 d r)
      = tile u c s (k0_pay7 I n N) w r d * Ideal.ofBits .f32 0x3E000000#32 := by
  unfold k0_pay10 k0_pay9 tile turn
  generalize k0_pay7 I n N = M
  pointwise

theorem query2_at : k0_pay11 (F := Ideal) u c s M w (ix3 0 d r) = tile u c s M w r d * Ideal.ofBits .f32 0x3E000000#32 := by
  unfold k0_pay11 tile turn
  pointwise

theorem query3_at : k0_pay13 (F := Ideal) (k0_pay12 (F := Ideal) u c s M w) (ix3 0 d r) = tile u c s M w r d * Ideal.ofBits .f32 0x3E000000#32 := by
  unfold k0_pay13 k0_pay12 tile turn
  pointwise

theorem index0_at : k0_pay19 (F := Ideal) c s M (k0_pay18 (F := Ideal) u w) 96#32 (ix3 0 d r) = tile u c s M w r d := by
  unfold k0_pay19 k0_pay18 tile turn
  pointwise

theorem index1_at : k0_pay20 (F := Ideal) u c s M w (ix3 0 d r) = tile u c s M w r d := by
  unfold k0_pay20 tile turn
  pointwise

end Queries

end Cert.Proof.IRope

end
-- ==== Proof.IBlk.lean ====
/- The blocks that the projection call writes, from the blocks it reads. -/
module

public import proofs.«01_k».proof.Proof.IRope
public import Idealize.ShloMosaic.Lib.Pipeline.ValueKit.Geometry
public import Idealize.ShloMosaic.Lib.Pipeline.ValueKit.Tiles

@[expose] public section

noncomputable section

namespace Cert.Proof.IBlk

open Idealize.ShloMosaic
open Cert.Kernel3Ideal Cert.Kernel3Ideal.Gen

theorem one2 {n : ℕ} (x : (⟨3, ![1, n, 512]⟩ : Shape).Idx) : x = ix3 0 (x 1) (x 2) := funext fun a => by
  match a with
  | ⟨0, _⟩ => exact Fin.ext (Nat.lt_one_iff.mp (x 0).isLt)
  | ⟨1, _⟩ => rfl
  | ⟨2, _⟩ => rfl

theorem one11 (x : S1x1x128x256.Idx) : x = ix4 0 0 (x 2) (x 3) := funext fun a => by
  match a with
  | ⟨0, _⟩ => exact Fin.ext (Nat.lt_one_iff.mp (x 0).isLt)
  | ⟨1, _⟩ => exact Fin.ext (Nat.lt_one_iff.mp (x 1).isLt)
  | ⟨2, _⟩ => rfl
  | ⟨3, _⟩ => rfl

/-- Columns of the packed weights, read from a given one on. -/
theorem cols (X : FVec Ideal S1024x2432 .bf16) {n : ℕ} (o : ℕ) (h : ∀ a, (![0, o] : Fin 2 → ℕ) a + (![1024, n] : Fin 2 → ℕ) a ≤ S1024x2432.size a)
    (i : Fin 1024) (q : Fin n) (hq : o + q.val < 2432) :
    View.ld (Val := Elt Ideal) (e' := .bf16) X (Rect.unit (s := S1024x2432) ![0, o] ![1024, n] h) (ix2 i q) = X (ix2 i ⟨o + q.val, hq⟩) :=
  congrArg X (funext fun a => Fin.ext (by
    match a with
    | ⟨0, _⟩ => show 0 + 1 * i.val = i.val; omega
    | ⟨1, _⟩ => show o + 1 * q.val = o + q.val; omega))

variable (x0 : FVec Ideal S1x512x1024 .f32) (x1 x2 : FVec Ideal S1x1x1024 .f32) (x3 : FVec Ideal S1x1024 .f32)
  (x4 : FVec Ideal S1024x2432 .bf16) (x5 x6 : FVec Ideal S1x512x128 .f32)

/-- The normalised rows of a block. -/
def row (r : Fin 512) (i : Fin 1024) : EReal :=
  ISpec.unit (fun k => x0 (ix3 0 r k)) (x3 (ix2 0 i)) (x2 (ix3 0 0 i)) (x1 (ix3 0 0 i)) i

/-- Their product with the packed weights. -/
def prod (r : Fin 512) (q : Fin 2432) : EReal := ∑ i : Fin 1024, row x0 x1 x2 x3 r i * x4 (ix2 i q)

theorem norm_at (r : Fin 512) (i : Fin 1024) : k0_pay24 (F := Ideal) x0 x1 x2 x3 x4 x5 x6 (ix2 r i) = row x0 x1 x2 x3 r i := by
  unfold k0_pay24
  have e0 : View.ld (Val := Elt Ideal) (e' := .f32) x0 r0_0 = x0 := View.ld_unit_lit (Val := Elt Ideal) (S := S1x512x1024) (e := .f32) (off := ![0, 0, 0]) _ x0 (by decide)
  have e1 : View.ld (Val := Elt Ideal) (e' := .f32) x1 r0_2 = x1 := View.ld_unit_lit (Val := Elt Ideal) (S := S1x1x1024) (e := .f32) (off := ![0, 0, 0]) _ x1 (by decide)
  have e2 : View.ld (Val := Elt Ideal) (e' := .f32) x2 r0_2 = x2 := View.ld_unit_lit (Val := Elt Ideal) (S := S1x1x1024) (e := .f32) (off := ![0, 0, 0]) _ x2 (by decide)
  have e3 : View.ld (Val := Elt Ideal) (e' := .f32) x3 r0_1 = x3 := View.ld_unit_lit (Val := Elt Ideal) (S := S1x1024) (e := .f32) (off := ![0, 0]) _ x3 (by decide)
  refine (congrFun (congr (congr (congr (congrArg (k0_pay3 (F := Ideal)) e0) e3) e2) e1) _).trans ?_
  exact IPay.unit_at x0 x3 x2 x1 r i

/-- A sum over a block's normalised rows and some columns. -/
theorem sum_at {n : ℕ} (o : ℕ) (h : ∀ a, (![0, o] : Fin 2 → ℕ) a + (![1024, n] : Fin 2 → ℕ) a ≤ S1024x2432.size a) (r : Fin 512) (q : Fin n)
    (hq : o + q.val < 2432) :
    ∑ i : Fin 1024, k0_pay24 (F := Ideal) x0 x1 x2 x3 x4 x5 x6 (ix2 r i)
        * View.ld (Val := Elt Ideal) (e' := .bf16) x4 (Rect.unit (s := S1024x2432) ![0, o] ![1024, n] h) (ix2 i q)
      = prod x0 x1 x2 x3 x4 r ⟨o + q.val, hq⟩ :=
  Finset.sum_congr rfl fun i _ => by rw [norm_at, cols x4 o h i q hq]

theorem cos_at (r : Fin 512) (d : Fin 128) : k0_pay25 (F := Ideal) x0 x1 x2 x3 x4 x5 x6 (ix2 r d) = x5 (ix3 0 r d) := by
  unfold k0_pay25
  have e : View.ld (Val := Elt Ideal) (e' := .f32) x5 r0_3 = x5 := View.ld_unit_lit (Val := Elt Ideal) (S := S1x512x128) (e := .f32) (off := ![0, 0, 0]) _ x5 (by decide)
  refine (congrFun (congrArg (k0_pay4 (F := Ideal)) e) _).trans ?_
  unfold k0_pay4
  pointwise

theorem sin_at (r : Fin 512) (d : Fin 128) : k0_pay26 (F := Ideal) x0 x1 x2 x3 x4 x5 x6 (ix2 r d) = x6 (ix3 0 r d) := by
  unfold k0_pay26
  have e : View.ld (Val := Elt Ideal) (e' := .f32) x6 r0_3 = x6 := View.ld_unit_lit (Val := Elt Ideal) (S := S1x512x128) (e := .f32) (off := ![0, 0, 0]) _ x6 (by decide)
  refine (congrFun (congrArg (k0_pay5 (F := Ideal)) e) _).trans ?_
  unfold k0_pay5
  pointwise

theorem col_lt (o : ℕ) (ho : o + 128 ≤ 2432) (d : Fin 128) : o + d.val < 2432 := by omega

/-- A tile of 128 columns of a block, turned. -/
def turned (o : ℕ) (ho : o + 128 ≤ 2432) (r : Fin 512) (d : Fin 128) : EReal :=
  IRope.turn (fun d => prod x0 x1 x2 x3 x4 r ⟨o + d.val, col_lt o ho d⟩) (IRope.word d) (x5 (ix3 0 r d)) (x6 (ix3 0 r d)) d

theorem tile_at (o : ℕ) (ho : o + 128 ≤ 2432) (h : ∀ a, (![0, o] : Fin 2 → ℕ) a + (![1024, 128] : Fin 2 → ℕ) a ≤ S1024x2432.size a) (r : Fin 512) (d : Fin 128) :
    IRope.tile (k0_pay24 (F := Ideal) x0 x1 x2 x3 x4 x5 x6) (k0_pay25 (F := Ideal) x0 x1 x2 x3 x4 x5 x6) (k0_pay26 (F := Ideal) x0 x1 x2 x3 x4 x5 x6)
        (k0_pay28 (F := Ideal) x0 x1 x2 x3 x4 x5 x6) (View.ld (Val := Elt Ideal) (e' := .bf16) x4 (Rect.unit (s := S1024x2432) ![0, o] ![1024, 128] h)) r d
      = turned x0 x1 x2 x3 x4 x5 x6 o ho r d := by
  unfold IRope.tile turned
  rw [IRope.mask_at, cos_at, sin_at]
  exact congrArg (IRope.turn · _ _ _ d) (funext fun d => sum_at x0 x1 x2 x3 x4 x5 x6 o h r d (col_lt o ho d))

/-! ### The five blocks -/

theorem wide_lt (q : Fin 1280) : 1152 + q.val < 2432 := by omega

theorem out_rest (r : Fin 512) (q : Fin 1280) :
    out0_13 (F := Ideal) x0 x1 x2 x3 x4 x5 x6 (ix3 0 r q) = prod x0 x1 x2 x3 x4 r ⟨1152 + q.val, wide_lt q⟩ := by
  unfold out0_13
  refine (congrFun (View.canon_cons_unit_lit _ _ _ (by decide)) _).trans ?_
  exact (IPay.rest_at _ _ r q).trans (sum_at x0 x1 x2 x3 x4 x5 x6 1152 _ r q _)

theorem out_keys (r : Fin 512) (d : Fin 128) :
    out0_10 (F := Ideal) x0 x1 x2 x3 x4 x5 x6 (ix3 0 r d) = turned x0 x1 x2 x3 x4 x5 x6 512 (by decide) r d := by
  unfold out0_10
  refine (congrFun (View.canon_cons_unit_lit _ _ _ (by decide)) _).trans ?_
  exact (IRope.keys_at _ _ _ _ _ r d).trans (tile_at x0 x1 x2 x3 x4 x5 x6 512 _ _ r d)

theorem grp_lt (n : Fin 2) (r : Fin 256) : 256 * n.val + r.val < 512 := by omega

/-- The values of a block, its rows in two groups. -/
def vals (y : S1x2x128x256.Idx) : EReal := prod x0 x1 x2 x3 x4 ⟨256 * (y 1).val + (y 3).val, grp_lt (y 1) (y 3)⟩ ⟨640 + (y 2).val, col_lt 640 (by decide) (y 2)⟩

theorem out_vals (y : S1x2x128x256.Idx) : out0_12 (F := Ideal) x0 x1 x2 x3 x4 x5 x6 y = vals x0 x1 x2 x3 x4 y := by
  unfold out0_12
  refine View.canon_apply_of_pieces (Val := Elt Ideal) (e := .bf16) (vals x0 x1 x2 x3 x4) _ ?_ y (cover0_12 _ _ y)
  intro pc hpc
  rcases List.mem_cons.mp hpc with rfl | hpc
  · intro x
    refine (congrArg _ (one11 x)).trans ((IPay.high_at _ _ (x 2) (x 3)).trans ((sum_at x0 x1 x2 x3 x4 x5 x6 640 _ _ (x 2) (col_lt 640 (by decide) (x 2))).trans ?_))
    refine congrArg₂ (prod x0 x1 x2 x3 x4) (Fin.ext ?_) (Fin.ext ?_)
    · show 256 + (x 3).val = 256 * (1 + 1 * (x 1).val) + (0 + 1 * (x 3).val)
      have := Nat.lt_one_iff.mp (x 1).isLt
      omega
    · show 640 + (x 2).val = 640 + (0 + 1 * (x 2).val)
      omega
  rcases List.mem_cons.mp hpc with rfl | hpc
  · intro x
    refine (congrArg _ (one11 x)).trans ((IPay.low_at _ _ (x 2) (x 3)).trans ((sum_at x0 x1 x2 x3 x4 x5 x6 640 _ _ (x 2) (col_lt 640 (by decide) (x 2))).trans ?_))
    refine congrArg₂ (prod x0 x1 x2 x3 x4) (Fin.ext ?_) (Fin.ext ?_)
    · show (x 3).val = 256 * (0 + 1 * (x 1).val) + (0 + 1 * (x 3).val)
      have := Nat.lt_one_iff.mp (x 1).isLt
      omega
    · show 640 + (x 2).val = 640 + (0 + 1 * (x 2).val)
      omega
  nomatch hpc

theorem query_lt (q : Fin 512) : 128 * (q.val / 128) + 128 ≤ 2432 := by omega

theorem index_lt (q : Fin 256) : 768 + 128 * (q.val / 128) + 128 ≤ 2432 := by omega

/-- The lane of a column in its tile. -/
def lane (q : ℕ) : Fin 128 := ⟨q % 128, Nat.mod_lt _ (by decide)⟩

/-- The queries of a block. -/
def queries (y : S1x512x512.Idx) : EReal :=
  turned x0 x1 x2 x3 x4 x5 x6 (128 * ((y 1).val / 128)) (query_lt (y 1)) (y 2) (lane (y 1).val) * Ideal.ofBits .f32 0x3E000000#32

/-- The index queries of a block. -/
def indices (y : S1x256x512.Idx) : EReal :=
  turned x0 x1 x2 x3 x4 x5 x6 (768 + 128 * ((y 1).val / 128)) (index_lt (y 1)) (y 2) (lane (y 1).val)

theorem turned_congr {o o' : ℕ} {ho : o + 128 ≤ 2432} {ho' : o' + 128 ≤ 2432} {r r' : Fin 512} {d d' : Fin 128} (e : o = o') (er : r = r') (ed : d = d') :
    turned x0 x1 x2 x3 x4 x5 x6 o ho r d = turned x0 x1 x2 x3 x4 x5 x6 o' ho' r' d' := by
  subst e er ed; rfl

theorem out_queries (y : S1x512x512.Idx) : out0_7 (F := Ideal) x0 x1 x2 x3 x4 x5 x6 y = queries x0 x1 x2 x3 x4 x5 x6 y := by
  unfold out0_7
  refine View.canon_apply_of_pieces (Val := Elt Ideal) (e := .bf16) (queries x0 x1 x2 x3 x4 x5 x6) _ ?_ y (cover0_7 _ _ _ _ y)
  intro pc hpc
  rcases List.mem_cons.mp hpc with rfl | hpc
  · intro x
    refine (congrArg _ (one2 x)).trans ((IRope.query3_at _ _ _ _ _ (x 2) (x 1)).trans (congrArg (· * _) ((tile_at x0 x1 x2 x3 x4 x5 x6 384 (by decide) _ (x 2) (x 1)).trans ?_)))
    refine turned_congr x0 x1 x2 x3 x4 x5 x6 ?_ (Fin.ext ?_) (Fin.ext ?_)
    · show 384 = 128 * ((384 + 1 * (x 1).val) / 128)
      have : (x 1).val < 128 := (x 1).isLt
      omega
    · show (x 2).val = 0 + 1 * (x 2).val
      omega
    · show (x 1).val = (384 + 1 * (x 1).val) % 128
      have : (x 1).val < 128 := (x 1).isLt
      omega
  rcases List.mem_cons.mp hpc with rfl | hpc
  · intro x
    refine (congrArg _ (one2 x)).trans ((IRope.query2_at _ _ _ _ _ (x 2) (x 1)).trans (congrArg (· * _) ((tile_at x0 x1 x2 x3 x4 x5 x6 256 (by decide) _ (x 2) (x 1)).trans ?_)))
    refine turned_congr x0 x1 x2 x3 x4 x5 x6 ?_ (Fin.ext ?_) (Fin.ext ?_)
    · show 256 = 128 * ((256 + 1 * (x 1).val) / 128)
      have : (x 1).val < 128 := (x 1).isLt
      omega
    · show (x 2).val = 0 + 1 * (x 2).val
      omega
    · show (x 1).val = (256 + 1 * (x 1).val) % 128
      have : (x 1).val < 128 := (x 1).isLt
      omega
  rcases List.mem_cons.mp hpc with rfl | hpc
  · intro x
    refine (congrArg _ (one2 x)).trans ((IRope.query1_at _ _ _ _ (x 2) (x 1) _ _ _).trans (congrArg (· * _) ((tile_at x0 x1 x2 x3 x4 x5 x6 128 (by decide) _ (x 2) (x 1)).trans ?_)))
    refine turned_congr x0 x1 x2 x3 x4 x5 x6 ?_ (Fin.ext ?_) (Fin.ext ?_)
    · show 128 = 128 * ((128 + 1 * (x 1).val) / 128)
      have : (x 1).val < 128 := (x 1).isLt
      omega
    · show (x 2).val = 0 + 1 * (x 2).val
      omega
    · show (x 1).val = (128 + 1 * (x 1).val) % 128
      have : (x 1).val < 128 := (x 1).isLt
      omega
  rcases List.mem_cons.mp hpc with rfl | hpc
  · intro x
    refine (congrArg _ (one2 x)).trans ((IRope.query0_at _ _ _ _ (x 2) (x 1) _ _ _).trans (congrArg (· * _) ((tile_at x0 x1 x2 x3 x4 x5 x6 0 (by decide) _ (x 2) (x 1)).trans ?_)))
    refine turned_congr x0 x1 x2 x3 x4 x5 x6 ?_ (Fin.ext ?_) (Fin.ext ?_)
    · show 0 = 128 * ((0 + 1 * (x 1).val) / 128)
      have : (x 1).val < 128 := (x 1).isLt
      omega
    · show (x 2).val = 0 + 1 * (x 2).val
      omega
    · show (x 1).val = (0 + 1 * (x 1).val) % 128
      have : (x 1).val < 128 := (x 1).isLt
      omega
  nomatch hpc

theorem out_indices (y : S1x256x512.Idx) : out0_8 (F := Ideal) x0 x1 x2 x3 x4 x5 x6 y = indices x0 x1 x2 x3 x4 x5 x6 y := by
  unfold out0_8
  refine View.canon_apply_of_pieces (Val := Elt Ideal) (e := .bf16) (indices x0 x1 x2 x3 x4 x5 x6) _ ?_ y (cover0_8 _ _ y)
  intro pc hpc
  rcases List.mem_cons.mp hpc with rfl | hpc
  · intro x
    refine (congrArg _ (one2 x)).trans ((IRope.index1_at _ _ _ _ _ (x 2) (x 1)).trans ((tile_at x0 x1 x2 x3 x4 x5 x6 896 (by decide) _ (x 2) (x 1)).trans ?_))
    refine turned_congr x0 x1 x2 x3 x4 x5 x6 ?_ (Fin.ext ?_) (Fin.ext ?_)
    · show 896 = 768 + 128 * ((128 + 1 * (x 1).val) / 128)
      have : (x 1).val < 128 := (x 1).isLt
      omega
    · show (x 2).val = 0 + 1 * (x 2).val
      omega
    · show (x 1).val = (128 + 1 * (x 1).val) % 128
      have : (x 1).val < 128 := (x 1).isLt
      omega
  rcases List.mem_cons.mp hpc with rfl | hpc
  · intro x
    refine (congrArg _ (one2 x)).trans ((IRope.index0_at _ _ _ _ _ (x 2) (x 1)).trans ((tile_at x0 x1 x2 x3 x4 x5 x6 768 (by decide) _ (x 2) (x 1)).trans ?_))
    refine turned_congr x0 x1 x2 x3 x4 x5 x6 ?_ (Fin.ext ?_) (Fin.ext ?_)
    · show 768 = 768 + 128 * ((0 + 1 * (x 1).val) / 128)
      have : (x 1).val < 128 := (x 1).isLt
      omega
    · show (x 2).val = 0 + 1 * (x 2).val
      omega
    · show (x 1).val = (0 + 1 * (x 1).val) % 128
      have : (x 1).val < 128 := (x 1).isLt
      omega
  nomatch hpc

end Cert.Proof.IBlk

end
-- ==== Proof.IMeet.lean ====
/- The blocks that the projection call writes are blocks of the formula. -/
module

public import proofs.«01_k».proof.Proof.IBlk

@[expose] public section

noncomputable section

namespace Cert.Proof.IMeet

open Idealize.ShloMosaic
open Cert.Kernel3Ideal Cert.Kernel3Ideal.Gen

variable (x0 : FVec Ideal S1x512x1024 .f32) (x1 x2 : FVec Ideal S1x1x1024 .f32) (x3 : FVec Ideal S1x1024 .f32)
  (x4 : FVec Ideal S1024x2432 .bf16) (x5 x6 : FVec Ideal S1x512x128 .f32)

variable (H : (⟨3, ![4, 4096, 1024]⟩ : Shape).Idx → EReal) (sh sc : (⟨3, ![4, 1, 1024]⟩ : Shape).Idx → EReal)
  (g : (⟨2, ![1, 1024]⟩ : Shape).Idx → EReal) (W : (⟨2, ![1024, 2372]⟩ : Shape).Idx → EReal) (C T : (⟨3, ![4, 4096, 32]⟩ : Shape).Idx → EReal)
  (b : Fin 4) (n : Fin 8)

theorem at_lt (r : Fin 512) : 512 * n.val + r.val < 4096 := by omega

/-- Row `r` of block `n`. -/
def at_ (r : Fin 512) : Fin 4096 := ⟨512 * n.val + r.val, at_lt n r⟩

/-- The angle of a lane. -/
def ang (d : Fin 128) : Fin 32 := ⟨d.val % 32, Nat.mod_lt _ (by decide)⟩

/-- The blocks read at block `n` of batch entry `b`. -/
structure Reads : Prop where
  rows : ∀ (r : Fin 512) (k : Fin 1024), x0 (ix3 0 r k) = H (ix3 b (at_ n r) k)
  shift : ∀ i : Fin 1024, x1 (ix3 0 0 i) = sh (ix3 b 0 i)
  scale : ∀ i : Fin 1024, x2 (ix3 0 0 i) = sc (ix3 b 0 i)
  gain : ∀ i : Fin 1024, x3 (ix2 0 i) = g (ix2 0 i)
  low : ∀ (i : Fin 1024) (q : ℕ) (h : q < 1088), x4 (ix2 i ⟨q, by omega⟩) = W (ix2 i ⟨q, by omega⟩)
  high : ∀ (i : Fin 1024) (q : Fin 1280), x4 (ix2 i ⟨1152 + q.val, by omega⟩) = W (ix2 i ⟨1092 + q.val, by omega⟩)
  cos : ∀ (r : Fin 512) (d : Fin 128), x5 (ix3 0 r d) = C (ix3 b (at_ n r) (ang d))
  sin : ∀ (r : Fin 512) (d : Fin 128), x6 (ix3 0 r d) = if d.val % 64 < 32 then -T (ix3 b (at_ n r) (ang d)) else T (ix3 b (at_ n r) (ang d))

variable (R : Reads x0 x1 x2 x3 x4 x5 x6 H sh sc g W C T b n)
include R

theorem row_eq (r : Fin 512) (i : Fin 1024) : IBlk.row x0 x1 x2 x3 r i = ISpec.U H sh sc g b (at_ n r) i := by
  unfold IBlk.row ISpec.U
  rw [R.gain, R.scale, R.shift]
  exact congrArg (ISpec.unit · _ _ _ i) (funext fun k => R.rows r k)

theorem low_eq (r : Fin 512) (q : ℕ) (h : q < 1088) :
    IBlk.prod x0 x1 x2 x3 x4 r ⟨q, by omega⟩ = ISpec.Z H sh sc g W b (at_ n r) ⟨q, by omega⟩ :=
  Finset.sum_congr rfl fun i _ => by rw [row_eq _ _ _ _ _ _ _ _ _ _ _ _ _ _ _ _ R, R.low i q h]

theorem high_eq (r : Fin 512) (q : Fin 1280) :
    IBlk.prod x0 x1 x2 x3 x4 r ⟨1152 + q.val, by omega⟩ = ISpec.Z H sh sc g W b (at_ n r) ⟨1092 + q.val, by omega⟩ :=
  Finset.sum_congr rfl fun i _ => by rw [row_eq _ _ _ _ _ _ _ _ _ _ _ _ _ _ _ _ R, R.high i q]

omit R in
/-- The body's turn of 128 lanes, two heads side by side, is the formula's of the lane's head. -/
theorem turn_eq (z : Fin 128 → EReal) (c t : Fin 32 → EReal) (d : Fin 128) :
    IRope.turn z (IRope.word d) (c (ang d)) (if d.val % 64 < 32 then -t (ang d) else t (ang d)) d
      = ISpec.turn (fun e => z ⟨64 * (d.val / 64) + e.val, by omega⟩) c t ⟨d.val % 64, Nat.mod_lt _ (by decide)⟩ := by
  have e0 : (⟨64 * (d.val / 64) + d.val % 64, by omega⟩ : Fin 128) = d := Fin.ext (Nat.div_add_mod _ _)
  unfold IRope.turn ISpec.turn
  rw [IRope.word_eq]
  by_cases h : d.val % 64 < 32
  · rw [dif_pos h, if_pos h, decide_eq_true h]
    have e1 : (⟨(d.val + 128 - 96) % 128, Nat.mod_lt _ (by decide)⟩ : Fin 128) = ⟨64 * (d.val / 64) + (d.val % 64 + 32), by omega⟩ :=
      Fin.ext (show (d.val + 128 - 96) % 128 = 64 * (d.val / 64) + (d.val % 64 + 32) by omega)
    have e2 : ang d = ⟨d.val % 64, h⟩ := Fin.ext (show d.val % 32 = d.val % 64 by omega)
    show z d * c (ang d) + z ⟨(d.val + 128 - 96) % 128, _⟩ * -t (ang d) = _
    rw [e1, e2, mul_neg, ← sub_eq_add_neg]
    dsimp only
    rw [e0]
  · rw [dif_neg h, if_neg h, decide_eq_false h]
    have e1 : (⟨(d.val + 128 - 32) % 128, Nat.mod_lt _ (by decide)⟩ : Fin 128) = ⟨64 * (d.val / 64) + (d.val % 64 - 32), by omega⟩ :=
      Fin.ext (show (d.val + 128 - 32) % 128 = 64 * (d.val / 64) + (d.val % 64 - 32) by omega)
    have e2 : ang d = ⟨d.val % 64 - 32, by omega⟩ := Fin.ext (show d.val % 32 = d.val % 64 - 32 by omega)
    show z d * c (ang d) + z ⟨(d.val + 128 - 32) % 128, _⟩ * t (ang d) = _
    rw [e1, e2]
    dsimp only
    rw [e0]

/-- A tile of 128 lanes of a block, turned, holds two heads of the formula. -/
theorem turned_eq (o : ℕ) (ho : o + 128 ≤ 1088) (ho' : o + 128 ≤ 2432) (r : Fin 512) (d : Fin 128) :
    IBlk.turned x0 x1 x2 x3 x4 x5 x6 o ho' r d
      = ISpec.turn (fun e => ISpec.Z H sh sc g W b (at_ n r) ⟨o + (64 * (d.val / 64) + e.val), by omega⟩)
        (fun e => C (ix3 b (at_ n r) e)) (fun e => T (ix3 b (at_ n r) e)) ⟨d.val % 64, Nat.mod_lt _ (by decide)⟩ := by
  unfold IBlk.turned
  rw [R.cos, R.sin]
  refine (turn_eq _ (fun e => C (ix3 b (at_ n r) e)) (fun e => T (ix3 b (at_ n r) e)) d).trans ?_
  refine congrArg (ISpec.turn · _ _ _) (funext fun e => ?_)
  exact low_eq _ _ _ _ _ _ _ _ _ _ _ _ _ _ _ _ R r _ (by omega)

theorem rest_eq (r : Fin 512) (q : Fin 1280) :
    out0_13 (F := Ideal) x0 x1 x2 x3 x4 x5 x6 (ix3 0 r q) = ISpec.rest H sh sc g W (ix3 b (at_ n r) q) :=
  (IBlk.out_rest x0 x1 x2 x3 x4 x5 x6 r q).trans (high_eq _ _ _ _ _ _ _ _ _ _ _ _ _ _ _ _ R r q)

theorem keys_eq (r : Fin 512) (d : Fin 128) :
    out0_10 (F := Ideal) x0 x1 x2 x3 x4 x5 x6 (ix3 0 r d) = ISpec.keys H sh sc g W C T (ix3 b (at_ n r) d) :=
  (IBlk.out_keys x0 x1 x2 x3 x4 x5 x6 r d).trans (turned_eq _ _ _ _ _ _ _ _ _ _ _ _ _ _ _ _ R 512 (by decide) (by decide) r d)

theorem vals_eq (k : Fin 2) (d : Fin 128) (r : Fin 256) :
    out0_12 (F := Ideal) x0 x1 x2 x3 x4 x5 x6 (ix4 0 k d r) = ISpec.vals H sh sc g W (ix4 b ⟨2 * n.val + k.val, by omega⟩ d r) := by
  refine (IBlk.out_vals x0 x1 x2 x3 x4 x5 x6 _).trans ((low_eq _ _ _ _ _ _ _ _ _ _ _ _ _ _ _ _ R ⟨256 * k.val + r.val, IBlk.grp_lt k r⟩ (640 + d.val) (by omega)).trans ?_)
  unfold ISpec.vals
  refine congrArg (ISpec.Z H sh sc g W b · _) (Fin.ext ?_)
  show 512 * n.val + (256 * k.val + r.val) = 256 * (2 * n.val + k.val) + r.val
  omega

theorem queries_eq (q : Fin 512) (r : Fin 512) :
    out0_7 (F := Ideal) x0 x1 x2 x3 x4 x5 x6 (ix3 0 q r) = ISpec.queries H sh sc g W C T (ix3 b q (at_ n r)) := by
  refine (IBlk.out_queries x0 x1 x2 x3 x4 x5 x6 _).trans (congrArg (· * _) ?_)
  refine (turned_eq _ _ _ _ _ _ _ _ _ _ _ _ _ _ _ _ R (128 * (q.val / 128)) (by omega) _ r (IBlk.lane q.val)).trans ?_
  unfold ISpec.head
  have e : (⟨(IBlk.lane q.val).val % 64, Nat.mod_lt _ (by decide)⟩ : Fin 64) = ⟨q.val % 64, Nat.mod_lt _ (by decide)⟩ :=
    Fin.ext (show q.val % 128 % 64 = q.val % 64 by omega)
  rw [e]
  refine congrArg (ISpec.turn · _ _ _) (funext fun k => congrArg (ISpec.Z H sh sc g W b _) (Fin.ext ?_))
  show 128 * (q.val / 128) + (64 * (q.val % 128 / 64) + k.val) = 0 + (64 * (q.val / 64) + k.val)
  omega

theorem indices_eq (q : Fin 256) (r : Fin 512) :
    out0_8 (F := Ideal) x0 x1 x2 x3 x4 x5 x6 (ix3 0 q r) = ISpec.indices H sh sc g W C T (ix3 b q (at_ n r)) := by
  refine (IBlk.out_indices x0 x1 x2 x3 x4 x5 x6 _).trans ?_
  refine (turned_eq _ _ _ _ _ _ _ _ _ _ _ _ _ _ _ _ R (768 + 128 * (q.val / 128)) (by omega) _ r (IBlk.lane q.val)).trans ?_
  unfold ISpec.indices ISpec.head
  have e : (⟨(IBlk.lane q.val).val % 64, Nat.mod_lt _ (by decide)⟩ : Fin 64) = ⟨q.val % 64, Nat.mod_lt _ (by decide)⟩ :=
    Fin.ext (show q.val % 128 % 64 = q.val % 64 by omega)
  rw [e]
  refine congrArg (ISpec.turn · _ _ _) (funext fun k => congrArg (ISpec.Z H sh sc g W b _) (Fin.ext ?_))
  show 768 + 128 * (q.val / 128) + (64 * (q.val % 128 / 64) + k.val) = 768 + (64 * (q.val / 64) + k.val)
  omega

end Cert.Proof.IMeet

end
-- ==== Proof.IValue.lean ====
/- The projection call's results, whole. -/
module

public import proofs.«01_k».proof.Proof.IMeet

@[expose] public section

noncomputable section

namespace Cert.Proof.IValue

open Idealize.ShloMosaic Idealize.ShloMosaic.TcCoe Idealize.SL.Sem
open Cert.Kernel3Ideal Cert.Kernel3Ideal.Gen Cert.Kernel3Ideal.Value

/-! ### The host's arrays -/

section Host
variable {F : FTy → Type} [FloatOps F]

/-- The cosines of a head's angles, for 128 lanes. -/
def cosT (C : FVec F S4x4096x32 .f32) : FVec F S4x4096x128 .f32 :=
  concatenate S4x4096x128 2 [⟨S4x4096x32, C⟩, ⟨S4x4096x32, C⟩, ⟨S4x4096x32, C⟩, ⟨S4x4096x32, C⟩] concatenates_S4x4096x32_S4x4096x32_S4x4096x32_S4x4096x32_S4x4096x128_d2

/-- The sines, a head's first half negated. -/
def sinT (T : FVec F S4x4096x32 .f32) : FVec F S4x4096x128 .f32 :=
  concatenate S4x4096x128 2 [⟨S4x4096x32, Host.negf T⟩, ⟨S4x4096x32, T⟩, ⟨S4x4096x32, Host.negf T⟩, ⟨S4x4096x32, T⟩] concatenates_S4x4096x32_S4x4096x32_S4x4096x32_S4x4096x32_S4x4096x128_d2

/-- The weights, 60 columns of zeros put in after column 1092. -/
def pack (W : FVec F S1024x2372 .f32) : FVec F S1024x2432 .bf16 :=
  truncf .bf16 (concatenate S1024x2432 1 [⟨S1024x1088, extractStridedSlice S1024x1088 ![0, 0] W slices_S1024x2372_S1024x1088_0_0⟩,
    ⟨S1024x4, extractStridedSlice S1024x4 ![0, 1088] W slices_S1024x2372_S1024x4_0_1088⟩,
    ⟨S1024x60, broadcastInDim S1024x60 ![] bcast_S_S1024x60 (constant S_ .f32 0x00000000#32)⟩,
    ⟨S1024x1280, extractStridedSlice S1024x1280 ![0, 1092] W slices_S1024x2372_S1024x1280_0_1092⟩]
    concatenates_S1024x1088_S1024x4_S1024x60_S1024x1280_S1024x2432_d1) bitsLt_bf16_f32

variable (m : (ℓ : Loc nD τ sig) → Buf (Elt F) ℓ) (c : Dev nD)

theorem cos_eq : V m c main_v0 = cosT (m ((c : Thread nD τ).loc main_arg5)) := by
  unfold V hostOps0
  after_results_simp <;> (try dsimp only [Matrix.cons_val]) <;> (try after_results_simp) <;> rfl

theorem sin_eq : V m c main_v2 = sinT (m ((c : Thread nD τ).loc main_arg6)) := by
  unfold V hostOps0
  after_results_simp <;> (try dsimp only [Matrix.cons_val]) <;> (try after_results_simp) <;> rfl

theorem pack_eq : V m c main_v8 = pack (m ((c : Thread nD τ).loc main_arg4)) := by
  unfold V hostOps0
  after_results_simp <;> (try dsimp only [Matrix.cons_val]) <;> (try after_results_simp) <;> rfl

end Host

theorem cosT_at (C : FVec Ideal S4x4096x32 .f32) (b : Fin 4) (s : Fin 4096) (d : Fin 128) : cosT C (ix3 b s d) = C (ix3 b s (IMeet.ang d)) := by
  unfold cosT
  pointwise
  have hd := d.isLt
  split_ifs <;> exact congrArg (fun e => C (ix3 b s e)) (Fin.ext (by dsimp only [IMeet.ang]; omega))

theorem sinT_at (T : FVec Ideal S4x4096x32 .f32) (b : Fin 4) (s : Fin 4096) (d : Fin 128) :
    sinT T (ix3 b s d) = if d.val % 64 < 32 then -T (ix3 b s (IMeet.ang d)) else T (ix3 b s (IMeet.ang d)) := by
  unfold sinT
  pointwise
  have hd := d.isLt
  by_cases h1 : d.val < 32
  · rw [dif_pos h1]
    refine Eq.trans (congrArg (fun e => -T (ix3 b s e)) (?_ : _ = IMeet.ang d)) (if_pos (by omega)).symm
    exact Fin.ext (by dsimp only [IMeet.ang] <;> omega)
  rw [dif_neg h1]
  by_cases h2 : d.val - 32 < 32
  · rw [dif_pos h2]
    refine Eq.trans (congrArg (fun e => T (ix3 b s e)) (?_ : _ = IMeet.ang d)) (if_neg (by omega)).symm
    exact Fin.ext (by dsimp only [IMeet.ang] <;> omega)
  rw [dif_neg h2]
  by_cases h3 : d.val - 32 - 32 < 32
  · rw [dif_pos h3]
    refine Eq.trans (congrArg (fun e => -T (ix3 b s e)) (?_ : _ = IMeet.ang d)) (if_pos (by omega)).symm
    exact Fin.ext (by dsimp only [IMeet.ang] <;> omega)
  rw [dif_neg h3]
  refine Eq.trans (congrArg (fun e => T (ix3 b s e)) (?_ : _ = IMeet.ang d)) (if_neg (by omega)).symm
  exact Fin.ext (by dsimp only [IMeet.ang] <;> omega)

theorem pack_low (W : FVec Ideal S1024x2372 .f32) (i : Fin 1024) (q : ℕ) (h : q < 1088) : pack W (ix2 i ⟨q, by omega⟩) = W (ix2 i ⟨q, by omega⟩) := by
  unfold pack
  pointwise
  rw [dif_pos h]

theorem pack_high (W : FVec Ideal S1024x2372 .f32) (i : Fin 1024) (q : Fin 1280) :
    pack W (ix2 i ⟨1152 + q.val, by omega⟩) = W (ix2 i ⟨1092 + q.val, by omega⟩) := by
  unfold pack
  pointwise
  rw [dif_neg (by omega), dif_neg (by omega), dif_neg (by omega)]
  exact congrArg (fun e => W (ix2 i e)) (Fin.ext (by dsimp only; omega))

/-! ### The blocks read -/

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, 0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, (grid0.coords t 1).val, 0] := (by decide +kernel : ∀ t : Fin grid0.N, _)
theorem idx6 : ∀ t : Fin cfg0.N, win0_6.index t = ![(grid0.coords t 0).val, (grid0.coords t 1).val, 0] := (by decide +kernel : ∀ t : Fin grid0.N, _)
theorem idx7 : ∀ t : Fin cfg0.N, win0_7.index t = ![(grid0.coords t 0).val, 0, (grid0.coords t 1).val] := (by decide +kernel : ∀ t : Fin grid0.N, _)
theorem idx8 : ∀ t : Fin cfg0.N, win0_8.index t = ![(grid0.coords t 0).val, 0, (grid0.coords t 1).val] := (by decide +kernel : ∀ t : Fin grid0.N, _)
theorem idx10 : ∀ t : Fin cfg0.N, win0_10.index t = ![(grid0.coords t 0).val, (grid0.coords t 1).val, 0] := (by decide +kernel : ∀ t : Fin grid0.N, _)
theorem idx12 : ∀ t : Fin cfg0.N, win0_12.index t = ![(grid0.coords t 0).val, (grid0.coords t 1).val, 0, 0] := (by decide +kernel : ∀ t : Fin grid0.N, _)
theorem idx13 : ∀ t : Fin cfg0.N, win0_13.index t = ![(grid0.coords t 0).val, (grid0.coords t 1).val, 0] := (by decide +kernel : ∀ t : Fin grid0.N, _)

/-- The batch entry of a point. -/
def bat (t : Fin cfg0.N) : Fin 4 := grid0.coords t 0

/-- The block of a point. -/
def blk (t : Fin cfg0.N) : Fin 8 := grid0.coords t 1

variable (m : (ℓ : Loc nD τ sig) → Buf (Elt Ideal) ℓ) (c : Dev nD)

/-- The arguments, as functions. -/
abbrev aH : (⟨3, ![4, 4096, 1024]⟩ : Shape).Idx → EReal := m ((c : Thread nD τ).loc main_arg0)
abbrev aSh : (⟨3, ![4, 1, 1024]⟩ : Shape).Idx → EReal := m ((c : Thread nD τ).loc main_arg1)
abbrev aSc : (⟨3, ![4, 1, 1024]⟩ : Shape).Idx → EReal := m ((c : Thread nD τ).loc main_arg2)
abbrev aG : (⟨2, ![1, 1024]⟩ : Shape).Idx → EReal := m ((c : Thread nD τ).loc main_arg3)
abbrev aW : (⟨2, ![1024, 2372]⟩ : Shape).Idx → EReal := m ((c : Thread nD τ).loc main_arg4)
abbrev aC : (⟨3, ![4, 4096, 32]⟩ : Shape).Idx → EReal := m ((c : Thread nD τ).loc main_arg5)
abbrev aT : (⟨3, ![4, 4096, 32]⟩ : Shape).Idx → EReal := m ((c : Thread nD τ).loc main_arg6)

theorem bat_val (t : Fin cfg0.N) : (bat t).val = (grid0.coords t 0).val := rfl

theorem row_val (t : Fin cfg0.N) (r : Fin 512) : (IMeet.at_ (blk t) r).val = (grid0.coords t 1).val * 512 + r.val :=
  congrArg (· + r.val) (Nat.mul_comm 512 (grid0.coords t 1).val)

theorem one3 {p q : ℕ} (y : (⟨3, ![1, p, q]⟩ : Shape).Idx) : y = ix3 0 (y 1) (y 2) := by
  funext a
  fin_cases a
  · exact Subsingleton.elim (α := Fin 1) _ _
  · rfl
  · rfl

theorem one4 {p q r : ℕ} (y : (⟨4, ![1, p, q, r]⟩ : Shape).Idx) : y = ix4 0 (y 1) (y 2) (y 3) := by
  funext a
  fin_cases a
  · exact Subsingleton.elim (α := Fin 1) _ _
  · rfl
  · rfl
  · rfl

theorem reads (t : Fin cfg0.N) : IMeet.Reads (iblk m c 0 t) (iblk m c 1 t) (iblk m c 2 t) (iblk m c 3 t) (iblk m c 4 t) (iblk m c 5 t) (iblk m c 6 t)
    (aH m c) (aSh m c) (aSc m c) (aG m c) (aW m c) (aC m c) (aT m c) (bat t) (blk t) where
  rows r k := by
    blk_simp [iblk]
    show V m c main_arg0 _ = _
    rw [V_main_arg0]
    refine congrArg (m ((c : Thread nD τ).loc main_arg0)) ?_
    blk_ext [idx0 t, bat_val t, row_val t r]
  shift i := by
    blk_simp [iblk]
    show V m c main_arg1 _ = _
    rw [V_main_arg1]
    refine congrArg (m ((c : Thread nD τ).loc main_arg1)) ?_
    blk_ext [idx1 t, bat_val t]
  scale i := by
    blk_simp [iblk]
    show V m c main_arg2 _ = _
    rw [V_main_arg2]
    refine congrArg (m ((c : Thread nD τ).loc main_arg2)) ?_
    blk_ext [idx2 t, bat_val t]
  gain i := by
    blk_simp [iblk]
    show V m c main_arg3 _ = _
    rw [V_main_arg3]
    refine congrArg (m ((c : Thread nD τ).loc main_arg3)) ?_
    blk_ext [idx3 t]
  low i q h := by
    blk_simp [iblk]
    show V m c main_v8 _ = _
    rw [pack_eq]
    refine Eq.trans (congrArg _ ?_) (pack_low _ i q h)
    blk_ext [idx4 t]
  high i q := by
    blk_simp [iblk]
    show V m c main_v8 _ = _
    rw [pack_eq]
    refine Eq.trans (congrArg _ ?_) (pack_high _ i q)
    blk_ext [idx4 t]
  cos r d := by
    blk_simp [iblk]
    show V m c main_v0 _ = _
    rw [cos_eq]
    refine Eq.trans (congrArg _ ?_) (cosT_at _ (bat t) (IMeet.at_ (blk t) r) d)
    blk_ext [idx5 t, bat_val t, row_val t r]
  sin r d := by
    blk_simp [iblk]
    show V m c main_v2 _ = _
    rw [sin_eq]
    refine Eq.trans (congrArg _ ?_) (sinT_at _ (bat t) (IMeet.at_ (blk t) r) d)
    blk_ext [idx6 t, bat_val t, row_val t r]

/-! ### The arrays written -/

theorem final7 : (dats m 0 c).arrAt 7 cfg0.N = ISpec.queries (aH m c) (aSh m c) (aSc m c) (aG m c) (aW m c) (aC m c) (aT m c) := by
  refine (dats m 0 c).arrAt_eq_of_covers 7 _ (by decide +kernel) fun t hf y => ?_
  blk_simp
  rw [after0_7]
  refine Eq.trans (congrArg _ (one3 y)) ((IMeet.queries_eq _ _ _ _ _ _ _ _ _ _ _ _ _ _ _ _ (reads m c t) (y 1) (y 2)).trans (congrArg _ ?_))
  blk_ext [idx7 t, bat_val t, row_val t (y 2)]

theorem final8 : (dats m 0 c).arrAt 8 cfg0.N = ISpec.indices (aH m c) (aSh m c) (aSc m c) (aG m c) (aW m c) (aC m c) (aT m c) := by
  refine (dats m 0 c).arrAt_eq_of_covers 8 _ (by decide +kernel) fun t hf y => ?_
  blk_simp
  rw [after0_8]
  refine Eq.trans (congrArg _ (one3 y)) ((IMeet.indices_eq _ _ _ _ _ _ _ _ _ _ _ _ _ _ _ _ (reads m c t) (y 1) (y 2)).trans (congrArg _ ?_))
  blk_ext [idx8 t, bat_val t, row_val t (y 2)]

theorem final10 : (dats m 0 c).arrAt 10 cfg0.N = ISpec.keys (aH m c) (aSh m c) (aSc m c) (aG m c) (aW m c) (aC m c) (aT m c) := by
  refine (dats m 0 c).arrAt_eq_of_covers 10 _ (by decide +kernel) fun t hf y => ?_
  blk_simp
  rw [after0_10]
  refine Eq.trans (congrArg _ (one3 y)) ((IMeet.keys_eq _ _ _ _ _ _ _ _ _ _ _ _ _ _ _ _ (reads m c t) (y 1) (y 2)).trans (congrArg _ ?_))
  blk_ext [idx10 t, bat_val t, row_val t (y 1)]

theorem final12 : (dats m 0 c).arrAt 12 cfg0.N = ISpec.vals (aH m c) (aSh m c) (aSc m c) (aG m c) (aW m c) := by
  refine (dats m 0 c).arrAt_eq_of_covers 12 _ (by decide +kernel) fun t hf y => ?_
  blk_simp
  rw [after0_12]
  refine Eq.trans (congrArg _ (one4 y)) ((IMeet.vals_eq _ _ _ _ _ _ _ _ _ _ _ _ _ _ _ _ (reads m c t) (y 1) (y 2) (y 3)).trans (congrArg _ ?_))
  have h1 : (blk t).val = (grid0.coords t 1).val := rfl
  blk_ext [idx12 t, bat_val t, h1]
  all_goals omega

theorem final13 : (dats m 0 c).arrAt 13 cfg0.N = ISpec.rest (aH m c) (aSh m c) (aSc m c) (aG m c) (aW m c) := by
  refine (dats m 0 c).arrAt_eq_of_covers 13 _ (by decide +kernel) fun t hf y => ?_
  blk_simp
  rw [after0_13]
  refine Eq.trans (congrArg _ (one3 y)) ((IMeet.rest_eq _ _ _ _ _ _ _ _ _ _ _ _ _ _ _ _ (reads m c t) (y 1) (y 2)).trans (congrArg _ ?_))
  blk_ext [idx13 t, bat_val t, row_val t (y 1)]

end Cert.Proof.IValue

end
-- ==== Proof.IClaims.lean ====
/- The claims about the projection call. -/
module

public import proofs.«01_k».proof.Defs
public import proofs.«01_k».proof.Proof.IRead
public import proofs.«01_k».proof.Proof.IValue
public import proofs.«01_k».proof.Proof.Gen.Kernel3.Frame

@[expose] public section

noncomputable section

namespace Cert.Proof.IClaims

open Idealize.ShloMosaic Idealize.ShloMosaic.TcCoe Idealize.SL.Sem

theorem frame : quiescent_Kernel3 (hKernel3 := Cert.Kernel3.Gen.facts) := fun m g _ => Cert.Kernel3.Gen.frame m g

theorem frame_ideal : quiescent_Kernel3Ideal (hKernel3Ideal := Cert.Kernel3Ideal.Gen.facts) := fun m g _ => Cert.Kernel3Ideal.Gen.frame m g

theorem frame_reference : quiescent_Reference3Ideal (hReference3Ideal := Cert.Reference3Ideal.Gen.facts) := fun m g _ =>
  (θ_run _ _ _).mono (fun r h => ⟨fun c => (h c).2.2.2.2.2, sem_eq_zero_of_no_sems (by decide) r.2⟩) (IRef.run m g)

section Kernel
open Cert.Kernel3Ideal Cert.Kernel3Ideal.Gen IValue

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem ((c : Thread nD τ).loc main_v9_0) = ISpec.queries (aH m c) (aSh m c) (aSc m c) (aG m c) (aW m c) (aC m c) (aT m c)
      ∧ r.2.mem ((c : Thread nD τ).loc main_v9_1) = ISpec.indices (aH m c) (aSh m c) (aSc m c) (aG m c) (aW m c) (aC m c) (aT m c)
      ∧ r.2.mem ((c : Thread nD τ).loc main_v9_3) = ISpec.keys (aH m c) (aSh m c) (aSc m c) (aG m c) (aW m c) (aC m c) (aT m c)
      ∧ r.2.mem ((c : Thread nD τ).loc main_v9_5) = ISpec.vals (aH m c) (aSh m c) (aSc m c) (aG m c) (aW m c)
      ∧ r.2.mem ((c : Thread nD τ).loc main_v9_6) = ISpec.rest (aH m c) (aSh m c) (aSc m c) (aG m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run _ _ _).mono (fun _ h c =>
    have ⟨h0, h1, _, h3, _, h5, h6, ha⟩ := h c
    ⟨h0.trans (final7 m c), h1.trans (final8 m c), h3.trans (final10 m c), h5.trans (final12 m c), h6.trans (final13 m c), ha⟩) (Cert.Kernel3Ideal.Value.run_blocks m ρ)

end Kernel

theorem algebraic : algebraic_Kernel3Ideal_Reference3Ideal (hKernel3Ideal := Cert.Kernel3Ideal.Gen.facts) (hReference3Ideal := Cert.Reference3Ideal.Gen.facts) := by
  intro m g m' g' _ h
  refine ⟨_, _, _, _, _, run m g, (θ_run _ _ _).mono (fun _ hr c => ?_) (IRef.run m' g')⟩
  obtain ⟨h0, h1, h2, h3, h4, h5, h6⟩ := h c
  obtain ⟨r0, r1, r2, r3, r4, ra⟩ := hr c
  have hz := IRef.prod_at (m' ((c.tc : Thread Cert.Reference3Ideal.nD Cert.Reference3Ideal.τ).loc Cert.Reference3Ideal.main_arg0))
    (m' ((c.tc : Thread Cert.Reference3Ideal.nD Cert.Reference3Ideal.τ).loc Cert.Reference3Ideal.main_arg1))
    (m' ((c.tc : Thread Cert.Reference3Ideal.nD Cert.Reference3Ideal.τ).loc Cert.Reference3Ideal.main_arg2))
    (m' ((c.tc : Thread Cert.Reference3Ideal.nD Cert.Reference3Ideal.τ).loc Cert.Reference3Ideal.main_arg3))
    (m' ((c.tc : Thread Cert.Reference3Ideal.nD Cert.Reference3Ideal.τ).loc Cert.Reference3Ideal.main_arg4))
  have q0 := r0.trans (IRef.queries_eq _ _ _ _ _ _ _ _ hz)
  have q1 := r1.trans (IRef.indices_eq _ _ _ _ _ _ _ _ hz)
  have q2 := r2.trans (IRef.keys_eq _ _ _ _ _ _ _ _ hz)
  have q3 := r3.trans (IRef.vals_eq _ _ _ _ _ _ hz)
  have q4 := r4.trans (IRef.rest_eq _ _ _ _ _ _ hz)
  rw [h0, h1, h2, h3, h4, h5, h6] at q0 q1 q2
  rw [h0, h1, h2, h3, h4] at q3 q4
  exact ⟨q0, q1, q2, q3, q4, ra⟩

end Cert.Proof.IClaims

end
-- ==== Proof.lean ====
module

public import proofs.«01_k».proof.Defs
public import proofs.«01_k».proof.Proof.Run
public import proofs.«01_k».proof.Proof.FClaims
public import proofs.«01_k».proof.Proof.IClaims

@[expose] public section

noncomputable section

namespace Cert.Proof

open Idealize.ShloMosaic Idealize.SL.Sem Cert.Kernel

theorem frame_attention : quiescent_Kernel (hKernel := Cert.Kernel.Gen.facts) := fun m g _ =>
  (θ_run _ _ _).mono (fun _ h => ⟨fun c => ⟨h.1 c 0 rfl, h.1 c 1 rfl, h.1 c 2 rfl, h.1 c 3 rfl, h.1 c 4 rfl, h.1 c 5 rfl⟩, h.2⟩)
    (Run.run (F := Bits) m g)

theorem claim : Cert.Claim := ⟨Cert.Kernel.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  frame_attention, FClaims.frame, FClaims.frame_ideal, FClaims.frame_reference, IClaims.frame, IClaims.frame_ideal, IClaims.frame_reference,
  trivial, FClaims.algebraic, trivial, IClaims.algebraic⟩

end Cert.Proof

end
